-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_scores [hPre_finite_scores : Cert.Pre_finite_scores.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_scores.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_scores [hPre_finite_scores : Cert.Pre_finite_scores.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_scores.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Cumsum (m : (ℓ : Loc Cert.Cumsum.nD Cert.Cumsum.τ Cert.Cumsum.sig) → Buf (Elt Bits) ℓ) : Prop :=
  True

def Pre_CumsumIdeal (m : (ℓ : Loc Cert.CumsumIdeal.nD Cert.CumsumIdeal.τ Cert.CumsumIdeal.sig) → Buf (Elt Ideal) ℓ) : Prop :=
  True

def Pre_CumsumIdeal_gates_below_infinity [hPre_gates_below_infinity : Cert.Pre_gates_below_infinity.Facts] (m : (ℓ : Loc Cert.CumsumIdeal.nD Cert.CumsumIdeal.τ Cert.CumsumIdeal.sig) → Buf (Elt Ideal) ℓ) : Prop :=
  ∀ c : Dev Cert.CumsumIdeal.nD,
    (Cert.Pre_gates_below_infinity.fn (F := Ideal) (m ((c.tc : Thread Cert.CumsumIdeal.nD Cert.CumsumIdeal.τ).loc Cert.CumsumIdeal.main_arg0))) = (fun _ => 1#1)

def Pre_CumsumRefIdeal (m : (ℓ : Loc Cert.CumsumRefIdeal.nD Cert.CumsumRefIdeal.τ Cert.CumsumRefIdeal.sig) → Buf (Elt Ideal) ℓ) : Prop :=
  True

def Pre_CumsumRefIdeal_gates_below_infinity [hPre_gates_below_infinity : Cert.Pre_gates_below_infinity.Facts] (m : (ℓ : Loc Cert.CumsumRefIdeal.nD Cert.CumsumRefIdeal.τ Cert.CumsumRefIdeal.sig) → Buf (Elt Ideal) ℓ) : Prop :=
  ∀ c : Dev Cert.CumsumRefIdeal.nD,
    (Cert.Pre_gates_below_infinity.fn (F := Ideal) (m ((c.tc : Thread Cert.CumsumRefIdeal.nD Cert.CumsumRefIdeal.τ).loc Cert.CumsumRefIdeal.main_arg0))) = (fun _ => 1#1)

def Pre_PleCached (m : (ℓ : Loc Cert.PleCached.nD Cert.PleCached.τ Cert.PleCached.sig) → Buf (Elt Bits) ℓ) : Prop :=
  True

def Pre_PleCachedIdeal (m : (ℓ : Loc Cert.PleCachedIdeal.nD Cert.PleCachedIdeal.τ Cert.PleCachedIdeal.sig) → Buf (Elt Ideal) ℓ) : Prop :=
  True

def Pre_PleCachedRefIdeal (m : (ℓ : Loc Cert.PleCachedRefIdeal.nD Cert.PleCachedRefIdeal.τ Cert.PleCachedRefIdeal.sig) → Buf (Elt Ideal) ℓ) : Prop :=
  True

def Pre_AttentionCached (m : (ℓ : Loc Cert.AttentionCached.nD Cert.AttentionCached.τ Cert.AttentionCached.sig) → Buf (Elt Bits) ℓ) : Prop :=
  True

def Pre_AttentionCachedIdeal (m : (ℓ : Loc Cert.AttentionCachedIdeal.nD Cert.AttentionCachedIdeal.τ Cert.AttentionCachedIdeal.sig) → Buf (Elt Ideal) ℓ) : Prop :=
  True

def Pre_AttentionCachedIdeal_finite_cached_scores [hPre_finite_cached_scores : Cert.Pre_finite_cached_scores.Facts] (m : (ℓ : Loc Cert.AttentionCachedIdeal.nD Cert.AttentionCachedIdeal.τ Cert.AttentionCachedIdeal.sig) → Buf (Elt Ideal) ℓ) : Prop :=
  ∀ c : Dev Cert.AttentionCachedIdeal.nD,
    (Cert.Pre_finite_cached_scores.fn (F := Ideal) (m ((c.tc : Thread Cert.AttentionCachedIdeal.nD Cert.AttentionCachedIdeal.τ).loc Cert.AttentionCachedIdeal.main_arg0)) (m ((c.tc : Thread Cert.AttentionCachedIdeal.nD Cert.AttentionCachedIdeal.τ).loc Cert.AttentionCachedIdeal.main_arg1)) (m ((c.tc : Thread Cert.AttentionCachedIdeal.nD Cert.AttentionCachedIdeal.τ).loc Cert.AttentionCachedIdeal.main_arg2)) (m ((c.tc : Thread Cert.AttentionCachedIdeal.nD Cert.AttentionCachedIdeal.τ).loc Cert.AttentionCachedIdeal.main_arg3)) (m ((c.tc : Thread Cert.AttentionCachedIdeal.nD Cert.AttentionCachedIdeal.τ).loc Cert.AttentionCachedIdeal.main_arg4)) (m ((c.tc : Thread Cert.AttentionCachedIdeal.nD Cert.AttentionCachedIdeal.τ).loc Cert.AttentionCachedIdeal.main_arg5)) (m ((c.tc : Thread Cert.AttentionCachedIdeal.nD Cert.AttentionCachedIdeal.τ).loc Cert.AttentionCachedIdeal.main_arg6))) = (fun _ => 1#1)

def Pre_AttentionCachedRefIdeal (m : (ℓ : Loc Cert.AttentionCachedRefIdeal.nD Cert.AttentionCachedRefIdeal.τ Cert.AttentionCachedRefIdeal.sig) → Buf (Elt Ideal) ℓ) : Prop :=
  True

def Pre_AttentionCachedRefIdeal_finite_cached_scores [hPre_finite_cached_scores : Cert.Pre_finite_cached_scores.Facts] (m : (ℓ : Loc Cert.AttentionCachedRefIdeal.nD Cert.AttentionCachedRefIdeal.τ Cert.AttentionCachedRefIdeal.sig) → Buf (Elt Ideal) ℓ) : Prop :=
  ∀ c : Dev Cert.AttentionCachedRefIdeal.nD,
    (Cert.Pre_finite_cached_scores.fn (F := Ideal) (m ((c.tc : Thread Cert.AttentionCachedRefIdeal.nD Cert.AttentionCachedRefIdeal.τ).loc Cert.AttentionCachedRefIdeal.main_arg0)) (m ((c.tc : Thread Cert.AttentionCachedRefIdeal.nD Cert.AttentionCachedRefIdeal.τ).loc Cert.AttentionCachedRefIdeal.main_arg1)) (m ((c.tc : Thread Cert.AttentionCachedRefIdeal.nD Cert.AttentionCachedRefIdeal.τ).loc Cert.AttentionCachedRefIdeal.main_arg2)) (m ((c.tc : Thread Cert.AttentionCachedRefIdeal.nD Cert.AttentionCachedRefIdeal.τ).loc Cert.AttentionCachedRefIdeal.main_arg3)) (m ((c.tc : Thread Cert.AttentionCachedRefIdeal.nD Cert.AttentionCachedRefIdeal.τ).loc Cert.AttentionCachedRefIdeal.main_arg4)) (m ((c.tc : Thread Cert.AttentionCachedRefIdeal.nD Cert.AttentionCachedRefIdeal.τ).loc Cert.AttentionCachedRefIdeal.main_arg5)) (m ((c.tc : Thread Cert.AttentionCachedRefIdeal.nD Cert.AttentionCachedRefIdeal.τ).loc Cert.AttentionCachedRefIdeal.main_arg6))) = (fun _ => 1#1)

def Pre_CumsumPast (m : (ℓ : Loc Cert.CumsumPast.nD Cert.CumsumPast.τ Cert.CumsumPast.sig) → Buf (Elt Bits) ℓ) : Prop :=
  True

def Pre_CumsumPastIdeal (m : (ℓ : Loc Cert.CumsumPastIdeal.nD Cert.CumsumPastIdeal.τ Cert.CumsumPastIdeal.sig) → Buf (Elt Ideal) ℓ) : Prop :=
  True

def Pre_CumsumPastIdeal_cached_gates_below_infinity [hPre_cached_gates_below_infinity : Cert.Pre_cached_gates_below_infinity.Facts] (m : (ℓ : Loc Cert.CumsumPastIdeal.nD Cert.CumsumPastIdeal.τ Cert.CumsumPastIdeal.sig) → Buf (Elt Ideal) ℓ) : Prop :=
  ∀ c : Dev Cert.CumsumPastIdeal.nD,
    (Cert.Pre_cached_gates_below_infinity.fn (F := Ideal) (m ((c.tc : Thread Cert.CumsumPastIdeal.nD Cert.CumsumPastIdeal.τ).loc Cert.CumsumPastIdeal.main_arg0))) = (fun _ => 1#1)

def Pre_CumsumPastRefIdeal (m : (ℓ : Loc Cert.CumsumPastRefIdeal.nD Cert.CumsumPastRefIdeal.τ Cert.CumsumPastRefIdeal.sig) → Buf (Elt Ideal) ℓ) : Prop :=
  True

def Pre_CumsumPastRefIdeal_cached_gates_below_infinity [hPre_cached_gates_below_infinity : Cert.Pre_cached_gates_below_infinity.Facts] (m : (ℓ : Loc Cert.CumsumPastRefIdeal.nD Cert.CumsumPastRefIdeal.τ Cert.CumsumPastRefIdeal.sig) → Buf (Elt Ideal) ℓ) : Prop :=
  ∀ c : Dev Cert.CumsumPastRefIdeal.nD,
    (Cert.Pre_cached_gates_below_infinity.fn (F := Ideal) (m ((c.tc : Thread Cert.CumsumPastRefIdeal.nD Cert.CumsumPastRefIdeal.τ).loc Cert.CumsumPastRefIdeal.main_arg0))) = (fun _ => 1#1)

def Pre_CumsumNew (m : (ℓ : Loc Cert.CumsumNew.nD Cert.CumsumNew.τ Cert.CumsumNew.sig) → Buf (Elt Bits) ℓ) : Prop :=
  True

def Pre_CumsumNewIdeal (m : (ℓ : Loc Cert.CumsumNewIdeal.nD Cert.CumsumNewIdeal.τ Cert.CumsumNewIdeal.sig) → Buf (Elt Ideal) ℓ) : Prop :=
  True

def Pre_CumsumNewIdeal_new_gates_below_infinity [hPre_new_gates_below_infinity : Cert.Pre_new_gates_below_infinity.Facts] (m : (ℓ : Loc Cert.CumsumNewIdeal.nD Cert.CumsumNewIdeal.τ Cert.CumsumNewIdeal.sig) → Buf (Elt Ideal) ℓ) : Prop :=
  ∀ c : Dev Cert.CumsumNewIdeal.nD,
    (Cert.Pre_new_gates_below_infinity.fn (F := Ideal) (m ((c.tc : Thread Cert.CumsumNewIdeal.nD Cert.CumsumNewIdeal.τ).loc Cert.CumsumNewIdeal.main_arg0)) (m ((c.tc : Thread Cert.CumsumNewIdeal.nD Cert.CumsumNewIdeal.τ).loc Cert.CumsumNewIdeal.main_arg1))) = (fun _ => 1#1)

def Pre_CumsumNewRefIdeal (m : (ℓ : Loc Cert.CumsumNewRefIdeal.nD Cert.CumsumNewRefIdeal.τ Cert.CumsumNewRefIdeal.sig) → Buf (Elt Ideal) ℓ) : Prop :=
  True

def Pre_CumsumNewRefIdeal_new_gates_below_infinity [hPre_new_gates_below_infinity : Cert.Pre_new_gates_below_infinity.Facts] (m : (ℓ : Loc Cert.CumsumNewRefIdeal.nD Cert.CumsumNewRefIdeal.τ Cert.CumsumNewRefIdeal.sig) → Buf (Elt Ideal) ℓ) : Prop :=
  ∀ c : Dev Cert.CumsumNewRefIdeal.nD,
    (Cert.Pre_new_gates_below_infinity.fn (F := Ideal) (m ((c.tc : Thread Cert.CumsumNewRefIdeal.nD Cert.CumsumNewRefIdeal.τ).loc Cert.CumsumNewRefIdeal.main_arg0)) (m ((c.tc : Thread Cert.CumsumNewRefIdeal.nD Cert.CumsumNewRefIdeal.τ).loc Cert.CumsumNewRefIdeal.main_arg1))) = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_scores [hAttentionIdeal : Cert.AttentionIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_scores m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3))
      ∧ r.2.sem = fun _ => 0)

def quiescent_AttentionRefIdeal_pre_finite_scores [hAttentionRefIdeal : Cert.AttentionRefIdeal.Facts] [hPre_finite_scores : Cert.Pre_finite_scores.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_scores m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Cumsum [hCumsum : Cert.Cumsum.Facts] : Prop :=
  ∀ (m : (ℓ : Loc Cert.Cumsum.nD Cert.Cumsum.τ Cert.Cumsum.sig) → Buf (Elt Bits) ℓ) (g : Dev Cert.Cumsum.nD → PrngReg), Pre_Cumsum m →
    θ_run (Cert.Cumsum.defs (F := Bits)) (onTc (τ := Cert.Cumsum.τ) (Cert.Cumsum.main (F := Bits))) ⟨m, fun _ => 0, g⟩ (fun r => (∀ c : Dev Cert.Cumsum.nD,
      r.2.mem ((c.tc : Thread Cert.Cumsum.nD Cert.Cumsum.τ).loc Cert.Cumsum.main_arg0) = m ((c.tc : Thread Cert.Cumsum.nD Cert.Cumsum.τ).loc Cert.Cumsum.main_arg0))
      ∧ r.2.sem = fun _ => 0)

def quiescent_CumsumIdeal [hCumsumIdeal : Cert.CumsumIdeal.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ r.2.sem = fun _ => 0)

def quiescent_CumsumIdeal_pre_gates_below_infinity [hCumsumIdeal : Cert.CumsumIdeal.Facts] [hPre_gates_below_infinity : Cert.Pre_gates_below_infinity.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal_gates_below_infinity m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ r.2.sem = fun _ => 0)

def quiescent_CumsumRefIdeal [hCumsumRefIdeal : Cert.CumsumRefIdeal.Facts] : Prop :=
  ∀ (m : (ℓ : Loc Cert.CumsumRefIdeal.nD Cert.CumsumRefIdeal.τ Cert.CumsumRefIdeal.sig) → Buf (Elt Ideal) ℓ) (g : Dev Cert.CumsumRefIdeal.nD → PrngReg), Pre_CumsumRefIdeal m →
    θ_run (Cert.CumsumRefIdeal.defs (F := Ideal)) (onTc (τ := Cert.CumsumRefIdeal.τ) (Cert.CumsumRefIdeal.main (F := Ideal))) ⟨m, fun _ => 0, g⟩ (fun r => (∀ c : Dev Cert.CumsumRefIdeal.nD,
      r.2.mem ((c.tc : Thread Cert.CumsumRefIdeal.nD Cert.CumsumRefIdeal.τ).loc Cert.CumsumRefIdeal.main_arg0) = m ((c.tc : Thread Cert.CumsumRefIdeal.nD Cert.CumsumRefIdeal.τ).loc Cert.CumsumRefIdeal.main_arg0))
      ∧ r.2.sem = fun _ => 0)

def quiescent_CumsumRefIdeal_pre_gates_below_infinity [hCumsumRefIdeal : Cert.CumsumRefIdeal.Facts] [hPre_gates_below_infinity : Cert.Pre_gates_below_infinity.Facts] : Prop :=
  ∀ (m : (ℓ : Loc Cert.CumsumRefIdeal.nD Cert.CumsumRefIdeal.τ Cert.CumsumRefIdeal.sig) → Buf (Elt Ideal) ℓ) (g : Dev Cert.CumsumRefIdeal.nD → PrngReg), Pre_CumsumRefIdeal_gates_below_infinity m →
    θ_run (Cert.CumsumRefIdeal.defs (F := Ideal)) (onTc (τ := Cert.CumsumRefIdeal.τ) (Cert.CumsumRefIdeal.main (F := Ideal))) ⟨m, fun _ => 0, g⟩ (fun r => (∀ c : Dev Cert.CumsumRefIdeal.nD,
      r.2.mem ((c.tc : Thread Cert.CumsumRefIdeal.nD Cert.CumsumRefIdeal.τ).loc Cert.CumsumRefIdeal.main_arg0) = m ((c.tc : Thread Cert.CumsumRefIdeal.nD Cert.CumsumRefIdeal.τ).loc Cert.CumsumRefIdeal.main_arg0))
      ∧ r.2.sem = fun _ => 0)

def quiescent_PleCached [hPleCached : Cert.PleCached.Facts] : Prop :=
  ∀ (m : (ℓ : Loc Cert.PleCached.nD Cert.PleCached.τ Cert.PleCached.sig) → Buf (Elt Bits) ℓ) (g : Dev Cert.PleCached.nD → PrngReg), Pre_PleCached m →
    θ_run (Cert.PleCached.defs (F := Bits)) (onTc (τ := Cert.PleCached.τ) (Cert.PleCached.main (F := Bits))) ⟨m, fun _ => 0, g⟩ (fun r => (∀ c : Dev Cert.PleCached.nD,
      r.2.mem ((c.tc : Thread Cert.PleCached.nD Cert.PleCached.τ).loc Cert.PleCached.main_arg0) = m ((c.tc : Thread Cert.PleCached.nD Cert.PleCached.τ).loc Cert.PleCached.main_arg0)
      ∧ r.2.mem ((c.tc : Thread Cert.PleCached.nD Cert.PleCached.τ).loc Cert.PleCached.main_arg1) = m ((c.tc : Thread Cert.PleCached.nD Cert.PleCached.τ).loc Cert.PleCached.main_arg1)
      ∧ r.2.mem ((c.tc : Thread Cert.PleCached.nD Cert.PleCached.τ).loc Cert.PleCached.main_arg2) = m ((c.tc : Thread Cert.PleCached.nD Cert.PleCached.τ).loc Cert.PleCached.main_arg2)
      ∧ r.2.mem ((c.tc : Thread Cert.PleCached.nD Cert.PleCached.τ).loc Cert.PleCached.main_arg3) = m ((c.tc : Thread Cert.PleCached.nD Cert.PleCached.τ).loc Cert.PleCached.main_arg3)
      ∧ r.2.mem ((c.tc : Thread Cert.PleCached.nD Cert.PleCached.τ).loc Cert.PleCached.main_arg4) = m ((c.tc : Thread Cert.PleCached.nD Cert.PleCached.τ).loc Cert.PleCached.main_arg4))
      ∧ r.2.sem = fun _ => 0)

def quiescent_PleCachedIdeal [hPleCachedIdeal : Cert.PleCachedIdeal.Facts] : Prop :=
  ∀ (m : (ℓ : Loc Cert.PleCachedIdeal.nD Cert.PleCachedIdeal.τ Cert.PleCachedIdeal.sig) → Buf (Elt Ideal) ℓ) (g : Dev Cert.PleCachedIdeal.nD → PrngReg), Pre_PleCachedIdeal m →
    θ_run (Cert.PleCachedIdeal.defs (F := Ideal)) (onTc (τ := Cert.PleCachedIdeal.τ) (Cert.PleCachedIdeal.main (F := Ideal))) ⟨m, fun _ => 0, g⟩ (fun r => (∀ c : Dev Cert.PleCachedIdeal.nD,
      r.2.mem ((c.tc : Thread Cert.PleCachedIdeal.nD Cert.PleCachedIdeal.τ).loc Cert.PleCachedIdeal.main_arg0) = m ((c.tc : Thread Cert.PleCachedIdeal.nD Cert.PleCachedIdeal.τ).loc Cert.PleCachedIdeal.main_arg0)
      ∧ r.2.mem ((c.tc : Thread Cert.PleCachedIdeal.nD Cert.PleCachedIdeal.τ).loc Cert.PleCachedIdeal.main_arg1) = m ((c.tc : Thread Cert.PleCachedIdeal.nD Cert.PleCachedIdeal.τ).loc Cert.PleCachedIdeal.main_arg1)
      ∧ r.2.mem ((c.tc : Thread Cert.PleCachedIdeal.nD Cert.PleCachedIdeal.τ).loc Cert.PleCachedIdeal.main_arg2) = m ((c.tc : Thread Cert.PleCachedIdeal.nD Cert.PleCachedIdeal.τ).loc Cert.PleCachedIdeal.main_arg2)
      ∧ r.2.mem ((c.tc : Thread Cert.PleCachedIdeal.nD Cert.PleCachedIdeal.τ).loc Cert.PleCachedIdeal.main_arg3) = m ((c.tc : Thread Cert.PleCachedIdeal.nD Cert.PleCachedIdeal.τ).loc Cert.PleCachedIdeal.main_arg3)
      ∧ r.2.mem ((c.tc : Thread Cert.PleCachedIdeal.nD Cert.PleCachedIdeal.τ).loc Cert.PleCachedIdeal.main_arg4) = m ((c.tc : Thread Cert.PleCachedIdeal.nD Cert.PleCachedIdeal.τ).loc Cert.PleCachedIdeal.main_arg4))
      ∧ r.2.sem = fun _ => 0)

def quiescent_PleCachedRefIdeal [hPleCachedRefIdeal : Cert.PleCachedRefIdeal.Facts] : Prop :=
  ∀ (m : (ℓ : Loc Cert.PleCachedRefIdeal.nD Cert.PleCachedRefIdeal.τ Cert.PleCachedRefIdeal.sig) → Buf (Elt Ideal) ℓ) (g : Dev Cert.PleCachedRefIdeal.nD → PrngReg), Pre_PleCachedRefIdeal m →
    θ_run (Cert.PleCachedRefIdeal.defs (F := Ideal)) (onTc (τ := Cert.PleCachedRefIdeal.τ) (Cert.PleCachedRefIdeal.main (F := Ideal))) ⟨m, fun _ => 0, g⟩ (fun r => (∀ c : Dev Cert.PleCachedRefIdeal.nD,
      r.2.mem ((c.tc : Thread Cert.PleCachedRefIdeal.nD Cert.PleCachedRefIdeal.τ).loc Cert.PleCachedRefIdeal.main_arg0) = m ((c.tc : Thread Cert.PleCachedRefIdeal.nD Cert.PleCachedRefIdeal.τ).loc Cert.PleCachedRefIdeal.main_arg0)
      ∧ r.2.mem ((c.tc : Thread Cert.PleCachedRefIdeal.nD Cert.PleCachedRefIdeal.τ).loc Cert.PleCachedRefIdeal.main_arg1) = m ((c.tc : Thread Cert.PleCachedRefIdeal.nD Cert.PleCachedRefIdeal.τ).loc Cert.PleCachedRefIdeal.main_arg1)
      ∧ r.2.mem ((c.tc : Thread Cert.PleCachedRefIdeal.nD Cert.PleCachedRefIdeal.τ).loc Cert.PleCachedRefIdeal.main_arg2) = m ((c.tc : Thread Cert.PleCachedRefIdeal.nD Cert.PleCachedRefIdeal.τ).loc Cert.PleCachedRefIdeal.main_arg2)
      ∧ r.2.mem ((c.tc : Thread Cert.PleCachedRefIdeal.nD Cert.PleCachedRefIdeal.τ).loc Cert.PleCachedRefIdeal.main_arg3) = m ((c.tc : Thread Cert.PleCachedRefIdeal.nD Cert.PleCachedRefIdeal.τ).loc Cert.PleCachedRefIdeal.main_arg3)
      ∧ r.2.mem ((c.tc : Thread Cert.PleCachedRefIdeal.nD Cert.PleCachedRefIdeal.τ).loc Cert.PleCachedRefIdeal.main_arg4) = m ((c.tc : Thread Cert.PleCachedRefIdeal.nD Cert.PleCachedRefIdeal.τ).loc Cert.PleCachedRefIdeal.main_arg4))
      ∧ r.2.sem = fun _ => 0)

def quiescent_AttentionCached [hAttentionCached : Cert.AttentionCached.Facts] : Prop :=
  ∀ (m : (ℓ : Loc Cert.AttentionCached.nD Cert.AttentionCached.τ Cert.AttentionCached.sig) → Buf (Elt Bits) ℓ) (g : Dev Cert.AttentionCached.nD → PrngReg), Pre_AttentionCached m →
    θ_run (Cert.AttentionCached.defs (F := Bits)) (onTc (τ := Cert.AttentionCached.τ) (Cert.AttentionCached.main (F := Bits))) ⟨m, fun _ => 0, g⟩ (fun r => (∀ c : Dev Cert.AttentionCached.nD,
      r.2.mem ((c.tc : Thread Cert.AttentionCached.nD Cert.AttentionCached.τ).loc Cert.AttentionCached.main_arg0) = m ((c.tc : Thread Cert.AttentionCached.nD Cert.AttentionCached.τ).loc Cert.AttentionCached.main_arg0)
      ∧ r.2.mem ((c.tc : Thread Cert.AttentionCached.nD Cert.AttentionCached.τ).loc Cert.AttentionCached.main_arg1) = m ((c.tc : Thread Cert.AttentionCached.nD Cert.AttentionCached.τ).loc Cert.AttentionCached.main_arg1)
      ∧ r.2.mem ((c.tc : Thread Cert.AttentionCached.nD Cert.AttentionCached.τ).loc Cert.AttentionCached.main_arg2) = m ((c.tc : Thread Cert.AttentionCached.nD Cert.AttentionCached.τ).loc Cert.AttentionCached.main_arg2)
      ∧ r.2.mem ((c.tc : Thread Cert.AttentionCached.nD Cert.AttentionCached.τ).loc Cert.AttentionCached.main_arg3) = m ((c.tc : Thread Cert.AttentionCached.nD Cert.AttentionCached.τ).loc Cert.AttentionCached.main_arg3)
      ∧ r.2.mem ((c.tc : Thread Cert.AttentionCached.nD Cert.AttentionCached.τ).loc Cert.AttentionCached.main_arg4) = m ((c.tc : Thread Cert.AttentionCached.nD Cert.AttentionCached.τ).loc Cert.AttentionCached.main_arg4)
      ∧ r.2.mem ((c.tc : Thread Cert.AttentionCached.nD Cert.AttentionCached.τ).loc Cert.AttentionCached.main_arg5) = m ((c.tc : Thread Cert.AttentionCached.nD Cert.AttentionCached.τ).loc Cert.AttentionCached.main_arg5)
      ∧ r.2.mem ((c.tc : Thread Cert.AttentionCached.nD Cert.AttentionCached.τ).loc Cert.AttentionCached.main_arg6) = m ((c.tc : Thread Cert.AttentionCached.nD Cert.AttentionCached.τ).loc Cert.AttentionCached.main_arg6))
      ∧ r.2.sem = fun _ => 0)

def quiescent_AttentionCachedIdeal [hAttentionCachedIdeal : Cert.AttentionCachedIdeal.Facts] : Prop :=
  ∀ (m : (ℓ : Loc Cert.AttentionCachedIdeal.nD Cert.AttentionCachedIdeal.τ Cert.AttentionCachedIdeal.sig) → Buf (Elt Ideal) ℓ) (g : Dev Cert.AttentionCachedIdeal.nD → PrngReg), Pre_AttentionCachedIdeal m →
    θ_run (Cert.AttentionCachedIdeal.defs (F := Ideal)) (onTc (τ := Cert.AttentionCachedIdeal.τ) (Cert.AttentionCachedIdeal.main (F := Ideal))) ⟨m, fun _ => 0, g⟩ (fun r => (∀ c : Dev Cert.AttentionCachedIdeal.nD,
      r.2.mem ((c.tc : Thread Cert.AttentionCachedIdeal.nD Cert.AttentionCachedIdeal.τ).loc Cert.AttentionCachedIdeal.main_arg0) = m ((c.tc : Thread Cert.AttentionCachedIdeal.nD Cert.AttentionCachedIdeal.τ).loc Cert.AttentionCachedIdeal.main_arg0)
      ∧ r.2.mem ((c.tc : Thread Cert.AttentionCachedIdeal.nD Cert.AttentionCachedIdeal.τ).loc Cert.AttentionCachedIdeal.main_arg1) = m ((c.tc : Thread Cert.AttentionCachedIdeal.nD Cert.AttentionCachedIdeal.τ).loc Cert.AttentionCachedIdeal.main_arg1)
      ∧ r.2.mem ((c.tc : Thread Cert.AttentionCachedIdeal.nD Cert.AttentionCachedIdeal.τ).loc Cert.AttentionCachedIdeal.main_arg2) = m ((c.tc : Thread Cert.AttentionCachedIdeal.nD Cert.AttentionCachedIdeal.τ).loc Cert.AttentionCachedIdeal.main_arg2)
      ∧ r.2.mem ((c.tc : Thread Cert.AttentionCachedIdeal.nD Cert.AttentionCachedIdeal.τ).loc Cert.AttentionCachedIdeal.main_arg3) = m ((c.tc : Thread Cert.AttentionCachedIdeal.nD Cert.AttentionCachedIdeal.τ).loc Cert.AttentionCachedIdeal.main_arg3)
      ∧ r.2.mem ((c.tc : Thread Cert.AttentionCachedIdeal.nD Cert.AttentionCachedIdeal.τ).loc Cert.AttentionCachedIdeal.main_arg4) = m ((c.tc : Thread Cert.AttentionCachedIdeal.nD Cert.AttentionCachedIdeal.τ).loc Cert.AttentionCachedIdeal.main_arg4)
      ∧ r.2.mem ((c.tc : Thread Cert.AttentionCachedIdeal.nD Cert.AttentionCachedIdeal.τ).loc Cert.AttentionCachedIdeal.main_arg5) = m ((c.tc : Thread Cert.AttentionCachedIdeal.nD Cert.AttentionCachedIdeal.τ).loc Cert.AttentionCachedIdeal.main_arg5)
      ∧ r.2.mem ((c.tc : Thread Cert.AttentionCachedIdeal.nD Cert.AttentionCachedIdeal.τ).loc Cert.AttentionCachedIdeal.main_arg6) = m ((c.tc : Thread Cert.AttentionCachedIdeal.nD Cert.AttentionCachedIdeal.τ).loc Cert.AttentionCachedIdeal.main_arg6))
      ∧ r.2.sem = fun _ => 0)

def quiescent_AttentionCachedIdeal_pre_finite_cached_scores [hAttentionCachedIdeal : Cert.AttentionCachedIdeal.Facts] [hPre_finite_cached_scores : Cert.Pre_finite_cached_scores.Facts] : Prop :=
  ∀ (m : (ℓ : Loc Cert.AttentionCachedIdeal.nD Cert.AttentionCachedIdeal.τ Cert.AttentionCachedIdeal.sig) → Buf (Elt Ideal) ℓ) (g : Dev Cert.AttentionCachedIdeal.nD → PrngReg), Pre_AttentionCachedIdeal_finite_cached_scores m →
    θ_run (Cert.AttentionCachedIdeal.defs (F := Ideal)) (onTc (τ := Cert.AttentionCachedIdeal.τ) (Cert.AttentionCachedIdeal.main (F := Ideal))) ⟨m, fun _ => 0, g⟩ (fun r => (∀ c : Dev Cert.AttentionCachedIdeal.nD,
      r.2.mem ((c.tc : Thread Cert.AttentionCachedIdeal.nD Cert.AttentionCachedIdeal.τ).loc Cert.AttentionCachedIdeal.main_arg0) = m ((c.tc : Thread Cert.AttentionCachedIdeal.nD Cert.AttentionCachedIdeal.τ).loc Cert.AttentionCachedIdeal.main_arg0)
      ∧ r.2.mem ((c.tc : Thread Cert.AttentionCachedIdeal.nD Cert.AttentionCachedIdeal.τ).loc Cert.AttentionCachedIdeal.main_arg1) = m ((c.tc : Thread Cert.AttentionCachedIdeal.nD Cert.AttentionCachedIdeal.τ).loc Cert.AttentionCachedIdeal.main_arg1)
      ∧ r.2.mem ((c.tc : Thread Cert.AttentionCachedIdeal.nD Cert.AttentionCachedIdeal.τ).loc Cert.AttentionCachedIdeal.main_arg2) = m ((c.tc : Thread Cert.AttentionCachedIdeal.nD Cert.AttentionCachedIdeal.τ).loc Cert.AttentionCachedIdeal.main_arg2)
      ∧ r.2.mem ((c.tc : Thread Cert.AttentionCachedIdeal.nD Cert.AttentionCachedIdeal.τ).loc Cert.AttentionCachedIdeal.main_arg3) = m ((c.tc : Thread Cert.AttentionCachedIdeal.nD Cert.AttentionCachedIdeal.τ).loc Cert.AttentionCachedIdeal.main_arg3)
      ∧ r.2.mem ((c.tc : Thread Cert.AttentionCachedIdeal.nD Cert.AttentionCachedIdeal.τ).loc Cert.AttentionCachedIdeal.main_arg4) = m ((c.tc : Thread Cert.AttentionCachedIdeal.nD Cert.AttentionCachedIdeal.τ).loc Cert.AttentionCachedIdeal.main_arg4)
      ∧ r.2.mem ((c.tc : Thread Cert.AttentionCachedIdeal.nD Cert.AttentionCachedIdeal.τ).loc Cert.AttentionCachedIdeal.main_arg5) = m ((c.tc : Thread Cert.AttentionCachedIdeal.nD Cert.AttentionCachedIdeal.τ).loc Cert.AttentionCachedIdeal.main_arg5)
      ∧ r.2.mem ((c.tc : Thread Cert.AttentionCachedIdeal.nD Cert.AttentionCachedIdeal.τ).loc Cert.AttentionCachedIdeal.main_arg6) = m ((c.tc : Thread Cert.AttentionCachedIdeal.nD Cert.AttentionCachedIdeal.τ).loc Cert.AttentionCachedIdeal.main_arg6))
      ∧ r.2.sem = fun _ => 0)

def quiescent_AttentionCachedRefIdeal [hAttentionCachedRefIdeal : Cert.AttentionCachedRefIdeal.Facts] : Prop :=
  ∀ (m : (ℓ : Loc Cert.AttentionCachedRefIdeal.nD Cert.AttentionCachedRefIdeal.τ Cert.AttentionCachedRefIdeal.sig) → Buf (Elt Ideal) ℓ) (g : Dev Cert.AttentionCachedRefIdeal.nD → PrngReg), Pre_AttentionCachedRefIdeal m →
    θ_run (Cert.AttentionCachedRefIdeal.defs (F := Ideal)) (onTc (τ := Cert.AttentionCachedRefIdeal.τ) (Cert.AttentionCachedRefIdeal.main (F := Ideal))) ⟨m, fun _ => 0, g⟩ (fun r => (∀ c : Dev Cert.AttentionCachedRefIdeal.nD,
      r.2.mem ((c.tc : Thread Cert.AttentionCachedRefIdeal.nD Cert.AttentionCachedRefIdeal.τ).loc Cert.AttentionCachedRefIdeal.main_arg0) = m ((c.tc : Thread Cert.AttentionCachedRefIdeal.nD Cert.AttentionCachedRefIdeal.τ).loc Cert.AttentionCachedRefIdeal.main_arg0)
      ∧ r.2.mem ((c.tc : Thread Cert.AttentionCachedRefIdeal.nD Cert.AttentionCachedRefIdeal.τ).loc Cert.AttentionCachedRefIdeal.main_arg1) = m ((c.tc : Thread Cert.AttentionCachedRefIdeal.nD Cert.AttentionCachedRefIdeal.τ).loc Cert.AttentionCachedRefIdeal.main_arg1)
      ∧ r.2.mem ((c.tc : Thread Cert.AttentionCachedRefIdeal.nD Cert.AttentionCachedRefIdeal.τ).loc Cert.AttentionCachedRefIdeal.main_arg2) = m ((c.tc : Thread Cert.AttentionCachedRefIdeal.nD Cert.AttentionCachedRefIdeal.τ).loc Cert.AttentionCachedRefIdeal.main_arg2)
      ∧ r.2.mem ((c.tc : Thread Cert.AttentionCachedRefIdeal.nD Cert.AttentionCachedRefIdeal.τ).loc Cert.AttentionCachedRefIdeal.main_arg3) = m ((c.tc : Thread Cert.AttentionCachedRefIdeal.nD Cert.AttentionCachedRefIdeal.τ).loc Cert.AttentionCachedRefIdeal.main_arg3)
      ∧ r.2.mem ((c.tc : Thread Cert.AttentionCachedRefIdeal.nD Cert.AttentionCachedRefIdeal.τ).loc Cert.AttentionCachedRefIdeal.main_arg4) = m ((c.tc : Thread Cert.AttentionCachedRefIdeal.nD Cert.AttentionCachedRefIdeal.τ).loc Cert.AttentionCachedRefIdeal.main_arg4)
      ∧ r.2.mem ((c.tc : Thread Cert.AttentionCachedRefIdeal.nD Cert.AttentionCachedRefIdeal.τ).loc Cert.AttentionCachedRefIdeal.main_arg5) = m ((c.tc : Thread Cert.AttentionCachedRefIdeal.nD Cert.AttentionCachedRefIdeal.τ).loc Cert.AttentionCachedRefIdeal.main_arg5)
      ∧ r.2.mem ((c.tc : Thread Cert.AttentionCachedRefIdeal.nD Cert.AttentionCachedRefIdeal.τ).loc Cert.AttentionCachedRefIdeal.main_arg6) = m ((c.tc : Thread Cert.AttentionCachedRefIdeal.nD Cert.AttentionCachedRefIdeal.τ).loc Cert.AttentionCachedRefIdeal.main_arg6))
      ∧ r.2.sem = fun _ => 0)

def quiescent_AttentionCachedRefIdeal_pre_finite_cached_scores [hAttentionCachedRefIdeal : Cert.AttentionCachedRefIdeal.Facts] [hPre_finite_cached_scores : Cert.Pre_finite_cached_scores.Facts] : Prop :=
  ∀ (m : (ℓ : Loc Cert.AttentionCachedRefIdeal.nD Cert.AttentionCachedRefIdeal.τ Cert.AttentionCachedRefIdeal.sig) → Buf (Elt Ideal) ℓ) (g : Dev Cert.AttentionCachedRefIdeal.nD → PrngReg), Pre_AttentionCachedRefIdeal_finite_cached_scores m →
    θ_run (Cert.AttentionCachedRefIdeal.defs (F := Ideal)) (onTc (τ := Cert.AttentionCachedRefIdeal.τ) (Cert.AttentionCachedRefIdeal.main (F := Ideal))) ⟨m, fun _ => 0, g⟩ (fun r => (∀ c : Dev Cert.AttentionCachedRefIdeal.nD,
      r.2.mem ((c.tc : Thread Cert.AttentionCachedRefIdeal.nD Cert.AttentionCachedRefIdeal.τ).loc Cert.AttentionCachedRefIdeal.main_arg0) = m ((c.tc : Thread Cert.AttentionCachedRefIdeal.nD Cert.AttentionCachedRefIdeal.τ).loc Cert.AttentionCachedRefIdeal.main_arg0)
      ∧ r.2.mem ((c.tc : Thread Cert.AttentionCachedRefIdeal.nD Cert.AttentionCachedRefIdeal.τ).loc Cert.AttentionCachedRefIdeal.main_arg1) = m ((c.tc : Thread Cert.AttentionCachedRefIdeal.nD Cert.AttentionCachedRefIdeal.τ).loc Cert.AttentionCachedRefIdeal.main_arg1)
      ∧ r.2.mem ((c.tc : Thread Cert.AttentionCachedRefIdeal.nD Cert.AttentionCachedRefIdeal.τ).loc Cert.AttentionCachedRefIdeal.main_arg2) = m ((c.tc : Thread Cert.AttentionCachedRefIdeal.nD Cert.AttentionCachedRefIdeal.τ).loc Cert.AttentionCachedRefIdeal.main_arg2)
      ∧ r.2.mem ((c.tc : Thread Cert.AttentionCachedRefIdeal.nD Cert.AttentionCachedRefIdeal.τ).loc Cert.AttentionCachedRefIdeal.main_arg3) = m ((c.tc : Thread Cert.AttentionCachedRefIdeal.nD Cert.AttentionCachedRefIdeal.τ).loc Cert.AttentionCachedRefIdeal.main_arg3)
      ∧ r.2.mem ((c.tc : Thread Cert.AttentionCachedRefIdeal.nD Cert.AttentionCachedRefIdeal.τ).loc Cert.AttentionCachedRefIdeal.main_arg4) = m ((c.tc : Thread Cert.AttentionCachedRefIdeal.nD Cert.AttentionCachedRefIdeal.τ).loc Cert.AttentionCachedRefIdeal.main_arg4)
      ∧ r.2.mem ((c.tc : Thread Cert.AttentionCachedRefIdeal.nD Cert.AttentionCachedRefIdeal.τ).loc Cert.AttentionCachedRefIdeal.main_arg5) = m ((c.tc : Thread Cert.AttentionCachedRefIdeal.nD Cert.AttentionCachedRefIdeal.τ).loc Cert.AttentionCachedRefIdeal.main_arg5)
      ∧ r.2.mem ((c.tc : Thread Cert.AttentionCachedRefIdeal.nD Cert.AttentionCachedRefIdeal.τ).loc Cert.AttentionCachedRefIdeal.main_arg6) = m ((c.tc : Thread Cert.AttentionCachedRefIdeal.nD Cert.AttentionCachedRefIdeal.τ).loc Cert.AttentionCachedRefIdeal.main_arg6))
      ∧ r.2.sem = fun _ => 0)

def quiescent_CumsumPast [hCumsumPast : Cert.CumsumPast.Facts] : Prop :=
  ∀ (m : (ℓ : Loc Cert.CumsumPast.nD Cert.CumsumPast.τ Cert.CumsumPast.sig) → Buf (Elt Bits) ℓ) (g : Dev Cert.CumsumPast.nD → PrngReg), Pre_CumsumPast m →
    θ_run (Cert.CumsumPast.defs (F := Bits)) (onTc (τ := Cert.CumsumPast.τ) (Cert.CumsumPast.main (F := Bits))) ⟨m, fun _ => 0, g⟩ (fun r => (∀ c : Dev Cert.CumsumPast.nD,
      r.2.mem ((c.tc : Thread Cert.CumsumPast.nD Cert.CumsumPast.τ).loc Cert.CumsumPast.main_arg0) = m ((c.tc : Thread Cert.CumsumPast.nD Cert.CumsumPast.τ).loc Cert.CumsumPast.main_arg0))
      ∧ r.2.sem = fun _ => 0)

def quiescent_CumsumPastIdeal [hCumsumPastIdeal : Cert.CumsumPastIdeal.Facts] : Prop :=
  ∀ (m : (ℓ : Loc Cert.CumsumPastIdeal.nD Cert.CumsumPastIdeal.τ Cert.CumsumPastIdeal.sig) → Buf (Elt Ideal) ℓ) (g : Dev Cert.CumsumPastIdeal.nD → PrngReg), Pre_CumsumPastIdeal m →
    θ_run (Cert.CumsumPastIdeal.defs (F := Ideal)) (onTc (τ := Cert.CumsumPastIdeal.τ) (Cert.CumsumPastIdeal.main (F := Ideal))) ⟨m, fun _ => 0, g⟩ (fun r => (∀ c : Dev Cert.CumsumPastIdeal.nD,
      r.2.mem ((c.tc : Thread Cert.CumsumPastIdeal.nD Cert.CumsumPastIdeal.τ).loc Cert.CumsumPastIdeal.main_arg0) = m ((c.tc : Thread Cert.CumsumPastIdeal.nD Cert.CumsumPastIdeal.τ).loc Cert.CumsumPastIdeal.main_arg0))
      ∧ r.2.sem = fun _ => 0)

def quiescent_CumsumPastIdeal_pre_cached_gates_below_infinity [hCumsumPastIdeal : Cert.CumsumPastIdeal.Facts] [hPre_cached_gates_below_infinity : Cert.Pre_cached_gates_below_infinity.Facts] : Prop :=
  ∀ (m : (ℓ : Loc Cert.CumsumPastIdeal.nD Cert.CumsumPastIdeal.τ Cert.CumsumPastIdeal.sig) → Buf (Elt Ideal) ℓ) (g : Dev Cert.CumsumPastIdeal.nD → PrngReg), Pre_CumsumPastIdeal_cached_gates_below_infinity m →
    θ_run (Cert.CumsumPastIdeal.defs (F := Ideal)) (onTc (τ := Cert.CumsumPastIdeal.τ) (Cert.CumsumPastIdeal.main (F := Ideal))) ⟨m, fun _ => 0, g⟩ (fun r => (∀ c : Dev Cert.CumsumPastIdeal.nD,
      r.2.mem ((c.tc : Thread Cert.CumsumPastIdeal.nD Cert.CumsumPastIdeal.τ).loc Cert.CumsumPastIdeal.main_arg0) = m ((c.tc : Thread Cert.CumsumPastIdeal.nD Cert.CumsumPastIdeal.τ).loc Cert.CumsumPastIdeal.main_arg0))
      ∧ r.2.sem = fun _ => 0)

def quiescent_CumsumPastRefIdeal [hCumsumPastRefIdeal : Cert.CumsumPastRefIdeal.Facts] : Prop :=
  ∀ (m : (ℓ : Loc Cert.CumsumPastRefIdeal.nD Cert.CumsumPastRefIdeal.τ Cert.CumsumPastRefIdeal.sig) → Buf (Elt Ideal) ℓ) (g : Dev Cert.CumsumPastRefIdeal.nD → PrngReg), Pre_CumsumPastRefIdeal m →
    θ_run (Cert.CumsumPastRefIdeal.defs (F := Ideal)) (onTc (τ := Cert.CumsumPastRefIdeal.τ) (Cert.CumsumPastRefIdeal.main (F := Ideal))) ⟨m, fun _ => 0, g⟩ (fun r => (∀ c : Dev Cert.CumsumPastRefIdeal.nD,
      r.2.mem ((c.tc : Thread Cert.CumsumPastRefIdeal.nD Cert.CumsumPastRefIdeal.τ).loc Cert.CumsumPastRefIdeal.main_arg0) = m ((c.tc : Thread Cert.CumsumPastRefIdeal.nD Cert.CumsumPastRefIdeal.τ).loc Cert.CumsumPastRefIdeal.main_arg0))
      ∧ r.2.sem = fun _ => 0)

def quiescent_CumsumPastRefIdeal_pre_cached_gates_below_infinity [hCumsumPastRefIdeal : Cert.CumsumPastRefIdeal.Facts] [hPre_cached_gates_below_infinity : Cert.Pre_cached_gates_below_infinity.Facts] : Prop :=
  ∀ (m : (ℓ : Loc Cert.CumsumPastRefIdeal.nD Cert.CumsumPastRefIdeal.τ Cert.CumsumPastRefIdeal.sig) → Buf (Elt Ideal) ℓ) (g : Dev Cert.CumsumPastRefIdeal.nD → PrngReg), Pre_CumsumPastRefIdeal_cached_gates_below_infinity m →
    θ_run (Cert.CumsumPastRefIdeal.defs (F := Ideal)) (onTc (τ := Cert.CumsumPastRefIdeal.τ) (Cert.CumsumPastRefIdeal.main (F := Ideal))) ⟨m, fun _ => 0, g⟩ (fun r => (∀ c : Dev Cert.CumsumPastRefIdeal.nD,
      r.2.mem ((c.tc : Thread Cert.CumsumPastRefIdeal.nD Cert.CumsumPastRefIdeal.τ).loc Cert.CumsumPastRefIdeal.main_arg0) = m ((c.tc : Thread Cert.CumsumPastRefIdeal.nD Cert.CumsumPastRefIdeal.τ).loc Cert.CumsumPastRefIdeal.main_arg0))
      ∧ r.2.sem = fun _ => 0)

def quiescent_CumsumNew [hCumsumNew : Cert.CumsumNew.Facts] : Prop :=
  ∀ (m : (ℓ : Loc Cert.CumsumNew.nD Cert.CumsumNew.τ Cert.CumsumNew.sig) → Buf (Elt Bits) ℓ) (g : Dev Cert.CumsumNew.nD → PrngReg), Pre_CumsumNew m →
    θ_run (Cert.CumsumNew.defs (F := Bits)) (onTc (τ := Cert.CumsumNew.τ) (Cert.CumsumNew.main (F := Bits))) ⟨m, fun _ => 0, g⟩ (fun r => (∀ c : Dev Cert.CumsumNew.nD,
      r.2.mem ((c.tc : Thread Cert.CumsumNew.nD Cert.CumsumNew.τ).loc Cert.CumsumNew.main_arg0) = m ((c.tc : Thread Cert.CumsumNew.nD Cert.CumsumNew.τ).loc Cert.CumsumNew.main_arg0)
      ∧ r.2.mem ((c.tc : Thread Cert.CumsumNew.nD Cert.CumsumNew.τ).loc Cert.CumsumNew.main_arg1) = m ((c.tc : Thread Cert.CumsumNew.nD Cert.CumsumNew.τ).loc Cert.CumsumNew.main_arg1))
      ∧ r.2.sem = fun _ => 0)

def quiescent_CumsumNewIdeal [hCumsumNewIdeal : Cert.CumsumNewIdeal.Facts] : Prop :=
  ∀ (m : (ℓ : Loc Cert.CumsumNewIdeal.nD Cert.CumsumNewIdeal.τ Cert.CumsumNewIdeal.sig) → Buf (Elt Ideal) ℓ) (g : Dev Cert.CumsumNewIdeal.nD → PrngReg), Pre_CumsumNewIdeal m →
    θ_run (Cert.CumsumNewIdeal.defs (F := Ideal)) (onTc (τ := Cert.CumsumNewIdeal.τ) (Cert.CumsumNewIdeal.main (F := Ideal))) ⟨m, fun _ => 0, g⟩ (fun r => (∀ c : Dev Cert.CumsumNewIdeal.nD,
      r.2.mem ((c.tc : Thread Cert.CumsumNewIdeal.nD Cert.CumsumNewIdeal.τ).loc Cert.CumsumNewIdeal.main_arg0) = m ((c.tc : Thread Cert.CumsumNewIdeal.nD Cert.CumsumNewIdeal.τ).loc Cert.CumsumNewIdeal.main_arg0)
      ∧ r.2.mem ((c.tc : Thread Cert.CumsumNewIdeal.nD Cert.CumsumNewIdeal.τ).loc Cert.CumsumNewIdeal.main_arg1) = m ((c.tc : Thread Cert.CumsumNewIdeal.nD Cert.CumsumNewIdeal.τ).loc Cert.CumsumNewIdeal.main_arg1))
      ∧ r.2.sem = fun _ => 0)

def quiescent_CumsumNewIdeal_pre_new_gates_below_infinity [hCumsumNewIdeal : Cert.CumsumNewIdeal.Facts] [hPre_new_gates_below_infinity : Cert.Pre_new_gates_below_infinity.Facts] : Prop :=
  ∀ (m : (ℓ : Loc Cert.CumsumNewIdeal.nD Cert.CumsumNewIdeal.τ Cert.CumsumNewIdeal.sig) → Buf (Elt Ideal) ℓ) (g : Dev Cert.CumsumNewIdeal.nD → PrngReg), Pre_CumsumNewIdeal_new_gates_below_infinity m →
    θ_run (Cert.CumsumNewIdeal.defs (F := Ideal)) (onTc (τ := Cert.CumsumNewIdeal.τ) (Cert.CumsumNewIdeal.main (F := Ideal))) ⟨m, fun _ => 0, g⟩ (fun r => (∀ c : Dev Cert.CumsumNewIdeal.nD,
      r.2.mem ((c.tc : Thread Cert.CumsumNewIdeal.nD Cert.CumsumNewIdeal.τ).loc Cert.CumsumNewIdeal.main_arg0) = m ((c.tc : Thread Cert.CumsumNewIdeal.nD Cert.CumsumNewIdeal.τ).loc Cert.CumsumNewIdeal.main_arg0)
      ∧ r.2.mem ((c.tc : Thread Cert.CumsumNewIdeal.nD Cert.CumsumNewIdeal.τ).loc Cert.CumsumNewIdeal.main_arg1) = m ((c.tc : Thread Cert.CumsumNewIdeal.nD Cert.CumsumNewIdeal.τ).loc Cert.CumsumNewIdeal.main_arg1))
      ∧ r.2.sem = fun _ => 0)

def quiescent_CumsumNewRefIdeal [hCumsumNewRefIdeal : Cert.CumsumNewRefIdeal.Facts] : Prop :=
  ∀ (m : (ℓ : Loc Cert.CumsumNewRefIdeal.nD Cert.CumsumNewRefIdeal.τ Cert.CumsumNewRefIdeal.sig) → Buf (Elt Ideal) ℓ) (g : Dev Cert.CumsumNewRefIdeal.nD → PrngReg), Pre_CumsumNewRefIdeal m →
    θ_run (Cert.CumsumNewRefIdeal.defs (F := Ideal)) (onTc (τ := Cert.CumsumNewRefIdeal.τ) (Cert.CumsumNewRefIdeal.main (F := Ideal))) ⟨m, fun _ => 0, g⟩ (fun r => (∀ c : Dev Cert.CumsumNewRefIdeal.nD,
      r.2.mem ((c.tc : Thread Cert.CumsumNewRefIdeal.nD Cert.CumsumNewRefIdeal.τ).loc Cert.CumsumNewRefIdeal.main_arg0) = m ((c.tc : Thread Cert.CumsumNewRefIdeal.nD Cert.CumsumNewRefIdeal.τ).loc Cert.CumsumNewRefIdeal.main_arg0)
      ∧ r.2.mem ((c.tc : Thread Cert.CumsumNewRefIdeal.nD Cert.CumsumNewRefIdeal.τ).loc Cert.CumsumNewRefIdeal.main_arg1) = m ((c.tc : Thread Cert.CumsumNewRefIdeal.nD Cert.CumsumNewRefIdeal.τ).loc Cert.CumsumNewRefIdeal.main_arg1))
      ∧ r.2.sem = fun _ => 0)

def quiescent_CumsumNewRefIdeal_pre_new_gates_below_infinity [hCumsumNewRefIdeal : Cert.CumsumNewRefIdeal.Facts] [hPre_new_gates_below_infinity : Cert.Pre_new_gates_below_infinity.Facts] : Prop :=
  ∀ (m : (ℓ : Loc Cert.CumsumNewRefIdeal.nD Cert.CumsumNewRefIdeal.τ Cert.CumsumNewRefIdeal.sig) → Buf (Elt Ideal) ℓ) (g : Dev Cert.CumsumNewRefIdeal.nD → PrngReg), Pre_CumsumNewRefIdeal_new_gates_below_infinity m →
    θ_run (Cert.CumsumNewRefIdeal.defs (F := Ideal)) (onTc (τ := Cert.CumsumNewRefIdeal.τ) (Cert.CumsumNewRefIdeal.main (F := Ideal))) ⟨m, fun _ => 0, g⟩ (fun r => (∀ c : Dev Cert.CumsumNewRefIdeal.nD,
      r.2.mem ((c.tc : Thread Cert.CumsumNewRefIdeal.nD Cert.CumsumNewRefIdeal.τ).loc Cert.CumsumNewRefIdeal.main_arg0) = m ((c.tc : Thread Cert.CumsumNewRefIdeal.nD Cert.CumsumNewRefIdeal.τ).loc Cert.CumsumNewRefIdeal.main_arg0)
      ∧ r.2.mem ((c.tc : Thread Cert.CumsumNewRefIdeal.nD Cert.CumsumNewRefIdeal.τ).loc Cert.CumsumNewRefIdeal.main_arg1) = m ((c.tc : Thread Cert.CumsumNewRefIdeal.nD Cert.CumsumNewRefIdeal.τ).loc Cert.CumsumNewRefIdeal.main_arg1))
      ∧ r.2.sem = fun _ => 0)

def preserves_Attention_AttentionIdeal : Prop :=
  IdealRules.named_const.Statement Cert.AttentionIdeal.κ "log2e" .f32 0x3FB8AA3B#32 (((Real.log 2)⁻¹ : ℝ) : EReal)
  ∧ IdealRules.named_const.Statement Cert.AttentionIdeal.κ "q_scale" .f32 0x3E0293EE#32 (((Real.sqrt 128)⁻¹ * (Real.log 2)⁻¹ : ℝ) : EReal)
  ∧ IdealRules.named_const.Statement Cert.AttentionIdeal.κ "mask" .f32 0xF149F2CA#32 ⊥

def algebraic_AttentionIdeal_AttentionRefIdeal_pre_finite_scores [hAttentionIdeal : Cert.AttentionIdeal.Facts] [hAttentionRefIdeal : Cert.AttentionRefIdeal.Facts] [hPre_finite_scores : Cert.Pre_finite_scores.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_scores m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v7)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v7) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v32) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v7)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v7) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v31) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v8)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v8) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v50) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_InProj_InProjIdeal : Prop :=
  IdealRules.named_const.Statement Cert.InProjIdeal.κ "q_scale" .f32 0x3E0293EE#32 (((Real.sqrt 128)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v15)) (v2 : (c : Dev Cert.InProjIdeal.nD) → Buf (Elt Ideal) ((c.tc : Thread Cert.InProjIdeal.nD Cert.InProjIdeal.τ).loc Cert.InProjIdeal.main_v13_2)) (v3 : (c : Dev Cert.InProjIdeal.nD) → Buf (Elt Ideal) ((c.tc : Thread Cert.InProjIdeal.nD Cert.InProjIdeal.τ).loc Cert.InProjIdeal.main_v17)) (v4 : (c : Dev Cert.InProjIdeal.nD) → Buf (Elt Ideal) ((c.tc : Thread Cert.InProjIdeal.nD Cert.InProjIdeal.τ).loc Cert.InProjIdeal.main_v13_4)) (v5 : (c : Dev Cert.InProjIdeal.nD) → Buf (Elt Ideal) ((c.tc : Thread Cert.InProjIdeal.nD Cert.InProjIdeal.τ).loc Cert.InProjIdeal.main_v13_5)) (v6 : (c : Dev Cert.InProjIdeal.nD) → Buf (Elt Ideal) ((c.tc : Thread Cert.InProjIdeal.nD Cert.InProjIdeal.τ).loc Cert.InProjIdeal.main_v18)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v15) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_v17) = v3 c
          ∧ r.2.mem ((c.tc : Thread Cert.InProjIdeal.nD Cert.InProjIdeal.τ).loc Cert.InProjIdeal.main_v13_4) = v4 c
          ∧ r.2.mem ((c.tc : Thread Cert.InProjIdeal.nD Cert.InProjIdeal.τ).loc Cert.InProjIdeal.main_v13_5) = v5 c
          ∧ r.2.mem ((c.tc : Thread Cert.InProjIdeal.nD Cert.InProjIdeal.τ).loc Cert.InProjIdeal.main_v18) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v69) = v0 c
          ∧ r.2.mem ((c.tc : Thread Cert.InProjRefIdeal.nD Cert.InProjRefIdeal.τ).loc Cert.InProjRefIdeal.main_v58) = v1 c
          ∧ r.2.mem ((c.tc : Thread Cert.InProjRefIdeal.nD Cert.InProjRefIdeal.τ).loc Cert.InProjRefIdeal.main_v70) = v2 c
          ∧ r.2.mem ((c.tc : Thread Cert.InProjRefIdeal.nD Cert.InProjRefIdeal.τ).loc Cert.InProjRefIdeal.main_v59) = v3 c
          ∧ r.2.mem ((c.tc : Thread Cert.InProjRefIdeal.nD Cert.InProjRefIdeal.τ).loc Cert.InProjRefIdeal.main_v71) = v4 c
          ∧ r.2.mem ((c.tc : Thread Cert.InProjRefIdeal.nD Cert.InProjRefIdeal.τ).loc Cert.InProjRefIdeal.main_v66) = v5 c
          ∧ r.2.mem ((c.tc : Thread Cert.InProjRefIdeal.nD Cert.InProjRefIdeal.τ).loc Cert.InProjRefIdeal.main_v67) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Cumsum_CumsumIdeal : Prop :=
  True

def algebraic_CumsumIdeal_CumsumRefIdeal_pre_gates_below_infinity [hCumsumIdeal : Cert.CumsumIdeal.Facts] [hCumsumRefIdeal : Cert.CumsumRefIdeal.Facts] [hPre_gates_below_infinity : Cert.Pre_gates_below_infinity.Facts] : Prop :=
  ∀ (m : (ℓ : Loc Cert.CumsumIdeal.nD Cert.CumsumIdeal.τ Cert.CumsumIdeal.sig) → Buf (Elt Ideal) ℓ) (g : Dev Cert.CumsumIdeal.nD → PrngReg)
    (m' : (ℓ : Loc Cert.CumsumRefIdeal.nD Cert.CumsumRefIdeal.τ Cert.CumsumRefIdeal.sig) → Buf (Elt Ideal) ℓ) (g' : Dev Cert.CumsumRefIdeal.nD → PrngReg), Pre_CumsumIdeal_gates_below_infinity m →
    (∀ c : Dev Cert.CumsumIdeal.nD,
      m' ((c.tc : Thread Cert.CumsumRefIdeal.nD Cert.CumsumRefIdeal.τ).loc Cert.CumsumRefIdeal.main_arg0) = m ((c.tc : Thread Cert.CumsumIdeal.nD Cert.CumsumIdeal.τ).loc Cert.CumsumIdeal.main_arg0)) →
    ∃ (v0 : (c : Dev Cert.CumsumIdeal.nD) → Buf (Elt Ideal) ((c.tc : Thread Cert.CumsumIdeal.nD Cert.CumsumIdeal.τ).loc Cert.CumsumIdeal.main_v2)),
      θ_run (Cert.CumsumIdeal.defs (F := Ideal)) (onTc (τ := Cert.CumsumIdeal.τ) (Cert.CumsumIdeal.main (F := Ideal))) ⟨m, fun _ => 0, g⟩ (fun r => ∀ c : Dev Cert.CumsumIdeal.nD,
          r.2.mem ((c.tc : Thread Cert.CumsumIdeal.nD Cert.CumsumIdeal.τ).loc Cert.CumsumIdeal.main_v2) = v0 c
          ∧ r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ θ_run (Cert.CumsumRefIdeal.defs (F := Ideal)) (onTc (τ := Cert.CumsumRefIdeal.τ) (Cert.CumsumRefIdeal.main (F := Ideal))) ⟨m', fun _ => 0, g'⟩ (fun r => ∀ c : Dev Cert.CumsumRefIdeal.nD,
          r.2.mem ((c.tc : Thread Cert.CumsumRefIdeal.nD Cert.CumsumRefIdeal.τ).loc Cert.CumsumRefIdeal.main_v1) = v0 c
          ∧ r.2.mem ((c.tc : Thread Cert.CumsumRefIdeal.nD Cert.CumsumRefIdeal.τ).loc Cert.CumsumRefIdeal.main_arg0) = m' ((c.tc : Thread Cert.CumsumRefIdeal.nD Cert.CumsumRefIdeal.τ).loc Cert.CumsumRefIdeal.main_arg0))

def preserves_PleCached_PleCachedIdeal : Prop :=
  True

def algebraic_PleCachedIdeal_PleCachedRefIdeal [hPleCachedIdeal : Cert.PleCachedIdeal.Facts] [hPleCachedRefIdeal : Cert.PleCachedRefIdeal.Facts] : Prop :=
  ∀ (m : (ℓ : Loc Cert.PleCachedIdeal.nD Cert.PleCachedIdeal.τ Cert.PleCachedIdeal.sig) → Buf (Elt Ideal) ℓ) (g : Dev Cert.PleCachedIdeal.nD → PrngReg)
    (m' : (ℓ : Loc Cert.PleCachedRefIdeal.nD Cert.PleCachedRefIdeal.τ Cert.PleCachedRefIdeal.sig) → Buf (Elt Ideal) ℓ) (g' : Dev Cert.PleCachedRefIdeal.nD → PrngReg), Pre_PleCachedIdeal m →
    (∀ c : Dev Cert.PleCachedIdeal.nD,
      m' ((c.tc : Thread Cert.PleCachedRefIdeal.nD Cert.PleCachedRefIdeal.τ).loc Cert.PleCachedRefIdeal.main_arg0) = m ((c.tc : Thread Cert.PleCachedIdeal.nD Cert.PleCachedIdeal.τ).loc Cert.PleCachedIdeal.main_arg0)
      ∧ m' ((c.tc : Thread Cert.PleCachedRefIdeal.nD Cert.PleCachedRefIdeal.τ).loc Cert.PleCachedRefIdeal.main_arg1) = m ((c.tc : Thread Cert.PleCachedIdeal.nD Cert.PleCachedIdeal.τ).loc Cert.PleCachedIdeal.main_arg1)
      ∧ m' ((c.tc : Thread Cert.PleCachedRefIdeal.nD Cert.PleCachedRefIdeal.τ).loc Cert.PleCachedRefIdeal.main_arg2) = m ((c.tc : Thread Cert.PleCachedIdeal.nD Cert.PleCachedIdeal.τ).loc Cert.PleCachedIdeal.main_arg2)
      ∧ m' ((c.tc : Thread Cert.PleCachedRefIdeal.nD Cert.PleCachedRefIdeal.τ).loc Cert.PleCachedRefIdeal.main_arg3) = m ((c.tc : Thread Cert.PleCachedIdeal.nD Cert.PleCachedIdeal.τ).loc Cert.PleCachedIdeal.main_arg3)
      ∧ m' ((c.tc : Thread Cert.PleCachedRefIdeal.nD Cert.PleCachedRefIdeal.τ).loc Cert.PleCachedRefIdeal.main_arg4) = m ((c.tc : Thread Cert.PleCachedIdeal.nD Cert.PleCachedIdeal.τ).loc Cert.PleCachedIdeal.main_arg4)) →
    ∃ (v0 : (c : Dev Cert.PleCachedIdeal.nD) → Buf (Elt Ideal) ((c.tc : Thread Cert.PleCachedIdeal.nD Cert.PleCachedIdeal.τ).loc Cert.PleCachedIdeal.main_v7)),
      θ_run (Cert.PleCachedIdeal.defs (F := Ideal)) (onTc (τ := Cert.PleCachedIdeal.τ) (Cert.PleCachedIdeal.main (F := Ideal))) ⟨m, fun _ => 0, g⟩ (fun r => ∀ c : Dev Cert.PleCachedIdeal.nD,
          r.2.mem ((c.tc : Thread Cert.PleCachedIdeal.nD Cert.PleCachedIdeal.τ).loc Cert.PleCachedIdeal.main_v7) = v0 c
          ∧ r.2.mem ((c.tc : Thread Cert.PleCachedIdeal.nD Cert.PleCachedIdeal.τ).loc Cert.PleCachedIdeal.main_arg0) = m ((c.tc : Thread Cert.PleCachedIdeal.nD Cert.PleCachedIdeal.τ).loc Cert.PleCachedIdeal.main_arg0)
          ∧ r.2.mem ((c.tc : Thread Cert.PleCachedIdeal.nD Cert.PleCachedIdeal.τ).loc Cert.PleCachedIdeal.main_arg1) = m ((c.tc : Thread Cert.PleCachedIdeal.nD Cert.PleCachedIdeal.τ).loc Cert.PleCachedIdeal.main_arg1)
          ∧ r.2.mem ((c.tc : Thread Cert.PleCachedIdeal.nD Cert.PleCachedIdeal.τ).loc Cert.PleCachedIdeal.main_arg2) = m ((c.tc : Thread Cert.PleCachedIdeal.nD Cert.PleCachedIdeal.τ).loc Cert.PleCachedIdeal.main_arg2)
          ∧ r.2.mem ((c.tc : Thread Cert.PleCachedIdeal.nD Cert.PleCachedIdeal.τ).loc Cert.PleCachedIdeal.main_arg3) = m ((c.tc : Thread Cert.PleCachedIdeal.nD Cert.PleCachedIdeal.τ).loc Cert.PleCachedIdeal.main_arg3)
          ∧ r.2.mem ((c.tc : Thread Cert.PleCachedIdeal.nD Cert.PleCachedIdeal.τ).loc Cert.PleCachedIdeal.main_arg4) = m ((c.tc : Thread Cert.PleCachedIdeal.nD Cert.PleCachedIdeal.τ).loc Cert.PleCachedIdeal.main_arg4))
      ∧ θ_run (Cert.PleCachedRefIdeal.defs (F := Ideal)) (onTc (τ := Cert.PleCachedRefIdeal.τ) (Cert.PleCachedRefIdeal.main (F := Ideal))) ⟨m', fun _ => 0, g'⟩ (fun r => ∀ c : Dev Cert.PleCachedRefIdeal.nD,
          r.2.mem ((c.tc : Thread Cert.PleCachedRefIdeal.nD Cert.PleCachedRefIdeal.τ).loc Cert.PleCachedRefIdeal.main_v31) = v0 c
          ∧ r.2.mem ((c.tc : Thread Cert.PleCachedRefIdeal.nD Cert.PleCachedRefIdeal.τ).loc Cert.PleCachedRefIdeal.main_arg0) = m' ((c.tc : Thread Cert.PleCachedRefIdeal.nD Cert.PleCachedRefIdeal.τ).loc Cert.PleCachedRefIdeal.main_arg0)
          ∧ r.2.mem ((c.tc : Thread Cert.PleCachedRefIdeal.nD Cert.PleCachedRefIdeal.τ).loc Cert.PleCachedRefIdeal.main_arg1) = m' ((c.tc : Thread Cert.PleCachedRefIdeal.nD Cert.PleCachedRefIdeal.τ).loc Cert.PleCachedRefIdeal.main_arg1)
          ∧ r.2.mem ((c.tc : Thread Cert.PleCachedRefIdeal.nD Cert.PleCachedRefIdeal.τ).loc Cert.PleCachedRefIdeal.main_arg2) = m' ((c.tc : Thread Cert.PleCachedRefIdeal.nD Cert.PleCachedRefIdeal.τ).loc Cert.PleCachedRefIdeal.main_arg2)
          ∧ r.2.mem ((c.tc : Thread Cert.PleCachedRefIdeal.nD Cert.PleCachedRefIdeal.τ).loc Cert.PleCachedRefIdeal.main_arg3) = m' ((c.tc : Thread Cert.PleCachedRefIdeal.nD Cert.PleCachedRefIdeal.τ).loc Cert.PleCachedRefIdeal.main_arg3)
          ∧ r.2.mem ((c.tc : Thread Cert.PleCachedRefIdeal.nD Cert.PleCachedRefIdeal.τ).loc Cert.PleCachedRefIdeal.main_arg4) = m' ((c.tc : Thread Cert.PleCachedRefIdeal.nD Cert.PleCachedRefIdeal.τ).loc Cert.PleCachedRefIdeal.main_arg4))

def preserves_AttentionCached_AttentionCachedIdeal : Prop :=
  IdealRules.named_const.Statement Cert.AttentionCachedIdeal.κ "mask" .f32 0xF149F2CA#32 ⊥
  ∧ IdealRules.named_const.Statement Cert.AttentionCachedIdeal.κ "q_scale" .f32 0x3E0293EE#32 (((Real.sqrt 128)⁻¹ * (Real.log 2)⁻¹ : ℝ) : EReal)
  ∧ IdealRules.named_const.Statement Cert.AttentionCachedIdeal.κ "log2e" .f32 0x3FB8AA3B#32 (((Real.log 2)⁻¹ : ℝ) : EReal)

def algebraic_AttentionCachedIdeal_AttentionCachedRefIdeal_pre_finite_cached_scores [hAttentionCachedIdeal : Cert.AttentionCachedIdeal.Facts] [hAttentionCachedRefIdeal : Cert.AttentionCachedRefIdeal.Facts] [hPre_finite_cached_scores : Cert.Pre_finite_cached_scores.Facts] : Prop :=
  ∀ (m : (ℓ : Loc Cert.AttentionCachedIdeal.nD Cert.AttentionCachedIdeal.τ Cert.AttentionCachedIdeal.sig) → Buf (Elt Ideal) ℓ) (g : Dev Cert.AttentionCachedIdeal.nD → PrngReg)
    (m' : (ℓ : Loc Cert.AttentionCachedRefIdeal.nD Cert.AttentionCachedRefIdeal.τ Cert.AttentionCachedRefIdeal.sig) → Buf (Elt Ideal) ℓ) (g' : Dev Cert.AttentionCachedRefIdeal.nD → PrngReg), Pre_AttentionCachedIdeal_finite_cached_scores m →
    (∀ c : Dev Cert.AttentionCachedIdeal.nD,
      m' ((c.tc : Thread Cert.AttentionCachedRefIdeal.nD Cert.AttentionCachedRefIdeal.τ).loc Cert.AttentionCachedRefIdeal.main_arg0) = m ((c.tc : Thread Cert.AttentionCachedIdeal.nD Cert.AttentionCachedIdeal.τ).loc Cert.AttentionCachedIdeal.main_arg0)
      ∧ m' ((c.tc : Thread Cert.AttentionCachedRefIdeal.nD Cert.AttentionCachedRefIdeal.τ).loc Cert.AttentionCachedRefIdeal.main_arg1) = m ((c.tc : Thread Cert.AttentionCachedIdeal.nD Cert.AttentionCachedIdeal.τ).loc Cert.AttentionCachedIdeal.main_arg1)
      ∧ m' ((c.tc : Thread Cert.AttentionCachedRefIdeal.nD Cert.AttentionCachedRefIdeal.τ).loc Cert.AttentionCachedRefIdeal.main_arg2) = m ((c.tc : Thread Cert.AttentionCachedIdeal.nD Cert.AttentionCachedIdeal.τ).loc Cert.AttentionCachedIdeal.main_arg2)
      ∧ m' ((c.tc : Thread Cert.AttentionCachedRefIdeal.nD Cert.AttentionCachedRefIdeal.τ).loc Cert.AttentionCachedRefIdeal.main_arg3) = m ((c.tc : Thread Cert.AttentionCachedIdeal.nD Cert.AttentionCachedIdeal.τ).loc Cert.AttentionCachedIdeal.main_arg3)
      ∧ m' ((c.tc : Thread Cert.AttentionCachedRefIdeal.nD Cert.AttentionCachedRefIdeal.τ).loc Cert.AttentionCachedRefIdeal.main_arg4) = m ((c.tc : Thread Cert.AttentionCachedIdeal.nD Cert.AttentionCachedIdeal.τ).loc Cert.AttentionCachedIdeal.main_arg4)
      ∧ m' ((c.tc : Thread Cert.AttentionCachedRefIdeal.nD Cert.AttentionCachedRefIdeal.τ).loc Cert.AttentionCachedRefIdeal.main_arg5) = m ((c.tc : Thread Cert.AttentionCachedIdeal.nD Cert.AttentionCachedIdeal.τ).loc Cert.AttentionCachedIdeal.main_arg5)
      ∧ m' ((c.tc : Thread Cert.AttentionCachedRefIdeal.nD Cert.AttentionCachedRefIdeal.τ).loc Cert.AttentionCachedRefIdeal.main_arg6) = m ((c.tc : Thread Cert.AttentionCachedIdeal.nD Cert.AttentionCachedIdeal.τ).loc Cert.AttentionCachedIdeal.main_arg6)) →
    ∃ (v0 : (c : Dev Cert.AttentionCachedIdeal.nD) → Buf (Elt Ideal) ((c.tc : Thread Cert.AttentionCachedIdeal.nD Cert.AttentionCachedIdeal.τ).loc Cert.AttentionCachedIdeal.main_v7)),
      θ_run (Cert.AttentionCachedIdeal.defs (F := Ideal)) (onTc (τ := Cert.AttentionCachedIdeal.τ) (Cert.AttentionCachedIdeal.main (F := Ideal))) ⟨m, fun _ => 0, g⟩ (fun r => ∀ c : Dev Cert.AttentionCachedIdeal.nD,
          r.2.mem ((c.tc : Thread Cert.AttentionCachedIdeal.nD Cert.AttentionCachedIdeal.τ).loc Cert.AttentionCachedIdeal.main_v7) = v0 c
          ∧ r.2.mem ((c.tc : Thread Cert.AttentionCachedIdeal.nD Cert.AttentionCachedIdeal.τ).loc Cert.AttentionCachedIdeal.main_arg0) = m ((c.tc : Thread Cert.AttentionCachedIdeal.nD Cert.AttentionCachedIdeal.τ).loc Cert.AttentionCachedIdeal.main_arg0)
          ∧ r.2.mem ((c.tc : Thread Cert.AttentionCachedIdeal.nD Cert.AttentionCachedIdeal.τ).loc Cert.AttentionCachedIdeal.main_arg1) = m ((c.tc : Thread Cert.AttentionCachedIdeal.nD Cert.AttentionCachedIdeal.τ).loc Cert.AttentionCachedIdeal.main_arg1)
          ∧ r.2.mem ((c.tc : Thread Cert.AttentionCachedIdeal.nD Cert.AttentionCachedIdeal.τ).loc Cert.AttentionCachedIdeal.main_arg2) = m ((c.tc : Thread Cert.AttentionCachedIdeal.nD Cert.AttentionCachedIdeal.τ).loc Cert.AttentionCachedIdeal.main_arg2)
          ∧ r.2.mem ((c.tc : Thread Cert.AttentionCachedIdeal.nD Cert.AttentionCachedIdeal.τ).loc Cert.AttentionCachedIdeal.main_arg3) = m ((c.tc : Thread Cert.AttentionCachedIdeal.nD Cert.AttentionCachedIdeal.τ).loc Cert.AttentionCachedIdeal.main_arg3)
          ∧ r.2.mem ((c.tc : Thread Cert.AttentionCachedIdeal.nD Cert.AttentionCachedIdeal.τ).loc Cert.AttentionCachedIdeal.main_arg4) = m ((c.tc : Thread Cert.AttentionCachedIdeal.nD Cert.AttentionCachedIdeal.τ).loc Cert.AttentionCachedIdeal.main_arg4)
          ∧ r.2.mem ((c.tc : Thread Cert.AttentionCachedIdeal.nD Cert.AttentionCachedIdeal.τ).loc Cert.AttentionCachedIdeal.main_arg5) = m ((c.tc : Thread Cert.AttentionCachedIdeal.nD Cert.AttentionCachedIdeal.τ).loc Cert.AttentionCachedIdeal.main_arg5)
          ∧ r.2.mem ((c.tc : Thread Cert.AttentionCachedIdeal.nD Cert.AttentionCachedIdeal.τ).loc Cert.AttentionCachedIdeal.main_arg6) = m ((c.tc : Thread Cert.AttentionCachedIdeal.nD Cert.AttentionCachedIdeal.τ).loc Cert.AttentionCachedIdeal.main_arg6))
      ∧ θ_run (Cert.AttentionCachedRefIdeal.defs (F := Ideal)) (onTc (τ := Cert.AttentionCachedRefIdeal.τ) (Cert.AttentionCachedRefIdeal.main (F := Ideal))) ⟨m', fun _ => 0, g'⟩ (fun r => ∀ c : Dev Cert.AttentionCachedRefIdeal.nD,
          r.2.mem ((c.tc : Thread Cert.AttentionCachedRefIdeal.nD Cert.AttentionCachedRefIdeal.τ).loc Cert.AttentionCachedRefIdeal.main_v42) = v0 c
          ∧ r.2.mem ((c.tc : Thread Cert.AttentionCachedRefIdeal.nD Cert.AttentionCachedRefIdeal.τ).loc Cert.AttentionCachedRefIdeal.main_arg0) = m' ((c.tc : Thread Cert.AttentionCachedRefIdeal.nD Cert.AttentionCachedRefIdeal.τ).loc Cert.AttentionCachedRefIdeal.main_arg0)
          ∧ r.2.mem ((c.tc : Thread Cert.AttentionCachedRefIdeal.nD Cert.AttentionCachedRefIdeal.τ).loc Cert.AttentionCachedRefIdeal.main_arg1) = m' ((c.tc : Thread Cert.AttentionCachedRefIdeal.nD Cert.AttentionCachedRefIdeal.τ).loc Cert.AttentionCachedRefIdeal.main_arg1)
          ∧ r.2.mem ((c.tc : Thread Cert.AttentionCachedRefIdeal.nD Cert.AttentionCachedRefIdeal.τ).loc Cert.AttentionCachedRefIdeal.main_arg2) = m' ((c.tc : Thread Cert.AttentionCachedRefIdeal.nD Cert.AttentionCachedRefIdeal.τ).loc Cert.AttentionCachedRefIdeal.main_arg2)
          ∧ r.2.mem ((c.tc : Thread Cert.AttentionCachedRefIdeal.nD Cert.AttentionCachedRefIdeal.τ).loc Cert.AttentionCachedRefIdeal.main_arg3) = m' ((c.tc : Thread Cert.AttentionCachedRefIdeal.nD Cert.AttentionCachedRefIdeal.τ).loc Cert.AttentionCachedRefIdeal.main_arg3)
          ∧ r.2.mem ((c.tc : Thread Cert.AttentionCachedRefIdeal.nD Cert.AttentionCachedRefIdeal.τ).loc Cert.AttentionCachedRefIdeal.main_arg4) = m' ((c.tc : Thread Cert.AttentionCachedRefIdeal.nD Cert.AttentionCachedRefIdeal.τ).loc Cert.AttentionCachedRefIdeal.main_arg4)
          ∧ r.2.mem ((c.tc : Thread Cert.AttentionCachedRefIdeal.nD Cert.AttentionCachedRefIdeal.τ).loc Cert.AttentionCachedRefIdeal.main_arg5) = m' ((c.tc : Thread Cert.AttentionCachedRefIdeal.nD Cert.AttentionCachedRefIdeal.τ).loc Cert.AttentionCachedRefIdeal.main_arg5)
          ∧ r.2.mem ((c.tc : Thread Cert.AttentionCachedRefIdeal.nD Cert.AttentionCachedRefIdeal.τ).loc Cert.AttentionCachedRefIdeal.main_arg6) = m' ((c.tc : Thread Cert.AttentionCachedRefIdeal.nD Cert.AttentionCachedRefIdeal.τ).loc Cert.AttentionCachedRefIdeal.main_arg6))

def preserves_CumsumPast_CumsumPastIdeal : Prop :=
  True

def algebraic_CumsumPastIdeal_CumsumPastRefIdeal_pre_cached_gates_below_infinity [hCumsumPastIdeal : Cert.CumsumPastIdeal.Facts] [hCumsumPastRefIdeal : Cert.CumsumPastRefIdeal.Facts] [hPre_cached_gates_below_infinity : Cert.Pre_cached_gates_below_infinity.Facts] : Prop :=
  ∀ (m : (ℓ : Loc Cert.CumsumPastIdeal.nD Cert.CumsumPastIdeal.τ Cert.CumsumPastIdeal.sig) → Buf (Elt Ideal) ℓ) (g : Dev Cert.CumsumPastIdeal.nD → PrngReg)
    (m' : (ℓ : Loc Cert.CumsumPastRefIdeal.nD Cert.CumsumPastRefIdeal.τ Cert.CumsumPastRefIdeal.sig) → Buf (Elt Ideal) ℓ) (g' : Dev Cert.CumsumPastRefIdeal.nD → PrngReg), Pre_CumsumPastIdeal_cached_gates_below_infinity m →
    (∀ c : Dev Cert.CumsumPastIdeal.nD,
      m' ((c.tc : Thread Cert.CumsumPastRefIdeal.nD Cert.CumsumPastRefIdeal.τ).loc Cert.CumsumPastRefIdeal.main_arg0) = m ((c.tc : Thread Cert.CumsumPastIdeal.nD Cert.CumsumPastIdeal.τ).loc Cert.CumsumPastIdeal.main_arg0)) →
    ∃ (v0 : (c : Dev Cert.CumsumPastIdeal.nD) → Buf (Elt Ideal) ((c.tc : Thread Cert.CumsumPastIdeal.nD Cert.CumsumPastIdeal.τ).loc Cert.CumsumPastIdeal.main_v4)),
      θ_run (Cert.CumsumPastIdeal.defs (F := Ideal)) (onTc (τ := Cert.CumsumPastIdeal.τ) (Cert.CumsumPastIdeal.main (F := Ideal))) ⟨m, fun _ => 0, g⟩ (fun r => ∀ c : Dev Cert.CumsumPastIdeal.nD,
          r.2.mem ((c.tc : Thread Cert.CumsumPastIdeal.nD Cert.CumsumPastIdeal.τ).loc Cert.CumsumPastIdeal.main_v4) = v0 c
          ∧ r.2.mem ((c.tc : Thread Cert.CumsumPastIdeal.nD Cert.CumsumPastIdeal.τ).loc Cert.CumsumPastIdeal.main_arg0) = m ((c.tc : Thread Cert.CumsumPastIdeal.nD Cert.CumsumPastIdeal.τ).loc Cert.CumsumPastIdeal.main_arg0))
      ∧ θ_run (Cert.CumsumPastRefIdeal.defs (F := Ideal)) (onTc (τ := Cert.CumsumPastRefIdeal.τ) (Cert.CumsumPastRefIdeal.main (F := Ideal))) ⟨m', fun _ => 0, g'⟩ (fun r => ∀ c : Dev Cert.CumsumPastRefIdeal.nD,
          r.2.mem ((c.tc : Thread Cert.CumsumPastRefIdeal.nD Cert.CumsumPastRefIdeal.τ).loc Cert.CumsumPastRefIdeal.main_v3) = v0 c
          ∧ r.2.mem ((c.tc : Thread Cert.CumsumPastRefIdeal.nD Cert.CumsumPastRefIdeal.τ).loc Cert.CumsumPastRefIdeal.main_arg0) = m' ((c.tc : Thread Cert.CumsumPastRefIdeal.nD Cert.CumsumPastRefIdeal.τ).loc Cert.CumsumPastRefIdeal.main_arg0))

def preserves_CumsumNew_CumsumNewIdeal : Prop :=
  True

def algebraic_CumsumNewIdeal_CumsumNewRefIdeal_pre_new_gates_below_infinity [hCumsumNewIdeal : Cert.CumsumNewIdeal.Facts] [hCumsumNewRefIdeal : Cert.CumsumNewRefIdeal.Facts] [hPre_new_gates_below_infinity : Cert.Pre_new_gates_below_infinity.Facts] : Prop :=
  ∀ (m : (ℓ : Loc Cert.CumsumNewIdeal.nD Cert.CumsumNewIdeal.τ Cert.CumsumNewIdeal.sig) → Buf (Elt Ideal) ℓ) (g : Dev Cert.CumsumNewIdeal.nD → PrngReg)
    (m' : (ℓ : Loc Cert.CumsumNewRefIdeal.nD Cert.CumsumNewRefIdeal.τ Cert.CumsumNewRefIdeal.sig) → Buf (Elt Ideal) ℓ) (g' : Dev Cert.CumsumNewRefIdeal.nD → PrngReg), Pre_CumsumNewIdeal_new_gates_below_infinity m →
    (∀ c : Dev Cert.CumsumNewIdeal.nD,
      m' ((c.tc : Thread Cert.CumsumNewRefIdeal.nD Cert.CumsumNewRefIdeal.τ).loc Cert.CumsumNewRefIdeal.main_arg0) = m ((c.tc : Thread Cert.CumsumNewIdeal.nD Cert.CumsumNewIdeal.τ).loc Cert.CumsumNewIdeal.main_arg0)
      ∧ m' ((c.tc : Thread Cert.CumsumNewRefIdeal.nD Cert.CumsumNewRefIdeal.τ).loc Cert.CumsumNewRefIdeal.main_arg1) = m ((c.tc : Thread Cert.CumsumNewIdeal.nD Cert.CumsumNewIdeal.τ).loc Cert.CumsumNewIdeal.main_arg1)) →
    ∃ (v0 : (c : Dev Cert.CumsumNewIdeal.nD) → Buf (Elt Ideal) ((c.tc : Thread Cert.CumsumNewIdeal.nD Cert.CumsumNewIdeal.τ).loc Cert.CumsumNewIdeal.main_v5)),
      θ_run (Cert.CumsumNewIdeal.defs (F := Ideal)) (onTc (τ := Cert.CumsumNewIdeal.τ) (Cert.CumsumNewIdeal.main (F := Ideal))) ⟨m, fun _ => 0, g⟩ (fun r => ∀ c : Dev Cert.CumsumNewIdeal.nD,
          r.2.mem ((c.tc : Thread Cert.CumsumNewIdeal.nD Cert.CumsumNewIdeal.τ).loc Cert.CumsumNewIdeal.main_v5) = v0 c
          ∧ r.2.mem ((c.tc : Thread Cert.CumsumNewIdeal.nD Cert.CumsumNewIdeal.τ).loc Cert.CumsumNewIdeal.main_arg0) = m ((c.tc : Thread Cert.CumsumNewIdeal.nD Cert.CumsumNewIdeal.τ).loc Cert.CumsumNewIdeal.main_arg0)
          ∧ r.2.mem ((c.tc : Thread Cert.CumsumNewIdeal.nD Cert.CumsumNewIdeal.τ).loc Cert.CumsumNewIdeal.main_arg1) = m ((c.tc : Thread Cert.CumsumNewIdeal.nD Cert.CumsumNewIdeal.τ).loc Cert.CumsumNewIdeal.main_arg1))
      ∧ θ_run (Cert.CumsumNewRefIdeal.defs (F := Ideal)) (onTc (τ := Cert.CumsumNewRefIdeal.τ) (Cert.CumsumNewRefIdeal.main (F := Ideal))) ⟨m', fun _ => 0, g'⟩ (fun r => ∀ c : Dev Cert.CumsumNewRefIdeal.nD,
          r.2.mem ((c.tc : Thread Cert.CumsumNewRefIdeal.nD Cert.CumsumNewRefIdeal.τ).loc Cert.CumsumNewRefIdeal.main_v8) = v0 c
          ∧ r.2.mem ((c.tc : Thread Cert.CumsumNewRefIdeal.nD Cert.CumsumNewRefIdeal.τ).loc Cert.CumsumNewRefIdeal.main_arg0) = m' ((c.tc : Thread Cert.CumsumNewRefIdeal.nD Cert.CumsumNewRefIdeal.τ).loc Cert.CumsumNewRefIdeal.main_arg0)
          ∧ r.2.mem ((c.tc : Thread Cert.CumsumNewRefIdeal.nD Cert.CumsumNewRefIdeal.τ).loc Cert.CumsumNewRefIdeal.main_arg1) = m' ((c.tc : Thread Cert.CumsumNewRefIdeal.nD Cert.CumsumNewRefIdeal.τ).loc Cert.CumsumNewRefIdeal.main_arg1))

def Claim : Prop :=
  ∃ (hAttention : Cert.Attention.Facts) (hAttentionIdeal : Cert.AttentionIdeal.Facts) (hAttentionRefIdeal : Cert.AttentionRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hMixOut : Cert.MixOut.Facts) (hMixOutIdeal : Cert.MixOutIdeal.Facts) (hMixOutRefIdeal : Cert.MixOutRefIdeal.Facts) (hInProj : Cert.InProj.Facts) (hInProjIdeal : Cert.InProjIdeal.Facts) (hInProjRefIdeal : Cert.InProjRefIdeal.Facts) (hCumsum : Cert.Cumsum.Facts) (hCumsumIdeal : Cert.CumsumIdeal.Facts) (hCumsumRefIdeal : Cert.CumsumRefIdeal.Facts) (hPleCached : Cert.PleCached.Facts) (hPleCachedIdeal : Cert.PleCachedIdeal.Facts) (hPleCachedRefIdeal : Cert.PleCachedRefIdeal.Facts) (hAttentionCached : Cert.AttentionCached.Facts) (hAttentionCachedIdeal : Cert.AttentionCachedIdeal.Facts) (hAttentionCachedRefIdeal : Cert.AttentionCachedRefIdeal.Facts) (hCumsumPast : Cert.CumsumPast.Facts) (hCumsumPastIdeal : Cert.CumsumPastIdeal.Facts) (hCumsumPastRefIdeal : Cert.CumsumPastRefIdeal.Facts) (hCumsumNew : Cert.CumsumNew.Facts) (hCumsumNewIdeal : Cert.CumsumNewIdeal.Facts) (hCumsumNewRefIdeal : Cert.CumsumNewRefIdeal.Facts) (hPre_finite_scores : Cert.Pre_finite_scores.Facts) (hPre_gates_below_infinity : Cert.Pre_gates_below_infinity.Facts) (hPre_finite_cached_scores : Cert.Pre_finite_cached_scores.Facts) (hPre_cached_gates_below_infinity : Cert.Pre_cached_gates_below_infinity.Facts) (hPre_new_gates_below_infinity : Cert.Pre_new_gates_below_infinity.Facts),
    quiescent_Attention (hAttention := hAttention)
    ∧ quiescent_AttentionIdeal (hAttentionIdeal := hAttentionIdeal)
    ∧ quiescent_AttentionIdeal_pre_finite_scores (hAttentionIdeal := hAttentionIdeal) (hPre_finite_scores := hPre_finite_scores)
    ∧ quiescent_AttentionRefIdeal (hAttentionRefIdeal := hAttentionRefIdeal)
    ∧ quiescent_AttentionRefIdeal_pre_finite_scores (hAttentionRefIdeal := hAttentionRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_Cumsum (hCumsum := hCumsum)
    ∧ quiescent_CumsumIdeal (hCumsumIdeal := hCumsumIdeal)
    ∧ quiescent_CumsumIdeal_pre_gates_below_infinity (hCumsumIdeal := hCumsumIdeal) (hPre_gates_below_infinity := hPre_gates_below_infinity)
    ∧ quiescent_CumsumRefIdeal (hCumsumRefIdeal := hCumsumRefIdeal)
    ∧ quiescent_CumsumRefIdeal_pre_gates_below_infinity (hCumsumRefIdeal := hCumsumRefIdeal) (hPre_gates_below_infinity := hPre_gates_below_infinity)
    ∧ quiescent_PleCached (hPleCached := hPleCached)
    ∧ quiescent_PleCachedIdeal (hPleCachedIdeal := hPleCachedIdeal)
    ∧ quiescent_PleCachedRefIdeal (hPleCachedRefIdeal := hPleCachedRefIdeal)
    ∧ quiescent_AttentionCached (hAttentionCached := hAttentionCached)
    ∧ quiescent_AttentionCachedIdeal (hAttentionCachedIdeal := hAttentionCachedIdeal)
    ∧ quiescent_AttentionCachedIdeal_pre_finite_cached_scores (hAttentionCachedIdeal := hAttentionCachedIdeal) (hPre_finite_cached_scores := hPre_finite_cached_scores)
    ∧ quiescent_AttentionCachedRefIdeal (hAttentionCachedRefIdeal := hAttentionCachedRefIdeal)
    ∧ quiescent_AttentionCachedRefIdeal_pre_finite_cached_scores (hAttentionCachedRefIdeal := hAttentionCachedRefIdeal) (hPre_finite_cached_scores := hPre_finite_cached_scores)
    ∧ quiescent_CumsumPast (hCumsumPast := hCumsumPast)
    ∧ quiescent_CumsumPastIdeal (hCumsumPastIdeal := hCumsumPastIdeal)
    ∧ quiescent_CumsumPastIdeal_pre_cached_gates_below_infinity (hCumsumPastIdeal := hCumsumPastIdeal) (hPre_cached_gates_below_infinity := hPre_cached_gates_below_infinity)
    ∧ quiescent_CumsumPastRefIdeal (hCumsumPastRefIdeal := hCumsumPastRefIdeal)
    ∧ quiescent_CumsumPastRefIdeal_pre_cached_gates_below_infinity (hCumsumPastRefIdeal := hCumsumPastRefIdeal) (hPre_cached_gates_below_infinity := hPre_cached_gates_below_infinity)
    ∧ quiescent_CumsumNew (hCumsumNew := hCumsumNew)
    ∧ quiescent_CumsumNewIdeal (hCumsumNewIdeal := hCumsumNewIdeal)
    ∧ quiescent_CumsumNewIdeal_pre_new_gates_below_infinity (hCumsumNewIdeal := hCumsumNewIdeal) (hPre_new_gates_below_infinity := hPre_new_gates_below_infinity)
    ∧ quiescent_CumsumNewRefIdeal (hCumsumNewRefIdeal := hCumsumNewRefIdeal)
    ∧ quiescent_CumsumNewRefIdeal_pre_new_gates_below_infinity (hCumsumNewRefIdeal := hCumsumNewRefIdeal) (hPre_new_gates_below_infinity := hPre_new_gates_below_infinity)
    ∧ preserves_Attention_AttentionIdeal
    ∧ algebraic_AttentionIdeal_AttentionRefIdeal_pre_finite_scores (hAttentionIdeal := hAttentionIdeal) (hAttentionRefIdeal := hAttentionRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_MixOut_MixOutIdeal
    ∧ algebraic_MixOutIdeal_MixOutRefIdeal (hMixOutIdeal := hMixOutIdeal) (hMixOutRefIdeal := hMixOutRefIdeal)
    ∧ preserves_InProj_InProjIdeal
    ∧ algebraic_InProjIdeal_InProjRefIdeal (hInProjIdeal := hInProjIdeal) (hInProjRefIdeal := hInProjRefIdeal)
    ∧ preserves_Cumsum_CumsumIdeal
    ∧ algebraic_CumsumIdeal_CumsumRefIdeal_pre_gates_below_infinity (hCumsumIdeal := hCumsumIdeal) (hCumsumRefIdeal := hCumsumRefIdeal) (hPre_gates_below_infinity := hPre_gates_below_infinity)
    ∧ preserves_PleCached_PleCachedIdeal
    ∧ algebraic_PleCachedIdeal_PleCachedRefIdeal (hPleCachedIdeal := hPleCachedIdeal) (hPleCachedRefIdeal := hPleCachedRefIdeal)
    ∧ preserves_AttentionCached_AttentionCachedIdeal
    ∧ algebraic_AttentionCachedIdeal_AttentionCachedRefIdeal_pre_finite_cached_scores (hAttentionCachedIdeal := hAttentionCachedIdeal) (hAttentionCachedRefIdeal := hAttentionCachedRefIdeal) (hPre_finite_cached_scores := hPre_finite_cached_scores)
    ∧ preserves_CumsumPast_CumsumPastIdeal
    ∧ algebraic_CumsumPastIdeal_CumsumPastRefIdeal_pre_cached_gates_below_infinity (hCumsumPastIdeal := hCumsumPastIdeal) (hCumsumPastRefIdeal := hCumsumPastRefIdeal) (hPre_cached_gates_below_infinity := hPre_cached_gates_below_infinity)
    ∧ preserves_CumsumNew_CumsumNewIdeal
    ∧ algebraic_CumsumNewIdeal_CumsumNewRefIdeal_pre_new_gates_below_infinity (hCumsumNewIdeal := hCumsumNewIdeal) (hCumsumNewRefIdeal := hCumsumNewRefIdeal) (hPre_new_gates_below_infinity := hPre_new_gates_below_infinity)
-- ==== Pre_cached_gates_below_infinity.lean ====
abbrev S2x16x2048x8 : Shape := ⟨4, ![2, 16, 2048, 8]⟩
abbrev S1x16x2048x8 : Shape := ⟨4, ![1, 16, 2048, 8]⟩
abbrev S16x2048x8 : Shape := ⟨3, ![16, 2048, 8]⟩
abbrev S_ : Shape := ⟨0, ![]⟩

class Facts : Prop where
  slices_S2x16x2048x8_S1x16x2048x8_0_0_0_0 : S2x16x2048x8.Slices ![0, 0, 0, 0] S1x16x2048x8
  shapeCasts_S1x16x2048x8_S16x2048x8 : S1x16x2048x8.ShapeCasts S16x2048x8
  bcast_S_S16x2048x8 : S_.BroadcastsInDim S16x2048x8 (![] : Fin 0 → Fin S16x2048x8.rank)
  reducesTo_S16x2048x8_S_d0_1_2 : S16x2048x8.ReducesTo [0, 1, 2] S_
  h_S_ : 0 < S_.numel

variable [Facts]

def fn {F : FTy → Type} [FloatOps F] (main_arg0 : FVec F S2x16x2048x8 .f32) : IVec S_ 1 :=
  let main_v0 : FVec F S1x16x2048x8 .f32 := (extractStridedSlice S1x16x2048x8 ![0, 0, 0, 0] · slices_S2x16x2048x8_S1x16x2048x8_0_0_0_0) main_arg0
  let main_v1 : FVec F S16x2048x8 .f32 := shapeCast S16x2048x8 main_v0 shapeCasts_S1x16x2048x8_S16x2048x8
  let main_cst : FVec F S_ .f32 := constant S_ .f32 0x7F800000#32
  let main_v2 : FVec F S16x2048x8 .f32 := broadcastInDim S16x2048x8 ![] bcast_S_S16x2048x8 main_cst
  let main_v3 : IVec S16x2048x8 1 := cmpf .olt main_v1 main_v2
  let main_c : IVec S_ 1 := constantI S_ 1 1#1
  let main_v4 : IVec S_ 1 := (fun x v => Host.reduce IntOp.andi x v reducesTo_S16x2048x8_S_d0_1_2 h_S_) main_v3 main_c
  main_v4
-- ==== Pre_finite_cached_scores.lean ====
abbrev S16x16x8x128 : Shape := ⟨4, ![16, 16, 8, 128]⟩
abbrev S2x16x2048x8x128 : Shape := ⟨5, ![2, 16, 2048, 8, 128]⟩
abbrev S16x2048x8 : Shape := ⟨3, ![16, 2048, 8]⟩
abbrev S16x16x8 : Shape := ⟨3, ![16, 16, 8]⟩
abbrev S_ : Shape := ⟨0, ![]⟩
abbrev S1x16x2048x8x128 : Shape := ⟨5, ![1, 16, 2048, 8, 128]⟩
abbrev S16x2048x8x128 : Shape := ⟨4, ![16, 2048, 8, 128]⟩

class Facts : Prop where
  bcast_S_S16x16x8x128 : S_.BroadcastsInDim S16x16x8x128 (![] : Fin 0 → Fin S16x16x8x128.rank)
  reducesTo_S16x16x8x128_S_d0_1_2_3 : S16x16x8x128.ReducesTo [0, 1, 2, 3] S_
  h_S_ : 0 < S_.numel
  slices_S2x16x2048x8x128_S1x16x2048x8x128_0_0_0_0_0 : S2x16x2048x8x128.Slices ![0, 0, 0, 0, 0] S1x16x2048x8x128
  shapeCasts_S1x16x2048x8x128_S16x2048x8x128 : S1x16x2048x8x128.ShapeCasts S16x2048x8x128
  bcast_S_S16x2048x8x128 : S_.BroadcastsInDim S16x2048x8x128 (![] : Fin 0 → Fin S16x2048x8x128.rank)
  reducesTo_S16x2048x8x128_S_d0_1_2_3 : S16x2048x8x128.ReducesTo [0, 1, 2, 3] S_
  bcast_S_S16x2048x8 : S_.BroadcastsInDim S16x2048x8 (![] : Fin 0 → Fin S16x2048x8.rank)
  reducesTo_S16x2048x8_S_d0_1_2 : S16x2048x8.ReducesTo [0, 1, 2] S_
  bcast_S_S16x16x8 : S_.BroadcastsInDim S16x16x8 (![] : Fin 0 → Fin S16x16x8.rank)
  reducesTo_S16x16x8_S_d0_1_2 : S16x16x8.ReducesTo [0, 1, 2] S_

variable [Facts]

def fn_part1 {F : FTy → Type} [FloatOps F] (main_arg6 : FVec F S16x16x8 .f32) (main_v15 : IVec S_ 1) (main_v16 : FVec F S16x16x8x128 .f32) (main_cst_4 : FVec F S_ .f32) : IVec S_ 1 :=
  let main_v17 : FVec F S16x16x8x128 .f32 := broadcastInDim S16x16x8x128 ![] bcast_S_S16x16x8x128 main_cst_4
  let main_v18 : IVec S16x16x8x128 1 := cmpf .olt main_v16 main_v17
  let main_c_5 : IVec S_ 1 := constantI S_ 1 1#1
  let main_v19 : IVec S_ 1 := (fun x v => Host.reduce IntOp.andi x v reducesTo_S16x16x8x128_S_d0_1_2_3 h_S_) main_v18 main_c_5
  let main_v20 : IVec S_ 1 := andi main_v15 main_v19
  let main_v21 : FVec F S16x16x8 .f32 := Host.absf main_arg6
  let main_cst_6 : FVec F S_ .f32 := constant S_ .f32 0x7F800000#32
  let main_v22 : FVec F S16x16x8 .f32 := broadcastInDim S16x16x8 ![] bcast_S_S16x16x8 main_cst_6
  let main_v23 : IVec S16x16x8 1 := cmpf .olt main_v21 main_v22
  let main_c_7 : IVec S_ 1 := constantI S_ 1 1#1
  let main_v24 : IVec S_ 1 := (fun x v => Host.reduce IntOp.andi x v reducesTo_S16x16x8_S_d0_1_2 h_S_) main_v23 main_c_7
  let main_v25 : IVec S_ 1 := andi main_v20 main_v24
  main_v25

def fn {F : FTy → Type} [FloatOps F] (main_arg0 : FVec F S16x16x8x128 .f32) (main_arg1 : FVec F S2x16x2048x8x128 .f32) (main_arg2 : FVec F S2x16x2048x8x128 .f32) (main_arg3 : FVec F S16x2048x8 .f32) (main_arg4 : FVec F S16x16x8x128 .f32) (main_arg5 : FVec F S16x16x8x128 .f32) (main_arg6 : FVec F S16x16x8 .f32) : IVec S_ 1 :=
  let main_v0 : FVec F S16x16x8x128 .f32 := Host.absf main_arg0
  let main_cst : FVec F S_ .f32 := constant S_ .f32 0x7F800000#32
  let main_v1 : FVec F S16x16x8x128 .f32 := broadcastInDim S16x16x8x128 ![] bcast_S_S16x16x8x128 main_cst
  let main_v2 : IVec S16x16x8x128 1 := cmpf .olt main_v0 main_v1
  let main_c : IVec S_ 1 := constantI S_ 1 1#1
  let main_v3 : IVec S_ 1 := (fun x v => Host.reduce IntOp.andi x v reducesTo_S16x16x8x128_S_d0_1_2_3 h_S_) main_v2 main_c
  let main_v4 : FVec F S1x16x2048x8x128 .f32 := (extractStridedSlice S1x16x2048x8x128 ![0, 0, 0, 0, 0] · slices_S2x16x2048x8x128_S1x16x2048x8x128_0_0_0_0_0) main_arg1
  let main_v5 : FVec F S16x2048x8x128 .f32 := shapeCast S16x2048x8x128 main_v4 shapeCasts_S1x16x2048x8x128_S16x2048x8x128
  let main_v6 : FVec F S16x2048x8x128 .f32 := Host.absf main_v5
  let main_cst_0 : FVec F S_ .f32 := constant S_ .f32 0x7F800000#32
  let main_v7 : FVec F S16x2048x8x128 .f32 := broadcastInDim S16x2048x8x128 ![] bcast_S_S16x2048x8x128 main_cst_0
  let main_v8 : IVec S16x2048x8x128 1 := cmpf .olt main_v6 main_v7
  let main_c_1 : IVec S_ 1 := constantI S_ 1 1#1
  let main_v9 : IVec S_ 1 := (fun x v => Host.reduce IntOp.andi x v reducesTo_S16x2048x8x128_S_d0_1_2_3 h_S_) main_v8 main_c_1
  let main_v10 : IVec S_ 1 := andi main_v3 main_v9
  let main_v11 : FVec F S16x2048x8 .f32 := Host.absf main_arg3
  let main_cst_2 : FVec F S_ .f32 := constant S_ .f32 0x7F800000#32
  let main_v12 : FVec F S16x2048x8 .f32 := broadcastInDim S16x2048x8 ![] bcast_S_S16x2048x8 main_cst_2
  let main_v13 : IVec S16x2048x8 1 := cmpf .olt main_v11 main_v12
  let main_c_3 : IVec S_ 1 := constantI S_ 1 1#1
  let main_v14 : IVec S_ 1 := (fun x v => Host.reduce IntOp.andi x v reducesTo_S16x2048x8_S_d0_1_2 h_S_) main_v13 main_c_3
  let main_v15 : IVec S_ 1 := andi main_v10 main_v14
  let main_v16 : FVec F S16x16x8x128 .f32 := Host.absf main_arg4
  let main_cst_4 : FVec F S_ .f32 := constant S_ .f32 0x7F800000#32
  fn_part1 (F := F) main_arg6 main_v15 main_v16 main_cst_4
-- ==== Pre_finite_scores.lean ====
abbrev S8x2048x8x128 : Shape := ⟨4, ![8, 2048, 8, 128]⟩
abbrev S8x2048x8 : Shape := ⟨3, ![8, 2048, 8]⟩
abbrev S_ : Shape := ⟨0, ![]⟩

class Facts : Prop where
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  h_S_ : 0 < S_.numel
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn {F : FTy → Type} [FloatOps F] (main_arg0 : FVec F S8x2048x8x128 .f32) (main_arg1 : FVec F S8x2048x8x128 .f32) (main_arg2 : FVec F S8x2048x8x128 .f32) (main_arg3 : FVec F S8x2048x8 .f32) : IVec S_ 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_c : IVec S_ 1 := constantI S_ 1 1#1
  let main_v3 : IVec S_ 1 := (fun x v => Host.reduce IntOp.andi x v reducesTo_S8x2048x8x128_S_d0_1_2_3 h_S_) main_v2 main_c
  let main_v4 : FVec F S8x2048x8x128 .f32 := Host.absf main_arg1
  let main_cst_0 : FVec F S_ .f32 := constant S_ .f32 0x7F800000#32
  let main_v5 : FVec F S8x2048x8x128 .f32 := broadcastInDim S8x2048x8x128 ![] bcast_S_S8x2048x8x128 main_cst_0
  let main_v6 : IVec S8x2048x8x128 1 := cmpf .olt main_v4 main_v5
  let main_c_1 : IVec S_ 1 := constantI S_ 1 1#1
  let main_v7 : IVec S_ 1 := (fun x v => Host.reduce IntOp.andi x v reducesTo_S8x2048x8x128_S_d0_1_2_3 h_S_) main_v6 main_c_1
  let main_v8 : IVec S_ 1 := andi main_v3 main_v7
  let main_v9 : FVec F S8x2048x8 .f32 := Host.absf main_arg3
  let main_cst_2 : FVec F S_ .f32 := constant S_ .f32 0x7F800000#32
  let main_v10 : FVec F S8x2048x8 .f32 := broadcastInDim S8x2048x8 ![] bcast_S_S8x2048x8 main_cst_2
  let main_v11 : IVec S8x2048x8 1 := cmpf .olt main_v9 main_v10
  let main_c_3 : IVec S_ 1 := constantI S_ 1 1#1
  let main_v12 : IVec S_ 1 := (fun x v => Host.reduce IntOp.andi x v reducesTo_S8x2048x8_S_d0_1_2 h_S_) main_v11 main_c_3
  let main_v13 : IVec S_ 1 := andi main_v8 main_v12
  main_v13
-- ==== Pre_gates_below_infinity.lean ====
abbrev S8x2048x8 : Shape := ⟨3, ![8, 2048, 8]⟩
abbrev S_ : Shape := ⟨0, ![]⟩

class Facts : Prop where
  bcast_S_S8x2048x8 : S_.BroadcastsInDim S8x2048x8 (![] : Fin 0 → Fin S8x2048x8.rank)
  reducesTo_S8x2048x8_S_d0_1_2 : S8x2048x8.ReducesTo [0, 1, 2] S_
  h_S_ : 0 < S_.numel

variable [Facts]

def fn {F : FTy → Type} [FloatOps F] (main_arg0 : FVec F S8x2048x8 .f32) : IVec S_ 1 :=
  let main_cst : FVec F S_ .f32 := constant S_ .f32 0x7F800000#32
  let main_v0 : FVec F S8x2048x8 .f32 := broadcastInDim S8x2048x8 ![] bcast_S_S8x2048x8 main_cst
  let main_v1 : IVec S8x2048x8 1 := cmpf .olt main_arg0 main_v0
  let main_c : IVec S_ 1 := constantI S_ 1 1#1
  let main_v2 : IVec S_ 1 := (fun x v => Host.reduce IntOp.andi x v reducesTo_S8x2048x8_S_d0_1_2 h_S_) main_v1 main_c
  main_v2
-- ==== Pre_new_gates_below_infinity.lean ====
abbrev S16x2048x8 : Shape := ⟨3, ![16, 2048, 8]⟩
abbrev S16x16x8 : Shape := ⟨3, ![16, 16, 8]⟩
abbrev S_ : Shape := ⟨0, ![]⟩

class Facts : Prop where
  bcast_S_S16x16x8 : S_.BroadcastsInDim S16x16x8 (![] : Fin 0 → Fin S16x16x8.rank)
  reducesTo_S16x16x8_S_d0_1_2 : S16x16x8.ReducesTo [0, 1, 2] S_
  h_S_ : 0 < S_.numel

variable [Facts]

def fn {F : FTy → Type} [FloatOps F] (main_arg0 : FVec F S16x2048x8 .f32) (main_arg1 : FVec F S16x16x8 .f32) : IVec S_ 1 :=
  let main_cst : FVec F S_ .f32 := constant S_ .f32 0x7F800000#32
  let main_v0 : FVec F S16x16x8 .f32 := broadcastInDim S16x16x8 ![] bcast_S_S16x16x8 main_cst
  let main_v1 : IVec S16x16x8 1 := cmpf .olt main_arg1 main_v0
  let main_c : IVec S_ 1 := constantI S_ 1 1#1
  let main_v2 : IVec S_ 1 := (fun x v => Host.reduce IntOp.andi x v reducesTo_S16x16x8_S_d0_1_2 h_S_) main_v1 main_c
  main_v2
-- ==== Attention.lean ====
abbrev S8x2048x8x128 : Shape := ⟨4, ![8, 2048, 8, 128]⟩
abbrev S8x2048x8 : Shape := ⟨3, ![8, 2048, 8]⟩
abbrev S8x8x2048 : Shape := ⟨3, ![8, 8, 2048]⟩
abbrev S8x2048x1024 : Shape := ⟨3, ![8, 2048, 1024]⟩
abbrev S64x1x2048 : Shape := ⟨3, ![64, 1, 2048]⟩
abbrev S1x2048x128 : Shape := ⟨3, ![1, 2048, 128]⟩
abbrev S1x1x2048 : Shape := ⟨3, ![1, 1, 2048]⟩
abbrev S1x2048 : Shape := ⟨2, ![1, 2048]⟩
abbrev S512x512 : Shape := ⟨2, ![512, 512]⟩
abbrev S1x512x128 : Shape := ⟨3, ![1, 512, 128]⟩
abbrev S512x128 : Shape := ⟨2, ![512, 128]⟩
abbrev S1x512 : Shape := ⟨2, ![1, 512]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S512x1024 : Shape := ⟨2, ![512, 1024]⟩
abbrev S1x1024 : Shape := ⟨2, ![1, 1024]⟩
abbrev S1x1536x128 : Shape := ⟨3, ![1, 1536, 128]⟩
abbrev S1536x128 : Shape := ⟨2, ![1536, 128]⟩
abbrev S512x1536 : Shape := ⟨2, ![512, 1536]⟩
abbrev S1x1536 : Shape := ⟨2, ![1, 1536]⟩

abbrev nBuf : Space → Nat
  | .hbm => 12
  | .vmem => 10
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x128, .f32⟩
  | .hbm, ⟨2, _⟩ => ⟨S8x2048x8x128, .f32⟩
  | .hbm, ⟨3, _⟩ => ⟨S8x2048x8, .f32⟩
  | .hbm, ⟨4, _⟩ => ⟨S8x8x2048, .f32⟩
  | .hbm, ⟨5, _⟩ => ⟨S8x2048x1024, .f32⟩
  | .hbm, ⟨6, _⟩ => ⟨S8x2048x1024, .f32⟩
  | .hbm, ⟨7, _⟩ => ⟨S8x2048x1024, .bf16⟩
  | .hbm, ⟨8, _⟩ => ⟨S8x2048x1024, .f32⟩
  | .hbm, ⟨9, _⟩ => ⟨S8x2048x1024, .bf16⟩
  | .hbm, ⟨10, _⟩ => ⟨S64x1x2048, .f32⟩
  | .hbm, ⟨11, _⟩ => ⟨S8x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1x2048, .f32⟩
  | .local _ .vmem, ⟨7, _⟩ => ⟨S1x1x2048, .f32⟩
  | .local _ .vmem, ⟨8, _⟩ => ⟨S1x2048x128, .f32⟩
  | .local _ .vmem, ⟨9, _⟩ => ⟨S1x2048x128, .f32⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionIdeal.lean ====
variable {F : FTy → Type} [FloatOps F] [Named F]
def κ : String → Option EReal := fun
  | "log2e" => some (((Real.log 2)⁻¹ : ℝ) : EReal)
  | "mask" => some ⊥
  | "q_scale" => some (((Real.sqrt 128)⁻¹ * (Real.log 2)⁻¹ : ℝ) : EReal)
  | _ => none
-- ==== AttentionRefIdeal.lean ====
abbrev S8x2048x8x128 : Shape := ⟨4, ![8, 2048, 8, 128]⟩
abbrev S8x2048x8 : Shape := ⟨3, ![8, 2048, 8]⟩
abbrev S2048 : Shape := ⟨1, ![2048]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x1x2048 : Shape := ⟨4, ![8, 8, 1, 2048]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩
abbrev S8x2048x1024 : Shape := ⟨3, ![8, 2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x8x128, .f32⟩
  | .hbm, ⟨2, _⟩ => ⟨S8x2048x8x128, .f32⟩
  | .hbm, ⟨3, _⟩ => ⟨S8x2048x8, .f32⟩
  | .hbm, ⟨4, _⟩ => ⟨S2048, .i32⟩
  | .hbm, ⟨5, _⟩ => ⟨S8x8x2048x2048, .f32⟩
  | .hbm, ⟨6, _⟩ => ⟨S_, .f32⟩
  | .hbm, ⟨7, _⟩ => ⟨S_, .f32⟩
  | .hbm, ⟨8, _⟩ => ⟨S8x8x2048x2048, .f32⟩
  | .hbm, ⟨9, _⟩ => ⟨S8x8x2048x2048, .f32⟩
  | .hbm, ⟨10, _⟩ => ⟨S8x8x2048, .f32⟩
  | .hbm, ⟨11, _⟩ => ⟨S8x8x2048x1, .f32⟩
  | .hbm, ⟨12, _⟩ => ⟨S8x8x2048, .f32⟩
  | .hbm, ⟨13, _⟩ => ⟨S8x8x1x2048, .f32⟩
  | .hbm, ⟨14, _⟩ => ⟨S8x8x2048x2048, .f32⟩
  | .hbm, ⟨15, _⟩ => ⟨S8x8x2048x2048, .f32⟩
  | .hbm, ⟨16, _⟩ => ⟨S8x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x8x2048x2048, .f32⟩
  | .hbm, ⟨23, _⟩ => ⟨S_, .f32⟩
  | .hbm, ⟨24, _⟩ => ⟨S_, .f32⟩
  | .hbm, ⟨25, _⟩ => ⟨S8x8x2048x2048, .i1⟩
  | .hbm, ⟨26, _⟩ => ⟨S8x8x2048x2048, .f32⟩
  | .hbm, ⟨27, _⟩ => ⟨S8x8x2048x2048, .f32⟩
  | .hbm, ⟨28, _⟩ => ⟨S_, .f32⟩
  | .hbm, ⟨29, _⟩ => ⟨S8x8x2048, .f32⟩
  | .hbm, ⟨30, _⟩ => ⟨S_, .f32⟩
  | .hbm, ⟨31, _⟩ => ⟨S8x8x2048, .f32⟩
  | .hbm, ⟨32, _⟩ => ⟨S8x8x2048, .f32⟩
  | .hbm, ⟨33, _⟩ => ⟨S8x8x2048x1, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S_, .f32⟩
  | .hbm, ⟨38, _⟩ => ⟨S8x8x2048, .f32⟩
  | .hbm, ⟨39, _⟩ => ⟨S8x8x2048x1, .f32⟩
  | .hbm, ⟨40, _⟩ => ⟨S8x8x2048x2048, .f32⟩
  | .hbm, ⟨41, _⟩ => ⟨S8x8x2048x2048, .f32⟩
  | .hbm, ⟨42, _⟩ => ⟨S8x8x128x2048, .f32⟩
  | .hbm, ⟨43, _⟩ => ⟨S8x2048x8x128, .f32⟩
  | .hbm, ⟨44, _⟩ => ⟨S8x2048x1024, .f32⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Ffn.lean ====
abbrev S8x2048x2048 : Shape := ⟨3, ![8, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2x1x2048 : Shape := ⟨3, ![2, 1, 2048]⟩
abbrev S16384x2048 : Shape := ⟨2, ![16384, 2048]⟩
abbrev S512x2048 : Shape := ⟨2, ![512, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x1x2048, .f32⟩
  | .hbm, ⟨6, _⟩ => ⟨S2x2048x5632, .bf16⟩
  | .hbm, ⟨7, _⟩ => ⟨S2x2048x5632, .bf16⟩
  | .hbm, ⟨8, _⟩ => ⟨S2x5632x2048, .bf16⟩
  | .hbm, ⟨9, _⟩ => ⟨S16384x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8x2048x2048 : Shape := ⟨3, ![8, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S8x2048x5632 : Shape := ⟨3, ![8, 2048, 5632]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S1x2048x5632, .f32⟩
  | .hbm, ⟨24, _⟩ => ⟨S2048x5632, .f32⟩
  | .hbm, ⟨25, _⟩ => ⟨S8x2048x5632, .f32⟩
  | .hbm, ⟨26, _⟩ => ⟨S8x2048x5632, .f32⟩
  | .hbm, ⟨27, _⟩ => ⟨S8x2048x5632, .f32⟩
  | .hbm, ⟨28, _⟩ => ⟨S_, .f32⟩
  | .hbm, ⟨29, _⟩ => ⟨S8x2048x5632, .f32⟩
  | .hbm, ⟨30, _⟩ => ⟨S8x2048x5632, .f32⟩
  | .hbm, ⟨31, _⟩ => ⟨S_, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S1x2048x5632, .f32⟩
  | .hbm, ⟨36, _⟩ => ⟨S2048x5632, .f32⟩
  | .hbm, ⟨37, _⟩ => ⟨S8x2048x5632, .f32⟩
  | .hbm, ⟨38, _⟩ => ⟨S8x2048x5632, .f32⟩
  | .hbm, ⟨39, _⟩ => ⟨S1x5632x2048, .f32⟩
  | .hbm, ⟨40, _⟩ => ⟨S5632x2048, .f32⟩
  | .hbm, ⟨41, _⟩ => ⟨S8x2048x2048, .f32⟩
  | .hbm, ⟨42, _⟩ => ⟨S8x2048x2048, .f32⟩
  | .hbm, ⟨43, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Ple.lean ====
abbrev S8x2048x2048 : Shape := ⟨3, ![8, 2048, 2048]⟩
abbrev S2x8x2048x256 : Shape := ⟨4, ![2, 8, 2048, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S16384x2048 : Shape := ⟨2, ![16384, 2048]⟩
abbrev S1x8x2048x256 : Shape := ⟨4, ![1, 8, 2048, 256]⟩
abbrev S8x2048x256 : Shape := ⟨3, ![8, 2048, 256]⟩
abbrev S16384x256 : Shape := ⟨2, ![16384, 256]⟩
abbrev S512x2048 : Shape := ⟨2, ![512, 2048]⟩
abbrev S512x256 : Shape := ⟨2, ![512, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S1x2048 : Shape := ⟨2, ![1, 2048]⟩
abbrev S512 : Shape := ⟨1, ![512]⟩
abbrev S512x1 : Shape := ⟨2, ![512, 1]⟩
abbrev S2048x2048 : Shape := ⟨2, ![2048, 2048]⟩
abbrev S256x2048 : Shape := ⟨2, ![256, 2048]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x8x2048x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2x1x2048, .f32⟩
  | .hbm, ⟨6, _⟩ => ⟨S2x2048x2048, .bf16⟩
  | .hbm, ⟨7, _⟩ => ⟨S2x256x2048, .bf16⟩
  | .hbm, ⟨8, _⟩ => ⟨S16384x2048, .f32⟩
  | .hbm, ⟨9, _⟩ => ⟨S1x8x2048x256, .f32⟩
  | .hbm, ⟨10, _⟩ => ⟨S8x2048x256, .f32⟩
  | .hbm, ⟨11, _⟩ => ⟨S16384x256, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleIdeal.lean ====
abbrev S8x2048x2048 : Shape := ⟨3, ![8, 2048, 2048]⟩
abbrev S2x8x2048x256 : Shape := ⟨4, ![2, 8, 2048, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S16384x2048 : Shape := ⟨2, ![16384, 2048]⟩
abbrev S1x8x2048x256 : Shape := ⟨4, ![1, 8, 2048, 256]⟩
abbrev S8x2048x256 : Shape := ⟨3, ![8, 2048, 256]⟩
abbrev S16384x256 : Shape := ⟨2, ![16384, 256]⟩
abbrev S512x2048 : Shape := ⟨2, ![512, 2048]⟩
abbrev S512x256 : Shape := ⟨2, ![512, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S1x2048 : Shape := ⟨2, ![1, 2048]⟩
abbrev S512 : Shape := ⟨1, ![512]⟩
abbrev S512x1 : Shape := ⟨2, ![512, 1]⟩
abbrev S2048x2048 : Shape := ⟨2, ![2048, 2048]⟩
abbrev S256x2048 : Shape := ⟨2, ![256, 2048]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2x8x2048x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2x1x2048, .f32⟩
  | .hbm, ⟨6, _⟩ => ⟨S2x2048x2048, .bf16⟩
  | .hbm, ⟨7, _⟩ => ⟨S2x256x2048, .bf16⟩
  | .hbm, ⟨8, _⟩ => ⟨S16384x2048, .f32⟩
  | .hbm, ⟨9, _⟩ => ⟨S1x8x2048x256, .f32⟩
  | .hbm, ⟨10, _⟩ => ⟨S8x2048x256, .f32⟩
  | .hbm, ⟨11, _⟩ => ⟨S16384x256, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S8x2048x2048 : Shape := ⟨3, ![8, 2048, 2048]⟩
abbrev S2x8x2048x256 : Shape := ⟨4, ![2, 8, 2048, 256]⟩
abbrev S2x2048 : Shape := ⟨2, ![2, 2048]⟩
abbrev S2x2048x2048 : Shape := ⟨3, ![2, 2048, 2048]⟩
abbrev S2x256x2048 : Shape := ⟨3, ![2, 256, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x8x2048x256 : Shape := ⟨4, ![1, 8, 2048, 256]⟩
abbrev S8x2048x256 : Shape := ⟨3, ![8, 2048, 256]⟩
abbrev S1x256x2048 : Shape := ⟨3, ![1, 256, 2048]⟩
abbrev S256x2048 : Shape := ⟨2, ![256, 2048]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x8x2048x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S1x2048, .f32⟩
  | .hbm, ⟨6, _⟩ => ⟨S2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S1x2048x2048, .f32⟩
  | .hbm, ⟨24, _⟩ => ⟨S2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S1x8x2048x256, .f32⟩
  | .hbm, ⟨35, _⟩ => ⟨S8x2048x256, .f32⟩
  | .hbm, ⟨36, _⟩ => ⟨S1x256x2048, .f32⟩
  | .hbm, ⟨37, _⟩ => ⟨S256x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== MixOut.lean ====
abbrev S8x2048x1024 : Shape := ⟨3, ![8, 2048, 1024]⟩
abbrev S8x2048x2048 : Shape := ⟨3, ![8, 2048, 2048]⟩
abbrev S2x1024x1024 : Shape := ⟨3, ![2, 1024, 1024]⟩
abbrev S2x1024 : Shape := ⟨2, ![2, 1024]⟩
abbrev S2x2048x2048 : Shape := ⟨3, ![2, 2048, 2048]⟩
abbrev S2x1x1024 : Shape := ⟨3, ![2, 1, 1024]⟩
abbrev S16384x1024 : Shape := ⟨2, ![16384, 1024]⟩
abbrev S16384x2048 : Shape := ⟨2, ![16384, 2048]⟩
abbrev S256x1024 : Shape := ⟨2, ![256, 1024]⟩
abbrev S256x2048 : Shape := ⟨2, ![256, 2048]⟩
abbrev S1x1024x1024 : Shape := ⟨3, ![1, 1024, 1024]⟩
abbrev S1x1x1024 : Shape := ⟨3, ![1, 1, 1024]⟩
abbrev S1x1024x2048 : Shape := ⟨3, ![1, 1024, 2048]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩

abbrev nBuf : Space → Nat
  | .hbm => 17
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x2048x2048, .f32⟩
  | .hbm, ⟨8, _⟩ => ⟨S2x1024x1024, .bf16⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x2048x2048, .bf16⟩
  | .hbm, ⟨13, _⟩ => ⟨S16384x1024, .f32⟩
  | .hbm, ⟨14, _⟩ => ⟨S16384x1024, .f32⟩
  | .hbm, ⟨15, _⟩ => ⟨S16384x2048, .f32⟩
  | .hbm, ⟨16, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S256x2048, .f32⟩
  | .local _ .vmem, ⟨13, _⟩ => ⟨S256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixOutRefIdeal.lean ====
abbrev S8x2048x1024 : Shape := ⟨3, ![8, 2048, 1024]⟩
abbrev S8x2048x2048 : Shape := ⟨3, ![8, 2048, 2048]⟩
abbrev S2x1024x1024 : Shape := ⟨3, ![2, 1024, 1024]⟩
abbrev S2x1024 : Shape := ⟨2, ![2, 1024]⟩
abbrev S2x2048x2048 : Shape := ⟨3, ![2, 2048, 2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S2x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x2048x2048, .f32⟩
  | .hbm, ⟨8, _⟩ => ⟨S1x1024x1024, .f32⟩
  | .hbm, ⟨9, _⟩ => ⟨S1024x1024, .f32⟩
  | .hbm, ⟨10, _⟩ => ⟨S8x2048x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1x1024, .f32⟩
  | .hbm, ⟨26, _⟩ => ⟨S1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S8x2048x2048, .f32⟩
  | .hbm, ⟨62, _⟩ => ⟨S1x2048x2048, .f32⟩
  | .hbm, ⟨63, _⟩ => ⟨S2048x2048, .f32⟩
  | .hbm, ⟨64, _⟩ => ⟨S8x2048x2048, .f32⟩
  | .hbm, ⟨65, _⟩ => ⟨S8x2048x2048, .f32⟩
  | .hbm, ⟨66, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== InProj.lean ====
abbrev S8x2048x2048 : Shape := ⟨3, ![8, 2048, 2048]⟩
abbrev S2x2048 : Shape := ⟨2, ![2, 2048]⟩
abbrev S2x2048x4104 : Shape := ⟨3, ![2, 2048, 4104]⟩
abbrev S2x8 : Shape := ⟨2, ![2, 8]⟩
abbrev S2x128 : Shape := ⟨2, ![2, 128]⟩
abbrev S2x1x2048 : Shape := ⟨3, ![2, 1, 2048]⟩
abbrev S2x1x128 : Shape := ⟨3, ![2, 1, 128]⟩
abbrev S_ : Shape := ⟨0, ![]⟩
abbrev S2x2048x3072 : Shape := ⟨3, ![2, 2048, 3072]⟩
abbrev S2x2048x1024 : Shape := ⟨3, ![2, 2048, 1024]⟩
abbrev S2x2048x8 : Shape := ⟨3, ![2, 2048, 8]⟩
abbrev S2x2048x128 : Shape := ⟨3, ![2, 2048, 128]⟩
abbrev S16384x2048 : Shape := ⟨2, ![16384, 2048]⟩
abbrev S16384x1024 : Shape := ⟨2, ![16384, 1024]⟩
abbrev S2x16384x1024 : Shape := ⟨3, ![2, 16384, 1024]⟩
abbrev S16384x128 : Shape := ⟨2, ![16384, 128]⟩
abbrev S1024x2048 : Shape := ⟨2, ![1024, 2048]⟩
abbrev S1x1x2048 : Shape := ⟨3, ![1, 1, 2048]⟩
abbrev S1x2048x256 : Shape := ⟨3, ![1, 2048, 256]⟩
abbrev S1x2048x128 : Shape := ⟨3, ![1, 2048, 128]⟩
abbrev S1x1x128 : Shape := ⟨3, ![1, 1, 128]⟩
abbrev S1024x256 : Shape := ⟨2, ![1024, 256]⟩
abbrev S1x1024x256 : Shape := ⟨3, ![1, 1024, 256]⟩
abbrev S1024x128 : Shape := ⟨2, ![1024, 128]⟩
abbrev S1x2048 : Shape := ⟨2, ![1, 2048]⟩
abbrev S1024 : Shape := ⟨1, ![1024]⟩
abbrev S1024x1 : Shape := ⟨2, ![1024, 1]⟩
abbrev S2048x128 : Shape := ⟨2, ![2048, 128]⟩
abbrev S1x128 : Shape := ⟨2, ![1, 128]⟩
abbrev S2048x256 : Shape := ⟨2, ![2048, 256]⟩
abbrev S1x1024x128 : Shape := ⟨3, ![1, 1024, 128]⟩
abbrev S1x16384x1024 : Shape := ⟨3, ![1, 16384, 1024]⟩
abbrev S16384x8 : Shape := ⟨2, ![16384, 8]⟩

abbrev nBuf : Space → Nat
  | .hbm => 35
  | .vmem => 30
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x4104, .f32⟩
  | .hbm, ⟨3, _⟩ => ⟨S2x8, .f32⟩
  | .hbm, ⟨4, _⟩ => ⟨S2x128, .f32⟩
  | .hbm, ⟨5, _⟩ => ⟨S2x128, .f32⟩
  | .hbm, ⟨6, _⟩ => ⟨S2x1x2048, .f32⟩
  | .hbm, ⟨7, _⟩ => ⟨S2x1x128, .f32⟩
  | .hbm, ⟨8, _⟩ => ⟨S2x1x128, .f32⟩
  | .hbm, ⟨9, _⟩ => ⟨S_, .i32⟩
  | .hbm, ⟨10, _⟩ => ⟨S_, .f32⟩
  | .hbm, ⟨11, _⟩ => ⟨S2x128, .f32⟩
  | .hbm, ⟨12, _⟩ => ⟨S2x1x128, .f32⟩
  | .hbm, ⟨13, _⟩ => ⟨S2x2048x3072, .f32⟩
  | .hbm, ⟨14, _⟩ => ⟨S2x2048x3072, .bf16⟩
  | .hbm, ⟨15, _⟩ => ⟨S2x2048x1024, .f32⟩
  | .hbm, ⟨16, _⟩ => ⟨S2x2048x1024, .bf16⟩
  | .hbm, ⟨17, _⟩ => ⟨S2x2048x8, .f32⟩
  | .hbm, ⟨18, _⟩ => ⟨S_, .i32⟩
  | .hbm, ⟨19, _⟩ => ⟨S_, .f32⟩
  | .hbm, ⟨20, _⟩ => ⟨S2x2048x128, .f32⟩
  | .hbm, ⟨21, _⟩ => ⟨S2x2048x128, .bf16⟩
  | .hbm, ⟨22, _⟩ => ⟨S16384x2048, .f32⟩
  | .hbm, ⟨23, _⟩ => ⟨S16384x1024, .bf16⟩
  | .hbm, ⟨24, _⟩ => ⟨S2x16384x1024, .f32⟩
  | .hbm, ⟨25, _⟩ => ⟨S16384x1024, .bf16⟩
  | .hbm, ⟨26, _⟩ => ⟨S2x16384x1024, .f32⟩
  | .hbm, ⟨27, _⟩ => ⟨S16384x1024, .bf16⟩
  | .hbm, ⟨28, _⟩ => ⟨S16384x1024, .f32⟩
  | .hbm, ⟨29, _⟩ => ⟨S16384x128, .f32⟩
  | .hbm, ⟨30, _⟩ => ⟨S1x16384x1024, .f32⟩
  | .hbm, ⟨31, _⟩ => ⟨S16384x1024, .f32⟩
  | .hbm, ⟨32, _⟩ => ⟨S1x16384x1024, .f32⟩
  | .hbm, ⟨33, _⟩ => ⟨S16384x1024, .f32⟩
  | .hbm, ⟨34, _⟩ => ⟨S16384x8, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x128, .bf16⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1024x256, .bf16⟩
  | .local _ .vmem, ⟨16, _⟩ => ⟨S1024x256, .bf16⟩
  | .local _ .vmem, ⟨17, _⟩ => ⟨S1x1024x256, .f32⟩
  | .local _ .vmem, ⟨18, _⟩ => ⟨S1x1024x256, .f32⟩
  | .local _ .vmem, ⟨19, _⟩ => ⟨S1024x256, .bf16⟩
  | .local _ .vmem, ⟨20, _⟩ => ⟨S1024x256, .bf16⟩
  | .local _ .vmem, ⟨21, _⟩ => ⟨S1x1024x256, .f32⟩
  | .local _ .vmem, ⟨22, _⟩ => ⟨S1x1024x256, .f32⟩
  | .local _ .vmem, ⟨23, _⟩ => ⟨S1024x256, .bf16⟩
  | .local _ .vmem, ⟨24, _⟩ => ⟨S1024x256, .bf16⟩
  | .local _ .vmem, ⟨25, _⟩ => ⟨S1024x256, .f32⟩
  | .local _ .vmem, ⟨26, _⟩ => ⟨S1024x256, .f32⟩
  | .local _ .vmem, ⟨27, _⟩ => ⟨S1024x128, .f32⟩
  | .local _ .vmem, ⟨28, _⟩ => ⟨S1024x128, .f32⟩
  | .local _ .vmem, ⟨29, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== InProjIdeal.lean ====
variable {F : FTy → Type} [FloatOps F] [Named F]
def κ : String → Option EReal := fun
  | "q_scale" => some (((Real.sqrt 128)⁻¹ * (Real.log 2)⁻¹ : ℝ) : EReal)
  | _ => none
-- ==== InProjRefIdeal.lean ====
abbrev S8x2048x2048 : Shape := ⟨3, ![8, 2048, 2048]⟩
abbrev S2x2048 : Shape := ⟨2, ![2, 2048]⟩
abbrev S2x2048x4104 : Shape := ⟨3, ![2, 2048, 4104]⟩
abbrev S2x8 : Shape := ⟨2, ![2, 8]⟩
abbrev S2x128 : Shape := ⟨2, ![2, 128]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x4104 : Shape := ⟨3, ![1, 2048, 4104]⟩
abbrev S2048x4104 : Shape := ⟨2, ![2048, 4104]⟩
abbrev S16384x4104 : Shape := ⟨2, ![16384, 4104]⟩
abbrev S16384x1024 : Shape := ⟨2, ![16384, 1024]⟩
abbrev S16384x8x128 : Shape := ⟨3, ![16384, 8, 128]⟩
abbrev S1x128 : Shape := ⟨2, ![1, 128]⟩
abbrev S128 : Shape := ⟨1, ![128]⟩
abbrev S16384x8 : Shape := ⟨2, ![16384, 8]⟩
abbrev S16384x8x1 : Shape := ⟨3, ![16384, 8, 1]⟩
abbrev S1x1x128 : Shape := ⟨3, ![1, 1, 128]⟩
abbrev S1x8 : Shape := ⟨2, ![1, 8]⟩
abbrev S8 : Shape := ⟨1, ![8]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x4104, .f32⟩
  | .hbm, ⟨3, _⟩ => ⟨S2x8, .f32⟩
  | .hbm, ⟨4, _⟩ => ⟨S2x128, .f32⟩
  | .hbm, ⟨5, _⟩ => ⟨S2x128, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S1x2048x4104, .f32⟩
  | .hbm, ⟨26, _⟩ => ⟨S2048x4104, .f32⟩
  | .hbm, ⟨27, _⟩ => ⟨S16384x4104, .f32⟩
  | .hbm, ⟨28, _⟩ => ⟨S16384x1024, .f32⟩
  | .hbm, ⟨29, _⟩ => ⟨S16384x8x128, .f32⟩
  | .hbm, ⟨30, _⟩ => ⟨S1x128, .f32⟩
  | .hbm, ⟨31, _⟩ => ⟨S128, .f32⟩
  | .hbm, ⟨32, _⟩ => ⟨S16384x8x128, .f32⟩
  | .hbm, ⟨33, _⟩ => ⟨S_, .f32⟩
  | .hbm, ⟨34, _⟩ => ⟨S16384x8, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S_, .f32⟩
  | .hbm, ⟨40, _⟩ => ⟨S16384x8x1, .f32⟩
  | .hbm, ⟨41, _⟩ => ⟨S16384x8x1, .f32⟩
  | .hbm, ⟨42, _⟩ => ⟨S16384x8x1, .f32⟩
  | .hbm, ⟨43, _⟩ => ⟨S16384x8x128, .f32⟩
  | .hbm, ⟨44, _⟩ => ⟨S16384x8x128, .f32⟩
  | .hbm, ⟨45, _⟩ => ⟨S1x1x128, .f32⟩
  | .hbm, ⟨46, _⟩ => ⟨S16384x8x128, .f32⟩
  | .hbm, ⟨47, _⟩ => ⟨S16384x8x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384x8x128, .f32⟩
  | .hbm, ⟨54, _⟩ => ⟨S16384x8x128, .f32⟩
  | .hbm, ⟨55, _⟩ => ⟨S16384x1024, .f32⟩
  | .hbm, ⟨56, _⟩ => ⟨S16384x8x128, .f32⟩
  | .hbm, ⟨57, _⟩ => ⟨S1x128, .f32⟩
  | .hbm, ⟨58, _⟩ => ⟨S128, .f32⟩
  | .hbm, ⟨59, _⟩ => ⟨S16384x8x128, .f32⟩
  | .hbm, ⟨60, _⟩ => ⟨S_, .f32⟩
  | .hbm, ⟨61, _⟩ => ⟨S16384x8, .f32⟩
  | .hbm, ⟨62, _⟩ => ⟨S16384x8x1, .f32⟩
  | .hbm, ⟨63, _⟩ => ⟨S_, .f32⟩
  | .hbm, ⟨64, _⟩ => ⟨S16384x8x1, .f32⟩
  | .hbm, ⟨65, _⟩ => ⟨S16384x8x1, .f32⟩
  | .hbm, ⟨66, _⟩ => ⟨S_, .f32⟩
  | .hbm, ⟨67, _⟩ => ⟨S16384x8x1, .f32⟩
  | .hbm, ⟨68, _⟩ => ⟨S16384x8x1, .f32⟩
  | .hbm, ⟨69, _⟩ => ⟨S16384x8x1, .f32⟩
  | .hbm, ⟨70, _⟩ => ⟨S16384x8x128, .f32⟩
  | .hbm, ⟨71, _⟩ => ⟨S16384x8x128, .f32⟩
  | .hbm, ⟨72, _⟩ => ⟨S1x1x128, .f32⟩
  | .hbm, ⟨73, _⟩ => ⟨S16384x8x128, .f32⟩
  | .hbm, ⟨74, _⟩ => ⟨S16384x8x128, .f32⟩
  | .hbm, ⟨75, _⟩ => ⟨S16384x1024, .f32⟩
  | .hbm, ⟨76, _⟩ => ⟨S16384x1024, .f32⟩
  | .hbm, ⟨77, _⟩ => ⟨S16384x8, .f32⟩
  | .hbm, ⟨78, _⟩ => ⟨S1x8, .f32⟩
  | .hbm, ⟨79, _⟩ => ⟨S8, .f32⟩
  | .hbm, ⟨80, _⟩ => ⟨S1x8, .f32⟩
  | .hbm, ⟨81, _⟩ => ⟨S16384x8, .f32⟩
  | .hbm, ⟨82, _⟩ => ⟨S16384x8, .f32⟩
  | .hbm, ⟨83, _⟩ => ⟨S16384x1024, .f32⟩
  | .hbm, ⟨84, _⟩ => ⟨S16384x8, .f32⟩
  | .hbm, ⟨85, _⟩ => ⟨S_, .f32⟩
  | .hbm, ⟨86, _⟩ => ⟨S16384x8, .f32⟩
  | .hbm, ⟨87, _⟩ => ⟨S16384x8, .f32⟩
  | .hbm, ⟨88, _⟩ => ⟨S16384x8, .f32⟩
  | .hbm, ⟨89, _⟩ => ⟨S16384x8, .f32⟩
  | .hbm, ⟨90, _⟩ => ⟨S16384x8, .i1⟩
  | .hbm, ⟨91, _⟩ => ⟨S16384x8, .f32⟩
  | .hbm, ⟨92, _⟩ => ⟨S16384x8, .f32⟩
  | .hbm, ⟨93, _⟩ => ⟨S16384x8, .f32⟩
  | .hbm, ⟨94, _⟩ => ⟨S16384x8, .f32⟩
  | .hbm, ⟨95, _⟩ => ⟨S16384x8, .f32⟩
  | .hbm, ⟨96, _⟩ => ⟨S16384x8, .f32⟩
  | .hbm, ⟨97, _⟩ => ⟨S16384x8, .f32⟩
  | .hbm, ⟨98, _⟩ => ⟨S16384x8, .f32⟩
  | .hbm, ⟨99, _⟩ => ⟨S16384x8, .f32⟩
  | .hbm, ⟨100, _⟩ => ⟨S16384x1024, .f32⟩
  | .hbm, ⟨101, _⟩ => ⟨S16384x1024, .bf16⟩
  | .hbm, ⟨102, _⟩ => ⟨S16384x1024, .bf16⟩
  | .hbm, ⟨103, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_call0_v0 : Ref sig .tc := ⟨.hbm, 84, rfl⟩
abbrev main_call0_call0_cst : Ref sig .tc := ⟨.hbm, 85, rfl⟩
abbrev main_call0_call0_v0 : Ref sig .tc := ⟨.hbm, 86, rfl⟩
abbrev main_call0_call0_v1 : Ref sig .tc := ⟨.hbm, 87, rfl⟩
abbrev main_call0_call0_v2 : Ref sig .tc := ⟨.hbm, 88, rfl⟩
abbrev main_call0_call0_v3 : Ref sig .tc := ⟨.hbm, 89, rfl⟩
abbrev main_call0_call0_v4 : Ref sig .tc := ⟨.hbm, 90, rfl⟩
abbrev main_call0_call0_v5 : Ref sig .tc := ⟨.hbm, 91, rfl⟩
abbrev main_call0_call0_v6 : Ref sig .tc := ⟨.hbm, 92, rfl⟩
abbrev main_call0_call0_v7 : Ref sig .tc := ⟨.hbm, 93, rfl⟩
abbrev main_call0_call0_v8 : Ref sig .tc := ⟨.hbm, 94, rfl⟩
abbrev main_call0_call0_v9 : Ref sig .tc := ⟨.hbm, 95, rfl⟩
abbrev main_call0_call0_v10 : Ref sig .tc := ⟨.hbm, 96, rfl⟩
abbrev main_call0_call0_v11 : Ref sig .tc := ⟨.hbm, 97, rfl⟩
abbrev main_call0_v1 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Cumsum.lean ====
abbrev S8x2048x8 : Shape := ⟨3, ![8, 2048, 8]⟩
abbrev S8x8x2048 : Shape := ⟨3, ![8, 8, 2048]⟩
abbrev S_ : Shape := ⟨0, ![]⟩
abbrev S8x8x128 : Shape := ⟨3, ![8, 8, 128]⟩
abbrev S1x8x2048 : Shape := ⟨3, ![1, 8, 2048]⟩
abbrev S1x8x128 : Shape := ⟨3, ![1, 8, 128]⟩
abbrev S256x256 : Shape := ⟨2, ![256, 256]⟩
abbrev S1x8x1 : Shape := ⟨3, ![1, 8, 1]⟩
abbrev S8x1 : Shape := ⟨2, ![8, 1]⟩
abbrev S1x8x256 : Shape := ⟨3, ![1, 8, 256]⟩
abbrev S8x256 : Shape := ⟨2, ![8, 256]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x8, .f32⟩
  | .hbm, ⟨1, _⟩ => ⟨S8x8x2048, .f32⟩
  | .hbm, ⟨2, _⟩ => ⟨S_, .f32⟩
  | .hbm, ⟨3, _⟩ => ⟨S8x8x128, .f32⟩
  | .hbm, ⟨4, _⟩ => ⟨S8x8x2048, .f32⟩
  | .local _ .vmem, ⟨0, _⟩ => ⟨S1x8x2048, .f32⟩
  | .local _ .vmem, ⟨1, _⟩ => ⟨S1x8x2048, .f32⟩
  | .local _ .vmem, ⟨2, _⟩ => ⟨S1x8x128, .f32⟩
  | .local _ .vmem, ⟨3, _⟩ => ⟨S1x8x128, .f32⟩
  | .local _ .vmem, ⟨4, _⟩ => ⟨S1x8x2048, .f32⟩
  | .local _ .vmem, ⟨5, _⟩ => ⟨S1x8x2048, .f32⟩
  | _, _ => ⟨S8x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumsumRefIdeal.lean ====
abbrev S8x2048x8 : Shape := ⟨3, ![8, 2048, 8]⟩
abbrev S_ : Shape := ⟨0, ![]⟩
abbrev S8x8x2048 : Shape := ⟨3, ![8, 8, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x8, .f32⟩
  | .hbm, ⟨1, _⟩ => ⟨S_, .f32⟩
  | .hbm, ⟨2, _⟩ => ⟨S_, .f32⟩
  | .hbm, ⟨3, _⟩ => ⟨S8x2048x8, .f32⟩
  | .hbm, ⟨4, _⟩ => ⟨S8x8x2048, .f32⟩
  | _, _ => ⟨S8x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PleCached.lean ====
abbrev S16x16x2048 : Shape := ⟨3, ![16, 16, 2048]⟩
abbrev S2x16x16x256 : Shape := ⟨4, ![2, 16, 16, 256]⟩
abbrev S2x2048 : Shape := ⟨2, ![2, 2048]⟩
abbrev S2x2048x2048 : Shape := ⟨3, ![2, 2048, 2048]⟩
abbrev S2x256x2048 : Shape := ⟨3, ![2, 256, 2048]⟩
abbrev S2x1x2048 : Shape := ⟨3, ![2, 1, 2048]⟩
abbrev S256x2048 : Shape := ⟨2, ![256, 2048]⟩
abbrev S1x16x16x256 : Shape := ⟨4, ![1, 16, 16, 256]⟩
abbrev S16x16x256 : Shape := ⟨3, ![16, 16, 256]⟩
abbrev S256x256 : Shape := ⟨2, ![256, 256]⟩
abbrev S1x1x2048 : Shape := ⟨3, ![1, 1, 2048]⟩
abbrev S1x2048x2048 : Shape := ⟨3, ![1, 2048, 2048]⟩
abbrev S1x256x2048 : Shape := ⟨3, ![1, 256, 2048]⟩
abbrev S1x2048 : Shape := ⟨2, ![1, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 13
  | .vmem => 6
  | .smem => 0
  | _ => 0

abbrev bufTy : (tb : Table) → Fin (tcTables nBuf tb) → BufTy
  | .hbm, ⟨0, _⟩ => ⟨S16x16x2048, .f32⟩
  | .hbm, ⟨1, _⟩ => ⟨S2x16x16x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2x1x2048, .f32⟩
  | .hbm, ⟨6, _⟩ => ⟨S2x2048x2048, .bf16⟩
  | .hbm, ⟨7, _⟩ => ⟨S2x256x2048, .bf16⟩
  | .hbm, ⟨8, _⟩ => ⟨S256x2048, .f32⟩
  | .hbm, ⟨9, _⟩ => ⟨S1x16x16x256, .f32⟩
  | .hbm, ⟨10, _⟩ => ⟨S16x16x256, .f32⟩
  | .hbm, ⟨11, _⟩ => ⟨S256x256, .f32⟩
  | .hbm, ⟨12, _⟩ => ⟨S256x2048, .f32⟩
  | .local _ .vmem, ⟨0, _⟩ => ⟨S256x2048, .f32⟩
  | .local _ .vmem, ⟨1, _⟩ => ⟨S256x256, .f32⟩
  | .local _ .vmem, ⟨2, _⟩ => ⟨S1x1x2048, .f32⟩
  | .local _ .vmem, ⟨3, _⟩ => ⟨S1x2048x2048, .bf16⟩
  | .local _ .vmem, ⟨4, _⟩ => ⟨S1x256x2048, .bf16⟩
  | .local _ .vmem, ⟨5, _⟩ => ⟨S256x2048, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== PleCachedRefIdeal.lean ====
abbrev S16x16x2048 : Shape := ⟨3, ![16, 16, 2048]⟩
abbrev S2x16x16x256 : Shape := ⟨4, ![2, 16, 16, 256]⟩
abbrev S2x2048 : Shape := ⟨2, ![2, 2048]⟩
abbrev S2x2048x2048 : Shape := ⟨3, ![2, 2048, 2048]⟩
abbrev S2x256x2048 : Shape := ⟨3, ![2, 256, 2048]⟩
abbrev S1x2048 : Shape := ⟨2, ![1, 2048]⟩
abbrev S2048 : Shape := ⟨1, ![2048]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x16x16x256 : Shape := ⟨4, ![1, 16, 16, 256]⟩
abbrev S16x16x256 : Shape := ⟨3, ![16, 16, 256]⟩
abbrev S1x256x2048 : Shape := ⟨3, ![1, 256, 2048]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2x16x16x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S1x2048, .f32⟩
  | .hbm, ⟨6, _⟩ => ⟨S2048, .f32⟩
  | .hbm, ⟨7, _⟩ => ⟨S16x16x2048, .f32⟩
  | .hbm, ⟨8, _⟩ => ⟨S_, .f32⟩
  | .hbm, ⟨9, _⟩ => ⟨S16x16, .f32⟩
  | .hbm, ⟨10, _⟩ => ⟨S16x16x1, .f32⟩
  | .hbm, ⟨11, _⟩ => ⟨S_, .f32⟩
  | .hbm, ⟨12, _⟩ => ⟨S16x16x1, .f32⟩
  | .hbm, ⟨13, _⟩ => ⟨S16x16x1, .f32⟩
  | .hbm, ⟨14, _⟩ => ⟨S_, .f32⟩
  | .hbm, ⟨15, _⟩ => ⟨S16x16x1, .f32⟩
  | .hbm, ⟨16, _⟩ => ⟨S16x16x1, .f32⟩
  | .hbm, ⟨17, _⟩ => ⟨S16x16x1, .f32⟩
  | .hbm, ⟨18, _⟩ => ⟨S16x16x2048, .f32⟩
  | .hbm, ⟨19, _⟩ => ⟨S16x16x2048, .f32⟩
  | .hbm, ⟨20, _⟩ => ⟨S1x1x2048, .f32⟩
  | .hbm, ⟨21, _⟩ => ⟨S16x16x2048, .f32⟩
  | .hbm, ⟨22, _⟩ => ⟨S16x16x2048, .f32⟩
  | .hbm, ⟨23, _⟩ => ⟨S1x2048x2048, .f32⟩
  | .hbm, ⟨24, _⟩ => ⟨S2048x2048, .f32⟩
  | .hbm, ⟨25, _⟩ => ⟨S16x16x2048, .f32⟩
  | .hbm, ⟨26, _⟩ => ⟨S16x16x2048, .f32⟩
  | .hbm, ⟨27, _⟩ => ⟨S16x16x2048, .f32⟩
  | .hbm, ⟨28, _⟩ => ⟨S_, .f32⟩
  | .hbm, ⟨29, _⟩ => ⟨S16x16x2048, .f32⟩
  | .hbm, ⟨30, _⟩ => ⟨S16x16x2048, .f32⟩
  | .hbm, ⟨31, _⟩ => ⟨S_, .f32⟩
  | .hbm, ⟨32, _⟩ => ⟨S16x16x2048, .f32⟩
  | .hbm, ⟨33, _⟩ => ⟨S16x16x2048, .f32⟩
  | .hbm, ⟨34, _⟩ => ⟨S1x16x16x256, .f32⟩
  | .hbm, ⟨35, _⟩ => ⟨S16x16x256, .f32⟩
  | .hbm, ⟨36, _⟩ => ⟨S1x256x2048, .f32⟩
  | .hbm, ⟨37, _⟩ => ⟨S256x2048, .f32⟩
  | .hbm, ⟨38, _⟩ => ⟨S16x16x2048, .f32⟩
  | .hbm, ⟨39, _⟩ => ⟨S16x16x2048, .f32⟩
  | .hbm, ⟨40, _⟩ => ⟨S16x16x2048, .f32⟩
  | .hbm, ⟨41, _⟩ => ⟨S256x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== AttentionCached.lean ====
abbrev S16x16x8x128 : Shape := ⟨4, ![16, 16, 8, 128]⟩
abbrev S2x16x2048x8x128 : Shape := ⟨5, ![2, 16, 2048, 8, 128]⟩
abbrev S16x2048x8 : Shape := ⟨3, ![16, 2048, 8]⟩
abbrev S16x16x8 : Shape := ⟨3, ![16, 16, 8]⟩
abbrev S16x16x1024 : Shape := ⟨3, ![16, 16, 1024]⟩
abbrev S16x8x2048 : Shape := ⟨3, ![16, 8, 2048]⟩
abbrev S16x8x16 : Shape := ⟨3, ![16, 8, 16]⟩
abbrev S1x16x1024 : Shape := ⟨3, ![1, 16, 1024]⟩
abbrev S1x1x2048x8x128 : Shape := ⟨5, ![1, 1, 2048, 8, 128]⟩
abbrev S1x8x2048 : Shape := ⟨3, ![1, 8, 2048]⟩
abbrev S1x8x16 : Shape := ⟨3, ![1, 8, 16]⟩
abbrev S16x1024 : Shape := ⟨2, ![16, 1024]⟩
abbrev S1x1x2048x1x128 : Shape := ⟨5, ![1, 1, 2048, 1, 128]⟩
abbrev S2048x128 : Shape := ⟨2, ![2048, 128]⟩
abbrev S1x16x128 : Shape := ⟨3, ![1, 16, 128]⟩
abbrev S16x128 : Shape := ⟨2, ![16, 128]⟩
abbrev S16x2048 : Shape := ⟨2, ![16, 2048]⟩
abbrev S1x1x2048 : Shape := ⟨3, ![1, 1, 2048]⟩
abbrev S1x2048 : Shape := ⟨2, ![1, 2048]⟩
abbrev S16 : Shape := ⟨1, ![16]⟩
abbrev S16x1 : Shape := ⟨2, ![16, 1]⟩
abbrev S16x16 : Shape := ⟨2, ![16, 16]⟩
abbrev S1x1x16 : Shape := ⟨3, ![1, 1, 16]⟩
abbrev S1x16 : Shape := ⟨2, ![1, 16]⟩

abbrev nBuf : Space → Nat
  | .hbm => 15
  | .vmem => 19
  | .smem => 0
  | _ => 0

abbrev bufTy : (tb : Table) → Fin (tcTables nBuf tb) → BufTy
  | .hbm, ⟨0, _⟩ => ⟨S16x16x8x128, .f32⟩
  | .hbm, ⟨1, _⟩ => ⟨S2x16x2048x8x128, .f32⟩
  | .hbm, ⟨2, _⟩ => ⟨S2x16x2048x8x128, .f32⟩
  | .hbm, ⟨3, _⟩ => ⟨S16x2048x8, .f32⟩
  | .hbm, ⟨4, _⟩ => ⟨S16x16x8x128, .f32⟩
  | .hbm, ⟨5, _⟩ => ⟨S16x16x8x128, .f32⟩
  | .hbm, ⟨6, _⟩ => ⟨S16x16x8, .f32⟩
  | .hbm, ⟨7, _⟩ => ⟨S16x16x1024, .f32⟩
  | .hbm, ⟨8, _⟩ => ⟨S16x8x2048, .f32⟩
  | .hbm, ⟨9, _⟩ => ⟨S16x16x1024, .f32⟩
  | .hbm, ⟨10, _⟩ => ⟨S16x16x1024, .bf16⟩
  | .hbm, ⟨11, _⟩ => ⟨S16x16x1024, .f32⟩
  | .hbm, ⟨12, _⟩ => ⟨S16x16x1024, .bf16⟩
  | .hbm, ⟨13, _⟩ => ⟨S16x8x16, .f32⟩
  | .hbm, ⟨14, _⟩ => ⟨S16x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1x2048x8x128, .f32⟩
  | .local _ .vmem, ⟨3, _⟩ => ⟨S1x1x2048x8x128, .f32⟩
  | .local _ .vmem, ⟨4, _⟩ => ⟨S1x1x2048x8x128, .f32⟩
  | .local _ .vmem, ⟨5, _⟩ => ⟨S1x1x2048x8x128, .f32⟩
  | .local _ .vmem, ⟨6, _⟩ => ⟨S1x8x2048, .f32⟩
  | .local _ .vmem, ⟨7, _⟩ => ⟨S1x8x2048, .f32⟩
  | .local _ .vmem, ⟨8, _⟩ => ⟨S1x16x1024, .bf16⟩
  | .local _ .vmem, ⟨9, _⟩ => ⟨S1x16x1024, .bf16⟩
  | .local _ .vmem, ⟨10, _⟩ => ⟨S1x16x1024, .bf16⟩
  | .local _ .vmem, ⟨11, _⟩ => ⟨S1x16x1024, .bf16⟩
  | .local _ .vmem, ⟨12, _⟩ => ⟨S1x8x16, .f32⟩
  | .local _ .vmem, ⟨13, _⟩ => ⟨S1x8x16, .f32⟩
  | .local _ .vmem, ⟨14, _⟩ => ⟨S1x16x1024, .f32⟩
  | .local _ .vmem, ⟨15, _⟩ => ⟨S1x16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | _, _ => ⟨S16x16x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_257 : BitVec 32 := 0#32
  let v395 : BitVec 1 := Scalar.cmpi .eq arg1 c0_i32_257
  let v396 : BitVec 32 := Scalar.extui v395
  let c0_i32_258 : BitVec 32 := 0#32
  let v397 : BitVec 1 := Scalar.cmpi .ne v396 c0_i32_258
  v397

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttentionCachedIdeal.lean ====
variable {F : FTy → Type} [FloatOps F] [Named F]
def κ : String → Option EReal := fun
  | "log2e" => some (((Real.log 2)⁻¹ : ℝ) : EReal)
  | "mask" => some ⊥
  | "q_scale" => some (((Real.sqrt 128)⁻¹ * (Real.log 2)⁻¹ : ℝ) : EReal)
  | _ => none
-- ==== AttentionCachedRefIdeal.lean ====
abbrev S16x16x8x128 : Shape := ⟨4, ![16, 16, 8, 128]⟩
abbrev S2x16x2048x8x128 : Shape := ⟨5, ![2, 16, 2048, 8, 128]⟩
abbrev S16x2048x8 : Shape := ⟨3, ![16, 2048, 8]⟩
abbrev S16x16x8 : Shape := ⟨3, ![16, 16, 8]⟩
abbrev S1x16x2048x8x128 : Shape := ⟨5, ![1, 16, 2048, 8, 128]⟩
abbrev S16x2048x8x128 : Shape := ⟨4, ![16, 2048, 8, 128]⟩
abbrev S16x2064x8x128 : Shape := ⟨4, ![16, 2064, 8, 128]⟩
abbrev S16x2064x8 : Shape := ⟨3, ![16, 2064, 8]⟩
abbrev S2064 : Shape := ⟨1, ![2064]⟩
abbrev S16 : Shape := ⟨1, ![16]⟩
abbrev S_ : Shape := ⟨0, ![]⟩
abbrev S16x8x16x2064 : Shape := ⟨4, ![16, 8, 16, 2064]⟩
abbrev S16x8x16 : Shape := ⟨3, ![16, 8, 16]⟩
abbrev S16x8x16x1 : Shape := ⟨4, ![16, 8, 16, 1]⟩
abbrev S16x8x2064 : Shape := ⟨3, ![16, 8, 2064]⟩
abbrev S16x8x1x2064 : Shape := ⟨4, ![16, 8, 1, 2064]⟩
abbrev S1x2064 : Shape := ⟨2, ![1, 2064]⟩
abbrev S16x1 : Shape := ⟨2, ![16, 1]⟩
abbrev S16x2064 : Shape := ⟨2, ![16, 2064]⟩
abbrev S16x8x128x16 : Shape := ⟨4, ![16, 8, 128, 16]⟩
abbrev S16x16x1024 : Shape := ⟨3, ![16, 16, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x16x8x128, .f32⟩
  | .hbm, ⟨1, _⟩ => ⟨S2x16x2048x8x128, .f32⟩
  | .hbm, ⟨2, _⟩ => ⟨S2x16x2048x8x128, .f32⟩
  | .hbm, ⟨3, _⟩ => ⟨S16x2048x8, .f32⟩
  | .hbm, ⟨4, _⟩ => ⟨S16x16x8x128, .f32⟩
  | .hbm, ⟨5, _⟩ => ⟨S16x16x8x128, .f32⟩
  | .hbm, ⟨6, _⟩ => ⟨S16x16x8, .f32⟩
  | .hbm, ⟨7, _⟩ => ⟨S1x16x2048x8x128, .f32⟩
  | .hbm, ⟨8, _⟩ => ⟨S16x2048x8x128, .f32⟩
  | .hbm, ⟨9, _⟩ => ⟨S16x2064x8x128, .f32⟩
  | .hbm, ⟨10, _⟩ => ⟨S1x16x2048x8x128, .f32⟩
  | .hbm, ⟨11, _⟩ => ⟨S16x2048x8x128, .f32⟩
  | .hbm, ⟨12, _⟩ => ⟨S16x2064x8x128, .f32⟩
  | .hbm, ⟨13, _⟩ => ⟨S16x2064x8, .f32⟩
  | .hbm, ⟨14, _⟩ => ⟨S2064, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16x8x16x2064, .f32⟩
  | .hbm, ⟨20, _⟩ => ⟨S_, .f32⟩
  | .hbm, ⟨21, _⟩ => ⟨S_, .f32⟩
  | .hbm, ⟨22, _⟩ => ⟨S16x8x16x2064, .f32⟩
  | .hbm, ⟨23, _⟩ => ⟨S16x8x16x2064, .f32⟩
  | .hbm, ⟨24, _⟩ => ⟨S16x8x16, .f32⟩
  | .hbm, ⟨25, _⟩ => ⟨S16x8x16x1, .f32⟩
  | .hbm, ⟨26, _⟩ => ⟨S16x8x2064, .f32⟩
  | .hbm, ⟨27, _⟩ => ⟨S16x8x1x2064, .f32⟩
  | .hbm, ⟨28, _⟩ => ⟨S16x8x16x2064, .f32⟩
  | .hbm, ⟨29, _⟩ => ⟨S16x8x16x2064, .f32⟩
  | .hbm, ⟨30, _⟩ => ⟨S16x8x16x2064, .f32⟩
  | .hbm, ⟨31, _⟩ => ⟨S1x2064, .i32⟩
  | .hbm, ⟨32, _⟩ => ⟨S16x1, .i32⟩
  | .hbm, ⟨33, _⟩ => ⟨S16x2064, .i32⟩
  | .hbm, ⟨34, _⟩ => ⟨S16x2064, .i32⟩
  | .hbm, ⟨35, _⟩ => ⟨S16x2064, .i1⟩
  | .hbm, ⟨36, _⟩ => ⟨S16x8x16x2064, .f32⟩
  | .hbm, ⟨37, _⟩ => ⟨S_, .f32⟩
  | .hbm, ⟨38, _⟩ => ⟨S_, .f32⟩
  | .hbm, ⟨39, _⟩ => ⟨S16x8x16x2064, .i1⟩
  | .hbm, ⟨40, _⟩ => ⟨S16x8x16x2064, .f32⟩
  | .hbm, ⟨41, _⟩ => ⟨S16x8x16x2064, .f32⟩
  | .hbm, ⟨42, _⟩ => ⟨S_, .f32⟩
  | .hbm, ⟨43, _⟩ => ⟨S16x8x16, .f32⟩
  | .hbm, ⟨44, _⟩ => ⟨S_, .f32⟩
  | .hbm, ⟨45, _⟩ => ⟨S16x8x16, .f32⟩
  | .hbm, ⟨46, _⟩ => ⟨S16x8x16, .f32⟩
  | .hbm, ⟨47, _⟩ => ⟨S16x8x16x1, .f32⟩
  | .hbm, ⟨48, _⟩ => ⟨S16x8x16x2064, .f32⟩
  | .hbm, ⟨49, _⟩ => ⟨S16x8x16x2064, .f32⟩
  | .hbm, ⟨50, _⟩ => ⟨S16x8x16x2064, .f32⟩
  | .hbm, ⟨51, _⟩ => ⟨S_, .f32⟩
  | .hbm, ⟨52, _⟩ => ⟨S16x8x16, .f32⟩
  | .hbm, ⟨53, _⟩ => ⟨S16x8x16x1, .f32⟩
  | .hbm, ⟨54, _⟩ => ⟨S16x8x16x2064, .f32⟩
  | .hbm, ⟨55, _⟩ => ⟨S16x8x16x2064, .f32⟩
  | .hbm, ⟨56, _⟩ => ⟨S16x8x128x16, .f32⟩
  | .hbm, ⟨57, _⟩ => ⟨S16x16x8x128, .f32⟩
  | .hbm, ⟨58, _⟩ => ⟨S16x16x1024, .f32⟩
  | _, _ => ⟨S16x16x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== CumsumPast.lean ====
abbrev S2x16x2048x8 : Shape := ⟨4, ![2, 16, 2048, 8]⟩
abbrev S1x16x2048x8 : Shape := ⟨4, ![1, 16, 2048, 8]⟩
abbrev S16x2048x8 : Shape := ⟨3, ![16, 2048, 8]⟩
abbrev S16x8x2048 : Shape := ⟨3, ![16, 8, 2048]⟩
abbrev S_ : Shape := ⟨0, ![]⟩
abbrev S16x8x128 : Shape := ⟨3, ![16, 8, 128]⟩
abbrev S1x8x2048 : Shape := ⟨3, ![1, 8, 2048]⟩
abbrev S1x8x128 : Shape := ⟨3, ![1, 8, 128]⟩
abbrev S256x256 : Shape := ⟨2, ![256, 256]⟩
abbrev S1x8x1 : Shape := ⟨3, ![1, 8, 1]⟩
abbrev S8x1 : Shape := ⟨2, ![8, 1]⟩
abbrev S1x8x256 : Shape := ⟨3, ![1, 8, 256]⟩
abbrev S8x256 : Shape := ⟨2, ![8, 256]⟩

abbrev nBuf : Space → Nat
  | .hbm => 7
  | .vmem => 6
  | .smem => 0
  | _ => 0

abbrev bufTy : (tb : Table) → Fin (tcTables nBuf tb) → BufTy
  | .hbm, ⟨0, _⟩ => ⟨S2x16x2048x8, .f32⟩
  | .hbm, ⟨1, _⟩ => ⟨S1x16x2048x8, .f32⟩
  | .hbm, ⟨2, _⟩ => ⟨S16x2048x8, .f32⟩
  | .hbm, ⟨3, _⟩ => ⟨S16x8x2048, .f32⟩
  | .hbm, ⟨4, _⟩ => ⟨S_, .f32⟩
  | .hbm, ⟨5, _⟩ => ⟨S16x8x128, .f32⟩
  | .hbm, ⟨6, _⟩ => ⟨S16x8x2048, .f32⟩
  | .local _ .vmem, ⟨0, _⟩ => ⟨S1x8x2048, .f32⟩
  | .local _ .vmem, ⟨1, _⟩ => ⟨S1x8x2048, .f32⟩
  | .local _ .vmem, ⟨2, _⟩ => ⟨S1x8x128, .f32⟩
  | .local _ .vmem, ⟨3, _⟩ => ⟨S1x8x128, .f32⟩
  | .local _ .vmem, ⟨4, _⟩ => ⟨S1x8x2048, .f32⟩
  | .local _ .vmem, ⟨5, _⟩ => ⟨S1x8x2048, .f32⟩
  | _, _ => ⟨S2x16x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumsumPastRefIdeal.lean ====
abbrev S2x16x2048x8 : Shape := ⟨4, ![2, 16, 2048, 8]⟩
abbrev S1x16x2048x8 : Shape := ⟨4, ![1, 16, 2048, 8]⟩
abbrev S16x2048x8 : Shape := ⟨3, ![16, 2048, 8]⟩
abbrev S_ : Shape := ⟨0, ![]⟩
abbrev S16x8x2048 : Shape := ⟨3, ![16, 8, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x16x2048x8, .f32⟩
  | .hbm, ⟨1, _⟩ => ⟨S1x16x2048x8, .f32⟩
  | .hbm, ⟨2, _⟩ => ⟨S16x2048x8, .f32⟩
  | .hbm, ⟨3, _⟩ => ⟨S_, .f32⟩
  | .hbm, ⟨4, _⟩ => ⟨S_, .f32⟩
  | .hbm, ⟨5, _⟩ => ⟨S16x2048x8, .f32⟩
  | .hbm, ⟨6, _⟩ => ⟨S16x8x2048, .f32⟩
  | _, _ => ⟨S2x16x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CumsumNew.lean ====
abbrev S16x2048x8 : Shape := ⟨3, ![16, 2048, 8]⟩
abbrev S16x16x8 : Shape := ⟨3, ![16, 16, 8]⟩
abbrev S16x8x2048 : Shape := ⟨3, ![16, 8, 2048]⟩
abbrev S16x8x1 : Shape := ⟨3, ![16, 8, 1]⟩
abbrev S16x8x128 : Shape := ⟨3, ![16, 8, 128]⟩
abbrev S16x8x16 : Shape := ⟨3, ![16, 8, 16]⟩
abbrev S_ : Shape := ⟨0, ![]⟩
abbrev S1x8x128 : Shape := ⟨3, ![1, 8, 128]⟩
abbrev S128x128 : Shape := ⟨2, ![128, 128]⟩
abbrev S1x8x1 : Shape := ⟨3, ![1, 8, 1]⟩
abbrev S8x1 : Shape := ⟨2, ![8, 1]⟩
abbrev S8x128 : Shape := ⟨2, ![8, 128]⟩

abbrev nBuf : Space → Nat
  | .hbm => 10
  | .vmem => 6
  | .smem => 0
  | _ => 0

abbrev bufTy : (tb : Table) → Fin (tcTables nBuf tb) → BufTy
  | .hbm, ⟨0, _⟩ => ⟨S16x2048x8, .f32⟩
  | .hbm, ⟨1, _⟩ => ⟨S16x16x8, .f32⟩
  | .hbm, ⟨2, _⟩ => ⟨S16x8x2048, .f32⟩
  | .hbm, ⟨3, _⟩ => ⟨S16x8x1, .f32⟩
  | .hbm, ⟨4, _⟩ => ⟨S16x8x128, .f32⟩
  | .hbm, ⟨5, _⟩ => ⟨S16x8x16, .f32⟩
  | .hbm, ⟨6, _⟩ => ⟨S_, .i32⟩
  | .hbm, ⟨7, _⟩ => ⟨S_, .f32⟩
  | .hbm, ⟨8, _⟩ => ⟨S16x8x128, .f32⟩
  | .hbm, ⟨9, _⟩ => ⟨S16x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | _, _ => ⟨S16x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumsumNewRefIdeal.lean ====
abbrev S16x2048x8 : Shape := ⟨3, ![16, 2048, 8]⟩
abbrev S16x16x8 : Shape := ⟨3, ![16, 16, 8]⟩
abbrev S16x1x8 : Shape := ⟨3, ![16, 1, 8]⟩
abbrev S_ : Shape := ⟨0, ![]⟩
abbrev S16x1x112x8 : Shape := ⟨4, ![16, 1, 112, 8]⟩
abbrev S16x112x8 : Shape := ⟨3, ![16, 112, 8]⟩
abbrev S16x128x8 : Shape := ⟨3, ![16, 128, 8]⟩
abbrev S16x8x128 : Shape := ⟨3, ![16, 8, 128]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x8, .f32⟩
  | .hbm, ⟨1, _⟩ => ⟨S16x16x8, .f32⟩
  | .hbm, ⟨2, _⟩ => ⟨S16x1x8, .f32⟩
  | .hbm, ⟨3, _⟩ => ⟨S_, .f32⟩
  | .hbm, ⟨4, _⟩ => ⟨S_, .f32⟩
  | .hbm, ⟨5, _⟩ => ⟨S16x16x8, .f32⟩
  | .hbm, ⟨6, _⟩ => ⟨S16x16x8, .f32⟩
  | .hbm, ⟨7, _⟩ => ⟨S16x16x8, .f32⟩
  | .hbm, ⟨8, _⟩ => ⟨S16x1x8, .f32⟩
  | .hbm, ⟨9, _⟩ => ⟨S16x1x112x8, .f32⟩
  | .hbm, ⟨10, _⟩ => ⟨S16x112x8, .f32⟩
  | .hbm, ⟨11, _⟩ => ⟨S16x128x8, .f32⟩
  | .hbm, ⟨12, _⟩ => ⟨S16x8x128, .f32⟩
  | _, _ => ⟨S16x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Softmax.lean ====
/- Softmax as the attention's two sides compute it, over the extended reals: a sum of weights over the keys whose
   scores are finite or masked to ⊥, divided by the sum of the weights.  The one side takes powers of two of scores
   carried in units of log 2 and divides after the product with the values; the other takes exponentials and divides
   each weight.  Neither the shift by the row's maximum nor a constant added to the row changes the result. -/
module

public import Idealize.ShloMosaic.Lib.Pipeline.ValueKit
public import Idealize.ShloMosaic.Lib.Pointwise

@[expose] public section

noncomputable section

namespace Cert.K.Softmax

open Idealize.ShloMosaic

/-- An extended real that is neither infinity. -/
def Fin' (x : EReal) : Prop := ∃ r : ℝ, x = (r : EReal)

/-- The maximum, from ⊥, of a finite family with no ⊤ and at least one entry above ⊥ is a real number. -/
theorem max_real {ι : Type} [Fintype ι] (f : ι → EReal) (ht : ∀ j, f j ≠ ⊤) (j₀ : ι) (hj : f j₀ ≠ ⊥) :
    ∃ r : ℝ, Finset.univ.fold max ⊥ f = (r : EReal) := by
  have h1 : Finset.univ.fold max ⊥ f ≠ ⊤ := by
    have : Finset.univ.fold max ⊥ f < ⊤ := by
      rw [Finset.fold_max_lt]
      exact ⟨bot_lt_top, fun j _ => lt_top_iff_ne_top.mpr (ht j)⟩
    exact this.ne
  have h2 : Finset.univ.fold max ⊥ f ≠ ⊥ := by
    have : f j₀ ≤ Finset.univ.fold max ⊥ f := by
      rw [Finset.le_fold_max]
      exact Or.inr ⟨j₀, Finset.mem_univ _, le_rfl⟩
    intro h
    rw [h] at this
    exact hj (le_bot_iff.mp this)
  exact ⟨_, (EReal.coe_toReal h1 h2).symm⟩

/-- A finite sum of reals, taken in the extended reals. -/
theorem coe_sum {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- A real factor goes inside a finite sum of extended reals when it is positive. -/
theorem sum_mul_pos {ι : Type} (s : Finset ι) (f : ι → EReal) (r : ℝ) (hr : 0 < r) :
    (∑ j ∈ s, f j) * (r : EReal) = ∑ j ∈ s, f j * (r : EReal) := by
  classical
  induction s using Finset.induction_on with
  | empty => simp
  | insert a s ha ih =>
    rw [Finset.sum_insert ha, Finset.sum_insert ha, ← ih,
      EReal.right_distrib_of_nonneg_of_ne_top (by exact_mod_cast hr.le) (EReal.coe_ne_top r)]

variable {ι : Type} [Fintype ι]

/-- The mean of the values `v` under the weights `w`, each weight divided by their sum. -/
def mean (w : ι → ℝ) (v : ι → EReal) : EReal := ∑ j, ((w j / ∑ k, w k : ℝ) : EReal) * v j

/-- Weights scaled by a positive number, divided after the product with the values: the mean is unchanged. -/
theorem mean_after (w : ι → ℝ) (v : ι → EReal) (a : ℝ) (ha : 0 < a) (hw : 0 < ∑ k, w k) :
    Ideal.div (∑ j, ((a * w j : ℝ) : EReal) * v j) (∑ j, ((a * w j : ℝ) : EReal)) = mean w v := by
  rw [coe_sum, ← Finset.mul_sum, Ideal.div_coe (mul_pos ha hw).ne', one_div, sum_mul_pos _ _ _ (inv_pos.mpr (mul_pos ha hw))]
  refine Finset.sum_congr rfl fun j _ => ?_
  rw [mul_comm, ← mul_assoc, ← EReal.coe_mul]
  congr 2
  field_simp

/-- Weights scaled by a positive number, each divided by their sum before the product: the mean is unchanged. -/
theorem mean_before (w : ι → ℝ) (v : ι → EReal) (a : ℝ) (ha : 0 < a) (hw : 0 < ∑ k, w k) :
    (∑ j, Ideal.div ((a * w j : ℝ) : EReal) (∑ j, ((a * w j : ℝ) : EReal)) * v j) = mean w v := by
  rw [coe_sum, ← Finset.mul_sum]
  refine Finset.sum_congr rfl fun j _ => ?_
  rw [Ideal.div_coe (mul_pos ha hw).ne', ← EReal.coe_mul]
  congr 2
  field_simp

/-- The weights of the masked scores: `exp z` where the key is seen, zero elsewhere. -/
def wt (p : ι → Prop) [DecidablePred p] (z : ι → ℝ) (j : ι) : ℝ := if p j then Real.exp (z j) else 0

theorem wt_pos (p : ι → Prop) [DecidablePred p] (z : ι → ℝ) (j₀ : ι) (h : p j₀) : 0 < ∑ j, wt p z j := by
  refine Finset.sum_pos' (fun j _ => ?_) ⟨j₀, Finset.mem_univ _, ?_⟩
  · unfold wt; split <;> positivity
  · rw [wt, if_pos h]; positivity

/-- A power of two of a masked score in units of log 2, shifted by a real number. -/
theorem exp2_shift (p : ι → Prop) [DecidablePred p] (z : ι → ℝ) (m : ℝ) (j : ι) :
    Ideal.exp2 ((if p j then ((z j * (Real.log 2)⁻¹ : ℝ) : EReal) else ⊥) - (m : EReal))
      = ((Real.exp (-(m * Real.log 2)) * wt p z j : ℝ) : EReal) := by
  have hl : Real.log 2 ≠ 0 := (Real.log_pos (by norm_num)).ne'
  by_cases h : p j
  · rw [if_pos h, wt, if_pos h, ← EReal.coe_sub, Ideal.exp2_coe, ← Real.exp_add]
    norm_cast
    rw [Real.rpow_eq_pow, Real.rpow_def_of_pos (by norm_num : (0 : ℝ) < 2)]
    congr 1
    field_simp
    ring
  · rw [if_neg h, wt, if_neg h, mul_zero, EReal.bot_sub]
    simp [Ideal.exp2_bot]

/-- An exponential of a masked score with a real number added to every score of the row, shifted by a real number. -/
theorem exp_shift (p : ι → Prop) [DecidablePred p] (z : ι → ℝ) (c m : ℝ) (j : ι) :
    Ideal.exp ((if p j then ((z j + c : ℝ) : EReal) else ⊥) - (m : EReal))
      = ((Real.exp (c - m) * wt p z j : ℝ) : EReal) := by
  by_cases h : p j
  · rw [if_pos h, wt, if_pos h, ← EReal.coe_sub, Ideal.exp_coe, ← Real.exp_add]
    congr 2
    ring
  · rw [if_neg h, wt, if_neg h, mul_zero, EReal.bot_sub]
    simp [Ideal.exp_bot]

/-- The reference's row: exponentials of the scores less their maximum, each divided by their sum. -/
theorem row_reference (p : ι → Prop) [DecidablePred p] (z : ι → ℝ) (c : ℝ) (v : ι → EReal) (j₀ : ι) (h : p j₀)
    (s : ι → EReal) (hs : ∀ j, s j = if p j then ((z j + c : ℝ) : EReal) else ⊥) (M : EReal)
    (hM : M = Finset.univ.fold max ⊥ s) :
    (∑ j, Ideal.div (Ideal.exp (s j - M)) (∑ k, Ideal.exp (s k - M)) * v j) = mean (wt p z) v := by
  obtain ⟨m, hm⟩ := max_real s (fun j => by rw [hs]; split; exacts [EReal.coe_ne_top _, bot_ne_top]) j₀
    (by rw [hs, if_pos h]; exact EReal.coe_ne_bot _)
  rw [hM, hm]
  simp only [hs, exp_shift]
  exact mean_before _ _ _ (Real.exp_pos _) (wt_pos p z j₀ h)

/-- The kernel's row, all keys together: powers of two of the scores less a real number, divided after the product. -/
theorem row_kernel (p : ι → Prop) [DecidablePred p] (z : ι → ℝ) (v : ι → EReal) (j₀ : ι) (h : p j₀)
    (s : ι → EReal) (hs : ∀ j, s j = if p j then ((z j * (Real.log 2)⁻¹ : ℝ) : EReal) else ⊥) (m : ℝ) :
    Ideal.div (∑ j, Ideal.exp2 (s j - (m : EReal)) * v j) (∑ j, Ideal.exp2 (s j - (m : EReal))) = mean (wt p z) v := by
  simp only [hs, exp2_shift]
  exact mean_after _ _ _ (Real.exp_pos _) (wt_pos p z j₀ h)

/-- A sum over all the positions of which only the first `lo + n` count: the last `n` of these, and the `lo` before. -/
theorem sum_split {T : ℕ} (lo n : ℕ) (h : lo + n ≤ T) (f : Fin T → EReal) (hf : ∀ j : Fin T, lo + n ≤ j.val → f j = 0) :
    ∑ j, f j = (∑ k : Fin n, f ⟨lo + k.val, by omega⟩) + ∑ k : Fin lo, f ⟨k.val, by omega⟩ := by
  obtain ⟨e, rfl⟩ := Nat.exists_eq_add_of_le h
  rw [Fin.sum_univ_add, Fin.sum_univ_add, add_comm (∑ k : Fin lo, _), Finset.sum_eq_zero (s := (Finset.univ : Finset (Fin e)))
    (fun k _ => hf _ (by simp)), add_zero]
  rfl

/-- One row of a block of rows starting at `lo`: the block's own keys under the causal mask (`sd`), the `lo` keys before
    them unmasked (`so`), each shifted by the greater of the two maxima, the two sums added. -/
theorem row_pieces {T n : ℕ} (lo : ℕ) (h : lo + n ≤ T) (a : Fin n) (r : ℕ) (hr : r = lo + a.val) (z : Fin T → ℝ)
    (v : Fin T → EReal) (sd vd : Fin n → EReal) (so vo : Fin lo → EReal)
    (hsd : ∀ k, sd k = if k.val ≤ a.val then ((z ⟨lo + k.val, by omega⟩ * (Real.log 2)⁻¹ : ℝ) : EReal) else ⊥)
    (hso : ∀ k, so k = ((z ⟨k.val, by omega⟩ * (Real.log 2)⁻¹ : ℝ) : EReal))
    (hvd : ∀ k, vd k = v ⟨lo + k.val, by omega⟩) (hvo : ∀ k, vo k = v ⟨k.val, by omega⟩) (M : EReal)
    (hM : M = max (Finset.univ.fold max ⊥ sd) (Finset.univ.fold max ⊥ so)) :
    Ideal.div ((∑ k, Ideal.exp2 (sd k - M) * vd k) + ∑ k, Ideal.exp2 (so k - M) * vo k)
        ((∑ k, Ideal.exp2 (sd k - M)) + ∑ k, Ideal.exp2 (so k - M))
      = mean (wt (fun j : Fin T => j.val ≤ r) z) v := by
  subst hr
  have hM' : ∃ r : ℝ, M = (r : EReal) := by
    obtain ⟨x, hx⟩ := max_real sd (fun j => by rw [hsd]; split; exacts [EReal.coe_ne_top _, bot_ne_top]) a
      (by rw [hsd, if_pos le_rfl]; exact EReal.coe_ne_bot _)
    by_cases h0 : lo = 0
    · subst h0
      refine ⟨x, ?_⟩
      rw [hM, hx]
      simp
    · obtain ⟨y, hy⟩ := max_real so (fun j => by rw [hso]; exact EReal.coe_ne_top _) ⟨0, Nat.pos_of_ne_zero h0⟩
        (by rw [hso]; exact EReal.coe_ne_bot _)
      exact ⟨max x y, by rw [hM, hx, hy]; exact (EReal.coe_strictMono.monotone.map_max).symm⟩
  obtain ⟨r, rfl⟩ := hM'
  rw [← row_kernel (fun j : Fin T => j.val ≤ lo + a.val) z v ⟨lo + a.val, by omega⟩ le_rfl _ (fun _ => rfl) r]
  have hz : ∀ j : Fin T, lo + n ≤ j.val → Ideal.exp2 ((if j.val ≤ lo + a.val then ((z j * (Real.log 2)⁻¹ : ℝ) : EReal) else ⊥) - (r : EReal)) = 0 := by
    intro j hj
    rw [if_neg (by omega), EReal.bot_sub, Ideal.exp2_bot]
  rw [sum_split lo n h _ (fun j hj => by rw [hz j hj, zero_mul]), sum_split lo n h _ hz]
  simp only [hsd, hso, hvd, hvo, add_le_add_iff_left]
  congr 2
  · exact Finset.sum_congr rfl fun k _ => by rw [if_pos (by have := k.isLt; omega)]
  · exact Finset.sum_congr rfl fun k _ => by rw [if_pos (by have := k.isLt; omega)]

/-- The first block of rows: no keys before it. -/
theorem row_first {T n : ℕ} (h : n ≤ T) (a : Fin n) (r : ℕ) (hr : r = a.val) (z : Fin T → ℝ) (v : Fin T → EReal) (sd vd : Fin n → EReal)
    (hsd : ∀ k, sd k = if k.val ≤ a.val then ((z ⟨k.val, by omega⟩ * (Real.log 2)⁻¹ : ℝ) : EReal) else ⊥)
    (hvd : ∀ k, vd k = v ⟨k.val, by omega⟩) (M : EReal) (hM : M = Finset.univ.fold max ⊥ sd) :
    Ideal.div (∑ k, Ideal.exp2 (sd k - M) * vd k) (∑ k, Ideal.exp2 (sd k - M))
      = mean (wt (fun j : Fin T => j.val ≤ r) z) v := by
  have := row_pieces 0 (by omega) a r (by omega) z v sd vd (fun k => k.elim0) (fun k => k.elim0) (by simpa using hsd) (fun k => k.elim0)
    (by simpa using hvd) (fun k => k.elim0) M (by rw [hM]; simp)
  simpa using this

/-- A score as the kernel forms it: the query carries the scale and the change to base two, the key's cumulative log forget
    gate is taken off in the same units. -/
theorem score {D : ℕ} (q k : Fin D → ℝ) (c s L : ℝ) :
    (∑ d, (q d : EReal) * ((s * L : ℝ) : EReal) * (k d : EReal)) - (c : EReal) * (L : EReal)
      = ((((∑ d, q d * k d) * s - c) * L : ℝ) : EReal) := by
  simp only [← EReal.coe_mul]
  rw [coe_sum, ← EReal.coe_sub]
  congr 1
  rw [sub_mul, mul_assoc, Finset.sum_mul]
  congr 1
  exact Finset.sum_congr rfl fun d _ => by ring

end Cert.K.Softmax

end
-- ==== Proof.AttnRows.lean ====
/- The attention kernel's four stored pieces, row by row: each is the mean of the values under the causal softmax
   weights of the row. -/
module

public import proofs.«01_k».proof.Proof.Gen.AttentionIdeal.Value
public import proofs.«01_k».proof.Proof.Softmax
public import Idealize.ShloMosaic.Lib.WordCmp

@[expose] public section

set_option maxRecDepth 16384

noncomputable section

namespace Cert.K.Attn

open Idealize.ShloMosaic Idealize.ShloMosaic.TcCoe Idealize.SL.Sem
open Idealize.ShloMosaic.Pipeline (Dat)
open Cert.AttentionIdeal Cert.AttentionIdeal.Gen Cert.K.Softmax

/-- The scale of a head of 128 channels. -/
abbrev sc : ℝ := (Real.sqrt 128)⁻¹

theorem log2e_val : Named.named (F := Ideal) κ "log2e" (φ := .f32) 0x3FB8AA3B#32 = (((Real.log 2)⁻¹ : ℝ) : EReal) :=
  IdealRules.named_const.ideal_named_scalar _ _ _ _ rfl
theorem q_scale_val : Named.named (F := Ideal) κ "q_scale" (φ := .f32) 0x3E0293EE#32 = ((sc * (Real.log 2)⁻¹ : ℝ) : EReal) :=
  IdealRules.named_const.ideal_named_scalar _ _ _ _ rfl
theorem mask_val : Named.named (F := Ideal) κ "mask" (φ := .f32) 0xF149F2CA#32 = ⊥ :=
  IdealRules.named_const.ideal_named_scalar _ _ _ _ rfl
theorem neg_inf_val : Ideal.ofBits FTy.f32 0xFF800000#32 = ⊥ := by
  simp [Ideal.ofBits, Ideal.ieee]

/-- The causal mask over one block of rows and keys, as the kernel selects it. -/
theorem sel_le (a b : Fin 512) (x y : EReal) :
    Scalar.select (IntOp.cmpi .sle (BitVec.ofNat 32 a.val) (BitVec.ofNat 32 b.val)) x y = if a.val ≤ b.val then x else y := by
  have ha := a.isLt
  have hb := b.isLt
  rw [WordCmp.cmpi_sle_ofNat (by norm_num; omega) (by norm_num; omega)]
  by_cases h : a.val ≤ b.val <;> simp [h, Scalar.select]

/-- The causal score of query row `r` with key `j`: the scaled product less the key's cumulative log forget gate. -/
def z (q : Fin 2048 → Fin 128 → ℝ) (k : Fin 2048 → Fin 128 → ℝ) (c : Fin 2048 → ℝ) (r j : Fin 2048) : ℝ :=
  (∑ d, q r d * k j d) * sc - c j

theorem piece0 (ck : Vec Ideal S1x1x2048 .f32) (q : Vec Ideal S1x512x128 .f32) (k v : Vec Ideal S1x512x128 .bf16)
    (qr : Fin 2048 → Fin 128 → ℝ) (kr : Fin 2048 → Fin 128 → ℝ) (cr : Fin 2048 → ℝ) (vv : Fin 2048 → Fin 128 → EReal)
    (hq : ∀ (a : Fin 512) d, q (ix3 0 a d) = (qr ⟨a.val, by omega⟩ d : EReal))
    (hk : ∀ (a : Fin 512) d, k (ix3 0 a d) = (kr ⟨a.val, by omega⟩ d : EReal))
    (hv : ∀ (a : Fin 512) d, v (ix3 0 a d) = vv ⟨a.val, by omega⟩ d)
    (hc : ∀ j, ck (ix3 0 0 j) = (cr j : EReal)) (a : Fin 512) (e : Fin 128) (r : Fin 2048) (hr : r.val = a.val) :
    k0_pay3 (F := Ideal) ck q k v (ix3 0 a e) = mean (wt (fun j : Fin 2048 => j.val ≤ r.val) (z qr kr cr r)) (fun j => vv j e) := by
  have hr' : r = ⟨a.val, by omega⟩ := Fin.ext hr
  pointwise [k0_pay3, k0_pay2]
  rw [neg_inf_val]
  refine row_first (T := 2048) (by norm_num) a r.val hr (z qr kr cr r) (fun j => vv j e) _ _ (fun x => ?_) (fun x => hv x e) _ rfl
  simp only [sel_le, mask_val, log2e_val, q_scale_val, hq, hk, hc, score, hr', z]

theorem piece1 (ck : Vec Ideal S1x1x2048 .f32) (x0 : Vec Ideal S1x2048x128 .f32) (x1 x2 : Vec Ideal S1x2048x128 .bf16) (q : Vec Ideal S1x512x128 .f32) (k v k' v' : Vec Ideal S1x512x128 .bf16)
    (qr : Fin 2048 → Fin 128 → ℝ) (kr : Fin 2048 → Fin 128 → ℝ) (cr : Fin 2048 → ℝ) (vv : Fin 2048 → Fin 128 → EReal)
    (hq : ∀ (a : Fin 512) d, q (ix3 0 a d) = (qr ⟨512 + a.val, by omega⟩ d : EReal))
    (hk : ∀ (a : Fin 512) d, k (ix3 0 a d) = (kr ⟨512 + a.val, by omega⟩ d : EReal))
    (hv : ∀ (a : Fin 512) d, v (ix3 0 a d) = vv ⟨512 + a.val, by omega⟩ d)
    (hk' : ∀ (a : Fin 512) d, k' (ix3 0 a d) = (kr ⟨a.val, by omega⟩ d : EReal))
    (hv' : ∀ (a : Fin 512) d, v' (ix3 0 a d) = vv ⟨a.val, by omega⟩ d)
    (hc : ∀ j, ck (ix3 0 0 j) = (cr j : EReal)) (a : Fin 512) (e : Fin 128) (r : Fin 2048) (hr : r.val = 512 + a.val) :
    k0_pay13 (F := Ideal) (k0_pay9 (k0_pay2 ck) (k0_pay23 x0 x1 x2 ck) (k0_pay24 x0 x1 x2 ck) q k k') (k0_pay10 (k0_pay2 ck) (k0_pay23 x0 x1 x2 ck) (k0_pay24 x0 x1 x2 ck) q k k' v') (k0_pay11 (k0_pay2 ck) (k0_pay23 x0 x1 x2 ck) (k0_pay24 x0 x1 x2 ck) q k k') (k0_pay12 (k0_pay2 ck) (k0_pay23 x0 x1 x2 ck) (k0_pay24 x0 x1 x2 ck) q k k') v (ix3 0 a e)
      = mean (wt (fun j : Fin 2048 => j.val ≤ r.val) (z qr kr cr r)) (fun j => vv j e) := by
  have hr' : r = ⟨512 + a.val, by omega⟩ := Fin.ext hr
  pointwise [k0_pay13, k0_pay12, k0_pay11, k0_pay10, k0_pay9, k0_pay8, k0_pay7, k0_pay6, k0_pay5, k0_pay4, k0_pay23, k0_pay24, k0_pay2]
  rw [neg_inf_val]
  refine row_pieces (T := 2048) 512 (by norm_num) a r.val hr (z qr kr cr r) (fun j => vv j e) _ _ _ _ (fun x => ?_) (fun x => ?_) (fun x => hv x e) (fun x => hv' x e) _ rfl
  · simp only [sel_le, mask_val, log2e_val, q_scale_val, hq, hk, hc, score, hr', z]
  · simp only [sel_le, mask_val, log2e_val, q_scale_val, hq, hk', hc, score, hr', z]

theorem piece2 (ck : Vec Ideal S1x1x2048 .f32) (x0 : Vec Ideal S1x2048x128 .f32) (x1 x2 : Vec Ideal S1x2048x128 .bf16) (q : Vec Ideal S1x512x128 .f32) (k v : Vec Ideal S1x512x128 .bf16) (k' v' : Vec Ideal S1x1024x128 .bf16)
    (qr : Fin 2048 → Fin 128 → ℝ) (kr : Fin 2048 → Fin 128 → ℝ) (cr : Fin 2048 → ℝ) (vv : Fin 2048 → Fin 128 → EReal)
    (hq : ∀ (a : Fin 512) d, q (ix3 0 a d) = (qr ⟨1024 + a.val, by omega⟩ d : EReal))
    (hk : ∀ (a : Fin 512) d, k (ix3 0 a d) = (kr ⟨1024 + a.val, by omega⟩ d : EReal))
    (hv : ∀ (a : Fin 512) d, v (ix3 0 a d) = vv ⟨1024 + a.val, by omega⟩ d)
    (hk' : ∀ (a : Fin 1024) d, k' (ix3 0 a d) = (kr ⟨a.val, by omega⟩ d : EReal))
    (hv' : ∀ (a : Fin 1024) d, v' (ix3 0 a d) = vv ⟨a.val, by omega⟩ d)
    (hc : ∀ j, ck (ix3 0 0 j) = (cr j : EReal)) (a : Fin 512) (e : Fin 128) (r : Fin 2048) (hr : r.val = 1024 + a.val) :
    k0_pay18 (F := Ideal) (k0_pay15 (k0_pay2 ck) (k0_pay23 x0 x1 x2 ck) (k0_pay24 x0 x1 x2 ck) q k) (k0_pay16 (k0_pay2 ck) q k') (k0_pay17 (k0_pay2 ck) (k0_pay23 x0 x1 x2 ck) (k0_pay24 x0 x1 x2 ck) q k k') v' v (ix3 0 a e)
      = mean (wt (fun j : Fin 2048 => j.val ≤ r.val) (z qr kr cr r)) (fun j => vv j e) := by
  have hr' : r = ⟨1024 + a.val, by omega⟩ := Fin.ext hr
  pointwise [k0_pay18, k0_pay17, k0_pay16, k0_pay15, k0_pay14, k0_pay23, k0_pay24, k0_pay2]
  rw [neg_inf_val]
  refine row_pieces (T := 2048) 1024 (by norm_num) a r.val hr (z qr kr cr r) (fun j => vv j e) _ _ _ _ (fun x => ?_) (fun x => ?_) (fun x => hv x e) (fun x => hv' x e) _ rfl
  · simp only [sel_le, mask_val, log2e_val, q_scale_val, hq, hk, hc, score, hr', z]
  · simp only [sel_le, mask_val, log2e_val, q_scale_val, hq, hk', hc, score, hr', z]

theorem piece3 (ck : Vec Ideal S1x1x2048 .f32) (x0 : Vec Ideal S1x2048x128 .f32) (x1 x2 : Vec Ideal S1x2048x128 .bf16) (q : Vec Ideal S1x512x128 .f32) (k v : Vec Ideal S1x512x128 .bf16) (k' v' : Vec Ideal S1x1536x128 .bf16)
    (qr : Fin 2048 → Fin 128 → ℝ) (kr : Fin 2048 → Fin 128 → ℝ) (cr : Fin 2048 → ℝ) (vv : Fin 2048 → Fin 128 → EReal)
    (hq : ∀ (a : Fin 512) d, q (ix3 0 a d) = (qr ⟨1536 + a.val, by omega⟩ d : EReal))
    (hk : ∀ (a : Fin 512) d, k (ix3 0 a d) = (kr ⟨1536 + a.val, by omega⟩ d : EReal))
    (hv : ∀ (a : Fin 512) d, v (ix3 0 a d) = vv ⟨1536 + a.val, by omega⟩ d)
    (hk' : ∀ (a : Fin 1536) d, k' (ix3 0 a d) = (kr ⟨a.val, by omega⟩ d : EReal))
    (hv' : ∀ (a : Fin 1536) d, v' (ix3 0 a d) = vv ⟨a.val, by omega⟩ d)
    (hc : ∀ j, ck (ix3 0 0 j) = (cr j : EReal)) (a : Fin 512) (e : Fin 128) (r : Fin 2048) (hr : r.val = 1536 + a.val) :
    k0_pay1 (F := Ideal) (k0_pay22 (k0_pay2 ck) (k0_pay19 q) (k0_pay20 (k0_pay2 ck) q k) (k0_pay21 (k0_pay23 x0 x1 x2 ck) (k0_pay24 x0 x1 x2 ck)) (Named.named κ "mask" 0xF149F2CA#32) k' v' v) (ix3 0 a e)
      = mean (wt (fun j : Fin 2048 => j.val ≤ r.val) (z qr kr cr r)) (fun j => vv j e) := by
  have hr' : r = ⟨1536 + a.val, by omega⟩ := Fin.ext hr
  pointwise [k0_pay22, k0_pay21, k0_pay20, k0_pay19, k0_pay1, k0_pay23, k0_pay24, k0_pay2]
  rw [neg_inf_val]
  refine row_pieces (T := 2048) 1536 (by norm_num) a r.val hr (z qr kr cr r) (fun j => vv j e) _ _ _ _ (fun x => ?_) (fun x => ?_) (fun x => hv x e) (fun x => hv' x e) _ rfl
  · simp only [sel_le, mask_val, log2e_val, q_scale_val, hq, hk, hc, score, hr', z]
  · simp only [sel_le, mask_val, log2e_val, q_scale_val, hq, hk', hc, score, hr', z]

end Cert.K.Attn

end
-- ==== Proof.AttnBlock.lean ====
/- The attention kernel's block of results at one grid point, from the point's four operand blocks. -/
module

public import proofs.«01_k».proof.Proof.AttnRows
public import Idealize.ShloMosaic.Lib.Pipeline.ValueKit

@[expose] public section

set_option maxRecDepth 16384

noncomputable section

namespace Cert.K.Attn

open Idealize.ShloMosaic Idealize.ShloMosaic.TcCoe Idealize.SL.Sem
open Idealize.ShloMosaic.Pipeline (Dat)
open Cert.AttentionIdeal Cert.AttentionIdeal.Gen Cert.K.Softmax

/-- The block of results: each row the mean of the value block under the row's causal softmax weights. -/
theorem block (b0 : Vec Ideal S1x2048x128 .f32) (b1 b2 : Vec Ideal S1x2048x128 .bf16) (b3 : Vec Ideal S1x1x2048 .f32)
    (qr : Fin 2048 → Fin 128 → ℝ) (kr : Fin 2048 → Fin 128 → ℝ) (cr : Fin 2048 → ℝ)
    (hq : ∀ (a : Fin 2048) d, b0 (ix3 0 a d) = (qr a d : EReal))
    (hk : ∀ (a : Fin 2048) d, b1 (ix3 0 a d) = (kr a d : EReal))
    (hc : ∀ j, b3 (ix3 0 0 j) = (cr j : EReal)) (o : Fin 1) (r : Fin 2048) (e : Fin 128) :
    out0_4 (F := Ideal) b0 b1 b2 b3 (ix3 o r e)
      = mean (wt (fun j : Fin 2048 => j.val ≤ r.val) (z qr kr cr r)) (fun j => b2 (ix3 0 j e)) := by
  canon_tiles x h
  · idx_vars x
    obtain rfl : e = x2 := Fin.ext h2
    obtain rfl : x0 = 0 := Subsingleton.elim _ _
    refine piece3 (View.ld b3 r0_0) b0 b1 b2 _ _ _ _ _ qr kr cr (fun j e => b2 (ix3 0 j e)) ?_ ?_ ?_ ?_ ?_ ?_ x1 e r h1
    · exact fun a d => by rw [← hq]; exact View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun j => by rw [← hc]; exact View.ld_unit_apply_of _ _ _ _ _ _ (fun i => by fin_cases i <;> simp)
  · idx_vars x
    obtain rfl : e = x2 := Fin.ext h2
    obtain rfl : x0 = 0 := Subsingleton.elim _ _
    refine piece2 (View.ld b3 r0_0) b0 b1 b2 _ _ _ _ _ qr kr cr (fun j e => b2 (ix3 0 j e)) ?_ ?_ ?_ ?_ ?_ ?_ x1 e r h1
    · exact fun a d => by rw [← hq]; exact View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun j => by rw [← hc]; exact View.ld_unit_apply_of _ _ _ _ _ _ (fun i => by fin_cases i <;> simp)
  · idx_vars x
    obtain rfl : e = x2 := Fin.ext h2
    obtain rfl : x0 = 0 := Subsingleton.elim _ _
    refine piece1 (View.ld b3 r0_0) b0 b1 b2 _ _ _ _ _ qr kr cr (fun j e => b2 (ix3 0 j e)) ?_ ?_ ?_ ?_ ?_ ?_ x1 e r h1
    · exact fun a d => by rw [← hq]; exact View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun j => by rw [← hc]; exact View.ld_unit_apply_of _ _ _ _ _ _ (fun i => by fin_cases i <;> simp)
  · idx_vars x
    obtain rfl : e = x2 := Fin.ext h2
    obtain rfl : x0 = 0 := Subsingleton.elim _ _
    refine piece0 (View.ld b3 r0_0) _ _ _ qr kr cr (fun j e => b2 (ix3 0 j e)) ?_ ?_ ?_ ?_ x1 e r h1
    · exact fun a d => by rw [← hq]; exact View.ld_unit_apply_of _ _ _ _ _ _ (fun i => by fin_cases i <;> simp)
    · exact fun a d => by rw [← hk]; exact View.ld_unit_apply_of _ _ _ _ _ _ (fun i => by fin_cases i <;> simp)
    · exact fun a d => View.ld_unit_apply_of _ _ _ _ _ _ (fun i => by fin_cases i <;> simp)
    · exact fun j => by rw [← hc]; exact View.ld_unit_apply_of _ _ _ _ _ _ (fun i => by fin_cases i <;> simp)

end Cert.K.Attn

end
-- ==== Proof.AttnValue.lean ====
/- The attention kernel's whole result: at every index, the causal softmax mean of the values. -/
module

public import proofs.«01_k».proof.Proof.AttnBlock
public import Idealize.ShloMosaic.Lib.Pipeline.ValueKit
public import Idealize.ShloMosaic.Lib.Pointwise

@[expose] public section

set_option maxRecDepth 16384

noncomputable section

namespace Cert.K.Attn

open Idealize.ShloMosaic Idealize.ShloMosaic.TcCoe Idealize.SL.Sem
open Idealize.ShloMosaic.Pipeline (Dat)
open Cert.AttentionIdeal Cert.AttentionIdeal.Gen Cert.AttentionIdeal.Value Cert.K.Softmax

variable (m : (ℓ : Loc nD τ sig) → Buf (Elt Ideal) ℓ)

/-- The blocks each grid point reads and writes: one head of one sequence. -/
theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val, 0, 0] ∧ win0_4.index t = ![t.val / 8, 0, t.val % 8] :=
  (by decide +kernel : ∀ t : Fin grid0.N, _)

/-- The softmax mean of the values at one sequence, row, head and channel. -/
def outAt (q k v : FVec Ideal S8x2048x8x128 .f32) (c : FVec Ideal S8x2048x8 .f32) (b : Fin 8) (r : Fin 2048) (h : Fin 8) (e : Fin 128) : EReal :=
  mean (wt (fun j : Fin 2048 => j.val ≤ r.val)
      (z (fun r d => (q (ix4 b r h d)).toReal) (fun j d => (k (ix4 b j h d)).toReal) (fun j => (c (ix3 b j h)).toReal) r))
    (fun j => v (ix4 b j h e))

/-- The whole result, the heads side by side. -/
def out (q k v : FVec Ideal S8x2048x8x128 .f32) (c : FVec Ideal S8x2048x8 .f32) : FVec Ideal S8x2048x1024 .f32 := fun y =>
  outAt q k v c (y 0) (y 1) ⟨(y 2).val / 128, by have h : (y 2).val < 1024 := (y 2).isLt; omega⟩ ⟨(y 2).val % 128, by omega⟩

theorem outAt_congr (q k v : FVec Ideal S8x2048x8x128 .f32) (c : FVec Ideal S8x2048x8 .f32) (b b' : Fin 8) (r r' : Fin 2048) (h h' : Fin 8)
    (e e' : Fin 128) (hb : b.val = b'.val) (hr : r.val = r'.val) (hh : h.val = h'.val) (he : e.val = e'.val) :
    outAt q k v c b r h e = outAt q k v c b' r' h' e' := by
  rw [Fin.ext hb, Fin.ext hr, Fin.ext hh, Fin.ext he]

/-- The query block of a grid point: one head of one sequence. -/
theorem q_block (c : Dev nD) (t : Fin cfg0.N) (ht : t.val < 64) (o : Fin 1) (r : Fin 2048) (d : Fin 128) :
    iblk m c 0 t (ix3 o r d) = m ((c : Thread nD τ).loc main_arg0) (ix4 ⟨t.val / 8, by omega⟩ r ⟨t.val % 8, by omega⟩ d) := by
  blk_point [iblk, idx t]

/-- The key block. -/
theorem k_block (c : Dev nD) (t : Fin cfg0.N) (ht : t.val < 64) (o : Fin 1) (r : Fin 2048) (d : Fin 128) :
    iblk m c 1 t (ix3 o r d) = m ((c : Thread nD τ).loc main_arg1) (ix4 ⟨t.val / 8, by omega⟩ r ⟨t.val % 8, by omega⟩ d) := by
  blk_point [iblk, idx t]

/-- The value block. -/
theorem v_block (c : Dev nD) (t : Fin cfg0.N) (ht : t.val < 64) (o : Fin 1) (r : Fin 2048) (d : Fin 128) :
    iblk m c 2 t (ix3 o r d) = m ((c : Thread nD τ).loc main_arg2) (ix4 ⟨t.val / 8, by omega⟩ r ⟨t.val % 8, by omega⟩ d) := by
  blk_point [iblk, idx t]

/-- The block of cumulative log forget gates. -/
theorem c_block (c : Dev nD) (t : Fin cfg0.N) (ht : t.val < 64) (j : Fin 2048) :
    iblk m c 3 t (ix3 0 0 j) = m ((c : Thread nD τ).loc main_arg3) (ix3 ⟨t.val / 8, by omega⟩ j ⟨t.val % 8, by omega⟩) := by
  blk_point [iblk, idx t]

/-- The result after the run, where the queries, keys and cumulative gates are real numbers. -/
theorem final (c : Dev nD)
    (hq : ∀ i, m ((c : Thread nD τ).loc main_arg0) i = ((m ((c : Thread nD τ).loc main_arg0) i : EReal).toReal : EReal))
    (hk : ∀ i, m ((c : Thread nD τ).loc main_arg1) i = ((m ((c : Thread nD τ).loc main_arg1) i : EReal).toReal : EReal))
    (hc : ∀ i, m ((c : Thread nD τ).loc main_arg3) i = ((m ((c : Thread nD τ).loc main_arg3) i : EReal).toReal : EReal)) :
    (dats m 0 c).arrAt 4 cfg0.N = out (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have ht : t.val < 64 := t.isLt
  blk_simp
  rw [after0_4]
  idx_vars y
  refine (block _ _ _ _ _ _ _ (fun r d => (q_block m c t ht 0 r d).trans (hq _)) (fun r d => (k_block m c t ht 0 r d).trans (hk _))
    (fun j => (c_block m c t ht j).trans (hc _)) _ _ _).trans ?_
  simp only [v_block m c t ht]
  refine outAt_congr _ _ _ _ ⟨t.val / 8, by omega⟩ _ y1 _ ⟨t.val % 8, by omega⟩ _ y2 _ ?_ ?_ ?_ ?_ <;> blk_simp [idx t] <;> simp <;> omega

end Cert.K.Attn

end
-- ==== Proof.AttnRef.lean ====
/- The attention's reference at an index of its result: the causal softmax mean of the values. -/
module

public import proofs.«01_k».proof.Proof.Gen.AttentionRefIdeal.Run
public import proofs.«01_k».proof.Proof.AttnRows

@[expose] public section

set_option maxRecDepth 16384

noncomputable section

namespace Cert.K.AttnRef

open Idealize.ShloMosaic Idealize.ShloMosaic.TcCoe Idealize.SL.Sem
open Cert.AttentionRefIdeal Cert.AttentionRefIdeal.Gen Cert.AttentionRefIdeal.Value Cert.K.Softmax

/-- The masked scores, every head's row of queries against its keys. -/
def scores (q k : FVec Ideal S8x2048x8x128 .f32) (c : FVec Ideal S8x2048x8 .f32) : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (addf (Host.divf (Host.dotGeneral (F := Ideal) dot_S8x2048x8x128_S8x2048x8x128_S8x8x2048x2048_3_3_1_1_02_02 none q k) (broadcastInDim S8x8x2048x2048 ![] bcast_S_S8x8x2048x2048 (Host.sqrt (constant (F := Ideal) S_ .f32 0x43000000#32)))) (subf (broadcastInDim S8x8x2048x2048 ![0, 1, 2, 3] bcast_S8x8x2048x1_S8x8x2048x2048_0_1_2_3 (broadcastInDim S8x8x2048x1 ![0, 1, 2] bcast_S8x8x2048_S8x8x2048x1_0_1_2 (transpose S8x8x2048 [0, 2, 1] c transposes_S8x2048x8_S8x8x2048_0_2_1))) (broadcastInDim S8x8x2048x2048 ![0, 1, 2, 3] bcast_S8x8x1x2048_S8x8x2048x2048_0_1_2_3 (broadcastInDim S8x8x1x2048 ![0, 1, 3] bcast_S8x8x2048_S8x8x1x2048_0_1_3 (transpose S8x8x2048 [0, 2, 1] c transposes_S8x2048x8_S8x8x2048_0_2_1))))) (broadcastInDim S8x8x2048x2048 ![] bcast_S_S8x8x2048x2048 (id (constant (F := Ideal) S_ .f32 0xFF800000#32)))

/-- Each row's maximum of the scores. -/
def tops (s : FVec Ideal S8x8x2048x2048 .f32) : FVec Ideal S8x8x2048 .f32 :=
  maximumf (broadcastInDim S8x8x2048 ![] bcast_S_S8x8x2048 (constant (F := Ideal) S_ .f32 0xFF800000#32)) (Host.reduce FloatOps.maximumf s (constant (F := Ideal) S_ .f32 0xFF800000#32) reducesTo_S8x8x2048x2048_S8x8x2048_d3 h_S_)

/-- The exponentials of the scores, a number taken off each row. -/
def exps (s : FVec Ideal S8x8x2048x2048 .f32) (m : FVec Ideal S8x8x2048 .f32) : FVec Ideal S8x8x2048x2048 .f32 :=
  Host.exp (F := Ideal) (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 m)))

/-- The rows' normalised weights applied to the values, from the exponentials. -/
def weigh (x : FVec Ideal S8x8x2048x2048 .f32) (v : FVec Ideal S8x2048x8x128 .f32) : FVec Ideal S8x2048x1024 .f32 :=
  shapeCast S8x2048x1024 (transpose S8x2048x8x128 [0, 3, 1, 2] (Host.dotGeneral (F := Ideal) dot_S8x2048x8x128_S8x8x2048x2048_S8x8x128x2048_1_3_3_2_02_01 none v (Host.divf x (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd x (constant (F := Ideal) S_ .f32 0x00000000#32) reducesTo_S8x8x2048x2048_S8x8x2048_d3 h_S_))))) transposes_S8x8x128x2048_S8x2048x8x128_0_3_1_2) shapeCasts_S8x2048x8x128_S8x2048x1024

theorem row_max (s : FVec Ideal S8x8x2048x2048 .f32) (v : FVec Ideal S_ .f32) (b h : Fin 8) (r : Fin 2048) :
    Host.reduce FloatOps.maximumf s v reducesTo_S8x8x2048x2048_S8x8x2048_d3 h_S_ (ix3 b h r)
      = Finset.univ.fold max (v (Shape.Idx.first h_S_)) (fun j : Fin 2048 => s (ix4 b h r j)) := by
  pointwise

theorem bot_at (j : S8x8x2048.Idx) :
    broadcastInDim S8x8x2048 ![] bcast_S_S8x8x2048 (constant (F := Ideal) S_ .f32 0xFF800000#32) j = ⊥ := by
  pointwise
  exact Cert.K.Attn.neg_inf_val

theorem tops_at (s : FVec Ideal S8x8x2048x2048 .f32) (b h : Fin 8) (r : Fin 2048) :
    tops s (ix3 b h r) = Finset.univ.fold max ⊥ (fun j : Fin 2048 => s (ix4 b h r j)) := by
  unfold tops
  rw [maximumf_apply, row_max, bot_at, Ideal.maximumf_eq_max]
  exact (max_eq_right bot_le).trans (congrArg (fun x => Finset.univ.fold max x _) Cert.K.Attn.neg_inf_val)

theorem exps_at (s : FVec Ideal S8x8x2048x2048 .f32) (m : FVec Ideal S8x8x2048 .f32) (b h : Fin 8) (r j : Fin 2048) :
    exps s m (ix4 b h r j) = Ideal.exp (s (ix4 b h r j) - m (ix3 b h r)) := by
  unfold exps
  pointwise

theorem weigh_at (x : FVec Ideal S8x8x2048x2048 .f32) (v : FVec Ideal S8x2048x8x128 .f32) (b : Fin 8) (r : Fin 2048) (w : Fin 1024) :
    weigh x v (ix3 b r w) = ∑ j : Fin 2048, Ideal.div (x (ix4 b ⟨w.val / 128, by omega⟩ r j))
      (∑ i : Fin 2048, x (ix4 b ⟨w.val / 128, by omega⟩ r i)) * v (ix4 b j ⟨w.val / 128, by omega⟩ ⟨w.val % 128, by omega⟩) := by
  unfold weigh
  pointwise
  exact Finset.sum_congr rfl fun j _ => mul_comm _ _

theorem root_val : Ideal.sqrt (Ideal.ofBits .f32 0x43000000#32) = ((Real.sqrt 128 : ℝ) : EReal) := by
  have : Ideal.ofBits .f32 0x43000000#32 = ((128 : ℝ) : EReal) := by
    simp [Ideal.ofBits, Ideal.ieee]
    rw [← EReal.coe_mul]
    norm_num
  rw [this]
  exact if_neg (by norm_num)

theorem scores_at (q k : FVec Ideal S8x2048x8x128 .f32) (c : FVec Ideal S8x2048x8 .f32)
    (qr kr : Fin 8 → Fin 2048 → Fin 8 → Fin 128 → ℝ) (cr : Fin 8 → Fin 2048 → Fin 8 → ℝ)
    (hq : ∀ b t h d, q (ix4 b t h d) = (qr b t h d : EReal)) (hk : ∀ b t h d, k (ix4 b t h d) = (kr b t h d : EReal))
    (hc : ∀ b t h, c (ix3 b t h) = (cr b t h : EReal)) (b h : Fin 8) (r j : Fin 2048) :
    scores q k c (ix4 b h r j) = if j.val ≤ r.val then
      ((Cert.K.Attn.z (fun r d => qr b r h d) (fun j d => kr b j h d) (fun j => cr b j h) r j + cr b r h : ℝ) : EReal) else ⊥ := by
  unfold scores
  pointwise
  have hj := j.isLt
  have hr := r.isLt
  rw [WordCmp.cmpi_sle_ofNat (by norm_num; omega) (by norm_num; omega)]
  by_cases h' : j.val ≤ r.val
  · have hd : decide (j.val ≤ r.val) = true := decide_eq_true h'
    rw [hd, Scalar.select, if_pos (by decide), if_pos h', root_val, Ideal.div_coe (by positivity)]
    simp only [hq, hk, hc, ← EReal.coe_mul, coe_sum, ← EReal.coe_add, ← EReal.coe_sub, Cert.K.Attn.z]
    congr 1
    rw [one_div]
    ring
  · have hd : decide (j.val ≤ r.val) = false := decide_eq_false h'
    rw [hd, Scalar.select, if_neg (by decide), if_neg h']
    exact Cert.K.Attn.neg_inf_val

/-- The reference's result at an index, when the queries, keys and cumulative gates are real numbers. -/
theorem ref_at (q k v : FVec Ideal S8x2048x8x128 .f32) (c : FVec Ideal S8x2048x8 .f32)
    (qr kr : Fin 8 → Fin 2048 → Fin 8 → Fin 128 → ℝ) (cr : Fin 8 → Fin 2048 → Fin 8 → ℝ)
    (hq : ∀ b t h d, q (ix4 b t h d) = (qr b t h d : EReal)) (hk : ∀ b t h d, k (ix4 b t h d) = (kr b t h d : EReal))
    (hc : ∀ b t h, c (ix3 b t h) = (cr b t h : EReal)) (b : Fin 8) (r : Fin 2048) (w : Fin 1024) :
    weigh (exps (scores q k c) (tops (scores q k c))) v (ix3 b r w)
      = mean (wt (fun j : Fin 2048 => j.val ≤ r.val) (Cert.K.Attn.z (fun r d => qr b r ⟨w.val / 128, by omega⟩ d)
          (fun j d => kr b j ⟨w.val / 128, by omega⟩ d) (fun j => cr b j ⟨w.val / 128, by omega⟩) r))
        (fun j => v (ix4 b j ⟨w.val / 128, by omega⟩ ⟨w.val % 128, by omega⟩)) := by
  rw [weigh_at]
  simp only [exps_at, tops_at]
  exact row_reference (fun j : Fin 2048 => j.val ≤ r.val) _ (cr b r ⟨w.val / 128, by omega⟩) _ r le_rfl _
    (fun j => scores_at q k c qr kr cr hq hk hc b ⟨w.val / 128, by omega⟩ r j) _ rfl

/-- The run's result term is the composition above. -/
theorem result (m : (ℓ : Loc nD τ sig) → Buf (Elt Ideal) ℓ) (c : Dev nD) :
    res_out0 m c = weigh (exps (scores (m ((c.tc : Thread nD τ).loc main_arg0)) (m ((c.tc : Thread nD τ).loc main_arg1))
      (m ((c.tc : Thread nD τ).loc main_arg3))) (tops (scores (m ((c.tc : Thread nD τ).loc main_arg0))
      (m ((c.tc : Thread nD τ).loc main_arg1)) (m ((c.tc : Thread nD τ).loc main_arg3)))))
      (m ((c.tc : Thread nD τ).loc main_arg2)) := rfl

end Cert.K.AttnRef

end
-- ==== Proof.AttnPre.lean ====
/- What the precondition says: the queries, the keys and the cumulative gates are real numbers. -/
module

public import proofs.«01_k».proof.Proof.Gen.Pre_finite_scores
public import Idealize.ShloMosaic.Lib.ReduceAll
public import Idealize.ShloMosaic.Lib.Pointwise

@[expose] public section

set_option maxRecDepth 16384

noncomputable section

namespace Cert.K.AttnPre

open Idealize.ShloMosaic Idealize.SL.Sem
open Cert.Pre_finite_scores Cert.Pre_finite_scores.Gen

instance : Subsingleton S_.Idx := ⟨fun a b => funext fun i => i.elim0⟩

theorem inf_val : Ideal.ofBits FTy.f32 0x7F800000#32 = ⊤ := by
  simp [Ideal.ofBits, Ideal.ieee]

/-- An extended real whose size is below infinity is a real number. -/
theorem real_of_lt (x : EReal) (h : max x (-x) < ⊤) : x = (x.toReal : EReal) := by
  refine (EReal.coe_toReal ?_ ?_).symm
  · rintro rfl
    simp at h
  · rintro rfl
    simp at h

theorem real_of_cmp {s : Shape} (x v : FVec Ideal s .f32) (i : s.Idx) (hv : v i = (⊤ : EReal))
    (h : cmpf CmpFPredicate.olt (Host.absf x) v i = 1#1) : x i = ((x i : EReal).toReal : EReal) := by
  refine real_of_lt (x i) ?_
  pointwise at h
  rw [hv] at h
  by_contra hn
  have hd : decide (FloatOps.absf (x i) < (⊤ : EReal)) = false := decide_eq_false hn
  rw [hd] at h
  exact absurd h (by decide)

theorem pre_real (q k v : FVec Ideal S8x2048x8x128 .f32) (c : FVec Ideal S8x2048x8 .f32) (h : fn q k v c ix0 = 1#1) :
    (∀ i, q i = ((q i : EReal).toReal : EReal)) ∧ (∀ i, k i = ((k i : EReal).toReal : EReal)) ∧ ∀ i, c i = ((c i : EReal).toReal : EReal) := by
  dsimp only [fn] at h
  obtain ⟨h1, h2⟩ := IntOp.andi_eq_one.mp h
  obtain ⟨h1, h3⟩ := IntOp.andi_eq_one.mp h1
  refine ⟨fun i => ?_, fun i => ?_, fun i => ?_⟩
  · exact real_of_cmp _ _ i inf_val (Host.reduce_andi_all _ _ _ _ _ h1 i)
  · exact real_of_cmp _ _ i inf_val (Host.reduce_andi_all _ _ _ _ _ h3 i)
  · exact real_of_cmp _ _ i inf_val (Host.reduce_andi_all _ _ _ _ _ h2 i)

end Cert.K.AttnPre

end
-- ==== Proof.AttnClaim.lean ====
/- The claims about the attention: both frames, the named constants, and the equation with the reference. -/
module

public import proofs.«01_k».proof.Defs
public import proofs.«01_k».proof.Proof.Gen.Attention.Frame
public import proofs.«01_k».proof.Proof.Gen.AttentionIdeal.Frame
public import proofs.«01_k».proof.Proof.AttnValue
public import proofs.«01_k».proof.Proof.AttnRef
public import proofs.«01_k».proof.Proof.AttnPre
public import Idealize.ShloMosaic.Lib.Quiescent

@[expose] public section

set_option maxRecDepth 16384

noncomputable section

namespace Cert.K.AttnClaim

open Idealize.ShloMosaic Idealize.ShloMosaic.TcCoe Idealize.SL.Sem

theorem frame_kernel : Cert.quiescent_Attention := fun m ρ _ => Cert.Attention.Gen.frame m ρ

theorem frame_ideal : Cert.quiescent_AttentionIdeal := fun m ρ _ => Cert.AttentionIdeal.Gen.frame m ρ

theorem frame_ref : Cert.quiescent_AttentionRefIdeal := fun m ρ _ =>
  (θ_run Cert.AttentionRefIdeal.defs _ _).mono (fun r h => ⟨fun c => (h c).2,
    Idealize.ShloMosaic.sem_eq_zero_of_no_sems (by decide) r.2⟩) (Cert.AttentionRefIdeal.Value.run (F := Ideal) m ρ)

theorem frame_ideal_pre : Cert.quiescent_AttentionIdeal_pre_finite_scores := fun m ρ _ => frame_ideal m ρ trivial

theorem frame_ref_pre : Cert.quiescent_AttentionRefIdeal_pre_finite_scores := fun m ρ _ => frame_ref m ρ trivial

/-- The three named constants are what the ideal kernel takes them for. -/
theorem preserves : Cert.preserves_Attention_AttentionIdeal :=
  ⟨IdealRules.named_const.statement Cert.AttentionIdeal.κ "log2e" .f32 0x3FB8AA3B#32 _ rfl,
    IdealRules.named_const.statement Cert.AttentionIdeal.κ "q_scale" .f32 0x3E0293EE#32 _ rfl,
    IdealRules.named_const.statement Cert.AttentionIdeal.κ "mask" .f32 0xF149F2CA#32 _ rfl⟩

/-- On real queries, keys and cumulative gates the kernel's array is the reference's. -/
theorem equal (q k v : FVec Ideal Cert.AttentionIdeal.S8x2048x8x128 .f32) (c : FVec Ideal Cert.AttentionIdeal.S8x2048x8 .f32)
    (hq : ∀ i, q i = ((q i : EReal).toReal : EReal)) (hk : ∀ i, k i = ((k i : EReal).toReal : EReal))
    (hc : ∀ i, c i = ((c i : EReal).toReal : EReal)) :
    Cert.K.AttnRef.weigh (Cert.K.AttnRef.exps (Cert.K.AttnRef.scores q k c) (Cert.K.AttnRef.tops (Cert.K.AttnRef.scores q k c))) v
      = Cert.K.Attn.out q k v c := by
  funext y
  idx_vars y
  exact Cert.K.AttnRef.ref_at q k v c (fun b t h d => (q (ix4 b t h d) : EReal).toReal) (fun b t h d => (k (ix4 b t h d) : EReal).toReal)
    (fun b t h => (c (ix3 b t h) : EReal).toReal) (fun _ _ _ _ => hq _) (fun _ _ _ _ => hk _) (fun _ _ _ => hc _) _ _ _

theorem algebraic : Cert.algebraic_AttentionIdeal_AttentionRefIdeal_pre_finite_scores := by
  intro m ρ m' ρ' hpre hagree
  refine ⟨_, Cert.AttentionIdeal.Value.run_blocks (F := Ideal) m ρ, ?_⟩
  refine (θ_run Cert.AttentionRefIdeal.defs _ _).mono (fun _ h c => ⟨(h c).1.trans ?_, (h c).2⟩)
    (Cert.AttentionRefIdeal.Value.run (F := Ideal) m' ρ')
  obtain ⟨hq, hk, hc⟩ := Cert.K.AttnPre.pre_real _ _ _ _ (congrFun (hpre c) ix0)
  obtain ⟨e0, e1, e2, e3⟩ := hagree c
  rw [Cert.K.Attn.final m c hq hk hc]
  refine (Cert.K.AttnRef.result m' c).trans ?_
  rw [e0, e1, e2, e3]
  exact equal _ _ _ _ hq hk hc

end Cert.K.AttnClaim

end
-- ==== Proof.Norm.lean ====
/- The root-mean-square norm and the logistic function, as both the kernels and the references come out to compute them. -/
module

public import Idealize.ShloMosaic.Lib.Pointwise

@[expose] public section

noncomputable section

namespace Cert.K

open Idealize.ShloMosaic

/-- A row divided by its root mean square, times a gain; `n` is the row's length as a float word. -/
def rms {w : ℕ} (n : BitVec 32) (x g : Fin w → EReal) (d : Fin w) : EReal :=
  x d * Ideal.rsqrt (Ideal.div (∑ e, x e * x e) (Ideal.ofBits FTy.f32 n) + Ideal.ofBits FTy.f32 897988541#32) * g d

/-- The logistic function. -/
def sigm (x : EReal) : EReal := Ideal.div 1 (1 + Ideal.exp (0 - x))

end Cert.K

end
-- ==== Proof.FfnPoint.lean ====
/- The feed-forward kernel at one grid point: what it leaves in its two scratch blocks and in its result. -/
module

public import proofs.«01_k».proof.Proof.Gen.FfnIdeal.Value
public import proofs.«01_k».proof.Proof.Norm
public import Idealize.ShloMosaic.Lib.Pipeline.ValueKit
public import Idealize.ShloMosaic.Lib.Pointwise

@[expose] public section

set_option maxRecDepth 16384

noncomputable section

namespace Cert.K.Ffn

open Idealize.ShloMosaic Idealize.ShloMosaic.TcCoe Idealize.SL.Sem
open Idealize.ShloMosaic.Pipeline (Dat)
open Cert.FfnIdeal Cert.FfnIdeal.Gen Cert.FfnIdeal.Value

/-- The block's norm of a row. -/
def normed (x g : Fin 2048 → EReal) (d : Fin 2048) : EReal := rms 1157627904#32 x g d

/-- One hidden unit of a row: the gate times its logistic, times the up projection. -/
def gated (f wg wu : Fin 2048 → EReal) : EReal :=
  (∑ d, f d * wg d) * sigm (∑ d, f d * wg d) * ∑ d, f d * wu d

variable (m : (ℓ : Loc nD τ sig) → Buf (Elt Ideal) ℓ)

/-- The first point of a run normalises the rows. -/
theorem fn_first (c : Dev nD) (t : Fin cfg0.N) (h0 : t.val % 11 = 0) :
    (outsAt0 m c t.val t.isLt).2.1 = k0_pay1 (F := Ideal) (iblk m c 0 t) (iblk m c 1 t) := by
  rw [outsAt0_A m c t h0 (by omega)]
  frame_out

/-- The other points keep the normalised rows. -/
theorem fn_later (c : Dev nD) (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    frame_out
    rfl
  · rw [outsAt0_B m c t h0 h1]
    frame_out
    rfl

/-- The first point adds its part to the rows themselves. -/
theorem acc_first (c : Dev nD) (t : Fin cfg0.N) (h0 : t.val % 11 = 0) :
    (outsAt0 m c t.val t.isLt).2.2 = k0_pay3 (F := Ideal) (outsAt0 m c t.val t.isLt).2.1 (iblk m c 2 t) (iblk m c 3 t)
      (k0_pay2 (iblk m c 0 t)) (iblk m c 4 t) := by
  rw [fn_first m c t h0, outsAt0_A m c t h0 (by omega)]
  frame_out

/-- The other points add their parts to what the point before left. -/
theorem acc_later (c : Dev nD) (t : Fin cfg0.N) (h0 : ¬t.val % 11 = 0) :
    (outsAt0 m c t.val t.isLt).2.2 = k0_pay3 (F := Ideal) (outsAt0 m c t.val t.isLt).2.1 (iblk m c 2 t) (iblk m c 3 t)
      (outsAt0 m c (t.val - 1) (Nat.lt_of_le_of_lt (Nat.sub_le _ _) t.isLt)).2.2 (iblk m c 4 t) := by
  rw [fn_later m c t h0]
  by_cases h1 : t.val % 11 = 10
  · rw [outsAt0_C m c t h0 h1]
    frame_out
    exact congrArg₂ (fun f a => k0_pay3 (F := Ideal) f _ _ a _) (Memref.IsWhole.read_unread _ _) (Memref.IsWhole.read_unread _ _)
  · rw [outsAt0_B m c t h0 h1]
    frame_out
    exact congrArg₂ (fun f a => k0_pay3 (F := Ideal) f _ _ a _) (Memref.IsWhole.read_unread _ _) (Memref.IsWhole.read_unread _ _)

/-- The last point hands over the sum. -/
theorem out_last (c : Dev nD) (t : Fin cfg0.N) (h1 : t.val % 11 = 10) :
    (outsAt0 m c t.val t.isLt).1 = (outsAt0 m c t.val t.isLt).2.2 := by
  rw [outsAt0_C m c t (by omega) h1]
  frame_out

/-- The normalised rows at an index. -/
theorem rows_at (x : Vec Ideal S512x2048 .f32) (g : Vec Ideal S1x1x2048 .f32) (a : Fin 512) (d : Fin 2048) :
    k0_pay1 (F := Ideal) x g (ix2 a d) = normed (fun e => x (ix2 a e)) (fun e => g (ix3 0 0 e)) d := by
  unfold normed rms
  pointwise [k0_pay1]

/-- The sum starts as the rows themselves. -/
theorem start_at (x : Vec Ideal S512x2048 .f32) (a : Fin 512) (e : Fin 2048) : k0_pay2 (F := Ideal) x (ix2 a e) = x (ix2 a e) := by
  pointwise [k0_pay2]

/-- One tile's part at an index. -/
theorem part_at (f : Vec Ideal S512x2048 .bf16) (wg wu : Vec Ideal S1x2048x512 .bf16) (acc : Vec Ideal S512x2048 .f32)
    (wd : Vec Ideal S1x512x2048 .bf16) (a : Fin 512) (e : Fin 2048) :
    k0_pay3 (F := Ideal) f wg wu acc wd (ix2 a e)
      = acc (ix2 a e) + ∑ k, gated (fun d => f (ix2 a d)) (fun d => wg (ix3 0 d k)) (fun d => wu (ix3 0 d k)) * wd (ix3 0 k e) := by
  unfold gated sigm
  pointwise [k0_pay3]

end Cert.K.Ffn

end
-- ==== Proof.FfnValue.lean ====
/- The feed-forward kernel's result: the rows plus the gated hidden layer's projection, whole. -/
module

public import proofs.«01_k».proof.Proof.FfnPoint
public import Idealize.ShloMosaic.Lib.Pipeline.ValueKit
public import Idealize.ShloMosaic.Lib.Pointwise

@[expose] public section

set_option maxRecDepth 16384

noncomputable section

namespace Cert.K.Ffn

open Idealize.ShloMosaic Idealize.ShloMosaic.TcCoe Idealize.SL.Sem
open Idealize.ShloMosaic.Pipeline (Dat)
open Cert.FfnIdeal Cert.FfnIdeal.Gen Cert.FfnIdeal.Value

variable (m : (ℓ : Loc nD τ sig) → Buf (Elt Ideal) ℓ)

/-- The blocks each grid point reads and writes: one block of rows, one tile of hidden units. -/
theorem idx : ∀ t : Fin cfg0.N, win0_0.index t = ![t.val / 11, 0] ∧ win0_1.index t = ![0, 0, 0]
    ∧ win0_2.index t = ![0, 0, t.val % 11] ∧ win0_3.index t = ![0, 0, t.val % 11] ∧ win0_4.index t = ![0, t.val % 11, 0]
    ∧ win0_5.index t = ![t.val / 11, 0] :=
  (by decide +kernel : ∀ t : Fin grid0.N, _)

/-- One row of the input, the sequences one after another. -/
def row (h : FVec Ideal S8x2048x2048 .f32) (n : Fin 16384) (d : Fin 2048) : EReal :=
  h (ix3 ⟨n.val / 2048, by omega⟩ ⟨n.val % 2048, by omega⟩ d)

/-- The hidden unit `k` of row `n`. -/
def unit (h : FVec Ideal S8x2048x2048 .f32) (g : FVec Ideal S2x2048 .f32) (wg wu : FVec Ideal S2x2048x5632 .f32) (n : Fin 16384)
    (k : Fin 5632) : EReal :=
  gated (normed (row h n) (fun e => g (ix2 0 e))) (fun d => wg (ix3 0 d k)) (fun d => wu (ix3 0 d k))

/-- The block's result at a row and channel. -/
def outAt (h : FVec Ideal S8x2048x2048 .f32) (g : FVec Ideal S2x2048 .f32) (wg wu : FVec Ideal S2x2048x5632 .f32)
    (wd : FVec Ideal S2x5632x2048 .f32) (n : Fin 16384) (e : Fin 2048) : EReal :=
  row h n e + ∑ k : Fin 5632, unit h g wg wu n k * wd (ix3 0 k e)

/-- The whole result. -/
def out (h : FVec Ideal S8x2048x2048 .f32) (g : FVec Ideal S2x2048 .f32) (wg wu : FVec Ideal S2x2048x5632 .f32)
    (wd : FVec Ideal S2x5632x2048 .f32) : FVec Ideal S16384x2048 .f32 := fun y => outAt h g wg wu wd (y 0) (y 1)

theorem h_block (c : Dev nD) (t : Fin cfg0.N) (ht : t.val < 352) (a : Fin 512) (d : Fin 2048) :
    iblk m c 0 t (ix2 a d) = row (m ((c : Thread nD τ).loc main_arg0)) ⟨512 * (t.val / 11) + a.val, by omega⟩ d := by
  unfold row
  blk_point [iblk, idx t]

theorem g_block (c : Dev nD) (t : Fin cfg0.N) (d : Fin 2048) :
    iblk m c 1 t (ix3 0 0 d) = m ((c : Thread nD τ).loc main_arg1) (ix2 0 d) := by
  blk_point [iblk, idx t]

theorem wg_block (c : Dev nD) (t : Fin cfg0.N) (d : Fin 2048) (k : Fin 512) :
    iblk m c 2 t (ix3 0 d k) = m ((c : Thread nD τ).loc main_arg2) (ix3 0 d ⟨512 * (t.val % 11) + k.val, by omega⟩) := by
  blk_point [iblk, idx t]

theorem wu_block (c : Dev nD) (t : Fin cfg0.N) (d : Fin 2048) (k : Fin 512) :
    iblk m c 3 t (ix3 0 d k) = m ((c : Thread nD τ).loc main_arg3) (ix3 0 d ⟨512 * (t.val % 11) + k.val, by omega⟩) := by
  blk_point [iblk, idx t]

theorem wd_block (c : Dev nD) (t : Fin cfg0.N) (k : Fin 512) (e : Fin 2048) :
    iblk m c 4 t (ix3 0 k e) = m ((c : Thread nD τ).loc main_arg4) (ix3 0 ⟨512 * (t.val % 11) + k.val, by omega⟩ e) := by
  blk_point [iblk, idx t]

/-- The hidden unit `k`'s part of a row's result at a channel, zero past the last unit. -/
def term (c : Dev nD) (n : Fin 16384) (e : Fin 2048) (k : ℕ) : EReal :=
  if h : k < 5632 then unit (m ((c : Thread nD τ).loc main_arg0)) (m ((c : Thread nD τ).loc main_arg1))
    (m ((c : Thread nD τ).loc main_arg2)) (m ((c : Thread nD τ).loc main_arg3)) n ⟨k, h⟩
      * m ((c : Thread nD τ).loc main_arg4) (ix3 0 ⟨k, h⟩ e)
  else 0

/-- What a row's sum is after the first `k` hidden units. -/
def partialAt (c : Dev nD) (n : Fin 16384) (e : Fin 2048) (k : ℕ) : EReal :=
  row (m ((c : Thread nD τ).loc main_arg0)) n e + ∑ i ∈ Finset.range k, term m c n e i

/-- One grid point's tile takes the sum from the units before it to the units up to its end. -/
theorem tile_step (c : Dev nD) (t : Fin cfg0.N) (ht : t.val < 352) (f : Vec Ideal S512x2048 .bf16) (acc : Vec Ideal S512x2048 .f32)
    (a : Fin 512) (e : Fin 2048)
    (hf : ∀ d, f (ix2 a d) = normed (row (m ((c : Thread nD τ).loc main_arg0)) ⟨512 * (t.val / 11) + a.val, by omega⟩)
      (fun e => m ((c : Thread nD τ).loc main_arg1) (ix2 0 e)) d)
    (hacc : acc (ix2 a e) = partialAt m c ⟨512 * (t.val / 11) + a.val, by omega⟩ e (512 * (t.val % 11))) :
    k0_pay3 (F := Ideal) f (iblk m c 2 t) (iblk m c 3 t) acc (iblk m c 4 t) (ix2 a e)
      = partialAt m c ⟨512 * (t.val / 11) + a.val, by omega⟩ e (512 * (t.val % 11) + 512) := by
  rw [part_at, hacc]
  unfold partialAt
  rw [Finset.sum_range_add, ← add_assoc, Finset.sum_range (n := 512)]
  congr 1
  refine Finset.sum_congr rfl fun k _ => ?_
  have hk : 512 * (t.val % 11) + k.val < 5632 := by omega
  rw [term, dif_pos hk]
  simp only [hf, wg_block, wu_block, wd_block]
  rfl

/-- What grid point `t` leaves in a row of the two scratch blocks: the normalised row, and the sum up to its tile's end. -/
def Inv (c : Dev nD) (t : Fin cfg0.N) (ht : t.val < 352) (a : Fin 512) : Prop :=
  (∀ d, (outsAt0 m c t.val t.isLt).2.1 (ix2 a d)
      = normed (row (m ((c : Thread nD τ).loc main_arg0)) ⟨512 * (t.val / 11) + a.val, by omega⟩)
        (fun e => m ((c : Thread nD τ).loc main_arg1) (ix2 0 e)) d)
    ∧ ∀ e, (outsAt0 m c t.val t.isLt).2.2 (ix2 a e)
      = partialAt m c ⟨512 * (t.val / 11) + a.val, by omega⟩ e (512 * (t.val % 11) + 512)

theorem inv_first (c : Dev nD) (t : Fin cfg0.N) (ht : t.val < 352) (a : Fin 512) (h0 : t.val % 11 = 0) : Inv m c t ht a := by
  have h1 : ∀ d, (outsAt0 m c t.val t.isLt).2.1 (ix2 a d)
      = normed (row (m ((c : Thread nD τ).loc main_arg0)) ⟨512 * (t.val / 11) + a.val, by omega⟩)
        (fun e => m ((c : Thread nD τ).loc main_arg1) (ix2 0 e)) d := fun d => by
    rw [fn_first m c t h0, rows_at]
    simp only [h_block m c t ht, g_block]
  refine ⟨h1, fun e => ?_⟩
  rw [acc_first m c t h0]
  refine tile_step m c t ht _ _ a e h1 ?_
  rw [start_at, h_block m c t ht a e]
  simp only [partialAt, h0, Nat.mul_zero, Finset.range_zero, Finset.sum_empty, add_zero]

theorem inv_later (c : Dev nD) (t : Fin cfg0.N) (ht : t.val < 352) (a : Fin 512) (h0 : ¬t.val % 11 = 0)
    (ih : Inv m c ⟨t.val - 1, Nat.lt_of_le_of_lt (Nat.sub_le _ _) t.isLt⟩ (Nat.lt_of_le_of_lt (Nat.sub_le _ _) ht) a) :
    Inv m c t ht a := by
  have hd : (t.val - 1) / 11 = t.val / 11 := by omega
  have hm : 512 * ((t.val - 1) % 11) + 512 = 512 * (t.val % 11) := by omega
  obtain ⟨ih1, ih2⟩ := ih
  simp only [hd, hm] at ih1 ih2
  have h1 : ∀ d, (outsAt0 m c t.val t.isLt).2.1 (ix2 a d)
      = normed (row (m ((c : Thread nD τ).loc main_arg0)) ⟨512 * (t.val / 11) + a.val, by omega⟩)
        (fun e => m ((c : Thread nD τ).loc main_arg1) (ix2 0 e)) d := fun d => by
    rw [fn_later m c t h0]
    exact ih1 d
  refine ⟨h1, fun e => ?_⟩
  rw [acc_later m c t h0]
  exact tile_step m c t ht _ _ a e h1 (ih2 e)

theorem invariant (c : Dev nD) (n : ℕ) : ∀ (t : Fin cfg0.N) (ht : t.val < 352) (a : Fin 512), t.val = n → Inv m c t ht a := by
  induction n with
  | zero => exact fun t ht a hn => inv_first m c t ht a (by omega)
  | succ n ih =>
    intro t ht a hn
    by_cases h0 : t.val % 11 = 0
    · exact inv_first m c t ht a h0
    · exact inv_later m c t ht a h0 (ih _ _ a (by show t.val - 1 = n; omega))

/-- After every hidden unit the sum is the block's result. -/
theorem partialAt_all (c : Dev nD) (n : Fin 16384) (e : Fin 2048) :
    partialAt m c n e 5632 = outAt (m ((c : Thread nD τ).loc main_arg0)) (m ((c : Thread nD τ).loc main_arg1))
      (m ((c : Thread nD τ).loc main_arg2)) (m ((c : Thread nD τ).loc main_arg3)) (m ((c : Thread nD τ).loc main_arg4)) n e := by
  unfold partialAt outAt
  rw [Finset.sum_range]
  exact congrArg _ (Finset.sum_congr rfl fun k _ => dif_pos k.isLt)

theorem outAt_congr (h : FVec Ideal S8x2048x2048 .f32) (g : FVec Ideal S2x2048 .f32) (wg wu : FVec Ideal S2x2048x5632 .f32)
    (wd : FVec Ideal S2x5632x2048 .f32) (n n' : Fin 16384) (e e' : Fin 2048) (hn : n.val = n'.val) (he : e.val = e'.val) :
    outAt h g wg wu wd n e = outAt h g wg wu wd n' e' := by
  rw [Fin.ext hn, Fin.ext he]

/-- The result after the run. -/
theorem final (c : Dev nD) :
    (dats m 0 c).arrAt 5 cfg0.N = out (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 352 := t.isLt
  have h1 : t.val % 11 = 10 := (flush0_5 t).1 hf
  blk_simp
  rw [after0_5]
  idx_vars y
  rw [out_last m c t h1, (invariant m c t.val t ht _ rfl).2, show 512 * (t.val % 11) + 512 = 5632 by omega, partialAt_all]
  refine outAt_congr _ _ _ _ _ _ _ _ _ ?_ ?_ <;> blk_simp [idx t] <;> simp <;> omega

end Cert.K.Ffn

end
-- ==== Proof.FfnRef.lean ====
/- The feed-forward block's reference at an index of its result. -/
module

public import proofs.«01_k».proof.Proof.Gen.FfnRefIdeal.Run
public import proofs.«01_k».proof.Proof.FfnPoint

@[expose] public section

set_option maxRecDepth 16384

noncomputable section

namespace Cert.K.FfnRef

open Idealize.ShloMosaic Idealize.ShloMosaic.TcCoe Idealize.SL.Sem
open Cert.FfnRefIdeal Cert.FfnRefIdeal.Gen Cert.K.Ffn

/-- The normalised rows. -/
def rows (h : FVec Ideal S8x2048x2048 .f32) (g : FVec Ideal S2x2048 .f32) : FVec Ideal S8x2048x2048 .f32 :=
  mulf (mulf h (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf h h) (constant (F := Ideal) S_ .f32 0x00000000#32) reducesTo_S8x2048x2048_S8x2048_d2 h_S_)) (broadcastInDim S8x2048x1 ![] bcast_S_S8x2048x1 (constant (F := Ideal) S_ .f32 0x45000000#32))) (broadcastInDim S8x2048x1 ![] bcast_S_S8x2048x1 (constant (F := Ideal) S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] g slices_S2x2048_S1x2048_0_0) shapeCasts_S1x2048_S2048)))

/-- The hidden layer: the gate's silu times the up projection. -/
def hidden (f : FVec Ideal S8x2048x2048 .f32) (wg wu : FVec Ideal S2x2048x5632 .f32) : FVec Ideal S8x2048x5632 .f32 :=
  mulf (mulf (Host.dotGeneral (F := Ideal) dot_S8x2048x2048_S2048x5632_S8x2048x5632_2_0_01_1_n_n none f (shapeCast _ (extractStridedSlice S1x2048x5632 ![0, 0, 0] wg slices_S2x2048x5632_S1x2048x5632_0_0_0) shapeCasts_S1x2048x5632_S2048x5632)) (Host.divf (broadcastInDim S8x2048x5632 ![] bcast_S_S8x2048x5632 (constant (F := Ideal) S_ .f32 0x3F800000#32)) (addf (broadcastInDim S8x2048x5632 ![] bcast_S_S8x2048x5632 (constant (F := Ideal) S_ .f32 0x3F800000#32)) (Host.exp (Host.negf (Host.dotGeneral (F := Ideal) dot_S8x2048x2048_S2048x5632_S8x2048x5632_2_0_01_1_n_n none f (shapeCast _ (extractStridedSlice S1x2048x5632 ![0, 0, 0] wg slices_S2x2048x5632_S1x2048x5632_0_0_0) shapeCasts_S1x2048x5632_S2048x5632))))))) (Host.dotGeneral (F := Ideal) dot_S8x2048x2048_S2048x5632_S8x2048x5632_2_0_01_1_n_n none f (shapeCast _ (extractStridedSlice S1x2048x5632 ![0, 0, 0] wu slices_S2x2048x5632_S1x2048x5632_0_0_0) shapeCasts_S1x2048x5632_S2048x5632))

/-- The rows and the hidden layer's projection, added up. -/
def total (h : FVec Ideal S8x2048x2048 .f32) (u : FVec Ideal S8x2048x5632 .f32) (wd : FVec Ideal S2x5632x2048 .f32) :
    FVec Ideal S16384x2048 .f32 :=
  shapeCast S16384x2048 (addf h (Host.dotGeneral (F := Ideal) dot_S8x2048x5632_S5632x2048_S8x2048x2048_2_0_01_1_n_n none u (shapeCast _ (extractStridedSlice S1x5632x2048 ![0, 0, 0] wd slices_S2x5632x2048_S1x5632x2048_0_0_0) shapeCasts_S1x5632x2048_S5632x2048))) shapeCasts_S8x2048x2048_S16384x2048

theorem rows_at (h : FVec Ideal S8x2048x2048 .f32) (g : FVec Ideal S2x2048 .f32) (b : Fin 8) (t d : Fin 2048) :
    rows h g (ix3 b t d) = normed (fun e => h (ix3 b t e)) (fun e => g (ix2 0 e)) d := by
  unfold rows normed rms
  pointwise

theorem hidden_at (f : FVec Ideal S8x2048x2048 .f32) (wg wu : FVec Ideal S2x2048x5632 .f32) (b : Fin 8) (t : Fin 2048) (k : Fin 5632) :
    hidden f wg wu (ix3 b t k) = gated (fun d => f (ix3 b t d)) (fun d => wg (ix3 0 d k)) (fun d => wu (ix3 0 d k)) := by
  unfold hidden gated sigm
  pointwise
  rw [zero_sub]

theorem total_at (h : FVec Ideal S8x2048x2048 .f32) (u : FVec Ideal S8x2048x5632 .f32) (wd : FVec Ideal S2x5632x2048 .f32)
    (n : Fin 16384) (e : Fin 2048) :
    total h u wd (ix2 n e) = h (ix3 ⟨n.val / 2048, by omega⟩ ⟨n.val % 2048, by omega⟩ e)
      + ∑ k, u (ix3 ⟨n.val / 2048, by omega⟩ ⟨n.val % 2048, by omega⟩ k) * wd (ix3 0 k e) := by
  unfold total
  pointwise

end Cert.K.FfnRef

end
-- ==== Proof.FfnClaim.lean ====
/- The claims about the feed-forward block: both frames and the equation with the reference. -/
module

public import proofs.«01_k».proof.Defs
public import proofs.«01_k».proof.Proof.Gen.Ffn.Frame
public import proofs.«01_k».proof.Proof.Gen.FfnIdeal.Frame
public import proofs.«01_k».proof.Proof.FfnValue
public import proofs.«01_k».proof.Proof.FfnRef
public import Idealize.ShloMosaic.Lib.Quiescent

@[expose] public section

set_option maxRecDepth 16384

noncomputable section

namespace Cert.K.FfnClaim

open Idealize.ShloMosaic Idealize.ShloMosaic.TcCoe Idealize.SL.Sem

theorem frame_kernel : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m ρ _ =>
  (θ_run Cert.FfnRefIdeal.defs _ _).mono (fun r h => ⟨fun c => (h c).2,
    Idealize.ShloMosaic.sem_eq_zero_of_no_sems (by decide) r.2⟩) (Cert.FfnRefIdeal.Value.run (F := Ideal) m ρ)

/-- The kernel's array is the reference's. -/
theorem equal (h : FVec Ideal Cert.FfnIdeal.S8x2048x2048 .f32) (g : FVec Ideal Cert.FfnIdeal.S2x2048 .f32)
    (wg wu : FVec Ideal Cert.FfnIdeal.S2x2048x5632 .f32) (wd : FVec Ideal Cert.FfnIdeal.S2x5632x2048 .f32) :
    Cert.K.FfnRef.total h (Cert.K.FfnRef.hidden (Cert.K.FfnRef.rows h g) wg wu) wd = Cert.K.Ffn.out h g wg wu wd := by
  funext y
  idx_vars y
  rw [Cert.K.FfnRef.total_at]
  simp only [Cert.K.FfnRef.hidden_at, Cert.K.FfnRef.rows_at]
  rfl

theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨e0, e1, e2, e3, e4⟩ := hagree c
  rw [Cert.K.Ffn.final m c, e0, e1, e2, e3, e4]
  exact equal _ _ _ _ _

end Cert.K.FfnClaim

end
-- ==== Proof.PleValue.lean ====
/- The per-layer embedding's result, whole. -/
module

public import proofs.«01_k».proof.Proof.Gen.PleIdeal.Value
public import proofs.«01_k».proof.Proof.Norm
public import Idealize.ShloMosaic.Lib.Pipeline.ValueKit
public import Idealize.ShloMosaic.Lib.Pointwise

@[expose] public section

set_option maxRecDepth 16384

noncomputable section

namespace Cert.K.Ple

open Idealize.ShloMosaic Idealize.ShloMosaic.TcCoe Idealize.SL.Sem
open Idealize.ShloMosaic.Pipeline (Dat)
open Cert.PleIdeal Cert.PleIdeal.Gen Cert.PleIdeal.Value

variable (m : (ℓ : Loc nD τ sig) → Buf (Elt Ideal) ℓ)

/-- One block of rows' result at an index. -/
theorem block (x : Vec Ideal S512x2048 .f32) (p : Vec Ideal S512x256 .f32) (g : Vec Ideal S1x1x2048 .f32)
    (wg : Vec Ideal S1x2048x2048 .bf16) (wp : Vec Ideal S1x256x2048 .bf16) (a : Fin 512) (e : Fin 2048) :
    out0_5 (F := Ideal) x p g wg wp (ix2 a e) = x (ix2 a e)
      + sigm (∑ d, rms 1157627904#32 (fun d => x (ix2 a d)) (fun d => g (ix3 0 0 d)) d * wg (ix3 0 d e))
        * ∑ k, p (ix2 a k) * wp (ix3 0 k e) := by
  have h : out0_5 (F := Ideal) x p g wg wp = k0_pay1 x g wg p wp := by
    unfold out0_5
    frame_out
  rw [h]
  unfold sigm rms
  pointwise [k0_pay1]

/-- The blocks each grid point reads and writes. -/
theorem idx : ∀ t : Fin cfg0.N, win0_0.index t = ![t.val, 0] ∧ win0_1.index t = ![t.val, 0] ∧ win0_2.index t = ![1, 0, 0]
    ∧ win0_3.index t = ![1, 0, 0] ∧ win0_4.index t = ![1, 0, 0] ∧ win0_5.index t = ![t.val, 0] :=
  (by decide +kernel : ∀ t : Fin grid0.N, _)

/-- One row of the input, the sequences one after another. -/
def row (h : FVec Ideal S8x2048x2048 .f32) (n : Fin 16384) (d : Fin 2048) : EReal :=
  h (ix3 ⟨n.val / 2048, by omega⟩ ⟨n.val % 2048, by omega⟩ d)

/-- One row of the last layer's embedding. -/
def emb (p : FVec Ideal S2x8x2048x256 .f32) (n : Fin 16384) (k : Fin 256) : EReal :=
  p (ix4 1 ⟨n.val / 2048, by omega⟩ ⟨n.val % 2048, by omega⟩ k)

/-- The result at a row and channel. -/
def outAt (h : FVec Ideal S8x2048x2048 .f32) (p : FVec Ideal S2x8x2048x256 .f32) (g : FVec Ideal S2x2048 .f32) (wg : FVec Ideal S2x2048x2048 .f32)
    (wp : FVec Ideal S2x256x2048 .f32) (n : Fin 16384) (e : Fin 2048) : EReal :=
  row h n e + sigm (∑ d, rms 1157627904#32 (row h n) (fun d => g (ix2 1 d)) d * wg (ix3 1 d e)) * ∑ k, emb p n k * wp (ix3 1 k e)

/-- The whole result. -/
def out (h : FVec Ideal S8x2048x2048 .f32) (p : FVec Ideal S2x8x2048x256 .f32) (g : FVec Ideal S2x2048 .f32) (wg : FVec Ideal S2x2048x2048 .f32)
    (wp : FVec Ideal S2x256x2048 .f32) : FVec Ideal S16384x2048 .f32 := fun y => outAt h p g wg wp (y 0) (y 1)

theorem outAt_congr (h : FVec Ideal S8x2048x2048 .f32) (p : FVec Ideal S2x8x2048x256 .f32) (g : FVec Ideal S2x2048 .f32) (wg : FVec Ideal S2x2048x2048 .f32)
    (wp : FVec Ideal S2x256x2048 .f32) (n n' : Fin 16384) (e e' : Fin 2048) (hn : n.val = n'.val) (he : e.val = e'.val) :
    outAt h p g wg wp n e = outAt h p g wg wp n' e' := by
  rw [Fin.ext hn, Fin.ext he]

theorem h_block (c : Dev nD) (t : Fin cfg0.N) (ht : t.val < 32) (a : Fin 512) (d : Fin 2048) :
    iblk m c 0 t (ix2 a d) = row (m ((c : Thread nD τ).loc main_arg0)) ⟨512 * t.val + a.val, by omega⟩ d := by
  unfold row
  blk_point [iblk, idx t]

theorem p_block (c : Dev nD) (t : Fin cfg0.N) (ht : t.val < 32) (a : Fin 512) (k : Fin 256) :
    iblk m c 1 t (ix2 a k) = emb (m ((c : Thread nD τ).loc main_arg1)) ⟨512 * t.val + a.val, by omega⟩ k := by
  unfold emb
  blk_point [iblk, idx t]

theorem g_block (c : Dev nD) (t : Fin cfg0.N) (d : Fin 2048) :
    iblk m c 2 t (ix3 0 0 d) = m ((c : Thread nD τ).loc main_arg2) (ix2 1 d) := by
  blk_point [iblk, idx t]

theorem wg_block (c : Dev nD) (t : Fin cfg0.N) (d e : Fin 2048) :
    iblk m c 3 t (ix3 0 d e) = m ((c : Thread nD τ).loc main_arg3) (ix3 1 d e) := by
  blk_point [iblk, idx t]

theorem wp_block (c : Dev nD) (t : Fin cfg0.N) (k : Fin 256) (e : Fin 2048) :
    iblk m c 4 t (ix3 0 k e) = m ((c : Thread nD τ).loc main_arg4) (ix3 1 k e) := by
  blk_point [iblk, idx t]

/-- The result after the run. -/
theorem final (c : Dev nD) :
    (dats m 0 c).arrAt 5 cfg0.N = out (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 32 := t.isLt
  blk_simp
  rw [after0_5]
  idx_vars y
  rw [block]
  simp only [h_block m c t ht, p_block m c t ht, g_block, wg_block, wp_block]
  refine outAt_congr _ _ _ _ _ ⟨512 * t.val + y0.val, by omega⟩ _ y1 _ ?_ ?_ <;> blk_simp [idx t] <;> simp <;> omega

end Cert.K.Ple

end
-- ==== Proof.PleRef.lean ====
/- The per-layer embedding's reference at an index of its result. -/
module

public import proofs.«01_k».proof.Proof.Gen.PleRefIdeal.Run
public import proofs.«01_k».proof.Proof.Norm
public import Idealize.ShloMosaic.Lib.Pointwise

@[expose] public section

set_option maxRecDepth 16384

noncomputable section

namespace Cert.K.PleRef

open Idealize.ShloMosaic Idealize.ShloMosaic.TcCoe Idealize.SL.Sem
open Idealize.ShloMosaic.Pipeline (Dat)
open Cert.PleRefIdeal Cert.PleRefIdeal.Gen

/-- The normalised rows. -/
def rows (h : FVec Ideal S8x2048x2048 .f32) (g : FVec Ideal S2x2048 .f32) : FVec Ideal S8x2048x2048 .f32 :=
  mulf (mulf h (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf h h) (constant (F := Ideal) S_ .f32 0x00000000#32) reducesTo_S8x2048x2048_S8x2048_d2 h_S_)) (broadcastInDim S8x2048x1 ![] bcast_S_S8x2048x1 (constant (F := Ideal) S_ .f32 0x45000000#32))) (broadcastInDim S8x2048x1 ![] bcast_S_S8x2048x1 (constant (F := Ideal) S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![1, 0] g slices_S2x2048_S1x2048_1_0) shapeCasts_S1x2048_S2048)))

/-- The rows plus the gated embedding, from the rows and their norm. -/
def total (h f : FVec Ideal S8x2048x2048 .f32) (p : FVec Ideal S2x8x2048x256 .f32) (wg : FVec Ideal S2x2048x2048 .f32)
    (wp : FVec Ideal S2x256x2048 .f32) : FVec Ideal S16384x2048 .f32 :=
  shapeCast S16384x2048 (addf h (mulf (Host.divf (broadcastInDim S8x2048x2048 ![] bcast_S_S8x2048x2048 (constant (F := Ideal) S_ .f32 0x3F800000#32)) (addf (broadcastInDim S8x2048x2048 ![] bcast_S_S8x2048x2048 (constant (F := Ideal) S_ .f32 0x3F800000#32)) (Host.exp (Host.negf (Host.dotGeneral (F := Ideal) dot_S8x2048x2048_S2048x2048_S8x2048x2048_2_0_01_1_n_n none f (shapeCast _ (extractStridedSlice S1x2048x2048 ![1, 0, 0] wg slices_S2x2048x2048_S1x2048x2048_1_0_0) shapeCasts_S1x2048x2048_S2048x2048)))))) (Host.dotGeneral (F := Ideal) dot_S8x2048x256_S256x2048_S8x2048x2048_2_0_01_1_n_n none (shapeCast _ (extractStridedSlice S1x8x2048x256 ![1, 0, 0, 0] p slices_S2x8x2048x256_S1x8x2048x256_1_0_0_0) shapeCasts_S1x8x2048x256_S8x2048x256) (shapeCast _ (extractStridedSlice S1x256x2048 ![1, 0, 0] wp slices_S2x256x2048_S1x256x2048_1_0_0) shapeCasts_S1x256x2048_S256x2048)))) shapeCasts_S8x2048x2048_S16384x2048

theorem rows_at (h : FVec Ideal S8x2048x2048 .f32) (g : FVec Ideal S2x2048 .f32) (b : Fin 8) (t d : Fin 2048) :
    rows h g (ix3 b t d) = rms 1157627904#32 (fun e => h (ix3 b t e)) (fun e => g (ix2 1 e)) d := by
  unfold rows rms
  pointwise

theorem total_at (h f : FVec Ideal S8x2048x2048 .f32) (p : FVec Ideal S2x8x2048x256 .f32) (wg : FVec Ideal S2x2048x2048 .f32)
    (wp : FVec Ideal S2x256x2048 .f32) (n : Fin 16384) (e : Fin 2048) :
    total h f p wg wp (ix2 n e) = h (ix3 ⟨n.val / 2048, by omega⟩ ⟨n.val % 2048, by omega⟩ e)
      + sigm (∑ d, f (ix3 ⟨n.val / 2048, by omega⟩ ⟨n.val % 2048, by omega⟩ d) * wg (ix3 1 d e))
        * ∑ k, p (ix4 1 ⟨n.val / 2048, by omega⟩ ⟨n.val % 2048, by omega⟩ k) * wp (ix3 1 k e) := by
  unfold total sigm
  pointwise
  rw [zero_sub]

end Cert.K.PleRef

end
-- ==== Proof.PleClaim.lean ====
/- The claims about the per-layer embedding: both frames and the equation with the reference. -/
module

public import proofs.«01_k».proof.Defs
public import proofs.«01_k».proof.Proof.Gen.Ple.Frame
public import proofs.«01_k».proof.Proof.Gen.PleIdeal.Frame
public import proofs.«01_k».proof.Proof.PleValue
public import proofs.«01_k».proof.Proof.PleRef
public import Idealize.ShloMosaic.Lib.Quiescent

@[expose] public section

set_option maxRecDepth 16384

noncomputable section

namespace Cert.K.PleClaim

open Idealize.ShloMosaic Idealize.ShloMosaic.TcCoe Idealize.SL.Sem

theorem frame_kernel : Cert.quiescent_Ple := fun m ρ _ => Cert.Ple.Gen.frame m ρ

theorem frame_ideal : Cert.quiescent_PleIdeal := fun m ρ _ => Cert.PleIdeal.Gen.frame m ρ

theorem frame_ref : Cert.quiescent_PleRefIdeal := fun m ρ _ =>
  (θ_run Cert.PleRefIdeal.defs _ _).mono (fun r h => ⟨fun c => (h c).2,
    Idealize.ShloMosaic.sem_eq_zero_of_no_sems (by decide) r.2⟩) (Cert.PleRefIdeal.Value.run (F := Ideal) m ρ)

/-- The kernel's array is the reference's. -/
theorem equal (h : FVec Ideal Cert.PleIdeal.S8x2048x2048 .f32) (p : FVec Ideal Cert.PleIdeal.S2x8x2048x256 .f32)
    (g : FVec Ideal Cert.PleIdeal.S2x2048 .f32) (wg : FVec Ideal Cert.PleIdeal.S2x2048x2048 .f32)
    (wp : FVec Ideal Cert.PleIdeal.S2x256x2048 .f32) :
    Cert.K.PleRef.total h (Cert.K.PleRef.rows h g) p wg wp = Cert.K.Ple.out h p g wg wp := by
  funext y
  idx_vars y
  rw [Cert.K.PleRef.total_at]
  simp only [Cert.K.PleRef.rows_at]
  rfl

theorem algebraic : Cert.algebraic_PleIdeal_PleRefIdeal := by
  intro m ρ m' ρ' _ hagree
  refine ⟨_, Cert.PleIdeal.Value.run_blocks (F := Ideal) m ρ, ?_⟩
  refine (θ_run Cert.PleRefIdeal.defs _ _).mono (fun _ h c => ⟨(h c).1.trans ?_, (h c).2⟩)
    (Cert.PleRefIdeal.Value.run (F := Ideal) m' ρ')
  obtain ⟨e0, e1, e2, e3, e4⟩ := hagree c
  rw [Cert.K.Ple.final m c, e0, e1, e2, e3, e4]
  exact equal _ _ _ _ _

end Cert.K.PleClaim

end
-- ==== Proof.MixValue.lean ====
/- The output projection's result, whole. -/
module

public import proofs.«01_k».proof.Proof.Gen.MixOutIdeal.Value
public import proofs.«01_k».proof.Proof.Norm
public import Idealize.ShloMosaic.Lib.Pipeline.ValueKit
public import Idealize.ShloMosaic.Lib.Pointwise

@[expose] public section

set_option maxRecDepth 16384

noncomputable section

namespace Cert.K.Mix

open Idealize.ShloMosaic Idealize.ShloMosaic.TcCoe Idealize.SL.Sem
open Idealize.ShloMosaic.Pipeline (Dat)
open Cert.MixOutIdeal Cert.MixOutIdeal.Gen Cert.MixOutIdeal.Value

variable (m : (ℓ : Loc nD τ sig) → Buf (Elt Ideal) ℓ)

/-- A gated row of the state-space group. -/
def gated (g : Fin 1024 → EReal) (wglu : Fin 1024 → Fin 1024 → EReal) (bglu : Fin 1024 → EReal) (d : Fin 1024) : EReal :=
  g d * sigm (∑ e, g e * wglu e d + bglu d)

/-- One channel of a row's result: the residual, the attention's part and the state-space group's part. -/
def mixed (x : EReal) (a g : Fin 1024 → EReal) (wglu : Fin 1024 → Fin 1024 → EReal) (bglu ga gs wa ws : Fin 1024 → EReal) : EReal :=
  x + ∑ d, rms 0x44800000#32 a ga d * wa d + ∑ d, rms 0x44800000#32 (gated g wglu bglu) gs d * ws d

/-- One block of rows' result at an index. -/
theorem block (a g : Vec Ideal S256x1024 .f32) (x : Vec Ideal S256x2048 .f32) (wglu : Vec Ideal S1x1024x1024 .bf16)
    (bglu ga gs : Vec Ideal S1x1x1024 .f32) (wa ws : Vec Ideal S1x1024x2048 .bf16) (r : Fin 256) (e : Fin 2048) :
    out0_9 (F := Ideal) a g x wglu bglu ga gs wa ws (ix2 r e) = mixed (x (ix2 r e)) (fun d => a (ix2 r d)) (fun d => g (ix2 r d))
      (fun d k => wglu (ix3 0 d k)) (fun d => bglu (ix3 0 0 d)) (fun d => ga (ix3 0 0 d)) (fun d => gs (ix3 0 0 d))
      (fun d => wa (ix3 0 d e)) (fun d => ws (ix3 0 d e)) := by
  have h : out0_9 (F := Ideal) a g x wglu bglu ga gs wa ws = k0_pay1 (k0_pay2 g wglu bglu gs) (k0_pay3 a) ga x wa ws := by
    unfold out0_9
    frame_out
  rw [h]
  unfold mixed rms gated sigm
  pointwise [k0_pay1, k0_pay2, k0_pay3]

/-- The blocks each grid point reads and writes. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 1, 0] ∧ win0_9.index t = ![t.val, 0] :=
  (by decide +kernel : ∀ t : Fin grid0.N, _)

/-- One row of the residual stream, the sequences one after another. -/
def row (x : FVec Ideal S8x2048x2048 .f32) (n : Fin 16384) (d : Fin 2048) : EReal :=
  x (ix3 ⟨n.val / 2048, by omega⟩ ⟨n.val % 2048, by omega⟩ d)

/-- One row of a group's output. -/
def half (x : FVec Ideal S8x2048x1024 .f32) (n : Fin 16384) (d : Fin 1024) : EReal :=
  x (ix3 ⟨n.val / 2048, by omega⟩ ⟨n.val % 2048, by omega⟩ d)

/-- The result at a row and channel. -/
def outAt (a g : FVec Ideal S8x2048x1024 .f32) (x : FVec Ideal S8x2048x2048 .f32) (wglu : FVec Ideal S2x1024x1024 .f32)
    (bglu ga gs : FVec Ideal S2x1024 .f32) (wo : FVec Ideal S2x2048x2048 .f32) (n : Fin 16384) (e : Fin 2048) : EReal :=
  mixed (row x n e) (half a n) (half g n) (fun d k => wglu (ix3 0 d k)) (fun d => bglu (ix2 0 d)) (fun d => ga (ix2 0 d))
    (fun d => gs (ix2 0 d)) (fun d => wo (ix3 0 ⟨d.val, by omega⟩ e)) (fun d => wo (ix3 0 ⟨1024 + d.val, by omega⟩ e))

/-- The whole result. -/
def out (a g : FVec Ideal S8x2048x1024 .f32) (x : FVec Ideal S8x2048x2048 .f32) (wglu : FVec Ideal S2x1024x1024 .f32)
    (bglu ga gs : FVec Ideal S2x1024 .f32) (wo : FVec Ideal S2x2048x2048 .f32) : FVec Ideal S16384x2048 .f32 := fun y => outAt a g x wglu bglu ga gs wo (y 0) (y 1)

theorem outAt_congr (a g : FVec Ideal S8x2048x1024 .f32) (x : FVec Ideal S8x2048x2048 .f32) (wglu : FVec Ideal S2x1024x1024 .f32)
    (bglu ga gs : FVec Ideal S2x1024 .f32) (wo : FVec Ideal S2x2048x2048 .f32) (n n' : Fin 16384) (e e' : Fin 2048) (hn : n.val = n'.val) (he : e.val = e'.val) :
    outAt a g x wglu bglu ga gs wo n e = outAt a g x wglu bglu ga gs wo n' e' := by
  rw [Fin.ext hn, Fin.ext he]

theorem a_block (c : Dev nD) (t : Fin cfg0.N) (ht : t.val < 64) (r : Fin 256) (d : Fin 1024) :
    iblk m c 0 t (ix2 r d) = half (m ((c : Thread nD τ).loc main_arg0)) ⟨256 * t.val + r.val, by omega⟩ d := by
  unfold half
  blk_point [iblk, idx t]

theorem g_block (c : Dev nD) (t : Fin cfg0.N) (ht : t.val < 64) (r : Fin 256) (d : Fin 1024) :
    iblk m c 1 t (ix2 r d) = half (m ((c : Thread nD τ).loc main_arg1)) ⟨256 * t.val + r.val, by omega⟩ d := by
  unfold half
  blk_point [iblk, idx t]

theorem x_block (c : Dev nD) (t : Fin cfg0.N) (ht : t.val < 64) (r : Fin 256) (d : Fin 2048) :
    iblk m c 2 t (ix2 r d) = row (m ((c : Thread nD τ).loc main_arg2)) ⟨256 * t.val + r.val, by omega⟩ d := by
  unfold row
  blk_point [iblk, idx t]

theorem wglu_block (c : Dev nD) (t : Fin cfg0.N) (d k : Fin 1024) :
    iblk m c 3 t (ix3 0 d k) = m ((c : Thread nD τ).loc main_arg3) (ix3 0 d k) := by
  blk_point [iblk, idx t]

theorem bglu_block (c : Dev nD) (t : Fin cfg0.N) (d : Fin 1024) :
    iblk m c 4 t (ix3 0 0 d) = m ((c : Thread nD τ).loc main_arg4) (ix2 0 d) := by
  blk_point [iblk, idx t]

theorem ga_block (c : Dev nD) (t : Fin cfg0.N) (d : Fin 1024) :
    iblk m c 5 t (ix3 0 0 d) = m ((c : Thread nD τ).loc main_arg5) (ix2 0 d) := by
  blk_point [iblk, idx t]

theorem gs_block (c : Dev nD) (t : Fin cfg0.N) (d : Fin 1024) :
    iblk m c 6 t (ix3 0 0 d) = m ((c : Thread nD τ).loc main_arg6) (ix2 0 d) := by
  blk_point [iblk, idx t]

theorem wa_block (c : Dev nD) (t : Fin cfg0.N) (d : Fin 1024) (e : Fin 2048) :
    iblk m c 7 t (ix3 0 d e) = m ((c : Thread nD τ).loc main_arg7) (ix3 0 ⟨d.val, by omega⟩ e) := by
  blk_point [iblk, idx t]

theorem ws_block (c : Dev nD) (t : Fin cfg0.N) (d : Fin 1024) (e : Fin 2048) :
    iblk m c 8 t (ix3 0 d e) = m ((c : Thread nD τ).loc main_arg7) (ix3 0 ⟨1024 + d.val, by omega⟩ e) := by
  blk_point [iblk, idx t]

/-- The result after the run. -/
theorem final (c : Dev nD) :
    (dats m 0 c).arrAt 9 cfg0.N = out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t hf y => ?_
  have ht : t.val < 64 := t.isLt
  blk_simp
  rw [after0_9]
  idx_vars y
  rw [block]
  simp only [a_block m c t ht, g_block m c t ht, x_block m c t ht, wglu_block, bglu_block, ga_block, gs_block, wa_block, ws_block]
  refine outAt_congr _ _ _ _ _ _ _ _ ⟨256 * t.val + y0.val, by omega⟩ _ y1 _ ?_ ?_ <;> blk_simp [idx t] <;> simp <;> omega

end Cert.K.Mix

end
-- ==== Proof.MixRef.lean ====
/- The output projection's reference at an index of its result. -/
module

public import proofs.«01_k».proof.Proof.Gen.MixOutRefIdeal.Run
public import proofs.«01_k».proof.Proof.Norm
public import Idealize.ShloMosaic.Lib.Pointwise

@[expose] public section

set_option maxRecDepth 16384

noncomputable section

namespace Cert.K.MixRef

open Idealize.ShloMosaic Idealize.ShloMosaic.TcCoe Idealize.SL.Sem
open Idealize.ShloMosaic.Pipeline (Dat)
open Cert.MixOutRefIdeal Cert.MixOutRefIdeal.Gen Cert.MixOutRefIdeal.Value

/-- The attention's rows, normalised. -/
def rowsA (a : FVec Ideal S8x2048x1024 .f32) (ga : FVec Ideal S2x1024 .f32) : FVec Ideal S8x2048x1024 .f32 :=
  mulf (mulf a (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a a) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] ga slices_S2x1024_S1x1024_0_0) shapeCasts_S1x1024_S1024)))

/-- The state-space group's rows, gated. -/
def gate (g : FVec Ideal S8x2048x1024 .f32) (wglu : FVec Ideal S2x1024x1024 .f32) (bglu : FVec Ideal S2x1024 .f32) :
    FVec Ideal S8x2048x1024 .f32 :=
  mulf g (Host.divf (broadcastInDim S8x2048x1024 ![] bcast_S_S8x2048x1024 (constant (F := Ideal) S_ .f32 0x3F800000#32)) (addf (broadcastInDim S8x2048x1024 ![] bcast_S_S8x2048x1024 (constant (F := Ideal) S_ .f32 0x3F800000#32)) (Host.exp (Host.negf (addf (Host.dotGeneral (F := Ideal) dot_S8x2048x1024_S1024x1024_S8x2048x1024_2_0_01_1_n_n none g (shapeCast _ (extractStridedSlice S1x1024x1024 ![0, 0, 0] wglu slices_S2x1024x1024_S1x1024x1024_0_0_0) shapeCasts_S1x1024x1024_S1024x1024)) (broadcastInDim S8x2048x1024 ![0, 1, 2] bcast_S1x1x1024_S8x2048x1024_0_1_2 (broadcastInDim S1x1x1024 ![2] bcast_S1024_S1x1x1024_2 (shapeCast _ (extractStridedSlice S1x1024 ![0, 0] bglu slices_S2x1024_S1x1024_0_0) shapeCasts_S1x1024_S1024))))))))

/-- The gated rows, normalised. -/
def rowsS (s : FVec Ideal S8x2048x1024 .f32) (gs : FVec Ideal S2x1024 .f32) : FVec Ideal S8x2048x1024 .f32 :=
  mulf (mulf s (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf s s) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] gs slices_S2x1024_S1x1024_0_0) shapeCasts_S1x1024_S1024)))

/-- The residual plus the projection of the two groups side by side. -/
def total (x : FVec Ideal S8x2048x2048 .f32) (p q : FVec Ideal S8x2048x1024 .f32) (wo : FVec Ideal S2x2048x2048 .f32) :
    FVec Ideal S16384x2048 .f32 :=
  shapeCast S16384x2048 (addf x (Host.dotGeneral (F := Ideal) dot_S8x2048x2048_S2048x2048_S8x2048x2048_2_0_01_1_n_n none (concatenate S8x2048x2048 2 [⟨S8x2048x1024, p⟩, ⟨S8x2048x1024, q⟩] concatenates_S8x2048x1024_S8x2048x1024_S8x2048x2048_d2) (shapeCast _ (extractStridedSlice S1x2048x2048 ![0, 0, 0] wo slices_S2x2048x2048_S1x2048x2048_0_0_0) shapeCasts_S1x2048x2048_S2048x2048))) shapeCasts_S8x2048x2048_S16384x2048

theorem rowsA_at (a : FVec Ideal S8x2048x1024 .f32) (ga : FVec Ideal S2x1024 .f32) (b : Fin 8) (t : Fin 2048) (d : Fin 1024) :
    rowsA a ga (ix3 b t d) = rms 0x44800000#32 (fun e => a (ix3 b t e)) (fun e => ga (ix2 0 e)) d := by
  unfold rowsA rms
  pointwise

theorem rowsS_at (s : FVec Ideal S8x2048x1024 .f32) (gs : FVec Ideal S2x1024 .f32) (b : Fin 8) (t : Fin 2048) (d : Fin 1024) :
    rowsS s gs (ix3 b t d) = rms 0x44800000#32 (fun e => s (ix3 b t e)) (fun e => gs (ix2 0 e)) d := by
  unfold rowsS rms
  pointwise

theorem gate_at (g : FVec Ideal S8x2048x1024 .f32) (wglu : FVec Ideal S2x1024x1024 .f32) (bglu : FVec Ideal S2x1024 .f32)
    (b : Fin 8) (t : Fin 2048) (d : Fin 1024) :
    gate g wglu bglu (ix3 b t d) = g (ix3 b t d) * sigm (∑ e, g (ix3 b t e) * wglu (ix3 0 e d) + bglu (ix2 0 d)) := by
  unfold gate sigm
  pointwise
  rw [zero_sub]

theorem total_at (x : FVec Ideal S8x2048x2048 .f32) (p q : FVec Ideal S8x2048x1024 .f32) (wo : FVec Ideal S2x2048x2048 .f32)
    (n : Fin 16384) (e : Fin 2048) :
    total x p q wo (ix2 n e) = x (ix3 ⟨n.val / 2048, by omega⟩ ⟨n.val % 2048, by omega⟩ e)
      + (∑ d : Fin 1024, p (ix3 ⟨n.val / 2048, by omega⟩ ⟨n.val % 2048, by omega⟩ d) * wo (ix3 0 ⟨d.val, by omega⟩ e)
        + ∑ d : Fin 1024, q (ix3 ⟨n.val / 2048, by omega⟩ ⟨n.val % 2048, by omega⟩ d) * wo (ix3 0 ⟨1024 + d.val, by omega⟩ e)) := by
  unfold total
  pointwise

/-- The run's result term is the composition above. -/
theorem result (m : (ℓ : Loc nD τ sig) → Buf (Elt Ideal) ℓ) (c : Dev nD) :
    res_out0 m c = total (m ((c.tc : Thread nD τ).loc main_arg2))
      (rowsA (m ((c.tc : Thread nD τ).loc main_arg0)) (m ((c.tc : Thread nD τ).loc main_arg5)))
      (rowsS (gate (m ((c.tc : Thread nD τ).loc main_arg1)) (m ((c.tc : Thread nD τ).loc main_arg3))
        (m ((c.tc : Thread nD τ).loc main_arg4))) (m ((c.tc : Thread nD τ).loc main_arg6)))
      (m ((c.tc : Thread nD τ).loc main_arg7)) := rfl

end Cert.K.MixRef

end
-- ==== Proof.MixClaim.lean ====
/- The claims about the output projection: both frames and the equation with the reference. -/
module

public import proofs.«01_k».proof.Defs
public import proofs.«01_k».proof.Proof.Gen.MixOut.Frame
public import proofs.«01_k».proof.Proof.Gen.MixOutIdeal.Frame
public import proofs.«01_k».proof.Proof.MixValue
public import proofs.«01_k».proof.Proof.MixRef
public import Idealize.ShloMosaic.Lib.Quiescent

@[expose] public section

set_option maxRecDepth 16384

noncomputable section

namespace Cert.K.MixClaim

open Idealize.ShloMosaic Idealize.ShloMosaic.TcCoe Idealize.SL.Sem

theorem frame_kernel : Cert.quiescent_MixOut := fun m ρ _ => Cert.MixOut.Gen.frame m ρ

theorem frame_ideal : Cert.quiescent_MixOutIdeal := fun m ρ _ => Cert.MixOutIdeal.Gen.frame m ρ

theorem frame_ref : Cert.quiescent_MixOutRefIdeal := fun m ρ _ =>
  (θ_run Cert.MixOutRefIdeal.defs _ _).mono (fun r h => ⟨fun c => (h c).2,
    Idealize.ShloMosaic.sem_eq_zero_of_no_sems (by decide) r.2⟩) (Cert.MixOutRefIdeal.Value.run (F := Ideal) m ρ)

/-- The kernel's array is the reference's: the projection of the two groups side by side is the sum of their projections. -/
theorem equal (a g : FVec Ideal Cert.MixOutIdeal.S8x2048x1024 .f32) (x : FVec Ideal Cert.MixOutIdeal.S8x2048x2048 .f32)
    (wglu : FVec Ideal Cert.MixOutIdeal.S2x1024x1024 .f32) (bglu ga gs : FVec Ideal Cert.MixOutIdeal.S2x1024 .f32)
    (wo : FVec Ideal Cert.MixOutIdeal.S2x2048x2048 .f32) :
    Cert.K.MixRef.total x (Cert.K.MixRef.rowsA a ga) (Cert.K.MixRef.rowsS (Cert.K.MixRef.gate g wglu bglu) gs) wo
      = Cert.K.Mix.out a g x wglu bglu ga gs wo := by
  funext y
  idx_vars y
  rw [Cert.K.MixRef.total_at, ← add_assoc]
  simp only [Cert.K.MixRef.rowsA_at, Cert.K.MixRef.rowsS_at, Cert.K.MixRef.gate_at]
  rfl

theorem algebraic : Cert.algebraic_MixOutIdeal_MixOutRefIdeal := by
  intro m ρ m' ρ' _ hagree
  refine ⟨_, Cert.MixOutIdeal.Value.run_blocks (F := Ideal) m ρ, ?_⟩
  refine (θ_run Cert.MixOutRefIdeal.defs _ _).mono (fun _ h c => ⟨(h c).1.trans ?_, (h c).2⟩)
    (Cert.MixOutRefIdeal.Value.run (F := Ideal) m' ρ')
  obtain ⟨e0, e1, e2, e3, e4, e5, e6, e7⟩ := hagree c
  rw [Cert.K.Mix.final m c]
  refine (Cert.K.MixRef.result m' c).trans ?_
  rw [e0, e1, e2, e3, e4, e5, e6, e7]
  exact equal _ _ _ _ _ _ _ _

end Cert.K.MixClaim

end
-- ==== Proof.InProjBitsRunA.lean ====
/- The body of the input projection at the first column of a row of blocks. -/
module

public import proofs.«01_k».proof.Proof.InProjBitsRuns

@[expose] public section

-- deep, for the long axes of the blocks
set_option maxRecDepth 16384

noncomputable section

namespace Cert.K.InProjBits

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- The body in case A: it runs, the inputs' buffers as they were and the outputs' and the scratch at some contents. -/
theorem kernelRun0_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_in_proj_eq_skeleton]; unfold cc0_in_proj_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.K.InProjBits

end
-- ==== Proof.InProjBitsRunB.lean ====
/- The body of the input projection at a later column of a row of blocks. -/
module

public import proofs.«01_k».proof.Proof.InProjBitsRunA

@[expose] public section

-- deep, for the long axes of the blocks
set_option maxRecDepth 16384

noncomputable section

namespace Cert.K.InProjBits

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- The body in case B: it runs, the inputs' buffers as they were and the outputs' and the scratch at some contents. -/
theorem kernelRun0_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_in_proj_eq_skeleton]; unfold cc0_in_proj_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact HS0
    ipureintro; rfl

end Cert.K.InProjBits

end
-- ==== Proof.InProjBitsFrame.lean ====
/- What the input projection holds point by point, its run and its frame. -/
module

public import proofs.«01_k».proof.Proof.InProjBitsRunB
public import Idealize.ShloMosaic.Lib.Claim

@[expose] public section

-- deep, for the long axes of the blocks
set_option maxRecDepth 16384

noncomputable section

namespace Cert.K.InProjBits

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The region's data -/

/-- The outputs, of which nothing is stated here. -/
def forgets0 : Fin 17 → Bool := fun w => w.val == 10 || w.val == 11 || w.val == 12 || w.val == 13 || w.val == 14 || w.val == 15 || w.val == 16

/-- The region's data on core `c`: the arrays as the region finds them; after each point the inputs' buffers at their blocks; nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 3200000 in
/-- The body at any point: the inputs' buffers hold their blocks, and the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 4 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    iintro ⟨H0, H1, H2, H3, H4, H5, H6, H7, H8, H9, H10, H11, H12, H13, H14, H15, H16, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexact HS0
    iintro ⟨H0, H1, H2, H3, H4, H5, H6, H7, H8, H9, H10, H11, H12, H13, H14, H15, H16, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The body the region runs at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The same at every point, as the library asks it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments of the library's theorem are found by unfolding plain
-- definitions
set_option backward.isDefEq.respectTransparency.types false in
set_option maxHeartbeats 800000 in
/-- The run, with every semaphore's counter at zero at the end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run: it ends, the inputs' arrays as the region found them and nothing stated of the outputs'. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: the run ends, the arguments unchanged and the semaphores' counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.K.InProjBits

end
-- ==== Proof.InProjPoint.lean ====
/- The input projection at one grid point: each payload it stores, at an index. -/
module

public import proofs.«01_k».proof.Proof.Gen.InProjIdeal.Skeleton
public import proofs.«01_k».proof.Proof.Norm
public import Idealize.ShloMosaic.Lib.Pointwise

@[expose] public section

set_option maxRecDepth 16384

noncomputable section

namespace Cert.K.InProj

open Idealize.ShloMosaic Idealize.ShloMosaic.TcCoe Idealize.SL.Sem
open Cert.InProjIdeal Cert.InProjIdeal.Gen

/-- The block's norm of a row. -/
def normed (x g : Fin 2048 → EReal) (d : Fin 2048) : EReal := rms 1157627904#32 x g d

/-- A head's norm. -/
def headNorm (x g : Fin 128 → EReal) (e : Fin 128) : EReal := rms 1124073472#32 x g e

/-- The logarithm of the logistic function. -/
def lsig (x : EReal) : EReal := min x 0 - Ideal.log1p (Ideal.exp (0 - max x (-x)))

/-- The factor of the queries, as the kernel has it. -/
abbrev qs : EReal := Named.named (F := Ideal) κ "q_scale" (φ := .f32) 0x3E0293EE#32

/-- The normalised rows. -/
theorem rows_at (x : Vec Ideal S1024x2048 .f32) (g : Vec Ideal S1x1x2048 .f32) (a : Fin 1024) (d : Fin 2048) :
    k0_pay8 (F := Ideal) x g (ix2 a d) = normed (fun e => x (ix2 a e)) (fun e => g (ix3 0 0 e)) d := by
  unfold normed rms
  pointwise [k0_pay8]

/-- The log forget gates. -/
theorem lf_at (f : Vec Ideal S1024x2048 .bf16) (w : Vec Ideal S1x2048x128 .bf16) (b : Vec Ideal S1x1x128 .f32) (a : Fin 1024)
    (j : Fin 128) :
    k0_pay9 (F := Ideal) f w b (ix2 a j) = lsig ((∑ d, f (ix2 a d) * w (ix3 0 d j)) + b (ix3 0 0 j)) := by
  unfold lsig
  pointwise [k0_pay9]
  rfl

/-- The first head's queries. -/
theorem q0_at (f : Vec Ideal S1024x2048 .bf16) (w : Vec Ideal S1x2048x256 .bf16) (g : Vec Ideal S1x1x128 .f32) (a : Fin 1024)
    (e : Fin 128) :
    k0_pay14 (F := Ideal) f w g (ix2 a e)
      = headNorm (fun e => ∑ d, f (ix2 a d) * w (ix3 0 d ⟨e.val, by omega⟩)) (fun e => g (ix3 0 0 e) * qs) e := by
  unfold headNorm rms
  pointwise [k0_pay14, k0_pay12, k0_pay10]

/-- The second head's queries. -/
theorem q1_at (f : Vec Ideal S1024x2048 .bf16) (w : Vec Ideal S1x2048x256 .bf16) (g : Vec Ideal S1x1x128 .f32) (a : Fin 1024)
    (e : Fin 128) :
    k0_pay19 (F := Ideal) (k0_pay10 f w) (k0_pay12 g) (ix2 a e)
      = headNorm (fun e => ∑ d, f (ix2 a d) * w (ix3 0 d ⟨128 + e.val, by omega⟩)) (fun e => g (ix3 0 0 e) * qs) e := by
  unfold headNorm rms
  pointwise [k0_pay19, k0_pay12, k0_pay10]

/-- The first head's keys, -/
theorem k0_at (f : Vec Ideal S1024x2048 .bf16) (w : Vec Ideal S1x2048x256 .bf16) (g : Vec Ideal S1x1x128 .f32) (a : Fin 1024)
    (e : Fin 128) :
    k0_pay17 (F := Ideal) (k0_pay13 g) (k0_pay15 f w) (ix3 0 a e)
      = headNorm (fun e => ∑ d, f (ix2 a d) * w (ix3 0 d ⟨e.val, by omega⟩)) (fun e => g (ix3 0 0 e)) e := by
  unfold headNorm rms
  pointwise [k0_pay17, k0_pay16, k0_pay15, k0_pay13, k0_pay11]

/-- and the same rounded. -/
theorem kb0_at (f : Vec Ideal S1024x2048 .bf16) (w : Vec Ideal S1x2048x256 .bf16) (g : Vec Ideal S1x1x128 .f32) (a : Fin 1024)
    (e : Fin 128) :
    k0_pay18 (F := Ideal) (k0_pay13 g) (k0_pay15 f w) (ix2 a e)
      = headNorm (fun e => ∑ d, f (ix2 a d) * w (ix3 0 d ⟨e.val, by omega⟩)) (fun e => g (ix3 0 0 e)) e := by
  unfold headNorm rms
  pointwise [k0_pay18, k0_pay16, k0_pay15, k0_pay13, k0_pay11]

/-- The second head's keys, -/
theorem k1_at (f : Vec Ideal S1024x2048 .bf16) (w : Vec Ideal S1x2048x256 .bf16) (g : Vec Ideal S1x1x128 .f32) (a : Fin 1024)
    (e : Fin 128) :
    k0_pay2 (F := Ideal) (k0_pay13 g) (k0_pay20 (k0_pay11 f w)) (k0_pay21 (k0_pay11 f w)) (ix3 0 a e)
      = headNorm (fun e => ∑ d, f (ix2 a d) * w (ix3 0 d ⟨128 + e.val, by omega⟩)) (fun e => g (ix3 0 0 e)) e := by
  unfold headNorm rms
  pointwise [k0_pay2, k0_pay1, k0_pay20, k0_pay21, k0_pay13, k0_pay11]

/-- and the same rounded. -/
theorem kb1_at (f : Vec Ideal S1024x2048 .bf16) (w : Vec Ideal S1x2048x256 .bf16) (g : Vec Ideal S1x1x128 .f32) (a : Fin 1024)
    (e : Fin 128) :
    k0_pay3 (F := Ideal) (k0_pay13 g) (k0_pay20 (k0_pay11 f w)) (k0_pay21 (k0_pay11 f w)) (ix2 a e)
      = headNorm (fun e => ∑ d, f (ix2 a d) * w (ix3 0 d ⟨128 + e.val, by omega⟩)) (fun e => g (ix3 0 0 e)) e := by
  unfold headNorm rms
  pointwise [k0_pay3, k0_pay1, k0_pay20, k0_pay21, k0_pay13, k0_pay11]

/-- The values, -/
theorem v_at (f : Vec Ideal S1024x2048 .bf16) (w : Vec Ideal S1x2048x256 .bf16) (a : Fin 1024) (e : Fin 256) :
    k0_pay5 (F := Ideal) f w (ix3 0 a e) = ∑ d, f (ix2 a d) * w (ix3 0 d e) := by
  pointwise [k0_pay5, k0_pay4]

/-- and the same rounded. -/
theorem vb_at (f : Vec Ideal S1024x2048 .bf16) (w : Vec Ideal S1x2048x256 .bf16) (a : Fin 1024) (e : Fin 256) :
    k0_pay6 (F := Ideal) f w (ix2 a e) = ∑ d, f (ix2 a d) * w (ix3 0 d e) := by
  pointwise [k0_pay6, k0_pay4]

/-- The channel mixer's inputs. -/
theorem u_at (f : Vec Ideal S1024x2048 .bf16) (w : Vec Ideal S1x2048x256 .bf16) (a : Fin 1024) (e : Fin 256) :
    k0_pay7 (F := Ideal) f w (ix2 a e) = ∑ d, f (ix2 a d) * w (ix3 0 d e) := by
  pointwise [k0_pay7]

end Cert.K.InProj

end
-- ==== Proof.InProjRuns.lean ====
/- What the runs of the ideal input projection share: its launch, its branch and the schedule of its windows. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- deep, for the long axes of the blocks
set_option maxRecDepth 16384

noncomputable section

namespace Cert.K.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The program around the region -/

/-- Core `c`'s buffers when the region is entered. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its lines before the region, the region, and its lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the region's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from the run -/

set_option maxHeartbeats 1020000 in
/-- The arguments end unchanged, read off the run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's branch conditions -/

/-- The condition of the body's branch, from the grid point. -/
abbrev cond0_0 (i : grid0.Coords) : Prop := k0_cond1 i = 1#1
/-- It holds at the first column of each row of blocks. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## Where the windows are idle -/

/-- An input's window is never idle. -/
theorem liveAt0_0 : ∀ t : Fin cfg0.N, cfg0.idle 0 (grid0.coords t) = false := fun _ => rfl
/-- An input's window is never idle. -/
theorem liveAt0_1 : ∀ t : Fin cfg0.N, cfg0.idle 1 (grid0.coords t) = false := fun _ => rfl
/-- An input's window is never idle. -/
theorem liveAt0_2 : ∀ t : Fin cfg0.N, cfg0.idle 2 (grid0.coords t) = false := fun _ => rfl
/-- An input's window is never idle. -/
theorem liveAt0_3 : ∀ t : Fin cfg0.N, cfg0.idle 3 (grid0.coords t) = false := fun _ => rfl
/-- An input's window is never idle. -/
theorem liveAt0_4 : ∀ t : Fin cfg0.N, cfg0.idle 4 (grid0.coords t) = false := fun _ => rfl
/-- An input's window is never idle. -/
theorem liveAt0_5 : ∀ t : Fin cfg0.N, cfg0.idle 5 (grid0.coords t) = false := fun _ => rfl
/-- An input's window is never idle. -/
theorem liveAt0_6 : ∀ t : Fin cfg0.N, cfg0.idle 6 (grid0.coords t) = false := fun _ => rfl
/-- An input's window is never idle. -/
theorem liveAt0_7 : ∀ t : Fin cfg0.N, cfg0.idle 7 (grid0.coords t) = false := fun _ => rfl
/-- An input's window is never idle. -/
theorem liveAt0_8 : ∀ t : Fin cfg0.N, cfg0.idle 8 (grid0.coords t) = false := fun _ => rfl
/-- An input's window is never idle. -/
theorem liveAt0_9 : ∀ t : Fin cfg0.N, cfg0.idle 9 (grid0.coords t) = false := fun _ => rfl
/-- An output stored at every point is never idle. -/
theorem liveAt0_10 : ∀ t : Fin cfg0.N, cfg0.idle 10 (grid0.coords t) = false := fun _ => rfl
/-- An output stored at every point is never idle. -/
theorem liveAt0_11 : ∀ t : Fin cfg0.N, cfg0.idle 11 (grid0.coords t) = false := fun _ => rfl
/-- An output stored at every point is never idle. -/
theorem liveAt0_12 : ∀ t : Fin cfg0.N, cfg0.idle 12 (grid0.coords t) = false := fun _ => rfl
/-- An output stored at every point is never idle. -/
theorem liveAt0_13 : ∀ t : Fin cfg0.N, cfg0.idle 13 (grid0.coords t) = false := fun _ => rfl
/-- An output stored at every point is never idle. -/
theorem liveAt0_14 : ∀ t : Fin cfg0.N, cfg0.idle 14 (grid0.coords t) = false := fun _ => rfl
/-- An output stored at every point is never idle. -/
theorem liveAt0_15 : ∀ t : Fin cfg0.N, cfg0.idle 15 (grid0.coords t) = false := fun _ => rfl
/-- At which positions the log forget gates' buffer holds nothing stored since the last write-back: bit `n` for position `n + 1`. -/
def freshTab0_16 : ℕ → Bool
  | 0 => true
  | n + 1 => (0x8888888888888888 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- At the points of case A the log forget gates' window is live. -/
theorem liveAt0_16_A : ∀ t : Fin cfg0.N, cond0_0 (grid0.coords t) → cfg0.idle 16 (grid0.coords t) = false := by decide +kernel
/-- At the points of case B it is idle. -/
theorem idleAt0_16_B : ∀ t : Fin cfg0.N, ¬cond0_0 (grid0.coords t) → cfg0.idle 16 (grid0.coords t) = true := by decide +kernel
/-- At the points of case B something was stored into its buffer since the last write-back. -/
theorem notFresh0_16_B : ∀ t : Fin cfg0.N, ¬cond0_0 (grid0.coords t) → cfg0.fresh 16 t.val = false := by
  intro t; rw [fresh0_16_eq t]; revert t; decide +kernel

/-! ## The body on any buffers -/

/-- One buffer of an output's window, through which its contents are stated. -/
abbrev VO0_10 : View sig .tc .vmem S1024x256 .bf16 := (Memref.whole cc0_stg10_0 : Memref sig .tc .vmem S1024x256 .bf16).view
/-- One buffer of an output's window, through which its contents are stated. -/
abbrev VO0_11 : View sig .tc .vmem S1x1024x256 .f32 := (Memref.whole cc0_stg11_0 : Memref sig .tc .vmem S1x1024x256 .f32).view
/-- One buffer of an output's window, through which its contents are stated. -/
abbrev VO0_12 : View sig .tc .vmem S1024x256 .bf16 := (Memref.whole cc0_stg12_0 : Memref sig .tc .vmem S1024x256 .bf16).view
/-- One buffer of an output's window, through which its contents are stated. -/
abbrev VO0_13 : View sig .tc .vmem S1x1024x256 .f32 := (Memref.whole cc0_stg13_0 : Memref sig .tc .vmem S1x1024x256 .f32).view
/-- One buffer of an output's window, through which its contents are stated. -/
abbrev VO0_14 : View sig .tc .vmem S1024x256 .bf16 := (Memref.whole cc0_stg14_0 : Memref sig .tc .vmem S1024x256 .bf16).view
/-- One buffer of an output's window, through which its contents are stated. -/
abbrev VO0_15 : View sig .tc .vmem S1024x256 .f32 := (Memref.whole cc0_stg15_0 : Memref sig .tc .vmem S1024x256 .f32).view
/-- One buffer of an output's window, through which its contents are stated. -/
abbrev VO0_16 : View sig .tc .vmem S1024x128 .f32 := (Memref.whole cc0_stg16_0 : Memref sig .tc .vmem S1024x128 .f32).view
/-- Each window's buffer at point `t`. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1024x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x128 .f32 := win0_16.stage (cfg0.slots t 16)
abbrev hs0_16 (t : Fin cfg0.N) : (ms0_16 t).IsWhole := hstage0_16 ((cfg0.slots t 16).cast nbuf0_16)
/-- The scratch buffer. -/
abbrev scM0_0 : Memref sig .tc .vmem S1024x2048 .bf16 := Memref.whole cc0_scratch0
/-- The scratch, as a view. -/
abbrev VS0_0 : View sig .tc .vmem S1024x2048 .bf16 := scM0_0.view

/-- What the region keeps between points, the scratch apart. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.K.InProj

end
-- ==== Proof.InProjRunA.lean ====
/- The body of the ideal input projection at the first column of a row of blocks. -/
module

public import proofs.«01_k».proof.Proof.InProjRuns

@[expose] public section

-- deep, for the long axes of the blocks
set_option maxRecDepth 16384

noncomputable section

namespace Cert.K.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- The body in case A: it runs, each output's buffer and the scratch with the pieces it stored, last first. -/
noncomputable def kernelRun0_A (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) :
    Σ' (L10 : List (View.Piece (Elt F) S1024x256 .bf16)), Σ' (L11 : List (View.Piece (Elt F) S1x1024x256 .f32)), Σ' (L12 : List (View.Piece (Elt F) S1024x256 .bf16)), Σ' (L13 : List (View.Piece (Elt F) S1x1024x256 .f32)), Σ' (L14 : List (View.Piece (Elt F) S1024x256 .bf16)), Σ' (L15 : List (View.Piece (Elt F) S1024x256 .f32)), Σ' (L16 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, ?_, fun E K => ?run⟩
  case run =>
    simp only [cc0_in_proj_eq_skeleton]; unfold cc0_in_proj_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.K.InProj

end
-- ==== Proof.InProjRunB.lean ====
/- The body of the ideal input projection at a later column of a row of blocks. -/
module

public import proofs.«01_k».proof.Proof.InProjRunA

@[expose] public section

-- deep, for the long axes of the blocks
set_option maxRecDepth 16384

noncomputable section

namespace Cert.K.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the proof of the run is large
set_option maxHeartbeats 1000000 in
/-- The body in case B: it runs, each output's buffer and the scratch with the pieces it stored, last first. -/
noncomputable def kernelRun0_B (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) :
    Σ' (L10 : List (View.Piece (Elt F) S1024x256 .bf16)), Σ' (L11 : List (View.Piece (Elt F) S1x1024x256 .f32)), Σ' (L12 : List (View.Piece (Elt F) S1024x256 .bf16)), Σ' (L13 : List (View.Piece (Elt F) S1x1024x256 .f32)), Σ' (L14 : List (View.Piece (Elt F) S1024x256 .bf16)), Σ' (L15 : List (View.Piece (Elt F) S1024x256 .f32)), Σ' (L16 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo16 ∗ owns (c : Thread nD τ) arg19 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg18 fullShare xo16 ∗ owns (c : Thread nD τ) arg19 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, [], [], fun E K => ?run⟩
  case run =>
    simp only [cc0_in_proj_eq_skeleton]; unfold cc0_in_proj_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg18.eq_unread hf16; obtain rfl := harg19.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact harg18.read_unread _
      iexact H16
    iexists _; isplitr; · ipureintro; exact harg19.read_unread _
    iexact HS0

end Cert.K.InProj

end
-- ==== Proof.InProjOuts.lean ====
/- What the ideal input projection holds, point by point. -/
module

public import proofs.«01_k».proof.Proof.InProjRunB
public import Idealize.ShloMosaic.Lib.Claim

@[expose] public section

-- deep, for the long axes of the blocks
set_option maxRecDepth 16384

noncomputable section

namespace Cert.K.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces cover the output's block. -/
theorem cover0_A_10 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1 S1024x128.size (by sl_kernel_rfl) y

/-- What case A leaves in the output's buffer. -/
def out0_A_10 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1024x256 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1)

/-- Case A's pieces cover the output's block. -/
theorem cover0_A_11 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1 S1x1024x128.size (by sl_kernel_rfl) y

/-- What case A leaves in the output's buffer. -/
def out0_A_11 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1x1024x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1)

/-- Case A's pieces cover the output's block. -/
theorem cover0_A_12 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.1 S1024x128.size (by sl_kernel_rfl) y

/-- What case A leaves in the output's buffer. -/
def out0_A_12 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1024x256 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.1)

/-- Case A's pieces cover the output's block. -/
theorem cover0_A_13 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.1 S1x1024x256.size (by sl_kernel_rfl) y

/-- What case A leaves in the output's buffer. -/
def out0_A_13 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1x1024x256 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.1)

/-- Case A's pieces cover the output's block. -/
theorem cover0_A_14 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.1 S1024x256.size (by sl_kernel_rfl) y

/-- What case A leaves in the output's buffer. -/
def out0_A_14 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1024x256 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.1)

/-- Case A's pieces cover the output's block. -/
theorem cover0_A_15 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.1 S1024x256.size (by sl_kernel_rfl) y

/-- What case A leaves in the output's buffer. -/
def out0_A_15 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1024x256 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.1)

/-- Case A's pieces cover the output's block. -/
theorem cover0_A_16 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.2.1 S1024x128.size (by sl_kernel_rfl) y

/-- What case A leaves in the output's buffer. -/
def out0_A_16 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1024x128 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.2.1)

/-- Case A's pieces cover the scratch. -/
theorem scover0_A_0 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.2.2.1 S1024x2048.size (by sl_kernel_rfl) y

/-- What case A leaves in the scratch. -/
def sout0_A_0 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.2.2.1)

/-- Case B's pieces cover the output's block. -/
theorem cover0_B_10 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).1 S1024x128.size (by sl_kernel_rfl) y

/-- What case B leaves in the output's buffer. -/
def out0_B_10 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1024x256 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).1)

/-- Case B's pieces cover the output's block. -/
theorem cover0_B_11 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) (y : S1x1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.1 S1x1024x128.size (by sl_kernel_rfl) y

/-- What case B leaves in the output's buffer. -/
def out0_B_11 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1x1024x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.1)

/-- Case B's pieces cover the output's block. -/
theorem cover0_B_12 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.1 S1024x128.size (by sl_kernel_rfl) y

/-- What case B leaves in the output's buffer. -/
def out0_B_12 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1024x256 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.1)

/-- Case B's pieces cover the output's block. -/
theorem cover0_B_13 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) (y : S1x1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.1 S1x1024x256.size (by sl_kernel_rfl) y

/-- What case B leaves in the output's buffer. -/
def out0_B_13 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1x1024x256 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.1)

/-- Case B's pieces cover the output's block. -/
theorem cover0_B_14 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.2.1 S1024x256.size (by sl_kernel_rfl) y

/-- What case B leaves in the output's buffer. -/
def out0_B_14 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1024x256 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.2.1)

/-- Case B's pieces cover the output's block. -/
theorem cover0_B_15 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.2.2.1 S1024x256.size (by sl_kernel_rfl) y

/-- What case B leaves in the output's buffer. -/
def out0_B_15 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1024x256 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo16 xs0).2.2.2.2.2.1)

/-- Case B stores nothing into the log forget gates: their buffer holds what the point before left. -/
def out0_B_16 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1024x128 .f32 := xo16

/-- Case B stores nothing into the scratch: it holds what the point before left. -/
def sout0_B_0 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x256 .bf16) (harg7 : arg7.IsWhole) (arg8 : Memref sig .tc .vmem S1x2048x128 .bf16) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1024x256 .bf16) (harg12 : arg12.IsWhole) (arg13 : Memref sig .tc .vmem S1x1024x256 .f32) (harg13 : arg13.IsWhole) (arg14 : Memref sig .tc .vmem S1024x256 .bf16) (harg14 : arg14.IsWhole) (arg15 : Memref sig .tc .vmem S1x1024x256 .f32) (harg15 : arg15.IsWhole) (arg16 : Memref sig .tc .vmem S1024x256 .bf16) (harg16 : arg16.IsWhole) (arg17 : Memref sig .tc .vmem S1024x256 .f32) (harg17 : arg17.IsWhole) (arg18 : Memref sig .tc .vmem S1024x128 .f32) (harg18 : arg18.IsWhole) (arg19 : Memref sig .tc .vmem S1024x2048 .bf16) (harg19 : arg19.IsWhole) (hc0 : ¬cond0_0 i)
    (x0 : Vec F S1024x2048 .f32) (x1 : Vec F S1x1x2048 .f32) (x2 : Vec F S1x2048x256 .bf16) (x3 : Vec F S1x2048x256 .bf16) (x4 : Vec F S1x2048x256 .bf16) (x5 : Vec F S1x2048x256 .bf16) (x6 : Vec F S1x2048x128 .bf16) (x7 : Vec F S1x1x128 .f32) (x8 : Vec F S1x1x128 .f32) (x9 : Vec F S1x1x128 .f32) (xo16 : Vec F S1024x128 .f32) (xs0 : Vec F S1024x2048 .bf16) : Vec F S1024x2048 .bf16 := xs0

/-! ## What the outputs hold after each point -/

/-- What the outputs' buffers and the scratch hold after each point, from what they held after the point before. -/
def outsAt0 (c : Dev nD) : (n : ℕ) → n < cfg0.N → Vec F S1024x256 .bf16 × Vec F S1x1024x256 .f32 × Vec F S1024x256 .bf16 × Vec F S1x1024x256 .f32 × Vec F S1024x256 .bf16 × Vec F S1024x256 .f32 × Vec F S1024x128 .f32 × Vec F S1024x2048 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 4 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.2.2.2.1 (outsAt0 c n (Nat.lt_of_succ_lt hn)).2.2.2.2.2.2.2)

/-- `outsAt0` at a point of case A: that case's contents. -/
theorem outsAt0_A (c : Dev nD) (t : Fin cfg0.N) (h0 : t.val % 4 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-- What the region keeps before position `n`: at the start anything in the scratch, afterwards what the point before left there. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n`: the scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a later point: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The region's data -/

/-- The region's data on core `c`: the arrays as the region finds them; after each point the inputs' buffers at their blocks and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨_ + 17, h⟩ => absurd h (Nat.not_lt.2 (Nat.le_add_left _ _))
  Φ t := PhiS m c t.val (Nat.le_of_lt_succ t.isLt)
  q w := Pipeline.shareOf spec0 w
  owed _ := 0

/-- The data's arrays are what the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The log forget gates' buffer keeps its contents at the points that store nothing into it. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 64 := lt_of_lt_of_eq t.isLt (show cfg0.N = 64 from N_0)
  rw [after0_16, after0_16]
  by_cases h0 : t.val % 4 = 0
  · rw [liveAt0_16_A t ((hcond0_0 t).mpr h0)] at hi
    exact absurd hi Bool.false_ne_true
  · rw [outsAt0_B m c t h0]; rfl
/-- At a point of case B the log forget gates' buffer holds what the point before left. -/
theorem before0_16_B (c : Dev nD) (t : Fin cfg0.N) (h0 : ¬t.val % 4 = 0) (d) :
    (dats m 0 c).before 16 t d = (outsAt0 m c (t.val - 1) (Nat.lt_of_le_of_lt (Nat.sub_le _ _) t.isLt)).2.2.2.2.2.2.1 := by
  rw [Dat.before_out_traj _ 16 rfl (fun _ _ => rfl) (hcarry0_16 m c) t.val t rfl d,
    if_neg (by rw [notFresh0_16_B t (fun h => h0 ((hcond0_0 t).mp h))]; exact Bool.false_ne_true)]
  dsimp only [dats]

/-- At a point of case B, what the point before left in the log forget gates' buffer is what it has to hold, written back there or not. -/
theorem leaves0_16_B (c : Dev nD) (t : Fin cfg0.N) (h0 : ¬t.val % 4 = 0) :
    owns (c : Thread nD τ) (ms0_16 t) fullShare ((outsAt0 m c (t.val - 1) (Nat.lt_of_le_of_lt (Nat.sub_le _ _) t.isLt)).2.2.2.2.2.2.1)
      ⊢ (dats m 0 c).leavesExact 16 t := by
  have hi := idleAt0_16_B t (fun h => h0 ((hcond0_0 t).mp h))
  unfold Dat.leavesExact
  rw [show cfg0.idle 16 (cfg0.grid.coords t) = true from hi]
  cases hf : (cfg0.win 16).flush t
  · simp only [before0_16_B m c t h0]
    iintro H
    iexists default
    iexact H
  · rw [after0_16, outsAt0_B m c t h0]
    exact .rfl

end Cert.K.InProj

end
-- ==== Proof.InProjFrame.lean ====
/- The body, the run and the frame of the ideal input projection. -/
module

public import proofs.«01_k».proof.Proof.InProjOuts
public import Idealize.ShloMosaic.Lib.Claim

@[expose] public section

-- deep, for the long axes of the blocks
set_option maxRecDepth 16384

noncomputable section

namespace Cert.K.InProj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 12800000 in
/-- The body at any point: the inputs' buffers hold their blocks, the scratch and the log forget gates what the point before left, and the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16_A t ((hcond0_0 t).mpr h0)], after0_16]
    by_cases hz : t.val = 0
    · rw [PhiS_castSucc m c t, PhiS_zero m c _ _ hz, PhiA0_eq]
      rw [outsAt0_A m c t h0]
      unfold out0_A_10 out0_A_11 out0_A_12 out0_A_13 out0_A_14 out0_A_15 out0_A_16 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_10 out0_A_11 out0_A_12 out0_A_13 out0_A_14 out0_A_15 out0_A_16 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexists _; iexact HS0
      iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    by_cases hz : t.val = 0
    · exfalso; have hN : t.val < 64 := lt_of_lt_of_eq t.isLt (show cfg0.N = 64 from N_0); omega
    · rw [PhiS_castSucc m c t, PhiS_pos m c _ _ hz]
      rw [outsAt0_B m c t h0]
      simp only [before0_16_B m c t h0]
      unfold out0_B_10 out0_B_11 out0_B_12 out0_B_13 out0_B_14 out0_B_15 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexact H16
      isplitl [HS0]; · iexact HS0
      iintro ⟨H0, H1, H2, H3, H4, H5, H6, H7, H8, H9, ⟨%e10, H10⟩, ⟨%e11, H11⟩, ⟨%e12, H12⟩, ⟨%e13, H13⟩, ⟨%e14, H14⟩, ⟨%e15, H15⟩, H16, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _)
      iapply (leaves0_16_B m c t h0)
      iexact H16

/-- The body the region runs at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The same at every point, as the library asks it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant before the first point, from the launch. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant after a point, the contents of the scratch forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- the implicit arguments of the library's theorem are found by unfolding plain
-- definitions
set_option backward.isDefEq.respectTransparency.types false in
set_option maxHeartbeats 800000 in
/-- The run, with every semaphore's counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run: it ends, every array at what the data says and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the run ends, the arguments unchanged and the semaphores' counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.K.InProj

end
-- ==== Proof.InProjBlock.lean ====
/- The input projection at one grid point: what each of its blocks holds. -/
module

public import proofs.«01_k».proof.Proof.InProjPoint
public import proofs.«01_k».proof.Proof.InProjFrame
public import Idealize.ShloMosaic.Lib.Pipeline.ValueKit
public import Idealize.ShloMosaic.Lib.Pointwise

@[expose] public section

set_option maxRecDepth 16384

noncomputable section

namespace Cert.K.InProj

open Idealize.ShloMosaic Idealize.ShloMosaic.TcCoe Idealize.SL.Sem
open Cert.InProjIdeal Cert.InProjIdeal.Gen

variable (m : (ℓ : Loc nD τ sig) → Buf (Elt Ideal) ℓ)

/-- The normalised rows a grid point leaves. -/
abbrev scr (c : Dev nD) (t : Fin cfg0.N) : Vec Ideal S1024x2048 .bf16 := (outsAt0 m c t.val t.isLt).2.2.2.2.2.2.2

/-- The first point of a row block normalises the rows. -/
theorem scr_first (c : Dev nD) (t : Fin cfg0.N) (h0 : t.val % 4 = 0) :
    scr m c t = k0_pay8 (F := Ideal) (iblk m c 0 t) (iblk m c 1 t) := by
  unfold scr
  rw [outsAt0_A m c t h0]
  frame_out
  rfl

/-- The other points keep them. -/
theorem scr_later (c : Dev nD) (t : Fin cfg0.N) (h0 : ¬t.val % 4 = 0) :
    scr m c t = (outsAt0 m c (t.val - 1) (Nat.lt_of_le_of_lt (Nat.sub_le _ _) t.isLt)).2.2.2.2.2.2.2 := by
  unfold scr
  rw [outsAt0_B m c t h0]
  frame_out
  rfl

/-- The first point of a row block writes the log forget gates. -/
theorem lf_first (c : Dev nD) (t : Fin cfg0.N) (h0 : t.val % 4 = 0) :
    (outsAt0 m c t.val t.isLt).2.2.2.2.2.2.1 = k0_pay9 (F := Ideal) (scr m c t) (iblk m c 6 t) (iblk m c 7 t) := by
  rw [scr_first m c t h0, outsAt0_A m c t h0]
  frame_out
  rfl

/-- The other points keep them. -/
theorem lf_later (c : Dev nD) (t : Fin cfg0.N) (h0 : ¬t.val % 4 = 0) :
    (outsAt0 m c t.val t.isLt).2.2.2.2.2.2.1
      = (outsAt0 m c (t.val - 1) (Nat.lt_of_le_of_lt (Nat.sub_le _ _) t.isLt)).2.2.2.2.2.2.1 := by
  rw [outsAt0_B m c t h0]
  rfl

/-- The values' block, -/
theorem v_blk (c : Dev nD) (t : Fin cfg0.N) :
    (outsAt0 m c t.val t.isLt).2.2.2.1 = k0_pay5 (F := Ideal) (scr m c t) (iblk m c 4 t) := by
  by_cases h0 : t.val % 4 = 0
  · rw [scr_first m c t h0, outsAt0_A m c t h0]
    frame_out
    rfl
  · rw [scr_later m c t h0, outsAt0_B m c t h0]
    frame_out
    exact congrArg (fun f => k0_pay5 (F := Ideal) f _) (Memref.IsWhole.read_unread _ _)

/-- and the same rounded. -/
theorem vb_blk (c : Dev nD) (t : Fin cfg0.N) :
    (outsAt0 m c t.val t.isLt).2.2.2.2.1 = k0_pay6 (F := Ideal) (scr m c t) (iblk m c 4 t) := by
  by_cases h0 : t.val % 4 = 0
  · rw [scr_first m c t h0, outsAt0_A m c t h0]
    frame_out
    rfl
  · rw [scr_later m c t h0, outsAt0_B m c t h0]
    frame_out
    exact congrArg (fun f => k0_pay6 (F := Ideal) f _) (Memref.IsWhole.read_unread _ _)

/-- The channel mixer's inputs' block. -/
theorem u_blk (c : Dev nD) (t : Fin cfg0.N) :
    (outsAt0 m c t.val t.isLt).2.2.2.2.2.1 = k0_pay7 (F := Ideal) (scr m c t) (iblk m c 5 t) := by
  by_cases h0 : t.val % 4 = 0
  · rw [scr_first m c t h0, outsAt0_A m c t h0]
    frame_out
    rfl
  · rw [scr_later m c t h0, outsAt0_B m c t h0]
    frame_out
    exact congrArg (fun f => k0_pay7 (F := Ideal) f _) (Memref.IsWhole.read_unread _ _)

/-- A column of a block of two heads. -/
def headAt (f : Fin 2048 → EReal) (w : Fin 2048 → Fin 256 → EReal) (g : Fin 128 → EReal) (k : Fin 256) : EReal :=
  headNorm (fun e => ∑ d, f d * w d ⟨128 * (k.val / 128) + e.val, by omega⟩) g ⟨k.val % 128, by omega⟩

theorem headAt_lo (f : Fin 2048 → EReal) (w : Fin 2048 → Fin 256 → EReal) (g : Fin 128 → EReal) (k : Fin 256) (e : Fin 128)
    (hk : k.val = e.val) :
    headNorm (fun e => ∑ d, f d * w d ⟨e.val, by omega⟩) g e = headAt f w g k := by
  have h1 : k.val / 128 = 0 := by omega
  have h2 : (⟨k.val % 128, by omega⟩ : Fin 128) = e := Fin.ext (by show k.val % 128 = e.val; omega)
  unfold headAt
  simp only [h1, h2, Nat.mul_zero, Nat.zero_add]

theorem headAt_hi (f : Fin 2048 → EReal) (w : Fin 2048 → Fin 256 → EReal) (g : Fin 128 → EReal) (k : Fin 256) (e : Fin 128)
    (hk : k.val = 128 + e.val) :
    headNorm (fun e => ∑ d, f d * w d ⟨128 + e.val, by omega⟩) g e = headAt f w g k := by
  have h1 : k.val / 128 = 1 := by omega
  have h2 : (⟨k.val % 128, by omega⟩ : Fin 128) = e := Fin.ext (by show k.val % 128 = e.val; omega)
  unfold headAt
  simp only [h1, h2, Nat.mul_one]

theorem q_lo (f : Vec Ideal S1024x2048 .bf16) (w : Vec Ideal S1x2048x256 .bf16) (g : Vec Ideal S1x1x128 .f32) (x : S1024x128.Idx)
    (a : Fin 1024) (k : Fin 256) (p0 : a.val = (x 0).val) (p1 : k.val = (x 1).val) :
    k0_pay14 (F := Ideal) f w g x
      = headAt (fun d => f (ix2 a d)) (fun d k => w (ix3 0 d k)) (fun e => g (ix3 0 0 e) * qs) k := by
  obtain ⟨e, q⟩ : ∃ e : Fin 128, e.val = (x 1).val := ⟨x 1, rfl⟩
  have r : x = ix2 a e := by
    funext i
    fin_cases i
    · exact Fin.ext p0.symm
    · exact Fin.ext q.symm
  rw [r, q0_at]
  exact headAt_lo (fun d => f (ix2 a d)) (fun d k => w (ix3 0 d k)) (fun e => g (ix3 0 0 e) * qs) k e (p1.trans (by rw [q]))

theorem q_hi (f : Vec Ideal S1024x2048 .bf16) (w : Vec Ideal S1x2048x256 .bf16) (g : Vec Ideal S1x1x128 .f32) (x : S1024x128.Idx)
    (a : Fin 1024) (k : Fin 256) (p0 : a.val = (x 0).val) (p1 : k.val = 128 + (x 1).val) :
    k0_pay19 (F := Ideal) (k0_pay10 f w) (k0_pay12 g) x
      = headAt (fun d => f (ix2 a d)) (fun d k => w (ix3 0 d k)) (fun e => g (ix3 0 0 e) * qs) k := by
  obtain ⟨e, q⟩ : ∃ e : Fin 128, e.val = (x 1).val := ⟨x 1, rfl⟩
  have r : x = ix2 a e := by
    funext i
    fin_cases i
    · exact Fin.ext p0.symm
    · exact Fin.ext q.symm
  rw [r, q1_at]
  exact headAt_hi (fun d => f (ix2 a d)) (fun d k => w (ix3 0 d k)) (fun e => g (ix3 0 0 e) * qs) k e (p1.trans (by rw [q]))

theorem k_lo (f : Vec Ideal S1024x2048 .bf16) (w : Vec Ideal S1x2048x256 .bf16) (g : Vec Ideal S1x1x128 .f32) (x : S1x1024x128.Idx)
    (a : Fin 1024) (k : Fin 256) (p0 : a.val = (x 1).val) (p1 : k.val = (x 2).val) :
    k0_pay17 (F := Ideal) (k0_pay13 g) (k0_pay15 f w) x
      = headAt (fun d => f (ix2 a d)) (fun d k => w (ix3 0 d k)) (fun e => g (ix3 0 0 e)) k := by
  obtain ⟨e, q⟩ : ∃ e : Fin 128, e.val = (x 2).val := ⟨x 2, rfl⟩
  have r : x = ix3 0 a e := by
    funext i
    fin_cases i
    · exact Fin.ext (by have := (x 0).isLt; show (x 0).val = 0; exact Nat.lt_one_iff.mp this)
    · exact Fin.ext p0.symm
    · exact Fin.ext q.symm
  rw [r, k0_at]
  exact headAt_lo (fun d => f (ix2 a d)) (fun d k => w (ix3 0 d k)) (fun e => g (ix3 0 0 e)) k e (p1.trans (by rw [q]))

theorem k_hi (f : Vec Ideal S1024x2048 .bf16) (w : Vec Ideal S1x2048x256 .bf16) (g : Vec Ideal S1x1x128 .f32) (x : S1x1024x128.Idx)
    (a : Fin 1024) (k : Fin 256) (p0 : a.val = (x 1).val) (p1 : k.val = 128 + (x 2).val) :
    k0_pay2 (F := Ideal) (k0_pay13 g) (k0_pay20 (k0_pay11 f w)) (k0_pay21 (k0_pay11 f w)) x
      = headAt (fun d => f (ix2 a d)) (fun d k => w (ix3 0 d k)) (fun e => g (ix3 0 0 e)) k := by
  obtain ⟨e, q⟩ : ∃ e : Fin 128, e.val = (x 2).val := ⟨x 2, rfl⟩
  have r : x = ix3 0 a e := by
    funext i
    fin_cases i
    · exact Fin.ext (by have := (x 0).isLt; show (x 0).val = 0; exact Nat.lt_one_iff.mp this)
    · exact Fin.ext p0.symm
    · exact Fin.ext q.symm
  rw [r, k1_at]
  exact headAt_hi (fun d => f (ix2 a d)) (fun d k => w (ix3 0 d k)) (fun e => g (ix3 0 0 e)) k e (p1.trans (by rw [q]))

theorem kb_lo (f : Vec Ideal S1024x2048 .bf16) (w : Vec Ideal S1x2048x256 .bf16) (g : Vec Ideal S1x1x128 .f32) (x : S1024x128.Idx)
    (a : Fin 1024) (k : Fin 256) (p0 : a.val = (x 0).val) (p1 : k.val = (x 1).val) :
    k0_pay18 (F := Ideal) (k0_pay13 g) (k0_pay15 f w) x
      = headAt (fun d => f (ix2 a d)) (fun d k => w (ix3 0 d k)) (fun e => g (ix3 0 0 e)) k := by
  obtain ⟨e, q⟩ : ∃ e : Fin 128, e.val = (x 1).val := ⟨x 1, rfl⟩
  have r : x = ix2 a e := by
    funext i
    fin_cases i
    · exact Fin.ext p0.symm
    · exact Fin.ext q.symm
  rw [r, kb0_at]
  exact headAt_lo (fun d => f (ix2 a d)) (fun d k => w (ix3 0 d k)) (fun e => g (ix3 0 0 e)) k e (p1.trans (by rw [q]))

theorem kb_hi (f : Vec Ideal S1024x2048 .bf16) (w : Vec Ideal S1x2048x256 .bf16) (g : Vec Ideal S1x1x128 .f32) (x : S1024x128.Idx)
    (a : Fin 1024) (k : Fin 256) (p0 : a.val = (x 0).val) (p1 : k.val = 128 + (x 1).val) :
    k0_pay3 (F := Ideal) (k0_pay13 g) (k0_pay20 (k0_pay11 f w)) (k0_pay21 (k0_pay11 f w)) x
      = headAt (fun d => f (ix2 a d)) (fun d k => w (ix3 0 d k)) (fun e => g (ix3 0 0 e)) k := by
  obtain ⟨e, q⟩ : ∃ e : Fin 128, e.val = (x 1).val := ⟨x 1, rfl⟩
  have r : x = ix2 a e := by
    funext i
    fin_cases i
    · exact Fin.ext p0.symm
    · exact Fin.ext q.symm
  rw [r, kb1_at]
  exact headAt_hi (fun d => f (ix2 a d)) (fun d k => w (ix3 0 d k)) (fun e => g (ix3 0 0 e)) k e (p1.trans (by rw [q]))

/-- The queries' block. -/
theorem q_blk (c : Dev nD) (t : Fin cfg0.N) (a : Fin 1024) (k : Fin 256) :
    (outsAt0 m c t.val t.isLt).1 (ix2 a k) = headAt (fun d => scr m c t (ix2 a d)) (fun d k => iblk m c 2 t (ix3 0 d k))
      (fun e => (show Vec Ideal S1x1x128 .f32 from iblk m c 8 t) (ix3 0 0 e) * qs) k := by
  by_cases z0 : t.val % 4 = 0
  · rw [scr_first m c t z0, outsAt0_A m c t z0]
    frame_out
    canon_tiles x h
    · exact q_hi _ _ _ x a k h0 h1
    · exact q_lo _ _ _ x a k h0 h1
  · rw [scr_later m c t z0, outsAt0_B m c t z0]
    frame_out
    canon_tiles x h
    · refine (q_hi _ _ _ x a k h0 h1).trans ?_
      exact congrArg (fun f : Vec Ideal S1024x2048 .bf16 => headAt (fun d => f (ix2 a d)) _ _ k) (Memref.IsWhole.read_unread _ _)
    · refine (q_lo _ _ _ x a k h0 h1).trans ?_
      exact congrArg (fun f : Vec Ideal S1024x2048 .bf16 => headAt (fun d => f (ix2 a d)) _ _ k) (Memref.IsWhole.read_unread _ _)

/-- The keys' block, -/
theorem k_blk (c : Dev nD) (t : Fin cfg0.N) (a : Fin 1024) (k : Fin 256) :
    (outsAt0 m c t.val t.isLt).2.1 (ix3 0 a k) = headAt (fun d => scr m c t (ix2 a d)) (fun d k => iblk m c 3 t (ix3 0 d k))
      (fun e => (show Vec Ideal S1x1x128 .f32 from iblk m c 9 t) (ix3 0 0 e)) k := by
  by_cases z0 : t.val % 4 = 0
  · rw [scr_first m c t z0, outsAt0_A m c t z0]
    frame_out
    canon_tiles x h
    · exact k_hi _ _ _ x a k h1 h2
    · exact k_lo _ _ _ x a k h1 h2
  · rw [scr_later m c t z0, outsAt0_B m c t z0]
    frame_out
    canon_tiles x h
    · refine (k_hi _ _ _ x a k h1 h2).trans ?_
      exact congrArg (fun f : Vec Ideal S1024x2048 .bf16 => headAt (fun d => f (ix2 a d)) _ _ k) (Memref.IsWhole.read_unread _ _)
    · refine (k_lo _ _ _ x a k h1 h2).trans ?_
      exact congrArg (fun f : Vec Ideal S1024x2048 .bf16 => headAt (fun d => f (ix2 a d)) _ _ k) (Memref.IsWhole.read_unread _ _)

/-- and the same rounded. -/
theorem kb_blk (c : Dev nD) (t : Fin cfg0.N) (a : Fin 1024) (k : Fin 256) :
    (outsAt0 m c t.val t.isLt).2.2.1 (ix2 a k) = headAt (fun d => scr m c t (ix2 a d)) (fun d k => iblk m c 3 t (ix3 0 d k))
      (fun e => (show Vec Ideal S1x1x128 .f32 from iblk m c 9 t) (ix3 0 0 e)) k := by
  by_cases z0 : t.val % 4 = 0
  · rw [scr_first m c t z0, outsAt0_A m c t z0]
    frame_out
    canon_tiles x h
    · exact kb_hi _ _ _ x a k h0 h1
    · exact kb_lo _ _ _ x a k h0 h1
  · rw [scr_later m c t z0, outsAt0_B m c t z0]
    frame_out
    canon_tiles x h
    · refine (kb_hi _ _ _ x a k h0 h1).trans ?_
      exact congrArg (fun f : Vec Ideal S1024x2048 .bf16 => headAt (fun d => f (ix2 a d)) _ _ k) (Memref.IsWhole.read_unread _ _)
    · refine (kb_lo _ _ _ x a k h0 h1).trans ?_
      exact congrArg (fun f : Vec Ideal S1024x2048 .bf16 => headAt (fun d => f (ix2 a d)) _ _ k) (Memref.IsWhole.read_unread _ _)

end Cert.K.InProj

end
-- ==== Proof.InProjArgs.lean ====
/- The input projection's blocks, read from the program's arguments. -/
module

public import proofs.«01_k».proof.Proof.InProjBlock
public import Idealize.ShloMosaic.Lib.Pipeline.ValueKit
public import Idealize.ShloMosaic.Lib.Pointwise

@[expose] public section

set_option maxRecDepth 16384

noncomputable section

namespace Cert.K.InProj

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- The blocks each grid point reads and writes: one block of rows, one block of columns. -/
theorem idx : ∀ t : Fin cfg0.N, win0_0.index t = ![t.val / 4, 0] ∧ win0_1.index t = ![0, 0, 0]
    ∧ win0_2.index t = ![0, 0, t.val % 4] ∧ win0_3.index t = ![0, 0, 4 + t.val % 4] ∧ win0_4.index t = ![0, 0, 8 + t.val % 4]
    ∧ win0_5.index t = ![0, 0, t.val % 4] ∧ win0_6.index t = ![0, 0, 0] ∧ win0_7.index t = ![0, 0, 0]
    ∧ win0_8.index t = ![0, 0, 0] ∧ win0_9.index t = ![0, 0, 0] ∧ win0_10.index t = ![t.val / 4, t.val % 4]
    ∧ win0_11.index t = ![0, t.val / 4, t.val % 4] ∧ win0_12.index t = ![t.val / 4, t.val % 4]
    ∧ win0_13.index t = ![0, t.val / 4, t.val % 4] ∧ win0_14.index t = ![t.val / 4, t.val % 4]
    ∧ win0_15.index t = ![t.val / 4, t.val % 4] ∧ win0_16.index t = ![t.val / 4, 0] :=
  (by decide +kernel : ∀ t : Fin grid0.N, _)

/-- One row of the input, the sequences one after another. -/
def row (h : FVec Ideal S8x2048x2048 .f32) (n : Fin 16384) (d : Fin 2048) : EReal :=
  h (ix3 ⟨n.val / 2048, by omega⟩ ⟨n.val % 2048, by omega⟩ d)

/-- The same row, normalised. -/
def nrow (h : FVec Ideal S8x2048x2048 .f32) (g : FVec Ideal S2x2048 .f32) (n : Fin 16384) (d : Fin 2048) : EReal :=
  normed (row h n) (fun e => g (ix2 0 e)) d

/-- A column of the normalised row's product with the weights. -/
def proj (h : FVec Ideal S8x2048x2048 .f32) (g : FVec Ideal S2x2048 .f32) (w : FVec Ideal S2x2048x4104 .f32) (n : Fin 16384)
    (j : Fin 4104) : EReal := ∑ d, nrow h g n d * w (ix3 0 d j)

/-- The columns of one head, normed. -/
def heads (p : Fin 4104 → EReal) (g : Fin 128 → EReal) (o : ℕ) (ho : o ≤ 3080) (k : Fin 1024) : EReal :=
  headNorm (fun e => p ⟨o + (128 * (k.val / 128) + e.val), by omega⟩) g ⟨k.val % 128, by omega⟩

theorem V_v12 (c : Dev nD) : V m c main_v12 = (shapeCast S16384x2048 (m ((c : Thread nD τ).loc main_arg0)) shapeCasts_S8x2048x2048_S16384x2048 : FVec Ideal S16384x2048 .f32) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps
  rfl

theorem V_v0 (c : Dev nD) : V m c main_v0 = (broadcastInDim S2x1x2048 ![0, 2] bcast_S2x2048_S2x1x2048_0_2 (m ((c : Thread nD τ).loc main_arg1)) : FVec Ideal S2x1x2048 .f32) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps

theorem V_v6 (c : Dev nD) : V m c main_v6 = (truncf .bf16 (extractStridedSlice S2x2048x3072 ![0, 0, 0] (m ((c : Thread nD τ).loc main_arg2)) slices_S2x2048x4104_S2x2048x3072_0_0_0) bitsLt_bf16_f32 : FVec Ideal S2x2048x3072 .bf16) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps

theorem V_v8 (c : Dev nD) : V m c main_v8 = (truncf .bf16 (extractStridedSlice S2x2048x1024 ![0, 0, 3080] (m ((c : Thread nD τ).loc main_arg2)) slices_S2x2048x4104_S2x2048x1024_0_0_3080) bitsLt_bf16_f32 : FVec Ideal S2x2048x1024 .bf16) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps

theorem V_v11 (c : Dev nD) : V m c main_v11 = (truncf .bf16 (pad S2x2048x128 ![0, 0, 0] ![0, 0, 120] ![0, 0, 0] (extractStridedSlice S2x2048x8 ![0, 0, 3072] (m ((c : Thread nD τ).loc main_arg2)) slices_S2x2048x4104_S2x2048x8_0_0_3072) (sitofp .f32 (constantI S_ 32 0#32)) pads_S2x2048x8_S2x2048x128_000_000_01200 h_S_) bitsLt_bf16_f32 : FVec Ideal S2x2048x128 .bf16) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps
  rfl

theorem V_v4 (c : Dev nD) : V m c main_v4 = (broadcastInDim S2x1x128 ![0, 2] bcast_S2x128_S2x1x128_0_2 (pad S2x128 ![0, 0] ![0, 120] ![0, 0] (m ((c : Thread nD τ).loc main_arg3)) (sitofp .f32 (constantI S_ 32 0#32)) pads_S2x8_S2x128_000_01200 h_S_) : FVec Ideal S2x1x128 .f32) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps
  rfl

theorem V_v1 (c : Dev nD) : V m c main_v1 = (broadcastInDim S2x1x128 ![0, 2] bcast_S2x128_S2x1x128_0_2 (m ((c : Thread nD τ).loc main_arg4)) : FVec Ideal S2x1x128 .f32) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps

theorem V_v2 (c : Dev nD) : V m c main_v2 = (broadcastInDim S2x1x128 ![0, 2] bcast_S2x128_S2x1x128_0_2 (m ((c : Thread nD τ).loc main_arg5)) : FVec Ideal S2x1x128 .f32) := by
  unfold V V0
  simp only [hostOps0, hostOps0_1, hostOps0_2, hostOps0_3, hostOps0_4, List.flatten_cons, List.flatten_nil, List.append_nil,
    List.cons_append, List.nil_append, StableHlo.after_cons, StableHlo.after_nil]
  after_results_steps

theorem row_at (h : FVec Ideal S8x2048x2048 .f32) (n : Fin 16384) (d : Fin 2048) :
    shapeCast S16384x2048 h shapeCasts_S8x2048x2048_S16384x2048 (ix2 n d) = row h n d := by
  unfold row
  pointwise []

theorem h_block (c : Dev nD) (t : Fin cfg0.N) (ht : t.val < 64) (a : Fin 1024) (d : Fin 2048) :
    iblk m c 0 t (ix2 a d) = row (m ((c : Thread nD τ).loc main_arg0)) ⟨1024 * (t.val / 4) + a.val, by omega⟩ d := by
  refine Eq.trans (b := (show FVec Ideal S16384x2048 .f32 from V m c main_v12) (ix2 ⟨1024 * (t.val / 4) + a.val, by omega⟩ d)) ?_ ?_
  · blk_point [iblk, idx t]
  · rw [V_v12]
    exact row_at _ _ _

theorem g_block (c : Dev nD) (t : Fin cfg0.N) (d : Fin 2048) :
    iblk m c 1 t (ix3 0 0 d) = m ((c : Thread nD τ).loc main_arg1) (ix2 0 d) := by
  refine Eq.trans (b := (show FVec Ideal S2x1x2048 .f32 from V m c main_v0) (ix3 0 0 d)) ?_ ?_
  · blk_point [iblk, idx t]
  · rw [V_v0]
    pointwise []

theorem wq_block (c : Dev nD) (t : Fin cfg0.N) (d : Fin 2048) (k : Fin 256) :
    iblk m c 2 t (ix3 0 d k) = m ((c : Thread nD τ).loc main_arg2) (ix3 0 d ⟨256 * (t.val % 4) + k.val, by omega⟩) := by
  refine Eq.trans (b := (show FVec Ideal S2x2048x3072 .bf16 from V m c main_v6) (ix3 0 d ⟨256 * (t.val % 4) + k.val, by omega⟩)) ?_ ?_
  · blk_point [iblk, idx t]
  · rw [V_v6]
    pointwise []

theorem wk_block (c : Dev nD) (t : Fin cfg0.N) (d : Fin 2048) (k : Fin 256) :
    iblk m c 3 t (ix3 0 d k) = m ((c : Thread nD τ).loc main_arg2) (ix3 0 d ⟨1024 + (256 * (t.val % 4) + k.val), by omega⟩) := by
  refine Eq.trans (b := (show FVec Ideal S2x2048x3072 .bf16 from V m c main_v6) (ix3 0 d ⟨1024 + (256 * (t.val % 4) + k.val), by omega⟩)) ?_ ?_
  · blk_point [iblk, idx t]
  · rw [V_v6]
    pointwise []

theorem wv_block (c : Dev nD) (t : Fin cfg0.N) (d : Fin 2048) (k : Fin 256) :
    iblk m c 4 t (ix3 0 d k) = m ((c : Thread nD τ).loc main_arg2) (ix3 0 d ⟨2048 + (256 * (t.val % 4) + k.val), by omega⟩) := by
  refine Eq.trans (b := (show FVec Ideal S2x2048x3072 .bf16 from V m c main_v6) (ix3 0 d ⟨2048 + (256 * (t.val % 4) + k.val), by omega⟩)) ?_ ?_
  · blk_point [iblk, idx t]
  · rw [V_v6]
    pointwise []

theorem wu_block (c : Dev nD) (t : Fin cfg0.N) (d : Fin 2048) (k : Fin 256) :
    iblk m c 5 t (ix3 0 d k) = m ((c : Thread nD τ).loc main_arg2) (ix3 0 d ⟨3080 + (256 * (t.val % 4) + k.val), by omega⟩) := by
  refine Eq.trans (b := (show FVec Ideal S2x2048x1024 .bf16 from V m c main_v8) (ix3 0 d ⟨256 * (t.val % 4) + k.val, by omega⟩)) ?_ ?_
  · blk_point [iblk, idx t]
  · rw [V_v8]
    pointwise []

theorem wf_block (c : Dev nD) (t : Fin cfg0.N) (d : Fin 2048) (j : Fin 128) :
    iblk m c 6 t (ix3 0 d j) = (show FVec Ideal S2x2048x128 .bf16 from V m c main_v11) (ix3 0 d j) := by
  blk_point [iblk, idx t]

theorem bf_block (c : Dev nD) (t : Fin cfg0.N) (j : Fin 128) :
    iblk m c 7 t (ix3 0 0 j) = (show FVec Ideal S2x1x128 .f32 from V m c main_v4) (ix3 0 0 j) := by
  blk_point [iblk, idx t]

theorem gq_block (c : Dev nD) (t : Fin cfg0.N) (e : Fin 128) :
    iblk m c 8 t (ix3 0 0 e) = m ((c : Thread nD τ).loc main_arg4) (ix2 0 e) := by
  refine Eq.trans (b := (show FVec Ideal S2x1x128 .f32 from V m c main_v1) (ix3 0 0 e)) ?_ ?_
  · blk_point [iblk, idx t]
  · rw [V_v1]
    pointwise []

theorem gk_block (c : Dev nD) (t : Fin cfg0.N) (e : Fin 128) :
    iblk m c 9 t (ix3 0 0 e) = m ((c : Thread nD τ).loc main_arg5) (ix2 0 e) := by
  refine Eq.trans (b := (show FVec Ideal S2x1x128 .f32 from V m c main_v2) (ix3 0 0 e)) ?_ ?_
  · blk_point [iblk, idx t]
  · rw [V_v2]
    pointwise []

/-- The forget gates' weights, in the columns that count. -/
theorem wf_at (c : Dev nD) (d : Fin 2048) (j : Fin 8) :
    (show FVec Ideal S2x2048x128 .bf16 from V m c main_v11) (ix3 0 d ⟨j.val, by omega⟩)
      = m ((c : Thread nD τ).loc main_arg2) (ix3 0 d ⟨3072 + j.val, by omega⟩) := by
  rw [V_v11]
  pointwise []

/-- The forget gates' biases, in the columns that count. -/
theorem bf_at (c : Dev nD) (j : Fin 8) :
    (show FVec Ideal S2x1x128 .f32 from V m c main_v4) (ix3 0 0 ⟨j.val, by omega⟩) = m ((c : Thread nD τ).loc main_arg3) (ix2 0 j) := by
  rw [V_v4]
  pointwise []
  rw [dif_pos]
  intro a
  fin_cases a <;> simp [Nat.mod_one]

end Cert.K.InProj

end
-- ==== Proof.InProjValue.lean ====
/- The input projection's results, whole: queries, keys, values, the channel mixer's inputs and the log forget gates. -/
module

public import proofs.«01_k».proof.Proof.InProjArgs
public import Idealize.ShloMosaic.Lib.Pipeline.ValueKit
public import Idealize.ShloMosaic.Lib.Pointwise

@[expose] public section

set_option maxRecDepth 16384

noncomputable section

namespace Cert.K.InProj

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- The log forget gates of device `c`, all the columns the kernel keeps. -/
def lfAt (c : Dev nD) (n : Fin 16384) (j : Fin 128) : EReal :=
  lsig ((∑ d, nrow (m ((c : Thread nD τ).loc main_arg0)) (m ((c : Thread nD τ).loc main_arg1)) n d
      * (show FVec Ideal S2x2048x128 .bf16 from V m c main_v11) (ix3 0 d j))
    + (show FVec Ideal S2x1x128 .f32 from V m c main_v4) (ix3 0 0 j))

/-- What grid point `t` leaves in a row of the scratch block and of the log forget gates. -/
def Inv (c : Dev nD) (t : Fin cfg0.N) (ht : t.val < 64) (a : Fin 1024) : Prop :=
  (∀ d, scr m c t (ix2 a d) = nrow (m ((c : Thread nD τ).loc main_arg0)) (m ((c : Thread nD τ).loc main_arg1))
      ⟨1024 * (t.val / 4) + a.val, by omega⟩ d)
    ∧ ∀ j, (outsAt0 m c t.val t.isLt).2.2.2.2.2.2.1 (ix2 a j) = lfAt m c ⟨1024 * (t.val / 4) + a.val, by omega⟩ j

theorem inv_first (c : Dev nD) (t : Fin cfg0.N) (ht : t.val < 64) (a : Fin 1024) (h0 : t.val % 4 = 0) : Inv m c t ht a := by
  have h1 : ∀ d, scr m c t (ix2 a d) = nrow (m ((c : Thread nD τ).loc main_arg0)) (m ((c : Thread nD τ).loc main_arg1))
      ⟨1024 * (t.val / 4) + a.val, by omega⟩ d := fun d => by
    rw [scr_first m c t h0, rows_at]
    simp only [h_block m c t ht, g_block]
    rfl
  refine ⟨h1, fun j => ?_⟩
  rw [lf_first m c t h0, lf_at]
  simp only [h1, wf_block, bf_block]
  rfl

theorem inv_later (c : Dev nD) (t : Fin cfg0.N) (ht : t.val < 64) (a : Fin 1024) (h0 : ¬t.val % 4 = 0)
    (ih : Inv m c ⟨t.val - 1, Nat.lt_of_le_of_lt (Nat.sub_le _ _) t.isLt⟩ (Nat.lt_of_le_of_lt (Nat.sub_le _ _) ht) a) :
    Inv m c t ht a := by
  have hd : (t.val - 1) / 4 = t.val / 4 := by omega
  obtain ⟨ih1, ih2⟩ := ih
  simp only [hd] at ih1 ih2
  refine ⟨fun d => ?_, fun j => ?_⟩
  · rw [scr_later m c t h0]
    exact ih1 d
  · rw [lf_later m c t h0]
    exact ih2 j

theorem invariant (c : Dev nD) (n : ℕ) : ∀ (t : Fin cfg0.N) (ht : t.val < 64) (a : Fin 1024), t.val = n → Inv m c t ht a := by
  induction n with
  | zero => exact fun t ht a hn => inv_first m c t ht a (by omega)
  | succ n ih =>
    intro t ht a hn
    by_cases h0 : t.val % 4 = 0
    · exact inv_first m c t ht a h0
    · exact inv_later m c t ht a h0 (ih _ _ a (by show t.val - 1 = n; omega))

/-- The normalised rows at every point. -/
theorem scr_at (c : Dev nD) (t : Fin cfg0.N) (ht : t.val < 64) (a : Fin 1024) (d : Fin 2048) :
    scr m c t (ix2 a d) = nrow (m ((c : Thread nD τ).loc main_arg0)) (m ((c : Thread nD τ).loc main_arg1))
      ⟨1024 * (t.val / 4) + a.val, by omega⟩ d := (invariant m c t.val t ht a rfl).1 d

/-- Two heads' columns of a block are those of the whole. -/
theorem heads_blk (p : Fin 4104 → EReal) (f : Fin 2048 → EReal) (w : Fin 2048 → Fin 256 → EReal) (g : Fin 128 → EReal) (o : ℕ)
    (ho : o ≤ 3080) (j : ℕ) (hj : j < 4) (k : Fin 256)
    (hp : ∀ k' : Fin 256, ∑ d, f d * w d k' = p ⟨o + (256 * j + k'.val), by omega⟩) :
    headAt f w g k = heads p g o ho ⟨256 * j + k.val, by omega⟩ := by
  have h2 : (⟨k.val % 128, by omega⟩ : Fin 128) = ⟨(256 * j + k.val) % 128, by omega⟩ := Fin.ext (by show k.val % 128 = (256 * j + k.val) % 128; omega)
  unfold headAt heads
  rw [h2]
  refine congrArg (fun x => headNorm x g _) (funext fun e => (hp _).trans (congrArg p (Fin.ext ?_)))
  show o + (256 * j + (128 * (k.val / 128) + e.val)) = o + (128 * ((256 * j + k.val) / 128) + e.val)
  omega

theorem heads_congr (p : Fin 16384 → Fin 4104 → EReal) (g : Fin 128 → EReal) (o : ℕ) (ho : o ≤ 3080) (n n' : Fin 16384)
    (k k' : Fin 1024) (hn : n.val = n'.val) (hk : k.val = k'.val) : heads (p n) g o ho k = heads (p n') g o ho k' := by
  rw [Fin.ext hn, Fin.ext hk]

theorem cols_congr {α : Type} {k : ℕ} (p : Fin 16384 → Fin k → α) (n n' : Fin 16384) (j j' : Fin k) (hn : n.val = n'.val)
    (hj : j.val = j'.val) : p n j = p n' j' := by
  rw [Fin.ext hn, Fin.ext hj]

/-- The products of device `c`'s arguments. -/
abbrev P (c : Dev nD) : Fin 16384 → Fin 4104 → EReal :=
  proj (m ((c : Thread nD τ).loc main_arg0)) (m ((c : Thread nD τ).loc main_arg1)) (m ((c : Thread nD τ).loc main_arg2))

/-- The queries' gains, the kernel's factor in them. -/
abbrev GQ (c : Dev nD) (e : Fin 128) : EReal := (show FVec Ideal S2x128 .f32 from m ((c : Thread nD τ).loc main_arg4)) (ix2 0 e) * qs

/-- The keys' gains. -/
abbrev GK (c : Dev nD) (e : Fin 128) : EReal := (show FVec Ideal S2x128 .f32 from m ((c : Thread nD τ).loc main_arg5)) (ix2 0 e)

theorem q_point (c : Dev nD) (t : Fin cfg0.N) (ht : t.val < 64) (a : Fin 1024) (k : Fin 256) :
    (outsAt0 m c t.val t.isLt).1 (ix2 a k)
      = heads (P m c ⟨1024 * (t.val / 4) + a.val, by omega⟩) (GQ m c) 0 (by omega) ⟨256 * (t.val % 4) + k.val, by omega⟩ := by
  rw [q_blk]
  simp only [gq_block]
  refine heads_blk _ _ _ _ 0 _ (t.val % 4) (by omega) k fun k' => ?_
  simp only [scr_at m c t ht, wq_block, Nat.zero_add]
  rfl

theorem k_point (c : Dev nD) (t : Fin cfg0.N) (ht : t.val < 64) (a : Fin 1024) (k : Fin 256) :
    (outsAt0 m c t.val t.isLt).2.1 (ix3 0 a k)
      = heads (P m c ⟨1024 * (t.val / 4) + a.val, by omega⟩) (GK m c) 1024 (by omega) ⟨256 * (t.val % 4) + k.val, by omega⟩ := by
  rw [k_blk]
  simp only [gk_block]
  refine heads_blk _ _ _ _ 1024 _ (t.val % 4) (by omega) k fun k' => ?_
  simp only [scr_at m c t ht, wk_block]
  rfl

theorem kb_point (c : Dev nD) (t : Fin cfg0.N) (ht : t.val < 64) (a : Fin 1024) (k : Fin 256) :
    (outsAt0 m c t.val t.isLt).2.2.1 (ix2 a k)
      = heads (P m c ⟨1024 * (t.val / 4) + a.val, by omega⟩) (GK m c) 1024 (by omega) ⟨256 * (t.val % 4) + k.val, by omega⟩ := by
  rw [kb_blk]
  simp only [gk_block]
  refine heads_blk _ _ _ _ 1024 _ (t.val % 4) (by omega) k fun k' => ?_
  simp only [scr_at m c t ht, wk_block]
  rfl

theorem v_point (c : Dev nD) (t : Fin cfg0.N) (ht : t.val < 64) (a : Fin 1024) (k : Fin 256) :
    (outsAt0 m c t.val t.isLt).2.2.2.1 (ix3 0 a k)
      = P m c ⟨1024 * (t.val / 4) + a.val, by omega⟩ ⟨2048 + (256 * (t.val % 4) + k.val), by omega⟩ := by
  rw [v_blk, v_at]
  simp only [scr_at m c t ht, wv_block]
  rfl

theorem vb_point (c : Dev nD) (t : Fin cfg0.N) (ht : t.val < 64) (a : Fin 1024) (k : Fin 256) :
    (outsAt0 m c t.val t.isLt).2.2.2.2.1 (ix2 a k)
      = P m c ⟨1024 * (t.val / 4) + a.val, by omega⟩ ⟨2048 + (256 * (t.val % 4) + k.val), by omega⟩ := by
  rw [vb_blk, vb_at]
  simp only [scr_at m c t ht, wv_block]
  rfl

theorem u_point (c : Dev nD) (t : Fin cfg0.N) (ht : t.val < 64) (a : Fin 1024) (k : Fin 256) :
    (outsAt0 m c t.val t.isLt).2.2.2.2.2.1 (ix2 a k)
      = P m c ⟨1024 * (t.val / 4) + a.val, by omega⟩ ⟨3080 + (256 * (t.val % 4) + k.val), by omega⟩ := by
  rw [u_blk, u_at]
  simp only [scr_at m c t ht, wu_block]
  rfl

/-- The queries after the region. -/
theorem final_q (c : Dev nD) :
    (dats m 0 c).arrAt 10 cfg0.N = (fun y => heads (P m c (y 0)) (GQ m c) 0 (by omega) (y 1) : FVec Ideal S16384x1024 .bf16) := by
  refine (dats m 0 c).arrAt_eq_of_covers 10 _ (by decide +kernel) fun t hf y => ?_
  have ht : t.val < 64 := t.isLt
  blk_simp
  rw [after0_10]
  idx_vars y
  rw [q_point m c t ht]
  refine heads_congr _ _ _ _ _ _ _ _ ?_ ?_ <;> blk_simp [idx t] <;> simp <;> omega

/-- The rounded keys after the region. -/
theorem final_kb (c : Dev nD) :
    (dats m 0 c).arrAt 12 cfg0.N = (fun y => heads (P m c (y 0)) (GK m c) 1024 (by omega) (y 1) : FVec Ideal S16384x1024 .bf16) := by
  refine (dats m 0 c).arrAt_eq_of_covers 12 _ (by decide +kernel) fun t hf y => ?_
  have ht : t.val < 64 := t.isLt
  blk_simp
  rw [after0_12]
  idx_vars y
  rw [kb_point m c t ht]
  refine heads_congr _ _ _ _ _ _ _ _ ?_ ?_ <;> blk_simp [idx t] <;> simp <;> omega

/-- The rounded values after the region. -/
theorem final_vb (c : Dev nD) :
    (dats m 0 c).arrAt 14 cfg0.N = (fun y => P m c (y 0) ⟨2048 + (y 1).val, by have := (y 1).isLt; change (y 1).val < 1024 at this; omega⟩ : FVec Ideal S16384x1024 .bf16) := by
  refine (dats m 0 c).arrAt_eq_of_covers 14 _ (by decide +kernel) fun t hf y => ?_
  have ht : t.val < 64 := t.isLt
  blk_simp
  rw [after0_14]
  idx_vars y
  rw [vb_point m c t ht]
  refine cols_congr (P m c) _ _ _ _ ?_ ?_ <;> blk_simp [idx t] <;> simp <;> omega

/-- The channel mixer's inputs after the region. -/
theorem final_u (c : Dev nD) :
    (dats m 0 c).arrAt 15 cfg0.N = (fun y => P m c (y 0) ⟨3080 + (y 1).val, by have := (y 1).isLt; change (y 1).val < 1024 at this; omega⟩ : FVec Ideal S16384x1024 .f32) := by
  refine (dats m 0 c).arrAt_eq_of_covers 15 _ (by decide +kernel) fun t hf y => ?_
  have ht : t.val < 64 := t.isLt
  blk_simp
  rw [after0_15]
  idx_vars y
  rw [u_point m c t ht]
  refine cols_congr (P m c) _ _ _ _ ?_ ?_ <;> blk_simp [idx t] <;> simp <;> omega

/-- The log forget gates after the region. -/
theorem final_lf (c : Dev nD) :
    (dats m 0 c).arrAt 16 cfg0.N = (fun y => lfAt m c (y 0) (y 1) : FVec Ideal S16384x128 .f32) := by
  refine (dats m 0 c).arrAt_eq_of_covers 16 _ (by decide +kernel) fun t hf y => ?_
  have ht : t.val < 64 := t.isLt
  blk_simp
  rw [after0_16]
  idx_vars y
  rw [(invariant m c t.val t ht _ rfl).2]
  refine cols_congr (lfAt m c) _ _ _ _ ?_ ?_ <;> blk_simp [idx t] <;> simp <;> omega

/-- The keys after the region: the first layer's part. -/
theorem final_k (c : Dev nD) :
    (dats m 0 c).arrAt 11 cfg0.N = fun i : S2x16384x1024.Idx => if (i 0 : ℕ) / 1 = 0 then
      heads (P m c (i 1)) (GK m c) 1024 (by omega) (i 2) else (dats m 0 c).A 11 i := by
  refine (dats m 0 c).arrAt_eq_of_coversWhere 11 _ (fun β => β (0 : Fin _) = 0) (by decide +kernel) (fun t hf y => ?_) (fun j => Iff.rfl)
  have ht : t.val < 64 := t.isLt
  blk_simp
  rw [after0_11]
  idx_vars y
  obtain rfl : y0 = 0 := Subsingleton.elim _ _
  rw [k_point m c t ht]
  refine heads_congr _ _ _ _ _ _ _ _ ?_ ?_ <;> blk_simp [idx t] <;> simp <;> omega

/-- The values after the region: the first layer's part. -/
theorem final_v (c : Dev nD) :
    (dats m 0 c).arrAt 13 cfg0.N = fun i : S2x16384x1024.Idx => if (i 0 : ℕ) / 1 = 0 then
      P m c (i 1) ⟨2048 + (i 2).val, by have := (i 2).isLt; change (i 2).val < 1024 at this; omega⟩ else (dats m 0 c).A 13 i := by
  refine (dats m 0 c).arrAt_eq_of_coversWhere 13 _ (fun β => β (0 : Fin _) = 0) (by decide +kernel) (fun t hf y => ?_) (fun j => Iff.rfl)
  have ht : t.val < 64 := t.isLt
  blk_simp
  rw [after0_13]
  idx_vars y
  obtain rfl : y0 = 0 := Subsingleton.elim _ _
  rw [v_point m c t ht]
  refine cols_congr (P m c) _ _ _ _ ?_ ?_ <;> blk_simp [idx t] <;> simp <;> omega

end Cert.K.InProj

end
-- ==== Proof.InProjRun.lean ====
/- The input projection's run: what each of its seven results holds, from the arguments. -/
module

public import proofs.«01_k».proof.Proof.InProjValue
public import Idealize.ShloMosaic.Lib.Pipeline.ValueKit
public import Idealize.ShloMosaic.Lib.Pointwise

@[expose] public section

set_option maxRecDepth 16384

noncomputable section

namespace Cert.K.InProj

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ) (ρ : Dev nD → PrngReg)

section Results

variable (h : FVec Ideal S8x2048x2048 .f32) (g : FVec Ideal S2x2048 .f32) (w : FVec Ideal S2x2048x4104 .f32)
  (b : FVec Ideal S2x8 .f32) (gq gk : FVec Ideal S2x128 .f32)

/-- The queries. -/
def qOut : FVec Ideal S16384x1024 .bf16 := fun y => heads (proj h g w (y 0)) (fun e => gq (ix2 0 e) * qs) 0 (by omega) (y 1)

/-- The keys. -/
def kOut : FVec Ideal S16384x1024 .f32 := fun y => heads (proj h g w (y 0)) (fun e => gk (ix2 0 e)) 1024 (by omega) (y 1)

/-- The values at a row and column. -/
def vAt (n : Fin 16384) (k : Fin 1024) : EReal := proj h g w n ⟨2048 + k.val, by omega⟩

/-- The channel mixer's inputs at a row and column. -/
def uAt (n : Fin 16384) (k : Fin 1024) : EReal := proj h g w n ⟨3080 + k.val, by omega⟩

/-- The log forget gates at a row and head. -/
def fAt (n : Fin 16384) (j : Fin 8) : EReal := lsig (proj h g w n ⟨3072 + j.val, by omega⟩ + b (ix2 0 j))

/-- The values. -/
def vOut : FVec Ideal S16384x1024 .f32 := fun y => vAt h g w (y 0) (y 1)

/-- The channel mixer's inputs. -/
def uOut : FVec Ideal S16384x1024 .f32 := fun y => uAt h g w (y 0) (y 1)

/-- The log forget gates. -/
def fOut : FVec Ideal S16384x8 .f32 := fun y => fAt h g w b (y 0) (y 1)

end Results

/-- After the region a window's array holds what the run left in it. -/
theorem exit_arr (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr_shared (cfgs 0).spec c (V0 m c) _
    ((dats m 0 c).arrAt_sharedIn sharedIn0 (V0 m c) (A_eq m c) (cfgs 0).N) w

/-- The keys handed over: the first layer's part. -/
theorem tail_k (c : Dev nD) : Pipeline.afterTail₀ cfgs (dats m) 0 (V0 m) [hostOps1] c main_v15
    = shapeCast S16384x1024 (extractStridedSlice S1x16384x1024 ![0, 0, 0] ((dats m 0 c).arrAt 11 cfg0.N) slices_S2x16384x1024_S1x16384x1024_0_0_0)
      shapeCasts_S1x16384x1024_S16384x1024 := by
  unfold Pipeline.afterTail₀
  rw [← exit_arr m c 11]
  generalize Pipeline.withArrays (cfgs 0).spec c (V0 m c) (fun w => (dats m 0 c).arrAt w (cfgs 0).N) = W
  simp only [hostOps1, List.flatten_cons, List.flatten_nil, List.append_nil, List.cons_append, List.nil_append, StableHlo.after_cons,
    StableHlo.after_nil]
  after_results_steps
  rfl

/-- The values handed over: the first layer's part. -/
theorem tail_v (c : Dev nD) : Pipeline.afterTail₀ cfgs (dats m) 0 (V0 m) [hostOps1] c main_v17
    = shapeCast S16384x1024 (extractStridedSlice S1x16384x1024 ![0, 0, 0] ((dats m 0 c).arrAt 13 cfg0.N) slices_S2x16384x1024_S1x16384x1024_0_0_0)
      shapeCasts_S1x16384x1024_S16384x1024 := by
  unfold Pipeline.afterTail₀
  rw [← exit_arr m c 13]
  generalize Pipeline.withArrays (cfgs 0).spec c (V0 m c) (fun w => (dats m 0 c).arrAt w (cfgs 0).N) = W
  simp only [hostOps1, List.flatten_cons, List.flatten_nil, List.append_nil, List.cons_append, List.nil_append, StableHlo.after_cons,
    StableHlo.after_nil]
  after_results_steps
  rfl

/-- The log forget gates handed over: the columns that count. -/
theorem tail_f (c : Dev nD) : Pipeline.afterTail₀ cfgs (dats m) 0 (V0 m) [hostOps1] c main_v18
    = extractStridedSlice S16384x8 ![0, 0] ((dats m 0 c).arrAt 16 cfg0.N) slices_S16384x128_S16384x8_0_0 := by
  unfold Pipeline.afterTail₀
  rw [← exit_arr m c 16]
  generalize Pipeline.withArrays (cfgs 0).spec c (V0 m c) (fun w => (dats m 0 c).arrAt w (cfgs 0).N) = W
  simp only [hostOps1, List.flatten_cons, List.flatten_nil, List.append_nil, List.cons_append, List.nil_append, StableHlo.after_cons,
    StableHlo.after_nil]
  after_results_steps

/-- Dropping a leading axis of one. -/
theorem first_at (x : FVec Ideal S2x16384x1024 .f32) (n : Fin 16384) (k : Fin 1024) :
    shapeCast S16384x1024 (extractStridedSlice S1x16384x1024 ![0, 0, 0] x slices_S2x16384x1024_S1x16384x1024_0_0_0)
      shapeCasts_S1x16384x1024_S16384x1024 (ix2 n k) = x (ix3 0 n k) := by
  pointwise []

theorem cols8_at (x : FVec Ideal S16384x128 .f32) (n : Fin 16384) (j : Fin 8) :
    extractStridedSlice S16384x8 ![0, 0] x slices_S16384x128_S16384x8_0_0 (ix2 n j) = x (ix2 n ⟨j.val, by omega⟩) := by
  pointwise []

theorem k_result (c : Dev nD) : Pipeline.afterTail₀ cfgs (dats m) 0 (V0 m) [hostOps1] c main_v15
    = kOut (m ((c : Thread nD τ).loc main_arg0)) (m ((c : Thread nD τ).loc main_arg1)) (m ((c : Thread nD τ).loc main_arg2))
      (m ((c : Thread nD τ).loc main_arg5)) := by
  rw [tail_k, final_k]
  funext y
  obtain ⟨n, k, rfl⟩ : ∃ (n : Fin 16384) (k : Fin 1024), y = ix2 n k := ⟨y 0, y 1, by funext a; fin_cases a <;> rfl⟩
  refine (first_at _ n k).trans ?_
  exact if_pos (Nat.zero_div 1)

theorem v_result (c : Dev nD) : Pipeline.afterTail₀ cfgs (dats m) 0 (V0 m) [hostOps1] c main_v17
    = vOut (m ((c : Thread nD τ).loc main_arg0)) (m ((c : Thread nD τ).loc main_arg1)) (m ((c : Thread nD τ).loc main_arg2)) := by
  rw [tail_v, final_v]
  funext y
  obtain ⟨n, k, rfl⟩ : ∃ (n : Fin 16384) (k : Fin 1024), y = ix2 n k := ⟨y 0, y 1, by funext a; fin_cases a <;> rfl⟩
  refine (first_at _ n k).trans ?_
  exact if_pos (Nat.zero_div 1)

theorem f_result (c : Dev nD) : Pipeline.afterTail₀ cfgs (dats m) 0 (V0 m) [hostOps1] c main_v18
    = fOut (m ((c : Thread nD τ).loc main_arg0)) (m ((c : Thread nD τ).loc main_arg1)) (m ((c : Thread nD τ).loc main_arg2))
      (m ((c : Thread nD τ).loc main_arg3)) := by
  rw [tail_f, final_lf]
  funext y
  obtain ⟨n, j, rfl⟩ : ∃ (n : Fin 16384) (j : Fin 8), y = ix2 n j := ⟨y 0, y 1, by funext a; fin_cases a <;> rfl⟩
  refine (cols8_at _ n j).trans ?_
  show lfAt m c n ⟨j.val, _⟩ = fAt _ _ _ _ n j
  unfold lfAt fAt proj
  rw [bf_at]
  exact congrArg (fun s => lsig (s + _)) (Finset.sum_congr rfl fun d _ => congrArg _ (wf_at m c d j))

/-- Every execution ends with the seven results as described and the arguments as launched. -/
theorem run_results : θ_run defs (onTc (τ := τ) (main (F := Ideal))) ⟨m, fun _ => 0, ρ⟩ (fun r => ∀ c : Dev nD,
      (r.2.mem ((c.tc : Thread nD τ).loc main_v13_0)
          = qOut (m ((c : Thread nD τ).loc main_arg0)) (m ((c : Thread nD τ).loc main_arg1)) (m ((c : Thread nD τ).loc main_arg2)) (m ((c : Thread nD τ).loc main_arg4))
        ∧ r.2.mem ((c.tc : Thread nD τ).loc main_v15)
          = kOut (m ((c : Thread nD τ).loc main_arg0)) (m ((c : Thread nD τ).loc main_arg1)) (m ((c : Thread nD τ).loc main_arg2)) (m ((c : Thread nD τ).loc main_arg5))
        ∧ r.2.mem ((c.tc : Thread nD τ).loc main_v13_2)
          = kOut (m ((c : Thread nD τ).loc main_arg0)) (m ((c : Thread nD τ).loc main_arg1)) (m ((c : Thread nD τ).loc main_arg2)) (m ((c : Thread nD τ).loc main_arg5))
        ∧ r.2.mem ((c.tc : Thread nD τ).loc main_v17)
          = vOut (m ((c : Thread nD τ).loc main_arg0)) (m ((c : Thread nD τ).loc main_arg1)) (m ((c : Thread nD τ).loc main_arg2))
        ∧ r.2.mem ((c.tc : Thread nD τ).loc main_v13_4)
          = vOut (m ((c : Thread nD τ).loc main_arg0)) (m ((c : Thread nD τ).loc main_arg1)) (m ((c : Thread nD τ).loc main_arg2))
        ∧ r.2.mem ((c.tc : Thread nD τ).loc main_v13_5)
          = uOut (m ((c : Thread nD τ).loc main_arg0)) (m ((c : Thread nD τ).loc main_arg1)) (m ((c : Thread nD τ).loc main_arg2))
        ∧ r.2.mem ((c.tc : Thread nD τ).loc main_v18)
          = fOut (m ((c : Thread nD τ).loc main_arg0)) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_and ((θ_run defs _ _).mono (fun _ h => h) (run_main_quiescent m ρ)) (unchanged m ρ) |> fun H =>
  (θ_run defs _ _).mono (fun _ h c => ⟨⟨
    ((h.1.1 c).1 10).trans (final_q m c),
    ((h.1.1 c).2 main_v15 (Pipeline.mem_restRefs_of main_v15 (by decide) (by decide))).trans (k_result m c),
    ((h.1.1 c).1 12).trans (final_kb m c),
    ((h.1.1 c).2 main_v17 (Pipeline.mem_restRefs_of main_v17 (by decide) (by decide))).trans (v_result m c),
    ((h.1.1 c).1 14).trans (final_vb m c),
    ((h.1.1 c).1 15).trans (final_u m c),
    ((h.1.1 c).2 main_v18 (Pipeline.mem_restRefs_of main_v18 (by decide) (by decide))).trans (f_result m c)⟩, h.2 c⟩) H

end Cert.K.InProj

end
-- ==== Proof.InProjRef.lean ====
/- The input projection's reference at an index of each of its results. -/
module

public import proofs.«01_k».proof.Proof.Gen.InProjRefIdeal.Run
public import proofs.«01_k».proof.Proof.Norm
public import Idealize.ShloMosaic.Lib.Pointwise

@[expose] public section

set_option maxRecDepth 16384

noncomputable section

namespace Cert.K.InProjRef

open Idealize.ShloMosaic Idealize.ShloMosaic.TcCoe Idealize.SL.Sem
open Cert.InProjRefIdeal Cert.InProjRefIdeal.Gen Cert.InProjRefIdeal.Value

/-- The rows, normalised. -/
def rows (h : FVec Ideal S8x2048x2048 .f32) (g : FVec Ideal S2x2048 .f32) : FVec Ideal S16384x2048 .f32 :=
  mulf (mulf (shapeCast _ h shapeCasts_S8x2048x2048_S16384x2048) (broadcastInDim S16384x2048 ![0, 1] bcast_S16384x1_S16384x2048_0_1 (Host.rsqrt (addf (Host.divf (broadcastInDim S16384x1 ![0] bcast_S16384_S16384x1_0 (Host.reduceAdd (mulf (shapeCast _ h shapeCasts_S8x2048x2048_S16384x2048) (shapeCast _ h shapeCasts_S8x2048x2048_S16384x2048)) (constant (F := Ideal) S_ .f32 0x00000000#32) reducesTo_S16384x2048_S16384_d1 h_S_)) (broadcastInDim S16384x1 ![] bcast_S_S16384x1 (constant (F := Ideal) S_ .f32 0x45000000#32))) (broadcastInDim S16384x1 ![] bcast_S_S16384x1 (constant (F := Ideal) S_ .f32 0x358637BD#32)))))) (broadcastInDim S16384x2048 ![0, 1] bcast_S1x2048_S16384x2048_0_1 (broadcastInDim S1x2048 ![1] bcast_S2048_S1x2048_1 (shapeCast _ (extractStridedSlice S1x2048 ![0, 0] g slices_S2x2048_S1x2048_0_0) shapeCasts_S1x2048_S2048)))

/-- Their product with the weights. -/
def prod (r : FVec Ideal S16384x2048 .f32) (w : FVec Ideal S2x2048x4104 .f32) : FVec Ideal S16384x4104 .f32 :=
  Host.dotGeneral (F := Ideal) dot_S16384x2048_S2048x4104_S16384x4104_1_0_0_1_n_n none r (shapeCast _ (extractStridedSlice S1x2048x4104 ![0, 0, 0] w slices_S2x2048x4104_S1x2048x4104_0_0_0) shapeCasts_S1x2048x4104_S2048x4104)

/-- A thousand and twenty-four of the columns, head by head: the queries' -/
def splitQ (p : FVec Ideal S16384x4104 .f32) : FVec Ideal S16384x8x128 .f32 :=
  shapeCast _ (extractStridedSlice S16384x1024 ![0, 0] p slices_S16384x4104_S16384x1024_0_0) shapeCasts_S16384x1024_S16384x8x128

/-- and the keys'. -/
def splitK (p : FVec Ideal S16384x4104 .f32) : FVec Ideal S16384x8x128 .f32 :=
  shapeCast _ (extractStridedSlice S16384x1024 ![0, 1024] p slices_S16384x4104_S16384x1024_0_1024) shapeCasts_S16384x1024_S16384x8x128

/-- Each head, normed. -/
def normed (x : FVec Ideal S16384x8x128 .f32) (g : FVec Ideal S2x128 .f32) : FVec Ideal S16384x8x128 .f32 :=
  mulf (mulf x (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf x x) (constant (F := Ideal) S_ .f32 0x00000000#32) reducesTo_S16384x8x128_S16384x8_d2 h_S_)) (broadcastInDim S16384x8x1 ![] bcast_S_S16384x8x1 (constant (F := Ideal) S_ .f32 0x43000000#32))) (broadcastInDim S16384x8x1 ![] bcast_S_S16384x8x1 (constant (F := Ideal) S_ .f32 0x358637BD#32)))))) (broadcastInDim S16384x8x128 ![0, 1, 2] bcast_S1x1x128_S16384x8x128_0_1_2 (broadcastInDim S1x1x128 ![2] bcast_S128_S1x1x128_2 (shapeCast _ (extractStridedSlice S1x128 ![0, 0] g slices_S2x128_S1x128_0_0) shapeCasts_S1x128_S128)))

/-- The queries' scale. -/
def scaled (n : FVec Ideal S16384x8x128 .f32) : FVec Ideal S16384x1024 .bf16 :=
  truncf .bf16 (shapeCast _ (Host.divf n (broadcastInDim S16384x8x128 ![] bcast_S_S16384x8x128 (mulf (Host.sqrt (constant (F := Ideal) S_ .f32 0x43000000#32)) (Host.log (constant (F := Ideal) S_ .f32 0x40000000#32))))) shapeCasts_S16384x8x128_S16384x1024) bitsLt_bf16_f32

/-- The forget gates' arguments, negated. -/
def gates (p : FVec Ideal S16384x4104 .f32) (b : FVec Ideal S2x8 .f32) : FVec Ideal S16384x8 .f32 :=
  Host.negf (addf (extractStridedSlice S16384x8 ![0, 3072] p slices_S16384x4104_S16384x8_0_3072) (broadcastInDim S16384x8 ![0, 1] bcast_S1x8_S16384x8_0_1 (broadcastInDim S1x8 ![1] bcast_S8_S1x8_1 (shapeCast _ (extractStridedSlice S1x8 ![0, 0] b slices_S2x8_S1x8_0_0) shapeCasts_S1x8_S8))))

/-- A vector of zeros. -/
def zeros : FVec Ideal S16384x8 .f32 := broadcastInDim S16384x8 ![] bcast_S_S16384x8 (constant (F := Ideal) S_ .f32 0x00000000#32)

/-- The logarithm of the logistic function, of the negated argument. -/
def logsig (a z : FVec Ideal S16384x8 .f32) : FVec Ideal S16384x8 .f32 :=
  Host.negf (select (cmpf .une (subf a z) (subf a z)) (addf a z) (addf (maximumf a z) (Host.log1p (Host.exp (Host.negf (Host.absf (subf a z)))))))

theorem rows_at (h : FVec Ideal S8x2048x2048 .f32) (g : FVec Ideal S2x2048 .f32) (n : Fin 16384) (d : Fin 2048) :
    rows h g (ix2 n d) = rms 1157627904#32 (fun e => h (ix3 ⟨n.val / 2048, by omega⟩ ⟨n.val % 2048, by omega⟩ e)) (fun e => g (ix2 0 e)) d := by
  unfold rows rms
  pointwise

theorem prod_at (r : FVec Ideal S16384x2048 .f32) (w : FVec Ideal S2x2048x4104 .f32) (n : Fin 16384) (j : Fin 4104) :
    prod r w (ix2 n j) = ∑ d, r (ix2 n d) * w (ix3 0 d j) := by
  unfold prod
  pointwise

theorem splitQ_at (p : FVec Ideal S16384x4104 .f32) (n : Fin 16384) (i : Fin 8) (e : Fin 128) :
    splitQ p (ix3 n i e) = p (ix2 n ⟨128 * i.val + e.val, by omega⟩) := by
  unfold splitQ
  pointwise
  congr 3
  omega

theorem splitK_at (p : FVec Ideal S16384x4104 .f32) (n : Fin 16384) (i : Fin 8) (e : Fin 128) :
    splitK p (ix3 n i e) = p (ix2 n ⟨1024 + (128 * i.val + e.val), by omega⟩) := by
  unfold splitK
  pointwise
  congr 3
  omega

theorem normed_at (x : FVec Ideal S16384x8x128 .f32) (g : FVec Ideal S2x128 .f32) (n : Fin 16384) (i : Fin 8) (e : Fin 128) :
    normed x g (ix3 n i e) = rms 1124073472#32 (fun e => x (ix3 n i e)) (fun e => g (ix2 0 e)) e := by
  unfold normed rms
  pointwise

theorem joined_at (x : FVec Ideal S16384x8x128 .f32) (n : Fin 16384) (k : Fin 1024) :
    shapeCast S16384x1024 x shapeCasts_S16384x8x128_S16384x1024 (ix2 n k) = x (ix3 n ⟨k.val / 128, by omega⟩ ⟨k.val % 128, by omega⟩) := by
  pointwise

theorem scaled_at (x : FVec Ideal S16384x8x128 .f32) (n : Fin 16384) (k : Fin 1024) :
    scaled x (ix2 n k) = Ideal.div (x (ix3 n ⟨k.val / 128, by omega⟩ ⟨k.val % 128, by omega⟩))
      (Ideal.sqrt (Ideal.ofBits .f32 0x43000000#32) * Ideal.log (Ideal.ofBits .f32 0x40000000#32)) := by
  unfold scaled
  pointwise

theorem gates_at (p : FVec Ideal S16384x4104 .f32) (b : FVec Ideal S2x8 .f32) (n : Fin 16384) (j : Fin 8) :
    gates p b (ix2 n j) = -(p (ix2 n ⟨3072 + j.val, by omega⟩) + b (ix2 0 j)) := by
  unfold gates
  pointwise

theorem zeros_at (n : Fin 16384) (j : Fin 8) : zeros (ix2 n j) = 0 := by
  unfold zeros
  pointwise

theorem logsig_at (a z : FVec Ideal S16384x8 .f32) (n : Fin 16384) (j : Fin 8) (hz : z (ix2 n j) = 0) :
    logsig a z (ix2 n j) = -(max (a (ix2 n j)) 0 + Ideal.log1p (Ideal.exp (-(max (a (ix2 n j)) (-(a (ix2 n j))))))) := by
  unfold logsig
  pointwise [hz]
  rw [if_neg (by simp)]
  rfl

variable (m : (ℓ : Loc nD τ sig) → Buf (Elt Ideal) ℓ) (c : Dev nD)

/-- The run's result terms are the compositions above: the queries', -/
theorem result_q : res_main_v69 m c = scaled (normed (splitQ (prod (rows (m ((c.tc : Thread nD τ).loc main_arg0)) (m ((c.tc : Thread nD τ).loc main_arg1))) (m ((c.tc : Thread nD τ).loc main_arg2)))) (m ((c.tc : Thread nD τ).loc main_arg4))) := rfl

/-- the keys', -/
theorem result_k : res_main_v58 m c
    = shapeCast S16384x1024 (normed (splitK (prod (rows (m ((c.tc : Thread nD τ).loc main_arg0)) (m ((c.tc : Thread nD τ).loc main_arg1))) (m ((c.tc : Thread nD τ).loc main_arg2)))) (m ((c.tc : Thread nD τ).loc main_arg5))) shapeCasts_S16384x8x128_S16384x1024 := rfl

/-- the keys' in half the width, -/
theorem result_kb : res_main_v70 m c = truncf .bf16
    (shapeCast S16384x1024 (normed (splitK (prod (rows (m ((c.tc : Thread nD τ).loc main_arg0)) (m ((c.tc : Thread nD τ).loc main_arg1))) (m ((c.tc : Thread nD τ).loc main_arg2)))) (m ((c.tc : Thread nD τ).loc main_arg5))) shapeCasts_S16384x8x128_S16384x1024) bitsLt_bf16_f32 := rfl

/-- and the log forget gates'. -/
theorem result_f : res_main_v67 m c = logsig (gates (prod (rows (m ((c.tc : Thread nD τ).loc main_arg0)) (m ((c.tc : Thread nD τ).loc main_arg1))) (m ((c.tc : Thread nD τ).loc main_arg2))) (m ((c.tc : Thread nD τ).loc main_arg3))) zeros := rfl

end Cert.K.InProjRef

end
-- ==== Proof.InProjClaim.lean ====
/- The claims about the input projection: both frames, the ideal program and the equation with the reference. -/
module

public import proofs.«01_k».proof.Defs
public import proofs.«01_k».proof.Proof.InProjBitsFrame
public import proofs.«01_k».proof.Proof.InProjRun
public import proofs.«01_k».proof.Proof.InProjRef
public import proofs.«01_k».proof.Proof.AttnRef
public import Idealize.ShloMosaic.Lib.Quiescent

@[expose] public section

set_option maxRecDepth 16384

noncomputable section

namespace Cert.K.InProjClaim

open Idealize.ShloMosaic Idealize.ShloMosaic.TcCoe Idealize.SL.Sem
open Cert.K.InProj (proj heads headNorm lsig qs qOut kOut vOut uOut fOut vAt uAt fAt)

theorem frame_kernel : Cert.quiescent_InProj := fun m ρ _ => Cert.K.InProjBits.frame m ρ

theorem frame_ideal : Cert.quiescent_InProjIdeal := fun m ρ _ => Cert.K.InProj.frame m ρ

theorem frame_ref : Cert.quiescent_InProjRefIdeal := fun m ρ _ =>
  (θ_run Cert.InProjRefIdeal.defs _ _).mono (fun r h => ⟨fun c => (h c).2.2.2.2.2.2.2,
    Idealize.ShloMosaic.sem_eq_zero_of_no_sems (by decide) r.2⟩) (Cert.InProjRefIdeal.Value.run (F := Ideal) m ρ)

theorem preserves : Cert.preserves_InProj_InProjIdeal :=
  IdealRules.named_const.statement Cert.InProjIdeal.κ "q_scale" .f32 0x3E0293EE#32 _ rfl

theorem qs_val : qs = (((Real.sqrt 128)⁻¹ * (Real.log 2)⁻¹ : ℝ) : EReal) :=
  IdealRules.named_const.ideal_named_scalar _ _ _ _ rfl

theorem two_val : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this]
  exact if_neg (by norm_num)

/-- Dividing by the product of the root and the logarithm is multiplying by the named constant. -/
theorem div_scale (x : EReal) : Ideal.div x (Ideal.sqrt (Ideal.ofBits .f32 0x43000000#32)
    * Ideal.log (Ideal.ofBits .f32 0x40000000#32)) = x * qs := by
  have h2 : 0 < Real.log 2 := Real.log_pos (by norm_num)
  have h1 : 0 < Real.sqrt 128 := Real.sqrt_pos.2 (by norm_num)
  rw [Cert.K.AttnRef.root_val, two_val, ← EReal.coe_mul, Ideal.div_coe (by positivity), qs_val, one_div, mul_inv]

theorem max_coe (a b : ℝ) : max (a : EReal) b = ((max a b : ℝ) : EReal) := (EReal.coe_strictMono.monotone.map_max).symm

theorem min_coe (a b : ℝ) : min (a : EReal) b = ((min a b : ℝ) : EReal) := (EReal.coe_strictMono.monotone.map_min).symm

theorem log_one : Ideal.log 1 = 0 := by
  rw [← EReal.coe_one, Ideal.log_coe, if_neg (by norm_num), Real.log_one, EReal.coe_zero]

/-- The logarithm of the logistic function is the negated softplus of the negated argument. -/
theorem lsig_eq (x : EReal) :
    -(max (-x) 0 + Ideal.log1p (Ideal.exp (-(max (-x) (-(-x)))))) = lsig x := by
  unfold lsig
  induction x with
  | bot => simp [Ideal.log1p, log_one]
  | top => simp [Ideal.log1p, log_one]
  | coe r =>
    have hL : ∃ l : ℝ, Ideal.log1p (Ideal.exp (-(max (-(r : EReal)) r))) = l := by
      rw [← EReal.coe_neg, max_coe, ← EReal.coe_neg, Ideal.exp_coe]
      unfold Ideal.log1p
      rw [← EReal.coe_one, ← EReal.coe_add, Ideal.log_coe, if_neg (not_le.2 (by positivity))]
      exact ⟨_, rfl⟩
    obtain ⟨l, hl⟩ := hL
    rw [neg_neg, hl, zero_sub, max_comm (r : EReal), hl, ← EReal.coe_neg, ← EReal.coe_zero, max_coe, min_coe,
      ← EReal.coe_add, ← EReal.coe_neg, ← EReal.coe_sub]
    congr 1
    rw [neg_add, ← sub_eq_add_neg, ← min_neg_neg, neg_neg, neg_zero]

section Equal

variable (h : FVec Ideal Cert.InProjIdeal.S8x2048x2048 .f32) (g : FVec Ideal Cert.InProjIdeal.S2x2048 .f32)
  (w : FVec Ideal Cert.InProjIdeal.S2x2048x4104 .f32) (b : FVec Ideal Cert.InProjIdeal.S2x8 .f32)
  (gq gk : FVec Ideal Cert.InProjIdeal.S2x128 .f32)

/-- The product of the rows and the weights at an index. -/
theorem prod_eq (n : Fin 16384) (j : Fin 4104) :
    Cert.K.InProjRef.prod (Cert.K.InProjRef.rows h g) w (ix2 n j) = proj h g w n j := by
  rw [Cert.K.InProjRef.prod_at]
  simp only [Cert.K.InProjRef.rows_at]
  rfl

theorem equal_q : Cert.K.InProjRef.scaled (Cert.K.InProjRef.normed (Cert.K.InProjRef.splitQ
    (Cert.K.InProjRef.prod (Cert.K.InProjRef.rows h g) w)) gq) = qOut h g w gq := by
  funext y
  idx_vars y
  rw [Cert.K.InProjRef.scaled_at, div_scale, Cert.K.InProjRef.normed_at]
  simp only [Cert.K.InProjRef.splitQ_at, prod_eq]
  unfold qOut heads headNorm rms
  simp only [Nat.zero_add]
  rw [mul_assoc]
  rfl

theorem equal_k : shapeCast Cert.InProjRefIdeal.S16384x1024 (Cert.K.InProjRef.normed (Cert.K.InProjRef.splitK
    (Cert.K.InProjRef.prod (Cert.K.InProjRef.rows h g) w)) gk) Cert.InProjRefIdeal.Gen.shapeCasts_S16384x8x128_S16384x1024
    = kOut h g w gk := by
  funext y
  idx_vars y
  rw [Cert.K.InProjRef.joined_at, Cert.K.InProjRef.normed_at]
  simp only [Cert.K.InProjRef.splitK_at, prod_eq]
  rfl

theorem equal_v : extractStridedSlice Cert.InProjRefIdeal.S16384x1024 ![0, 2048]
    (Cert.K.InProjRef.prod (Cert.K.InProjRef.rows h g) w) Cert.InProjRefIdeal.Gen.slices_S16384x4104_S16384x1024_0_2048
    = vOut h g w := by
  funext y
  idx_vars y
  pointwise [prod_eq]
  rfl

theorem equal_u : extractStridedSlice Cert.InProjRefIdeal.S16384x1024 ![0, 3080]
    (Cert.K.InProjRef.prod (Cert.K.InProjRef.rows h g) w) Cert.InProjRefIdeal.Gen.slices_S16384x4104_S16384x1024_0_3080
    = uOut h g w := by
  funext y
  idx_vars y
  pointwise [prod_eq]
  rfl

theorem equal_f : Cert.K.InProjRef.logsig (Cert.K.InProjRef.gates
    (Cert.K.InProjRef.prod (Cert.K.InProjRef.rows h g) w) b) Cert.K.InProjRef.zeros = fOut h g w b := by
  funext y
  idx_vars y
  rw [Cert.K.InProjRef.logsig_at _ _ _ _ (Cert.K.InProjRef.zeros_at _ _), Cert.K.InProjRef.gates_at, lsig_eq, prod_eq]
  rfl

end Equal

theorem algebraic : Cert.algebraic_InProjIdeal_InProjRefIdeal := by
  intro m ρ m' ρ' _ hagree
  refine ⟨fun c => _, fun c => _, fun c => _, fun c => _, fun c => _, fun c => _, fun c => _,
    (θ_run Cert.InProjIdeal.defs _ _).mono (fun _ h c => ⟨(h c).1.1, (h c).1.2.1, (h c).1.2.2.1, (h c).1.2.2.2.1,
      (h c).1.2.2.2.2.1, (h c).1.2.2.2.2.2.1, (h c).1.2.2.2.2.2.2, (h c).2⟩) (Cert.K.InProj.run_results m ρ), ?_⟩
  refine (θ_run Cert.InProjRefIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_,
    (h c).2.2.2.2.2.2.2⟩) (Cert.InProjRefIdeal.Value.run (F := Ideal) m' ρ')
  all_goals obtain ⟨e0, e1, e2, e3, e4, e5⟩ := hagree c
  · refine (Cert.K.InProjRef.result_q m' c).trans ?_
    rw [e0, e1, e2, e4]
    exact equal_q _ _ _ _
  · refine (Cert.K.InProjRef.result_k m' c).trans ?_
    rw [e0, e1, e2, e5]
    exact equal_k _ _ _ _
  · refine (Cert.K.InProjRef.result_kb m' c).trans ?_
    rw [e0, e1, e2, e5]
    exact equal_k _ _ _ _
  · refine Eq.trans ?_ (equal_v _ _ _)
    rw [← e0, ← e1, ← e2]
    rfl
  · refine Eq.trans ?_ (equal_v _ _ _)
    rw [← e0, ← e1, ← e2]
    rfl
  · refine Eq.trans ?_ (equal_u _ _ _)
    rw [← e0, ← e1, ← e2]
    rfl
  · refine (Cert.K.InProjRef.result_f m' c).trans ?_
    rw [e0, e1, e2, e3]
    exact equal_f _ _ _ _

end Cert.K.InProjClaim

end
-- ==== Proof.CumBlock.lean ====
/- The cumulative sum at one grid point: each column of the block the sum of the columns up to it. -/
module

public import proofs.«01_k».proof.Proof.Gen.CumsumIdeal.Frame
public import Idealize.ShloMosaic.Lib.Pipeline.ValueKit
public import Idealize.ShloMosaic.Lib.IdealHost
public import Idealize.ShloMosaic.Lib.Pointwise

@[expose] public section

set_option maxRecDepth 16384

noncomputable section

namespace Cert.K.Cum

open Idealize.ShloMosaic Idealize.ShloMosaic.TcCoe Idealize.SL.Sem
open Cert.CumsumIdeal Cert.CumsumIdeal.Gen

/-- What rounding leaves of a column block, -/
def rest (x : FVec Ideal S8x256 .f32) : FVec Ideal S8x256 .f32 := subf x (extf .f32 (truncf .bf16 x bitsLt_bf16_f32) bitsLt_bf16_f32)

/-- a column block's sums up to each column, -/
def partials (x : FVec Ideal S8x256 .f32) : FVec Ideal S8x256 .f32 :=
  matmul dot_S8x256_S256x256_S8x256_1_0_0_1_n_n none (truncf .bf16 x bitsLt_bf16_f32) (k0_pay2 (F := Ideal)) (constant S8x256 .f32 0x00000000#32)

/-- and the same with what comes in from the block before. -/
def step (v : FVec Ideal S1x8x256 .f32) (y : FVec Ideal S8x1 .f32) : FVec Ideal S8x256 .f32 :=
  addf (addf (addf (partials (shapeCast S8x256 v shapeCasts_S1x8x256_S8x256)) (partials (rest (shapeCast S8x256 v shapeCasts_S1x8x256_S8x256))))
    (partials (rest (rest (shapeCast S8x256 v shapeCasts_S1x8x256_S8x256))))) (broadcastTo S8x256 y broadcasts_S8x1_S8x256)

/-- The last column. -/
def last (s : FVec Ideal S8x256 .f32) : FVec Ideal S8x1 .f32 := extractStridedSlice S8x1 ![0, 255] s slices_S8x256_o0_255_S8x1

theorem tri_at (i b : Fin 256) : k0_pay2 (F := Ideal) (ix2 i b) = if i.val ≤ b.val then (1 : EReal) else 0 := by
  have hi := i.isLt
  have hb := b.isLt
  pointwise [k0_pay2]
  rw [WordCmp.cmpi_sle_ofNat (by norm_num; omega) (by norm_num; omega)]
  by_cases h : i.val ≤ b.val
  · have hd : decide (i.val ≤ b.val) = true := decide_eq_true h
    rw [hd, Scalar.select, if_pos (by decide), if_pos h]
  · have hd : decide (i.val ≤ b.val) = false := decide_eq_false h
    rw [hd, Scalar.select, if_neg (by decide), if_neg h]

theorem partials_at (x : FVec Ideal S8x256 .f32) (h : Fin 8) (b : Fin 256) :
    partials x (ix2 h b) = ∑ i : Fin 256, x (ix2 h i) * (if i.val ≤ b.val then (1 : EReal) else 0) := by
  unfold partials
  pointwise [tri_at]

theorem rest_at (x : FVec Ideal S8x256 .f32) (i : S8x256.Idx) : rest x i = x i - x i := by
  unfold rest
  pointwise

/-- Below infinity what rounding leaves adds nothing. -/
theorem three (x : EReal) (hx : x ≠ ⊤) : x + (x - x) + ((x - x) - (x - x)) = x := by
  induction x with
  | bot => simp
  | top => exact absurd rfl hx
  | coe r => rw [← EReal.coe_sub, ← EReal.coe_sub, ← EReal.coe_add, ← EReal.coe_add]; simp

/-- The sum over the columns up to one of them, as a sum over a range. -/
theorem sum_le (g : ℕ → EReal) (b : Fin 256) :
    ∑ i : Fin 256, g i.val * (if i.val ≤ b.val then (1 : EReal) else 0) = ∑ i ∈ Finset.range (b.val + 1), g i := by
  have hb := b.isLt
  rw [Fin.sum_univ_eq_sum_range (fun i => g i * (if i ≤ b.val then (1 : EReal) else 0)) 256]
  refine (Finset.sum_subset (Finset.range_subset_range.2 (by omega)) fun i _ hi => ?_).symm.trans (Finset.sum_congr rfl fun i hi => ?_)
  · rw [if_neg, mul_zero]
    simp at hi
    omega
  · rw [if_pos, mul_one]
    simp at hi
    omega

theorem step_at (v : FVec Ideal S1x8x256 .f32) (y : FVec Ideal S8x1 .f32) (h : Fin 8) (g : ℕ → EReal) (hg : ∀ i, g i ≠ ⊤)
    (hv : ∀ i : Fin 256, v (ix3 0 h i) = g i.val) (b : Fin 256) :
    step v y (ix2 h b) = (∑ i ∈ Finset.range (b.val + 1), g i) + y (ix2 h 0) := by
  unfold step
  pointwise [partials_at, rest_at, hv]
  rw [← Finset.sum_add_distrib, ← Finset.sum_add_distrib, ← sum_le]
  congr 1
  refine Finset.sum_congr rfl fun i _ => ?_
  by_cases hi : i.val ≤ b.val
  · simp only [if_pos hi, mul_one]
    exact three _ (hg _)
  · simp only [if_neg hi, mul_zero, add_zero]

theorem last_at (s : FVec Ideal S8x256 .f32) (h : Fin 8) : last s (ix2 h 0) = s (ix2 h 255) := by
  unfold last
  pointwise

/-- The next block of columns, from the last column of the block before. -/
theorem next_at (v : FVec Ideal S1x8x256 .f32) (s : FVec Ideal S8x256 .f32) (h : Fin 8) (f : ℕ → EReal) (hf : ∀ i, f i ≠ ⊤) (o : ℕ)
    (hs : s (ix2 h 255) = ∑ i ∈ Finset.range o, f i) (hv : ∀ i : Fin 256, v (ix3 0 h i) = f (o + i.val)) (b : Fin 256) :
    step v (last s) (ix2 h b) = ∑ i ∈ Finset.range (o + (b.val + 1)), f i := by
  rw [step_at v _ h (fun i => f (o + i)) (fun i => hf _) hv, last_at, hs, Finset.sum_range_add f o (b.val + 1), add_comm]

/-- The eight blocks of columns, one after the other. -/
def s0 (x0 : Vec Ideal S1x8x2048 .f32) (x1 : Vec Ideal S1x8x128 .f32) : FVec Ideal S8x256 .f32 :=
  step (View.ld x0 r0_1) (shapeCast S8x1 (View.ld x1 r0_0) shapeCasts_S1x8x1_S8x1)
def s1 (x0 : Vec Ideal S1x8x2048 .f32) (x1 : Vec Ideal S1x8x128 .f32) : FVec Ideal S8x256 .f32 := step (View.ld x0 r0_2) (last (s0 x0 x1))
def s2 (x0 : Vec Ideal S1x8x2048 .f32) (x1 : Vec Ideal S1x8x128 .f32) : FVec Ideal S8x256 .f32 := step (View.ld x0 r0_3) (last (s1 x0 x1))
def s3 (x0 : Vec Ideal S1x8x2048 .f32) (x1 : Vec Ideal S1x8x128 .f32) : FVec Ideal S8x256 .f32 := step (View.ld x0 r0_4) (last (s2 x0 x1))
def s4 (x0 : Vec Ideal S1x8x2048 .f32) (x1 : Vec Ideal S1x8x128 .f32) : FVec Ideal S8x256 .f32 := step (View.ld x0 r0_5) (last (s3 x0 x1))
def s5 (x0 : Vec Ideal S1x8x2048 .f32) (x1 : Vec Ideal S1x8x128 .f32) : FVec Ideal S8x256 .f32 := step (View.ld x0 r0_6) (last (s4 x0 x1))
def s6 (x0 : Vec Ideal S1x8x2048 .f32) (x1 : Vec Ideal S1x8x128 .f32) : FVec Ideal S8x256 .f32 := step (View.ld x0 r0_7) (last (s5 x0 x1))
def s7 (x0 : Vec Ideal S1x8x2048 .f32) (x1 : Vec Ideal S1x8x128 .f32) : FVec Ideal S8x256 .f32 := step (View.ld x0 r0_8) (last (s6 x0 x1))

/-- A block of columns as the result's own shape has it. -/
def whole (s : FVec Ideal S8x256 .f32) : FVec Ideal S1x8x256 .f32 := shapeCast S1x8x256 s shapeCasts_S8x256_S1x8x256

theorem whole_at (s : FVec Ideal S8x256 .f32) (o : Fin 1) (h : Fin 8) (b : Fin 256) : whole s (ix3 o h b) = s (ix2 h b) := by
  unfold whole
  pointwise

theorem out_eq (x0 : Vec Ideal S1x8x2048 .f32) (x1 : Vec Ideal S1x8x128 .f32) :
    out0_2 (F := Ideal) x0 x1 = View.canon [⟨r0_8, whole (s7 x0 x1)⟩, ⟨r0_7, whole (s6 x0 x1)⟩, ⟨r0_6, whole (s5 x0 x1)⟩, ⟨r0_5, whole (s4 x0 x1)⟩,
      ⟨r0_4, whole (s3 x0 x1)⟩, ⟨r0_3, whole (s2 x0 x1)⟩, ⟨r0_2, whole (s1 x0 x1)⟩, ⟨r0_1, whole (s0 x0 x1)⟩] := rfl

section
variable (g : Vec Ideal S1x8x2048 .f32) (z : Vec Ideal S1x8x128 .f32) (h : Fin 8) (f : ℕ → EReal) (hf : ∀ i, f i ≠ ⊤)
  (h0 : ∀ n : Fin 2048, g (ix3 0 h n) = f n.val) (hz : z (ix3 0 h 0) = 0)
include hf h0 hz

theorem s0_at (b : Fin 256) : s0 g z (ix2 h b) = ∑ i ∈ Finset.range (0 + (b.val + 1)), f i := by
  unfold s0
  have hv : ∀ i : Fin 256, View.ld g r0_1 (ix3 0 h i) = f i.val := fun i => by
    refine Eq.trans ?_ (h0 ⟨i.val, by omega⟩)
    exact View.ld_unit_apply_of _ _ _ _ _ _ (fun a => by fin_cases a <;> simp)
  rw [step_at _ _ h f hf hv]
  have he : shapeCast S8x1 (View.ld z r0_0) shapeCasts_S1x8x1_S8x1 (ix2 h 0) = 0 := by
    pointwise
    exact hz
  rw [he, add_zero, Nat.zero_add]

theorem s1_at (b : Fin 256) : s1 g z (ix2 h b) = ∑ i ∈ Finset.range (256 + (b.val + 1)), f i := by
  refine next_at _ (s0 g z) h f hf 256 (s0_at g z h f hf h0 hz 255) (fun i => ?_) b
  refine Eq.trans ?_ (h0 ⟨256 + i.val, by omega⟩)
  exact View.ld_unit_apply_of _ _ _ _ _ _ (fun a => by fin_cases a <;> simp)

theorem s2_at (b : Fin 256) : s2 g z (ix2 h b) = ∑ i ∈ Finset.range (512 + (b.val + 1)), f i := by
  refine next_at _ (s1 g z) h f hf 512 (s1_at g z h f hf h0 hz 255) (fun i => ?_) b
  refine Eq.trans ?_ (h0 ⟨512 + i.val, by omega⟩)
  exact View.ld_unit_apply_of _ _ _ _ _ _ (fun a => by fin_cases a <;> simp)

theorem s3_at (b : Fin 256) : s3 g z (ix2 h b) = ∑ i ∈ Finset.range (768 + (b.val + 1)), f i := by
  refine next_at _ (s2 g z) h f hf 768 (s2_at g z h f hf h0 hz 255) (fun i => ?_) b
  refine Eq.trans ?_ (h0 ⟨768 + i.val, by omega⟩)
  exact View.ld_unit_apply_of _ _ _ _ _ _ (fun a => by fin_cases a <;> simp)

theorem s4_at (b : Fin 256) : s4 g z (ix2 h b) = ∑ i ∈ Finset.range (1024 + (b.val + 1)), f i := by
  refine next_at _ (s3 g z) h f hf 1024 (s3_at g z h f hf h0 hz 255) (fun i => ?_) b
  refine Eq.trans ?_ (h0 ⟨1024 + i.val, by omega⟩)
  exact View.ld_unit_apply_of _ _ _ _ _ _ (fun a => by fin_cases a <;> simp)

theorem s5_at (b : Fin 256) : s5 g z (ix2 h b) = ∑ i ∈ Finset.range (1280 + (b.val + 1)), f i := by
  refine next_at _ (s4 g z) h f hf 1280 (s4_at g z h f hf h0 hz 255) (fun i => ?_) b
  refine Eq.trans ?_ (h0 ⟨1280 + i.val, by omega⟩)
  exact View.ld_unit_apply_of _ _ _ _ _ _ (fun a => by fin_cases a <;> simp)

theorem s6_at (b : Fin 256) : s6 g z (ix2 h b) = ∑ i ∈ Finset.range (1536 + (b.val + 1)), f i := by
  refine next_at _ (s5 g z) h f hf 1536 (s5_at g z h f hf h0 hz 255) (fun i => ?_) b
  refine Eq.trans ?_ (h0 ⟨1536 + i.val, by omega⟩)
  exact View.ld_unit_apply_of _ _ _ _ _ _ (fun a => by fin_cases a <;> simp)

theorem s7_at (b : Fin 256) : s7 g z (ix2 h b) = ∑ i ∈ Finset.range (1792 + (b.val + 1)), f i := by
  refine next_at _ (s6 g z) h f hf 1792 (s6_at g z h f hf h0 hz 255) (fun i => ?_) b
  refine Eq.trans ?_ (h0 ⟨1792 + i.val, by omega⟩)
  exact View.ld_unit_apply_of _ _ _ _ _ _ (fun a => by fin_cases a <;> simp)

/-- The block of results: each column the sum of the columns up to it. -/
theorem block (o : Fin 1) (n : Fin 2048) : out0_2 (F := Ideal) g z (ix3 o h n) = ∑ i ∈ Finset.range (n.val + 1), f i := by
  rw [out_eq]
  canon_tiles x hx
  · idx_vars x
    obtain rfl : h = x1 := Fin.ext hx1
    rw [whole_at, s7_at _ _ _ f hf h0 hz]
    congr 2
    omega
  · idx_vars x
    obtain rfl : h = x1 := Fin.ext hx1
    rw [whole_at, s6_at _ _ _ f hf h0 hz]
    congr 2
    omega
  · idx_vars x
    obtain rfl : h = x1 := Fin.ext hx1
    rw [whole_at, s5_at _ _ _ f hf h0 hz]
    congr 2
    omega
  · idx_vars x
    obtain rfl : h = x1 := Fin.ext hx1
    rw [whole_at, s4_at _ _ _ f hf h0 hz]
    congr 2
    omega
  · idx_vars x
    obtain rfl : h = x1 := Fin.ext hx1
    rw [whole_at, s3_at _ _ _ f hf h0 hz]
    congr 2
    omega
  · idx_vars x
    obtain rfl : h = x1 := Fin.ext hx1
    rw [whole_at, s2_at _ _ _ f hf h0 hz]
    congr 2
    omega
  · idx_vars x
    obtain rfl : h = x1 := Fin.ext hx1
    rw [whole_at, s1_at _ _ _ f hf h0 hz]
    congr 2
    omega
  · idx_vars x
    obtain rfl : h = x1 := Fin.ext hx1
    rw [whole_at, s0_at _ _ _ f hf h0 hz]
    congr 2
    omega

end

end Cert.K.Cum

end
-- ==== Proof.CumValue.lean ====
/- The cumulative sum's whole result: at every sequence, head and step, the sum of the gates up to the step. -/
module

public import proofs.«01_k».proof.Proof.CumBlock
public import proofs.«01_k».proof.Proof.Gen.CumsumIdeal.Value
public import Idealize.ShloMosaic.Lib.Pipeline.ValueKit
public import Idealize.ShloMosaic.Lib.Pointwise

@[expose] public section

set_option maxRecDepth 16384

noncomputable section

namespace Cert.K.Cum

open Idealize.ShloMosaic Idealize.ShloMosaic.TcCoe Idealize.SL.Sem
open Idealize.ShloMosaic.Pipeline (Dat)
open Cert.CumsumIdeal Cert.CumsumIdeal.Gen Cert.CumsumIdeal.Value

variable (m : (ℓ : Loc nD τ sig) → Buf (Elt Ideal) ℓ)

/-- The blocks each grid point reads and writes: one sequence. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

/-- The gates of one sequence and head, step by step, nothing past the last. -/
def gate (x : FVec Ideal S8x2048x8 .f32) (b : Fin 8) (h : Fin 8) (n : ℕ) : EReal := if hn : n < 2048 then x (ix3 b ⟨n, hn⟩ h) else 0

theorem gate_at (x : FVec Ideal S8x2048x8 .f32) (b h : Fin 8) (n : Fin 2048) : x (ix3 b n h) = gate x b h n.val := by
  unfold gate
  rw [dif_pos n.isLt]

theorem gate_ne (x : FVec Ideal S8x2048x8 .f32) (hx : ∀ i, x i ≠ (⊤ : EReal)) (b h : Fin 8) (n : ℕ) : gate x b h n ≠ ⊤ := by
  unfold gate
  split
  · exact hx _
  · exact EReal.zero_ne_top

/-- The sums at one sequence, head and step. -/
def outAt (x : FVec Ideal S8x2048x8 .f32) (b h : Fin 8) (n : Fin 2048) : EReal := ∑ i ∈ Finset.range (n.val + 1), gate x b h i

/-- The whole result. -/
def out (x : FVec Ideal S8x2048x8 .f32) : FVec Ideal S8x8x2048 .f32 := fun y => outAt x (y 0) (y 1) (y 2)

theorem outAt_congr (x : FVec Ideal S8x2048x8 .f32) (b b' h h' : Fin 8) (n n' : Fin 2048) (hb : b.val = b'.val) (hh : h.val = h'.val)
    (hn : n.val = n'.val) : outAt x b h n = outAt x b' h' n' := by
  rw [Fin.ext hb, Fin.ext hh, Fin.ext hn]

/-- The block of gates of a grid point. -/
theorem x_block (c : Dev nD) (t : Fin cfg0.N) (ht : t.val < 8) (h : Fin 8) (n : Fin 2048) :
    iblk m c 0 t (ix3 0 h n) = m ((c : Thread nD τ).loc main_arg0) (ix3 ⟨t.val, by omega⟩ n h) := by
  blk_point [iblk, idx t]

/-- What the sums start from. -/
theorem z_block (c : Dev nD) (t : Fin cfg0.N) (h : Fin 8) : iblk m c 1 t (ix3 0 h 0) = (0 : EReal) := by
  blk_point [iblk, idx t]

/-- The result after the run, where every gate is below infinity. -/
theorem final (c : Dev nD) (hx : ∀ i, m ((c : Thread nD τ).loc main_arg0) i ≠ (⊤ : EReal)) :
    (dats m 0 c).arrAt 2 cfg0.N = out (m ((c : Thread nD τ).loc main_arg0)) := by
  refine (dats m 0 c).arrAt_eq_of_covers 2 _ (by decide +kernel) fun t hf y => ?_
  have ht : t.val < 8 := t.isLt
  blk_simp
  rw [after0_2]
  idx_vars y
  refine (block _ _ y1 (gate (m ((c : Thread nD τ).loc main_arg0)) ⟨t.val, by omega⟩ y1) (gate_ne _ hx _ _)
    (fun n => (x_block m c t ht y1 n).trans (gate_at _ _ _ _)) (z_block m c t y1) _ _).trans ?_
  refine outAt_congr _ ⟨t.val, by omega⟩ _ y1 _ y2 _ ?_ ?_ ?_ <;> blk_simp [idx t] <;> simp <;> omega

end Cert.K.Cum

end
-- ==== Proof.CumRef.lean ====
/- The reference's cumulative sum over time: at each step, the sum of the gates up to it. -/
module

public import proofs.«01_k».proof.Proof.Gen.CumsumRefIdeal.Run
public import Idealize.ShloMosaic.Lib.IdealHost
public import Idealize.ShloMosaic.Lib.Pointwise

@[expose] public section

set_option maxRecDepth 16384

noncomputable section

namespace Cert.K.CumRef

open Idealize.ShloMosaic Idealize.ShloMosaic.TcCoe Idealize.SL.Sem
open Cert.CumsumRefIdeal Cert.CumsumRefIdeal.Gen

/-- Adding a list's terms one by one is adding their sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window's sum, over the window's own index. -/
theorem window_sum (W : Shape) (g : W.Idx → EReal) :
    (List.finRange W.numel).foldl (fun r n => r + g (W.rowMajor.symm n)) 0 = ∑ i, g i := by
  rw [foldl_add _ (fun n => g (W.rowMajor.symm n)), zero_add, ← Fin.sum_univ_def]
  exact Equiv.sum_comp W.rowMajor.symm g

/-- The host's window sum from nothing, over the window's own index. -/
theorem reduce_window {s t : Shape} (window strides lo hi : Fin s.rank → ℕ) (h : s.ReduceWindows window strides lo hi t) (x : s.Idx → EReal) (j : t.Idx) :
    Ideal.hostReduceWindowAdd window strides lo hi h x 0 j
      = ∑ w : (⟨s.rank, window⟩ : Shape).Idx, if hin : ∀ a, lo a ≤ (j (a.cast h.1.symm)).val * strides a + (w a).val
            ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  dsimp only
  refine Eq.trans ?_ (window_sum ⟨s.rank, window⟩ fun w => if hin : ∀ a, lo a ≤ (j (a.cast h.1.symm)).val * strides a + (w a).val
      ∧ (j (a.cast h.1.symm)).val * strides a + (w a).val - lo a < s.size a
    then x (fun a => ⟨(j (a.cast h.1.symm)).val * strides a + (w a).val - lo a, (hin a).2⟩) else 0)
  congr
  funext r n
  congr

/-- The window of 2048 steps that ends at step `t`, padded with nothing before the first: the sum up to `t`. -/
theorem window_steps (f : ℕ → EReal) (t : Fin 2048) :
    ∑ n : Fin 2048, (if 2047 ≤ t.val + n.val then f (t.val + n.val - 2047) else 0) = ∑ i ∈ Finset.range (t.val + 1), f i := by
  have ht := t.isLt
  rw [Fin.sum_univ_eq_sum_range (fun n => if 2047 ≤ t.val + n then f (t.val + n - 2047) else 0) 2048]
  generalize t.val = u at ht ⊢
  have e : 2048 = (2047 - u) + (u + 1) := by omega
  rw [e, Finset.sum_range_add, Finset.sum_eq_zero, zero_add]
  · refine Finset.sum_congr rfl fun i _ => ?_
    rw [if_pos (by omega)]
    congr 1
    omega
  · intro i hi
    simp at hi
    rw [if_neg (by omega)]

/-- The reference's sums. -/
def sums (x : FVec Ideal S8x2048x8 .f32) : FVec Ideal S8x2048x8 .f32 :=
  Host.reduceWindowAdd ![1, 2048, 1] ![1, 1, 1] ![0, 2047, 0] ![0, 0, 0] x (broadcastInDim S_ ![] bcast_S_S_ (constant S_ .f32 0x00000000#32))
    reduceWindows_S8x2048x8_S8x2048x8_w1s1p0_0_w2048s1p2047_0_w1s1p0_0 h_S_

theorem sums_at (x : FVec Ideal S8x2048x8 .f32) (b : Fin 8) (t : Fin 2048) (h : Fin 8) (f : ℕ → EReal)
    (hf : ∀ n : Fin 2048, x (ix3 b n h) = f n.val) : sums x (ix3 b t h) = ∑ i ∈ Finset.range (t.val + 1), f i := by
  have ht := t.isLt
  have hv : (broadcastInDim S_ ![] bcast_S_S_ (constant (F := Ideal) S_ .f32 0x00000000#32)) (Shape.Idx.first h_S_) = (0 : EReal) := by
    pointwise
  unfold sums Host.reduceWindowAdd
  rw [hv]
  refine (reduce_window (s := S8x2048x8) _ _ _ _ _ x (ix3 b t h)).trans ?_
  rw [sum_idx3]
  simp only [Fin.sum_univ_one]
  rw [← window_steps]
  refine Finset.sum_congr rfl fun n _ => ?_
  have hn := n.isLt
  have hb := b.isLt
  have hh := h.isLt
  by_cases hc : 2047 ≤ t.val + n.val
  · rw [if_pos hc, dif_pos fun a => by fin_cases a <;> simp <;> omega]
    refine Eq.trans (congrArg x (funext fun a => Fin.ext ?_)) (hf ⟨t.val + n.val - 2047, by omega⟩)
    fin_cases a <;> simp
  · rw [if_neg hc, dif_neg fun hin => hc ?_]
    have h1 := (hin 1).1
    simpa using h1

/-- The reference's result, the heads before the steps. -/
theorem result (x : FVec Ideal S8x2048x8 .f32) (b : Fin 8) (h : Fin 8) (t : Fin 2048) (f : ℕ → EReal)
    (hf : ∀ n : Fin 2048, x (ix3 b n h) = f n.val) :
    transpose S8x8x2048 [0, 2, 1] (sums x) transposes_S8x2048x8_S8x8x2048_0_2_1 (ix3 b h t) = ∑ i ∈ Finset.range (t.val + 1), f i := by
  rw [← sums_at x b t h f hf]
  pointwise

end Cert.K.CumRef

end
-- ==== Proof.CumPre.lean ====
/- What the precondition of the cumulative sum says: every gate is below infinity. -/
module

public import proofs.«01_k».proof.Proof.Gen.Pre_gates_below_infinity
public import Idealize.ShloMosaic.Lib.ReduceAll
public import Idealize.ShloMosaic.Lib.Pointwise

@[expose] public section

set_option maxRecDepth 16384

noncomputable section

namespace Cert.K.CumPre

open Idealize.ShloMosaic Idealize.SL.Sem
open Cert.Pre_gates_below_infinity Cert.Pre_gates_below_infinity.Gen

instance : Subsingleton S_.Idx := ⟨fun a b => funext fun i => i.elim0⟩

theorem inf_val : Ideal.ofBits FTy.f32 0x7F800000#32 = ⊤ := by
  simp [Ideal.ofBits, Ideal.ieee]

theorem ne_of_cmp {s : Shape} (x v : FVec Ideal s .f32) (i : s.Idx) (hv : v i = (⊤ : EReal)) (h : cmpf CmpFPredicate.olt x v i = 1#1) :
    x i ≠ (⊤ : EReal) := by
  intro hx
  pointwise at h
  rw [hv, hx] at h
  have hd : decide ((⊤ : EReal) < ⊤) = false := decide_eq_false (lt_irrefl _)
  rw [hd] at h
  exact absurd h (by decide)

theorem pre_ne (x : FVec Ideal S8x2048x8 .f32) (h : fn x ix0 = 1#1) (i : S8x2048x8.Idx) : x i ≠ (⊤ : EReal) := by
  dsimp only [fn] at h
  exact ne_of_cmp _ _ i inf_val (Host.reduce_andi_all _ _ _ _ _ h i)

end Cert.K.CumPre

end
-- ==== Proof.CumClaim.lean ====
/- The claims about the cumulative sum: both frames and the equation with the reference. -/
module

public import proofs.«01_k».proof.Defs
public import proofs.«01_k».proof.Proof.Gen.Cumsum.Frame
public import proofs.«01_k».proof.Proof.Gen.CumsumIdeal.Frame
public import proofs.«01_k».proof.Proof.CumValue
public import proofs.«01_k».proof.Proof.CumRef
public import proofs.«01_k».proof.Proof.CumPre
public import Idealize.ShloMosaic.Lib.Quiescent

@[expose] public section

set_option maxRecDepth 16384

noncomputable section

namespace Cert.K.CumClaim

open Idealize.ShloMosaic Idealize.ShloMosaic.TcCoe Idealize.SL.Sem

theorem frame_kernel : Cert.quiescent_Cumsum := fun m ρ _ => Cert.Cumsum.Gen.frame m ρ

theorem frame_ideal : Cert.quiescent_CumsumIdeal := fun m ρ _ => Cert.CumsumIdeal.Gen.frame m ρ

theorem frame_ref : Cert.quiescent_CumsumRefIdeal := fun m ρ _ =>
  (θ_run Cert.CumsumRefIdeal.defs _ _).mono (fun r h => ⟨fun c => (h c).2,
    Idealize.ShloMosaic.sem_eq_zero_of_no_sems (by decide) r.2⟩) (Cert.CumsumRefIdeal.Value.run (F := Ideal) m ρ)

theorem frame_ideal_pre : Cert.quiescent_CumsumIdeal_pre_gates_below_infinity := fun m ρ _ => frame_ideal m ρ trivial

theorem frame_ref_pre : Cert.quiescent_CumsumRefIdeal_pre_gates_below_infinity := fun m ρ _ => frame_ref m ρ trivial

/-- The reference's sums are the kernel's. -/
theorem equal (x : FVec Ideal Cert.CumsumIdeal.S8x2048x8 .f32) :
    transpose Cert.CumsumRefIdeal.S8x8x2048 [0, 2, 1] (Cert.K.CumRef.sums x)
      Cert.CumsumRefIdeal.Gen.facts.transposes_S8x2048x8_S8x8x2048_0_2_1 = Cert.K.Cum.out x := by
  funext y
  idx_vars y
  exact Cert.K.CumRef.result x _ _ _ (Cert.K.Cum.gate x _ _) (fun n => Cert.K.Cum.gate_at x _ _ n)

theorem algebraic : Cert.algebraic_CumsumIdeal_CumsumRefIdeal_pre_gates_below_infinity := by
  intro m ρ m' ρ' hpre hagree
  refine ⟨_, Cert.CumsumIdeal.Value.run_blocks (F := Ideal) m ρ, ?_⟩
  refine (θ_run Cert.CumsumRefIdeal.defs _ _).mono (fun _ h c => ⟨(h c).1.trans ?_, (h c).2⟩)
    (Cert.CumsumRefIdeal.Value.run (F := Ideal) m' ρ')
  rw [Cert.K.Cum.final m c (Cert.K.CumPre.pre_ne _ (congrFun (hpre c) ix0)), hagree c]
  exact equal _

end Cert.K.CumClaim

end
-- ==== Proof.PleCValue.lean ====
/- The per-layer embedding over the cached batch's result, whole. -/
module

public import proofs.«01_k».proof.Proof.Gen.PleCachedIdeal.Value
public import proofs.«01_k».proof.Proof.Norm
public import Idealize.ShloMosaic.Lib.Pipeline.ValueKit
public import Idealize.ShloMosaic.Lib.Pointwise

@[expose] public section

set_option maxRecDepth 16384

noncomputable section

namespace Cert.K.PleC

open Idealize.ShloMosaic Idealize.ShloMosaic.TcCoe Idealize.SL.Sem
open Idealize.ShloMosaic.Pipeline (Dat)
open Cert.PleCachedIdeal Cert.PleCachedIdeal.Gen Cert.PleCachedIdeal.Value

variable (m : (ℓ : Loc nD τ sig) → Buf (Elt Ideal) ℓ)

/-- One block of rows' result at an index. -/
theorem block (x : Vec Ideal S256x2048 .f32) (p : Vec Ideal S256x256 .f32) (g : Vec Ideal S1x1x2048 .f32)
    (wg : Vec Ideal S1x2048x2048 .bf16) (wp : Vec Ideal S1x256x2048 .bf16) (a : Fin 256) (e : Fin 2048) :
    out0_5 (F := Ideal) x p g wg wp (ix2 a e) = x (ix2 a e)
      + sigm (∑ d, rms 1157627904#32 (fun d => x (ix2 a d)) (fun d => g (ix3 0 0 d)) d * wg (ix3 0 d e))
        * ∑ k, p (ix2 a k) * wp (ix3 0 k e) := by
  have h : out0_5 (F := Ideal) x p g wg wp = k0_pay1 x g wg p wp := by
    unfold out0_5
    frame_out
  rw [h]
  unfold sigm rms
  pointwise [k0_pay1]

/-- The blocks each grid point reads and writes. -/
theorem idx : ∀ t : Fin cfg0.N, win0_0.index t = ![t.val, 0] ∧ win0_1.index t = ![t.val, 0] ∧ win0_2.index t = ![1, 0, 0]
    ∧ win0_3.index t = ![1, 0, 0] ∧ win0_4.index t = ![1, 0, 0] ∧ win0_5.index t = ![t.val, 0] :=
  (by decide +kernel : ∀ t : Fin grid0.N, _)

/-- One row of the input, the sequences one after another. -/
def row (h : FVec Ideal S16x16x2048 .f32) (n : Fin 256) (d : Fin 2048) : EReal :=
  h (ix3 ⟨n.val / 16, by omega⟩ ⟨n.val % 16, by omega⟩ d)

/-- One row of the last layer's embedding. -/
def emb (p : FVec Ideal S2x16x16x256 .f32) (n : Fin 256) (k : Fin 256) : EReal :=
  p (ix4 1 ⟨n.val / 16, by omega⟩ ⟨n.val % 16, by omega⟩ k)

/-- The result at a row and channel. -/
def outAt (h : FVec Ideal S16x16x2048 .f32) (p : FVec Ideal S2x16x16x256 .f32) (g : FVec Ideal S2x2048 .f32) (wg : FVec Ideal S2x2048x2048 .f32)
    (wp : FVec Ideal S2x256x2048 .f32) (n : Fin 256) (e : Fin 2048) : EReal :=
  row h n e + sigm (∑ d, rms 1157627904#32 (row h n) (fun d => g (ix2 1 d)) d * wg (ix3 1 d e)) * ∑ k, emb p n k * wp (ix3 1 k e)

/-- The whole result. -/
def out (h : FVec Ideal S16x16x2048 .f32) (p : FVec Ideal S2x16x16x256 .f32) (g : FVec Ideal S2x2048 .f32) (wg : FVec Ideal S2x2048x2048 .f32)
    (wp : FVec Ideal S2x256x2048 .f32) : FVec Ideal S256x2048 .f32 := fun y => outAt h p g wg wp (y 0) (y 1)

theorem outAt_congr (h : FVec Ideal S16x16x2048 .f32) (p : FVec Ideal S2x16x16x256 .f32) (g : FVec Ideal S2x2048 .f32) (wg : FVec Ideal S2x2048x2048 .f32)
    (wp : FVec Ideal S2x256x2048 .f32) (n n' : Fin 256) (e e' : Fin 2048) (hn : n.val = n'.val) (he : e.val = e'.val) :
    outAt h p g wg wp n e = outAt h p g wg wp n' e' := by
  rw [Fin.ext hn, Fin.ext he]

theorem h_block (c : Dev nD) (t : Fin cfg0.N) (ht : t.val < 1) (a : Fin 256) (d : Fin 2048) :
    iblk m c 0 t (ix2 a d) = row (m ((c : Thread nD τ).loc main_arg0)) ⟨256 * t.val + a.val, by omega⟩ d := by
  unfold row
  blk_point [iblk, idx t]

theorem p_block (c : Dev nD) (t : Fin cfg0.N) (ht : t.val < 1) (a : Fin 256) (k : Fin 256) :
    iblk m c 1 t (ix2 a k) = emb (m ((c : Thread nD τ).loc main_arg1)) ⟨256 * t.val + a.val, by omega⟩ k := by
  unfold emb
  blk_point [iblk, idx t]

theorem g_block (c : Dev nD) (t : Fin cfg0.N) (d : Fin 2048) :
    iblk m c 2 t (ix3 0 0 d) = m ((c : Thread nD τ).loc main_arg2) (ix2 1 d) := by
  blk_point [iblk, idx t]

theorem wg_block (c : Dev nD) (t : Fin cfg0.N) (d e : Fin 2048) :
    iblk m c 3 t (ix3 0 d e) = m ((c : Thread nD τ).loc main_arg3) (ix3 1 d e) := by
  blk_point [iblk, idx t]

theorem wp_block (c : Dev nD) (t : Fin cfg0.N) (k : Fin 256) (e : Fin 2048) :
    iblk m c 4 t (ix3 0 k e) = m ((c : Thread nD τ).loc main_arg4) (ix3 1 k e) := by
  blk_point [iblk, idx t]

/-- The result after the run. -/
theorem final (c : Dev nD) :
    (dats m 0 c).arrAt 5 cfg0.N = out (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht : t.val < 1 := t.isLt
  blk_simp
  rw [after0_5]
  idx_vars y
  rw [block]
  simp only [h_block m c t ht, p_block m c t ht, g_block, wg_block, wp_block]
  refine outAt_congr _ _ _ _ _ ⟨256 * t.val + y0.val, by omega⟩ _ y1 _ ?_ ?_ <;> blk_simp [idx t] <;> simp <;> omega

end Cert.K.PleC

end
-- ==== Proof.PleCRef.lean ====
/- The per-layer embedding over the cached batch's reference at an index of its result. -/
module

public import proofs.«01_k».proof.Proof.Gen.PleCachedRefIdeal.Run
public import proofs.«01_k».proof.Proof.Norm
public import Idealize.ShloMosaic.Lib.Pointwise

@[expose] public section

set_option maxRecDepth 16384

noncomputable section

namespace Cert.K.PleCRef

open Idealize.ShloMosaic Idealize.ShloMosaic.TcCoe Idealize.SL.Sem
open Idealize.ShloMosaic.Pipeline (Dat)
open Cert.PleCachedRefIdeal Cert.PleCachedRefIdeal.Gen

/-- The normalised rows. -/
def rows (h : FVec Ideal S16x16x2048 .f32) (g : FVec Ideal S2x2048 .f32) : FVec Ideal S16x16x2048 .f32 :=
  mulf (mulf h (broadcastInDim S16x16x2048 ![0, 1, 2] bcast_S16x16x1_S16x16x2048_0_1_2 (Host.rsqrt (addf (Host.divf (broadcastInDim S16x16x1 ![0, 1] bcast_S16x16_S16x16x1_0_1 (Host.reduceAdd (mulf h h) (constant (F := Ideal) S_ .f32 0x00000000#32) reducesTo_S16x16x2048_S16x16_d2 h_S_)) (broadcastInDim S16x16x1 ![] bcast_S_S16x16x1 (constant (F := Ideal) S_ .f32 0x45000000#32))) (broadcastInDim S16x16x1 ![] bcast_S_S16x16x1 (constant (F := Ideal) S_ .f32 0x358637BD#32)))))) (broadcastInDim S16x16x2048 ![0, 1, 2] bcast_S1x1x2048_S16x16x2048_0_1_2 (broadcastInDim S1x1x2048 ![2] bcast_S2048_S1x1x2048_2 (shapeCast _ (extractStridedSlice S1x2048 ![1, 0] g slices_S2x2048_S1x2048_1_0) shapeCasts_S1x2048_S2048)))

/-- The rows plus the gated embedding, from the rows and their norm. -/
def total (h f : FVec Ideal S16x16x2048 .f32) (p : FVec Ideal S2x16x16x256 .f32) (wg : FVec Ideal S2x2048x2048 .f32)
    (wp : FVec Ideal S2x256x2048 .f32) : FVec Ideal S256x2048 .f32 :=
  shapeCast S256x2048 (addf h (mulf (Host.divf (broadcastInDim S16x16x2048 ![] bcast_S_S16x16x2048 (constant (F := Ideal) S_ .f32 0x3F800000#32)) (addf (broadcastInDim S16x16x2048 ![] bcast_S_S16x16x2048 (constant (F := Ideal) S_ .f32 0x3F800000#32)) (Host.exp (Host.negf (Host.dotGeneral (F := Ideal) dot_S16x16x2048_S2048x2048_S16x16x2048_2_0_01_1_n_n none f (shapeCast _ (extractStridedSlice S1x2048x2048 ![1, 0, 0] wg slices_S2x2048x2048_S1x2048x2048_1_0_0) shapeCasts_S1x2048x2048_S2048x2048)))))) (Host.dotGeneral (F := Ideal) dot_S16x16x256_S256x2048_S16x16x2048_2_0_01_1_n_n none (shapeCast _ (extractStridedSlice S1x16x16x256 ![1, 0, 0, 0] p slices_S2x16x16x256_S1x16x16x256_1_0_0_0) shapeCasts_S1x16x16x256_S16x16x256) (shapeCast _ (extractStridedSlice S1x256x2048 ![1, 0, 0] wp slices_S2x256x2048_S1x256x2048_1_0_0) shapeCasts_S1x256x2048_S256x2048)))) shapeCasts_S16x16x2048_S256x2048

theorem rows_at (h : FVec Ideal S16x16x2048 .f32) (g : FVec Ideal S2x2048 .f32) (b t : Fin 16) (d : Fin 2048) :
    rows h g (ix3 b t d) = rms 1157627904#32 (fun e => h (ix3 b t e)) (fun e => g (ix2 1 e)) d := by
  unfold rows rms
  pointwise

theorem total_at (h f : FVec Ideal S16x16x2048 .f32) (p : FVec Ideal S2x16x16x256 .f32) (wg : FVec Ideal S2x2048x2048 .f32)
    (wp : FVec Ideal S2x256x2048 .f32) (n : Fin 256) (e : Fin 2048) :
    total h f p wg wp (ix2 n e) = h (ix3 ⟨n.val / 16, by omega⟩ ⟨n.val % 16, by omega⟩ e)
      + sigm (∑ d, f (ix3 ⟨n.val / 16, by omega⟩ ⟨n.val % 16, by omega⟩ d) * wg (ix3 1 d e))
        * ∑ k, p (ix4 1 ⟨n.val / 16, by omega⟩ ⟨n.val % 16, by omega⟩ k) * wp (ix3 1 k e) := by
  unfold total sigm
  pointwise
  rw [zero_sub]

end Cert.K.PleCRef

end
-- ==== Proof.PleCClaim.lean ====
/- The claims about the per-layer embedding over the cached batch: both frames and the equation with the reference. -/
module

public import proofs.«01_k».proof.Defs
public import proofs.«01_k».proof.Proof.Gen.PleCached.Frame
public import proofs.«01_k».proof.Proof.Gen.PleCachedIdeal.Frame
public import proofs.«01_k».proof.Proof.PleCValue
public import proofs.«01_k».proof.Proof.PleCRef
public import Idealize.ShloMosaic.Lib.Quiescent

@[expose] public section

set_option maxRecDepth 16384

noncomputable section

namespace Cert.K.PleCClaim

open Idealize.ShloMosaic Idealize.ShloMosaic.TcCoe Idealize.SL.Sem

theorem frame_kernel : Cert.quiescent_PleCached := fun m ρ _ => Cert.PleCached.Gen.frame m ρ

theorem frame_ideal : Cert.quiescent_PleCachedIdeal := fun m ρ _ => Cert.PleCachedIdeal.Gen.frame m ρ

theorem frame_ref : Cert.quiescent_PleCachedRefIdeal := fun m ρ _ =>
  (θ_run Cert.PleCachedRefIdeal.defs _ _).mono (fun r h => ⟨fun c => (h c).2,
    Idealize.ShloMosaic.sem_eq_zero_of_no_sems (by decide) r.2⟩) (Cert.PleCachedRefIdeal.Value.run (F := Ideal) m ρ)

/-- The kernel's array is the reference's. -/
theorem equal (h : FVec Ideal Cert.PleCachedIdeal.S16x16x2048 .f32) (p : FVec Ideal Cert.PleCachedIdeal.S2x16x16x256 .f32)
    (g : FVec Ideal Cert.PleCachedIdeal.S2x2048 .f32) (wg : FVec Ideal Cert.PleCachedIdeal.S2x2048x2048 .f32)
    (wp : FVec Ideal Cert.PleCachedIdeal.S2x256x2048 .f32) :
    Cert.K.PleCRef.total h (Cert.K.PleCRef.rows h g) p wg wp = Cert.K.PleC.out h p g wg wp := by
  funext y
  idx_vars y
  rw [Cert.K.PleCRef.total_at]
  simp only [Cert.K.PleCRef.rows_at]
  rfl

theorem algebraic : Cert.algebraic_PleCachedIdeal_PleCachedRefIdeal := by
  intro m ρ m' ρ' _ hagree
  refine ⟨_, Cert.PleCachedIdeal.Value.run_blocks (F := Ideal) m ρ, ?_⟩
  refine (θ_run Cert.PleCachedRefIdeal.defs _ _).mono (fun _ h c => ⟨(h c).1.trans ?_, (h c).2⟩)
    (Cert.PleCachedRefIdeal.Value.run (F := Ideal) m' ρ')
  obtain ⟨e0, e1, e2, e3, e4⟩ := hagree c
  rw [Cert.K.PleC.final m c, e0, e1, e2, e3, e4]
  exact equal _ _ _ _ _

end Cert.K.PleCClaim

end
-- ==== Proof.AttnCBase.lean ====
module

public import proofs.«01_k».proof.Proof.Gen.AttentionCachedIdeal.Value
public import proofs.«01_k».proof.Proof.Softmax
public import Idealize.ShloMosaic.Lib.Pipeline.ReadBack
public import Idealize.ShloMosaic.Lib.WordCmp

@[expose] public section

set_option maxRecDepth 16384

noncomputable section

namespace Cert.K.AttnC

open Idealize.ShloMosaic Idealize.ShloMosaic.TcCoe Idealize.SL.Sem
open Idealize.ShloMosaic.Pipeline (Dat)
open Cert.AttentionCachedIdeal Cert.AttentionCachedIdeal.Gen Cert.K.Softmax

/-- The scale of a head of 128 channels. -/
abbrev sc : ℝ := (Real.sqrt 128)⁻¹

theorem log2e_val : Named.named (F := Ideal) κ "log2e" (φ := .f32) 0x3FB8AA3B#32 = (((Real.log 2)⁻¹ : ℝ) : EReal) :=
  IdealRules.named_const.ideal_named_scalar _ _ _ _ rfl
theorem q_scale_val : Named.named (F := Ideal) κ "q_scale" (φ := .f32) 0x3E0293EE#32 = ((sc * (Real.log 2)⁻¹ : ℝ) : EReal) :=
  IdealRules.named_const.ideal_named_scalar _ _ _ _ rfl
theorem mask_val : Named.named (F := Ideal) κ "mask" (φ := .f32) 0xF149F2CA#32 = ⊥ :=
  IdealRules.named_const.ideal_named_scalar _ _ _ _ rfl
theorem neg_inf_val : Ideal.ofBits FTy.f32 0xFF800000#32 = ⊥ := by
  simp [Ideal.ofBits, Ideal.ieee]

/-- The causal mask over the new rows and keys, as the kernel selects it. -/
theorem sel_le (a b : Fin 16) (x y : EReal) :
    Scalar.select (IntOp.cmpi .sle (BitVec.ofNat 32 b.val) (BitVec.ofNat 32 a.val)) x y = if b.val ≤ a.val then x else y := by
  have ha := a.isLt
  have hb := b.isLt
  rw [WordCmp.cmpi_sle_ofNat (by norm_num; omega) (by norm_num; omega)]
  by_cases h : b.val ≤ a.val <;> simp [h, Scalar.select]

/-- One step of the running softmax: the maximum carried on over the scores `s`. -/
def stepM {n : ℕ} (mp : EReal) (s : Fin n → EReal) : EReal := max mp (Finset.univ.fold max ⊥ s)

/-- The weights' sum carried on. -/
def stepL {n : ℕ} (mp lp : EReal) (s : Fin n → EReal) : EReal :=
  Ideal.exp2 (mp - stepM mp s) * lp + ∑ j, Ideal.exp2 (s j - stepM mp s)

/-- The weighted values' sum carried on. -/
def stepA {n : ℕ} (mp ap : EReal) (s v : Fin n → EReal) : EReal :=
  Ideal.exp2 (mp - stepM mp s) * ap + ∑ j, Ideal.exp2 (s j - stepM mp s) * v j

/-- The score of a new row with a cached key, as the kernel forms it. -/
def so (q : Vec Ideal S1x16x1024 .f32) (k : Vec Ideal S1x1x2048x8x128 .f32) (c : Vec Ideal S1x8x2048 .f32) (h : Fin 8) (a : Fin 16)
    (j : Fin 2048) : EReal :=
  (∑ d : Fin 128, q (ix3 0 a ⟨128 * h.val + d.val, by omega⟩) * ((sc * (Real.log 2)⁻¹ : ℝ) : EReal) * k (ix5 0 0 j h d))
    - c (ix3 0 h j) * (((Real.log 2)⁻¹ : ℝ) : EReal)

/-- The score of a new row with a new key, masked. -/
def sn (q : Vec Ideal S1x16x1024 .f32) (k : Vec Ideal S1x16x1024 .bf16) (c : Vec Ideal S1x8x16 .f32) (h : Fin 8) (a : Fin 16)
    (j : Fin 16) : EReal :=
  if j.val ≤ a.val then
    (∑ d : Fin 128, q (ix3 0 a ⟨128 * h.val + d.val, by omega⟩) * ((sc * (Real.log 2)⁻¹ : ℝ) : EReal)
        * k (ix3 0 j ⟨128 * h.val + d.val, by omega⟩))
      - c (ix3 0 h j) * (((Real.log 2)⁻¹ : ℝ) : EReal)
  else ⊥

theorem pay77_at (i : S16x1024.Idx) : k0_pay77 (F := Ideal) i = ⊥ := mask_val
theorem pay78_at (i : S16x1024.Idx) : k0_pay78 (F := Ideal) i = 0 := by
  idx_vars i
  pointwise [k0_pay78]
theorem pay79_at (i : S16x1024.Idx) : k0_pay79 (F := Ideal) i = 0 := by
  idx_vars i
  pointwise [k0_pay79]

/-- A load of the whole reads every index as it is. -/
theorem whole_idx (inb : ∀ i, (![0, 0] : Fin 2 → ℕ) i + (![16, 1024] : Fin 2 → ℕ) i ≤ S16x1024.size i) (a : Fin 16) (x : Fin 1024) :
    (Rect.unit (s := S16x1024) ![0, 0] ![16, 1024] inb).toLoadRect.idx (ix2 a x) = ix2 a x := by
  funext i; apply Fin.ext
  fin_cases i <;> simp [LoadRect.idx]

/-- What a column's store left is its payload, -/
theorem canon_hit (o : ℕ) (inb : ∀ i, (![0, o] : Fin 2 → ℕ) i + S16x128.size i ≤ S16x1024.size i)
    (w : (Rect.unit (s := S16x1024) ![0, o] S16x128.size inb).shape.Idx → Elt Ideal .f32) (L : List (View.Piece (Elt Ideal) S16x1024 .f32))
    (a : Fin 16) (e : Fin 128) (h : o + e.val < 1024) :
    View.canon (s := S16x1024) ((⟨Rect.unit (s := S16x1024) ![0, o] S16x128.size inb, w⟩ : View.Piece (Elt Ideal) S16x1024 .f32) :: L) (ix2 a ⟨o + e.val, h⟩) = w (ix2 a e) := by
  have hy : (Rect.unit (s := S16x1024) ![0, o] S16x128.size inb).emb (ix2 a e) = ix2 a ⟨o + e.val, h⟩ := by
    funext i; apply Fin.ext
    fin_cases i
    · show 0 + 1 * a.val = a.val
      omega
    · show o + 1 * e.val = o + e.val
      omega
  exact (congrArg _ hy.symm).trans (View.canon_cons_emb _ w L _)

/-- and another column's store leaves it as it was. -/
theorem canon_miss (o o' : ℕ) (inb : ∀ i, (![0, o] : Fin 2 → ℕ) i + S16x128.size i ≤ S16x1024.size i)
    (w : (Rect.unit (s := S16x1024) ![0, o] S16x128.size inb).shape.Idx → Elt Ideal .f32) (L : List (View.Piece (Elt Ideal) S16x1024 .f32))
    (a : Fin 16) (e : Fin 128) (h : o' + e.val < 1024) (hd : o' + 128 ≤ o ∨ o + 128 ≤ o') :
    View.canon (s := S16x1024) ((⟨Rect.unit (s := S16x1024) ![0, o] S16x128.size inb, w⟩ : View.Piece (Elt Ideal) S16x1024 .f32) :: L) (ix2 a ⟨o' + e.val, h⟩) = View.canon L (ix2 a ⟨o' + e.val, h⟩) := by
  refine View.canon_cons_of_not_mem _ _ fun hm => ?_
  rw [Rect.mem_set_unit] at hm
  have h1 : o ≤ o' + e.val ∧ o' + e.val < o + 128 := hm 1
  omega

/-- The same with the column's extents written out, -/
theorem canon_hit' (o : ℕ) (inb : ∀ i, (![0, o] : Fin 2 → ℕ) i + (![16, 128] : Fin 2 → ℕ) i ≤ S16x1024.size i)
    (w : (Rect.unit (s := S16x1024) ![0, o] ![16, 128] inb).shape.Idx → Elt Ideal .f32) (L : List (View.Piece (Elt Ideal) S16x1024 .f32))
    (a : Fin 16) (e : Fin 128) (h : o + e.val < 1024) :
    View.canon (s := S16x1024) ((⟨Rect.unit (s := S16x1024) ![0, o] ![16, 128] inb, w⟩ : View.Piece (Elt Ideal) S16x1024 .f32) :: L) (ix2 a ⟨o + e.val, h⟩) = w (ix2 a e) := by
  have hy : (Rect.unit (s := S16x1024) ![0, o] ![16, 128] inb).emb (ix2 a e) = ix2 a ⟨o + e.val, h⟩ := by
    funext i; apply Fin.ext
    fin_cases i
    · show 0 + 1 * a.val = a.val
      omega
    · show o + 1 * e.val = o + e.val
      omega
  exact (congrArg _ hy.symm).trans (View.canon_cons_emb _ w L _)

/-- for both. -/
theorem canon_miss' (o o' : ℕ) (inb : ∀ i, (![0, o] : Fin 2 → ℕ) i + (![16, 128] : Fin 2 → ℕ) i ≤ S16x1024.size i)
    (w : (Rect.unit (s := S16x1024) ![0, o] ![16, 128] inb).shape.Idx → Elt Ideal .f32) (L : List (View.Piece (Elt Ideal) S16x1024 .f32))
    (a : Fin 16) (e : Fin 128) (h : o' + e.val < 1024) (hd : o' + 128 ≤ o ∨ o + 128 ≤ o') :
    View.canon (s := S16x1024) ((⟨Rect.unit (s := S16x1024) ![0, o] ![16, 128] inb, w⟩ : View.Piece (Elt Ideal) S16x1024 .f32) :: L) (ix2 a ⟨o' + e.val, h⟩) = View.canon L (ix2 a ⟨o' + e.val, h⟩) := by
  refine View.canon_cons_of_not_mem _ _ fun hm => ?_
  rw [Rect.mem_set_unit] at hm
  have h1 : o ≤ o' + e.val ∧ o' + e.val < o + 128 := hm 1
  omega

end Cert.K.AttnC

end
-- ==== Proof.AttnCStep1.lean ====
/- The cached attention kernel's scratch blocks between its two steps: head by head, what the step over the cache left of
   the running maximum, the weights' sum and the weighted values' sum. -/
module

public import proofs.«01_k».proof.Proof.AttnCBase

@[expose] public section

set_option maxRecDepth 16384

noncomputable section

namespace Cert.K.AttnC

open Idealize.ShloMosaic Idealize.ShloMosaic.TcCoe Idealize.SL.Sem
open Cert.AttentionCachedIdeal Cert.AttentionCachedIdeal.Gen Cert.K.Softmax

variable (c : Dev nD) (arg2 : Memref sig .tc .vmem S1x16x1024 .f32) (harg2 : arg2.IsWhole) (arg3 : Memref sig .tc .vmem S1x1x2048x8x128 .f32) (harg3 : arg3.IsWhole) (arg4 : Memref sig .tc .vmem S1x1x2048x8x128 .f32) (harg4 : arg4.IsWhole) (arg5 : Memref sig .tc .vmem S1x8x2048 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x8x16 .f32) (harg8 : arg8.IsWhole) (arg10 : Memref sig .tc .vmem S16x1024 .f32) (arg11 : Memref sig .tc .vmem S16x1024 .f32) (arg12 : Memref sig .tc .vmem S16x1024 .f32)
  (x0 : Vec Ideal S1x16x1024 .f32) (x1 : Vec Ideal S1x1x2048x8x128 .f32) (x2 : Vec Ideal S1x1x2048x8x128 .f32) (x3 : Vec Ideal S1x8x2048 .f32) (x4 : Vec Ideal S1x16x1024 .bf16) (x5 : Vec Ideal S1x16x1024 .bf16) (x6 : Vec Ideal S1x8x16 .f32)

theorem m1_0 (a : Fin 16) (e : Fin 128) : (kernelRun0_A.sl.v419 (F := Ideal) c arg2 harg2 arg3 harg3 arg5 harg5 arg10 x0 x1 x3) (ix2 a e) = stepM ⊥ (so x0 x1 x3 0 a) := by
  simp (disch := decide) only [kernelRun0_A.sl.v419, kernelRun0_A.sl.v21, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.r_1, ↓View.readCov_skip, View.readCov_cons_toLoadRect, View.readCov_fill, View.readAt_eq_ld, Memref.IsWhole.read_unread]
  pointwise [k0_pay81, k0_pay82, k0_pay87]
  simp only [mask_val, log2e_val, q_scale_val, neg_inf_val, pay77_at, pay78_at, pay79_at]
  rfl

theorem l1_0 (a : Fin 16) (e : Fin 128) : (kernelRun0_A.sl.v430 (F := Ideal) c arg2 harg2 arg3 harg3 arg5 harg5 arg10 arg11 x0 x1 x3) (ix2 a e) = stepL ⊥ 0 (so x0 x1 x3 0 a) := by
  simp (disch := decide) only [kernelRun0_A.sl.v430, kernelRun0_A.sl.v21, kernelRun0_A.sl.v32, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS0_1, kernelRun0_A.sl.r_2, kernelRun0_A.sl.r_3, ↓View.readCov_skip, View.readCov_cons_toLoadRect, View.readCov_fill, View.readAt_eq_ld, Memref.IsWhole.read_unread]
  pointwise [k0_pay81, k0_pay82, k0_pay83, k0_pay84, k0_pay85]
  simp only [mask_val, log2e_val, q_scale_val, neg_inf_val, pay77_at, pay78_at, pay79_at]
  rfl

theorem a1_0 (a : Fin 16) (e : Fin 128) : (kernelRun0_A.sl.v439 (F := Ideal) c arg2 harg2 arg3 harg3 arg4 harg4 arg5 harg5 arg10 arg12 x0 x1 x2 x3) (ix2 a e) = stepA ⊥ 0 (so x0 x1 x3 0 a) (fun j => x2 (ix5 0 0 j 0 e)) := by
  simp (disch := decide) only [kernelRun0_A.sl.v439, kernelRun0_A.sl.v21, kernelRun0_A.sl.v41, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS0_1, kernelRun0_A.sl.r, kernelRun0_A.sl.r_2, kernelRun0_A.sl.r_3, ↓View.readCov_skip, View.readCov_cons_toLoadRect, View.readCov_fill, View.readAt_eq_ld, Memref.IsWhole.read_unread]
  pointwise [k0_pay80, k0_pay81, k0_pay82, k0_pay83, k0_pay84, k0_pay86]
  simp only [mask_val, log2e_val, q_scale_val, neg_inf_val, pay77_at, pay78_at, pay79_at]
  rfl

theorem m1_1 (a : Fin 16) (e : Fin 128) : (kernelRun0_A.sl.v471 (F := Ideal) c arg2 harg2 arg3 harg3 arg5 harg5 arg6 harg6 arg8 harg8 arg10 x0 x1 x3 x4 x6) (ix2 a e) = stepM ⊥ (so x0 x1 x3 1 a) := by
  simp (disch := decide) only [kernelRun0_A.sl.v471, kernelRun0_A.sl.v70, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.cst_45, kernelRun0_A.sl.r_4, kernelRun0_A.sl.r_6, ↓View.readCov_skip, View.readCov_cons_toLoadRect, View.readCov_fill, View.readAt_eq_ld, Memref.IsWhole.read_unread]
  pointwise [k0_pay88, k0_pay90, k0_pay91, k0_pay92, k0_pay97]
  simp only [mask_val, log2e_val, q_scale_val, neg_inf_val, pay77_at, pay78_at, pay79_at]
  rfl

theorem l1_1 (a : Fin 16) (e : Fin 128) : (kernelRun0_A.sl.v482 (F := Ideal) c arg2 harg2 arg3 harg3 arg5 harg5 arg6 harg6 arg8 harg8 arg10 arg11 x0 x1 x3 x4 x6) (ix2 a e) = stepL ⊥ 0 (so x0 x1 x3 1 a) := by
  simp (disch := decide) only [kernelRun0_A.sl.v482, kernelRun0_A.sl.v70, kernelRun0_A.sl.v81, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS0_1, kernelRun0_A.sl.HS0_2, kernelRun0_A.sl.cst_45, kernelRun0_A.sl.r_4, kernelRun0_A.sl.r_6, ↓View.readCov_skip, View.readCov_cons_toLoadRect, View.readCov_fill, View.readAt_eq_ld, Memref.IsWhole.read_unread]
  pointwise [k0_pay88, k0_pay90, k0_pay91, k0_pay92, k0_pay93, k0_pay94, k0_pay95]
  simp only [mask_val, log2e_val, q_scale_val, neg_inf_val, pay77_at, pay78_at, pay79_at]
  rfl

theorem a1_1 (a : Fin 16) (e : Fin 128) : (kernelRun0_A.sl.v491 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 1 a) (fun j => x2 (ix5 0 0 j 1 e)) := by
  simp (disch := decide) only [kernelRun0_A.sl.v491, kernelRun0_A.sl.v70, kernelRun0_A.sl.v90, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS0_1, kernelRun0_A.sl.HS0_2, kernelRun0_A.sl.cst_45, kernelRun0_A.sl.r_4, kernelRun0_A.sl.r_5, kernelRun0_A.sl.r_6, ↓View.readCov_skip, View.readCov_cons_toLoadRect, View.readCov_fill, View.readAt_eq_ld, Memref.IsWhole.read_unread]
  pointwise [k0_pay88, k0_pay89, k0_pay90, k0_pay91, k0_pay92, k0_pay93, k0_pay94, k0_pay96]
  simp only [mask_val, log2e_val, q_scale_val, neg_inf_val, pay77_at, pay78_at, pay79_at]
  rfl

theorem m1_2 (a : Fin 16) (e : Fin 128) : (kernelRun0_A.sl.v523 (F := Ideal) c arg2 harg2 arg3 harg3 arg5 harg5 arg6 harg6 arg8 harg8 arg10 x0 x1 x3 x4 x6) (ix2 a e) = stepM ⊥ (so x0 x1 x3 2 a) := by
  simp (disch := decide) only [kernelRun0_A.sl.v523, kernelRun0_A.sl.v119, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.r_8, ↓View.readCov_skip, View.readCov_cons_toLoadRect, View.readCov_fill, View.readAt_eq_ld, Memref.IsWhole.read_unread]
  pointwise [k0_pay99, k0_pay100, k0_pay106]
  simp only [mask_val, log2e_val, q_scale_val, neg_inf_val, pay77_at, pay78_at, pay79_at]
  rfl

theorem l1_2 (a : Fin 16) (e : Fin 128) : (kernelRun0_A.sl.v534 (F := Ideal) c arg2 harg2 arg3 harg3 arg5 harg5 arg6 harg6 arg8 harg8 arg10 arg11 x0 x1 x3 x4 x6) (ix2 a e) = stepL ⊥ 0 (so x0 x1 x3 2 a) := by
  simp (disch := decide) only [kernelRun0_A.sl.v534, kernelRun0_A.sl.v119, kernelRun0_A.sl.v130, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS0_1, kernelRun0_A.sl.HS0_2, kernelRun0_A.sl.HS0_3, kernelRun0_A.sl.r_11, ↓View.readCov_skip, View.readCov_cons_toLoadRect, View.readCov_fill, View.readAt_eq_ld, Memref.IsWhole.read_unread]
  pointwise [k0_pay99, k0_pay100, k0_pay101, k0_pay102, k0_pay103, k0_pay104]
  simp only [mask_val, log2e_val, q_scale_val, neg_inf_val, pay77_at, pay78_at, pay79_at]
  rfl

theorem a1_2 (a : Fin 16) (e : Fin 128) : (kernelRun0_A.sl.v543 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 2 a) (fun j => x2 (ix5 0 0 j 2 e)) := by
  simp (disch := decide) only [kernelRun0_A.sl.v543, kernelRun0_A.sl.v119, kernelRun0_A.sl.v139, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11, kernelRun0_A.sl.HS0_1, kernelRun0_A.sl.HS0_2, kernelRun0_A.sl.HS0_3, kernelRun0_A.sl.r_10, kernelRun0_A.sl.r_7, kernelRun0_A.sl.r_9, ↓View.readCov_skip, View.readCov_cons_toLoadRect, View.readCov_fill, View.readAt_eq_ld, Memref.IsWhole.read_unread]
  pointwise [k0_pay98, k0_pay99, k0_pay100, k0_pay101, k0_pay102, k0_pay105]
  simp only [mask_val, log2e_val, q_scale_val, neg_inf_val, pay77_at, pay78_at, pay79_at]
  rfl

theorem m1_3 (a : Fin 16) (e : Fin 128) : (kernelRun0_A.sl.v575 (F := Ideal) c arg2 harg2 arg3 harg3 arg5 harg5 arg6 harg6 arg8 harg8 arg10 x0 x1 x3 x4 x6) (ix2 a e) = stepM ⊥ (so x0 x1 x3 3 a) := by
  simp (disch := decide) only [kernelRun0_A.sl.v575, kernelRun0_A.sl.v168, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.r_13, kernelRun0_A.sl.r_14, ↓View.readCov_skip, View.readCov_cons_toLoadRect, View.readCov_fill, View.readAt_eq_ld, Memref.IsWhole.read_unread]
  pointwise [k0_pay108, k0_pay109, k0_pay110, k0_pay111, k0_pay112, k0_pay117]
  simp only [mask_val, log2e_val, q_scale_val, neg_inf_val, pay77_at, pay78_at, pay79_at]
  rfl

theorem l1_3 (a : Fin 16) (e : Fin 128) : (kernelRun0_A.sl.v586 (F := Ideal) c arg2 harg2 arg3 harg3 arg5 harg5 arg6 harg6 arg8 harg8 arg10 arg11 x0 x1 x3 x4 x6) (ix2 a e) = stepL ⊥ 0 (so x0 x1 x3 3 a) := by
  simp (disch := decide) only [kernelRun0_A.sl.v586, kernelRun0_A.sl.v168, kernelRun0_A.sl.v179, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS0_1, kernelRun0_A.sl.HS0_2, kernelRun0_A.sl.HS0_3, kernelRun0_A.sl.HS0_4, kernelRun0_A.sl.r_13, kernelRun0_A.sl.r_14, ↓View.readCov_skip, View.readCov_cons_toLoadRect, View.readCov_fill, View.readAt_eq_ld, Memref.IsWhole.read_unread]
  pointwise [k0_pay108, k0_pay109, k0_pay110, k0_pay111, k0_pay112, k0_pay113, k0_pay114, k0_pay115]
  simp only [mask_val, log2e_val, q_scale_val, neg_inf_val, pay77_at, pay78_at, pay79_at]
  rfl

theorem a1_3 (a : Fin 16) (e : Fin 128) : (kernelRun0_A.sl.v595 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 3 a) (fun j => x2 (ix5 0 0 j 3 e)) := by
  simp (disch := decide) only [kernelRun0_A.sl.v595, kernelRun0_A.sl.v168, kernelRun0_A.sl.v188, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11, kernelRun0_A.sl.HS2_12, kernelRun0_A.sl.HS0_1, kernelRun0_A.sl.HS0_2, kernelRun0_A.sl.HS0_3, kernelRun0_A.sl.HS0_4, kernelRun0_A.sl.r_12, kernelRun0_A.sl.r_13, kernelRun0_A.sl.r_14, ↓View.readCov_skip, View.readCov_cons_toLoadRect, View.readCov_fill, View.readAt_eq_ld, Memref.IsWhole.read_unread]
  pointwise [k0_pay107, k0_pay108, k0_pay109, k0_pay110, k0_pay111, k0_pay112, k0_pay113, k0_pay114, k0_pay116]
  simp only [mask_val, log2e_val, q_scale_val, neg_inf_val, pay77_at, pay78_at, pay79_at]
  rfl

theorem m1_4 (a : Fin 16) (e : Fin 128) : (kernelRun0_A.sl.v627 (F := Ideal) c arg2 harg2 arg3 harg3 arg5 harg5 arg6 harg6 arg8 harg8 arg10 x0 x1 x3 x4 x6) (ix2 a e) = stepM ⊥ (so x0 x1 x3 4 a) := by
  simp (disch := decide) only [kernelRun0_A.sl.v627, kernelRun0_A.sl.v217, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.r_15, kernelRun0_A.sl.r_17, ↓View.readCov_skip, View.readCov_cons_toLoadRect, View.readCov_fill, View.readAt_eq_ld, Memref.IsWhole.read_unread]
  pointwise [k0_pay118, k0_pay120, k0_pay121, k0_pay126]
  simp only [mask_val, log2e_val, q_scale_val, neg_inf_val, pay77_at, pay78_at, pay79_at]
  rfl

theorem l1_4 (a : Fin 16) (e : Fin 128) : (kernelRun0_A.sl.v638 (F := Ideal) c arg2 harg2 arg3 harg3 arg5 harg5 arg6 harg6 arg8 harg8 arg10 arg11 x0 x1 x3 x4 x6) (ix2 a e) = stepL ⊥ 0 (so x0 x1 x3 4 a) := by
  simp (disch := decide) only [kernelRun0_A.sl.v638, kernelRun0_A.sl.v217, kernelRun0_A.sl.v228, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS0_1, kernelRun0_A.sl.HS0_2, kernelRun0_A.sl.HS0_3, kernelRun0_A.sl.HS0_4, kernelRun0_A.sl.HS0_5, kernelRun0_A.sl.r_15, ↓View.readCov_skip, View.readCov_cons_toLoadRect, View.readCov_fill, View.readAt_eq_ld, Memref.IsWhole.read_unread]
  pointwise [k0_pay118, k0_pay120, k0_pay121, k0_pay122, k0_pay123, k0_pay124]
  simp only [mask_val, log2e_val, q_scale_val, neg_inf_val, pay77_at, pay78_at, pay79_at]
  rfl

theorem a1_4 (a : Fin 16) (e : Fin 128) : (kernelRun0_A.sl.v647 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 4 a) (fun j => x2 (ix5 0 0 j 4 e)) := by
  simp (disch := decide) only [kernelRun0_A.sl.v647, kernelRun0_A.sl.v217, kernelRun0_A.sl.v237, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11, kernelRun0_A.sl.HS2_12, kernelRun0_A.sl.HS2_13, kernelRun0_A.sl.HS0_1, kernelRun0_A.sl.HS0_2, kernelRun0_A.sl.HS0_3, kernelRun0_A.sl.HS0_4, kernelRun0_A.sl.HS0_5, kernelRun0_A.sl.r_15, kernelRun0_A.sl.r_16, kernelRun0_A.sl.r_18, kernelRun0_A.sl.r_19, ↓View.readCov_skip, View.readCov_cons_toLoadRect, View.readCov_fill, View.readAt_eq_ld, Memref.IsWhole.read_unread]
  pointwise [k0_pay118, k0_pay119, k0_pay120, k0_pay121, k0_pay122, k0_pay123, k0_pay125]
  simp only [mask_val, log2e_val, q_scale_val, neg_inf_val, pay77_at, pay78_at, pay79_at]
  rfl

theorem m1_5 (a : Fin 16) (e : Fin 128) : (kernelRun0_A.sl.v679 (F := Ideal) c arg2 harg2 arg3 harg3 arg5 harg5 arg6 harg6 arg8 harg8 arg10 x0 x1 x3 x4 x6) (ix2 a e) = stepM ⊥ (so x0 x1 x3 5 a) := by
  simp (disch := decide) only [kernelRun0_A.sl.v679, kernelRun0_A.sl.v266, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.r_22, ↓View.readCov_skip, View.readCov_cons_toLoadRect, View.readCov_fill, View.readAt_eq_ld, Memref.IsWhole.read_unread]
  pointwise [k0_pay128, k0_pay129, k0_pay130, k0_pay135]
  simp only [mask_val, log2e_val, q_scale_val, neg_inf_val, pay77_at, pay78_at, pay79_at]
  rfl

theorem l1_5 (a : Fin 16) (e : Fin 128) : (kernelRun0_A.sl.v690 (F := Ideal) c arg2 harg2 arg3 harg3 arg5 harg5 arg6 harg6 arg8 harg8 arg10 arg11 x0 x1 x3 x4 x6) (ix2 a e) = stepL ⊥ 0 (so x0 x1 x3 5 a) := by
  simp (disch := decide) only [kernelRun0_A.sl.v690, kernelRun0_A.sl.v266, kernelRun0_A.sl.v277, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS1_14, kernelRun0_A.sl.HS0_1, kernelRun0_A.sl.HS0_2, kernelRun0_A.sl.HS0_3, kernelRun0_A.sl.HS0_4, kernelRun0_A.sl.HS0_5, kernelRun0_A.sl.HS0_6, kernelRun0_A.sl.r_21, kernelRun0_A.sl.r_22, ↓View.readCov_skip, View.readCov_cons_toLoadRect, View.readCov_fill, View.readAt_eq_ld, Memref.IsWhole.read_unread]
  pointwise [k0_pay128, k0_pay129, k0_pay130, k0_pay131, k0_pay132, k0_pay133]
  simp only [mask_val, log2e_val, q_scale_val, neg_inf_val, pay77_at, pay78_at, pay79_at]
  rfl

theorem a1_5 (a : Fin 16) (e : Fin 128) : (kernelRun0_A.sl.v699 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 5 a) (fun j => x2 (ix5 0 0 j 5 e)) := by
  simp (disch := decide) only [kernelRun0_A.sl.v699, kernelRun0_A.sl.v266, kernelRun0_A.sl.v286, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11, kernelRun0_A.sl.HS2_12, kernelRun0_A.sl.HS2_13, kernelRun0_A.sl.HS2_14, kernelRun0_A.sl.HS0_1, kernelRun0_A.sl.HS0_2, kernelRun0_A.sl.HS0_3, kernelRun0_A.sl.HS0_4, kernelRun0_A.sl.HS0_5, kernelRun0_A.sl.HS0_6, kernelRun0_A.sl.r_20, kernelRun0_A.sl.r_21, kernelRun0_A.sl.r_22, ↓View.readCov_skip, View.readCov_cons_toLoadRect, View.readCov_fill, View.readAt_eq_ld, Memref.IsWhole.read_unread]
  pointwise [k0_pay127, k0_pay128, k0_pay129, k0_pay130, k0_pay131, k0_pay132, k0_pay134]
  simp only [mask_val, log2e_val, q_scale_val, neg_inf_val, pay77_at, pay78_at, pay79_at]
  rfl

theorem m1_6 (a : Fin 16) (e : Fin 128) : (kernelRun0_A.sl.v731 (F := Ideal) c arg2 harg2 arg3 harg3 arg5 harg5 arg6 harg6 arg8 harg8 arg10 x0 x1 x3 x4 x6) (ix2 a e) = stepM ⊥ (so x0 x1 x3 6 a) := by
  simp (disch := decide) only [kernelRun0_A.sl.v731, kernelRun0_A.sl.v315, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.r_23, kernelRun0_A.sl.r_25, ↓View.readCov_skip, View.readCov_cons_toLoadRect, View.readCov_fill, View.readAt_eq_ld, Memref.IsWhole.read_unread]
  pointwise [k0_pay136, k0_pay138, k0_pay139, k0_pay145]
  simp only [mask_val, log2e_val, q_scale_val, neg_inf_val, pay77_at, pay78_at, pay79_at]
  rfl

theorem l1_6 (a : Fin 16) (e : Fin 128) : (kernelRun0_A.sl.v742 (F := Ideal) c arg2 harg2 arg3 harg3 arg5 harg5 arg6 harg6 arg8 harg8 arg10 arg11 x0 x1 x3 x4 x6) (ix2 a e) = stepL ⊥ 0 (so x0 x1 x3 6 a) := by
  simp (disch := decide) only [kernelRun0_A.sl.v742, kernelRun0_A.sl.v315, kernelRun0_A.sl.v326, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS1_14, kernelRun0_A.sl.HS1_15, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.r_23, ↓View.readCov_skip, View.readCov_cons_toLoadRect, View.readCov_fill, View.readAt_eq_ld, Memref.IsWhole.read_unread]
  pointwise [k0_pay136, k0_pay138, k0_pay139, k0_pay140, k0_pay141, k0_pay142]
  simp only [mask_val, log2e_val, q_scale_val, neg_inf_val, pay77_at, pay78_at, pay79_at]
  rfl

theorem a1_6 (a : Fin 16) (e : Fin 128) : (kernelRun0_A.sl.v751 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 6 a) (fun j => x2 (ix5 0 0 j 6 e)) := by
  simp (disch := decide) only [kernelRun0_A.sl.v751, kernelRun0_A.sl.v315, kernelRun0_A.sl.v335, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11, kernelRun0_A.sl.HS2_12, kernelRun0_A.sl.HS2_13, kernelRun0_A.sl.HS2_14, kernelRun0_A.sl.HS2_15, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.r_23, kernelRun0_A.sl.r_24, kernelRun0_A.sl.r_26, ↓View.readCov_skip, View.readCov_cons_toLoadRect, View.readCov_fill, View.readAt_eq_ld, Memref.IsWhole.read_unread]
  pointwise [k0_pay136, k0_pay137, k0_pay138, k0_pay139, k0_pay140, k0_pay141, k0_pay143, k0_pay144]
  simp only [mask_val, log2e_val, q_scale_val, neg_inf_val, pay77_at, pay78_at, pay79_at]
  rfl

theorem m1_7 (a : Fin 16) (e : Fin 128) : (kernelRun0_A.sl.v783 (F := Ideal) c arg2 harg2 arg3 harg3 arg5 harg5 arg6 harg6 arg8 harg8 arg10 x0 x1 x3 x4 x6) (ix2 a e) = stepM ⊥ (so x0 x1 x3 7 a) := by
  simp (disch := decide) only [kernelRun0_A.sl.v783, kernelRun0_A.sl.v364, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.r_28, ↓View.readCov_skip, View.readCov_cons_toLoadRect, View.readCov_fill, View.readAt_eq_ld, Memref.IsWhole.read_unread]
  pointwise [k0_pay4, k0_pay147, k0_pay148]
  simp only [mask_val, log2e_val, q_scale_val, neg_inf_val, pay77_at, pay78_at, pay79_at]
  rfl

theorem l1_7 (a : Fin 16) (e : Fin 128) : (kernelRun0_A.sl.v794 (F := Ideal) c arg2 harg2 arg3 harg3 arg5 harg5 arg6 harg6 arg8 harg8 arg10 arg11 x0 x1 x3 x4 x6) (ix2 a e) = stepL ⊥ 0 (so x0 x1 x3 7 a) := by
  simp (disch := decide) only [kernelRun0_A.sl.v794, kernelRun0_A.sl.v364, kernelRun0_A.sl.v375, kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS1_14, kernelRun0_A.sl.HS1_15, kernelRun0_A.sl.HS1_16, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.r_29, kernelRun0_A.sl.r_30, ↓View.readCov_skip, View.readCov_cons_toLoadRect, View.readCov_fill, View.readAt_eq_ld, Memref.IsWhole.read_unread]
  pointwise [k0_pay1, k0_pay2, k0_pay147, k0_pay148, k0_pay149, k0_pay150]
  simp only [mask_val, log2e_val, q_scale_val, neg_inf_val, pay77_at, pay78_at, pay79_at]
  rfl

theorem a1_7 (a : Fin 16) (e : Fin 128) : (kernelRun0_A.sl.v803 (F := Ideal) c arg2 harg2 arg3 harg3 arg4 harg4 arg5 harg5 arg6 harg6 arg7 harg7 arg8 harg8 arg10 arg12 x0 x1 x2 x3 x4 x5 x6) (ix2 a e) = stepA ⊥ 0 (so x0 x1 x3 7 a) (fun j => x2 (ix5 0 0 j 7 e)) := by
  simp (disch := decide) only [kernelRun0_A.sl.v803, kernelRun0_A.sl.v364, kernelRun0_A.sl.v384, kernelRun0_A.sl.HS2_1, kernelRun0_A.sl.HS2_2, kernelRun0_A.sl.HS2_3, kernelRun0_A.sl.HS2_4, kernelRun0_A.sl.HS2_5, kernelRun0_A.sl.HS2_6, kernelRun0_A.sl.HS2_7, kernelRun0_A.sl.HS2_8, kernelRun0_A.sl.HS2_9, kernelRun0_A.sl.HS2_10, kernelRun0_A.sl.HS2_11, kernelRun0_A.sl.HS2_12, kernelRun0_A.sl.HS2_13, kernelRun0_A.sl.HS2_14, kernelRun0_A.sl.HS2_15, kernelRun0_A.sl.HS2_16, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.r_27, kernelRun0_A.sl.r_29, kernelRun0_A.sl.r_30, ↓View.readCov_skip, View.readCov_cons_toLoadRect, View.readCov_fill, View.readAt_eq_ld, Memref.IsWhole.read_unread]
  pointwise [k0_pay1, k0_pay3, k0_pay146, k0_pay147, k0_pay148, k0_pay149, k0_pay150]
  simp only [mask_val, log2e_val, q_scale_val, neg_inf_val, pay77_at, pay78_at, pay79_at]
  rfl

end Cert.K.AttnC

end
-- ==== Proof.AttnCStep2.lean ====
/- The cached attention kernel's sums after its second step, head by head, and its block of results. -/
module

public import proofs.«01_k».proof.Proof.AttnCStep1

@[expose] public section

set_option maxRecDepth 16384

noncomputable section

namespace Cert.K.AttnC

open Idealize.ShloMosaic Idealize.ShloMosaic.TcCoe Idealize.SL.Sem
open Cert.AttentionCachedIdeal Cert.AttentionCachedIdeal.Gen Cert.K.Softmax

variable (c : Dev nD) (arg2 : Memref sig .tc .vmem S1x16x1024 .f32) (harg2 : arg2.IsWhole) (arg3 : Memref sig .tc .vmem S1x1x2048x8x128 .f32) (harg3 : arg3.IsWhole) (arg4 : Memref sig .tc .vmem S1x1x2048x8x128 .f32) (harg4 : arg4.IsWhole) (arg5 : Memref sig .tc .vmem S1x8x2048 .f32) (harg5 : arg5.IsWhole) (arg6 : Memref sig .tc .vmem S1x16x1024 .bf16) (harg6 : arg6.IsWhole) (arg7 : Memref sig .tc .vmem S1x16x1024 .bf16) (harg7 : arg7.IsWhole) (arg8 : Memref sig .tc .vmem S1x8x16 .f32) (harg8 : arg8.IsWhole) (arg10 : Memref sig .tc .vmem S16x1024 .f32) (arg11 : Memref sig .tc .vmem S16x1024 .f32) (arg12 : Memref sig .tc .vmem S16x1024 .f32)
  (x0 : Vec Ideal S1x16x1024 .f32) (x1 : Vec Ideal S1x1x2048x8x128 .f32) (x2 : Vec Ideal S1x1x2048x8x128 .f32) (x3 : Vec Ideal S1x8x2048 .f32) (x4 : Vec Ideal S1x16x1024 .bf16) (x5 : Vec Ideal S1x16x1024 .bf16) (x6 : Vec Ideal S1x8x16 .f32)

theorem l2_0 (a : Fin 16) (e : Fin 128) : (kernelRun0_A.sl.v815 (F := Ideal) c arg2 harg2 arg3 harg3 arg5 harg5 arg6 harg6 arg8 harg8 arg10 arg11 x0 x1 x3 x4 x6) (ix2 a ⟨0 + e.val, by omega⟩) = stepL (stepM ⊥ (so x0 x1 x3 0 a)) (stepL ⊥ 0 (so x0 x1 x3 0 a)) (sn x0 x4 x6 0 a) := by
  have hu : (Rect.unit (s := S16x1024) ![0, 0] ![16, 1024] inb_S16x1024_S16x1024_0_0).toLoadRect.idx (ix2 a ⟨0 + e.val, by omega⟩) = ix2 a ⟨0 + e.val, by omega⟩ := whole_idx _ _ _
  rw [kernelRun0_A.sl.v815, View.readCov_eq_canon']
  refine (congrArg _ hu).trans ?_
  simp (disch := decide) only [kernelRun0_A.sl.HS1_10, kernelRun0_A.sl.HS1_11, kernelRun0_A.sl.HS1_12, kernelRun0_A.sl.HS1_13, kernelRun0_A.sl.HS1_14, kernelRun0_A.sl.HS1_15, kernelRun0_A.sl.HS1_16, kernelRun0_A.sl.HS1_17, canon_hit, canon_miss, canon_hit', canon_miss']
  simp only [kernelRun0_A.sl.r_35, View.readAt_eq_ld, Memref.IsWhole.read_unread]
  pointwise [k0_pay9, k0_pay11, k0_pay12, k0_pay13, k0_pay14, k0_pay15]
  simp only [m1_0, l1_0, mask_val, log2e_val, q_scale_val, neg_inf_val, sel_le]
  rfl

theorem a2_0 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨0 + e.val, by omega⟩) = stepA (stepM ⊥ (so x0 x1 x3 0 a)) (stepA ⊥ 0 (so x0 x1 x3 0 a) (fun j => x2 (ix5 0 0 j 0 e))) (sn x0 x4 x6 0 a) (fun j => x5 (ix3 0 j ⟨0 + e.val, by omega⟩)) := by
  have hu : (Rect.unit (s := S16x1024) ![0, 0] ![16, 1024] inb_S16x1024_S16x1024_0_0).toLoadRect.idx (ix2 a ⟨0 + e.val, by omega⟩) = ix2 a ⟨0 + e.val, by omega⟩ := whole_idx _ _ _
  rw [kernelRun0_A.sl.v814, View.readCov_eq_canon']
  refine (congrArg _ hu).trans ?_
  simp (disch := decide) only [kernelRun0_A.sl.HS2_10, kernelRun0_A.sl.HS2_11, kernelRun0_A.sl.HS2_12, kernelRun0_A.sl.HS2_13, kernelRun0_A.sl.HS2_14, kernelRun0_A.sl.HS2_15, kernelRun0_A.sl.HS2_16, kernelRun0_A.sl.HS2_17, canon_hit, canon_miss, canon_hit', canon_miss']
  simp only [kernelRun0_A.sl.r_31, kernelRun0_A.sl.r_33, kernelRun0_A.sl.r_34, View.readAt_eq_ld, Memref.IsWhole.read_unread]
  pointwise [k0_pay9, k0_pay10, k0_pay11, k0_pay12, k0_pay13, k0_pay16]
  simp only [m1_0, a1_0, mask_val, log2e_val, q_scale_val, neg_inf_val, sel_le]
  rfl

theorem l2_1 (a : Fin 16) (e : Fin 128) : (kernelRun0_A.sl.v815 (F := Ideal) c arg2 harg2 arg3 harg3 arg5 harg5 arg6 harg6 arg8 harg8 arg10 arg11 x0 x1 x3 x4 x6) (ix2 a ⟨128 + e.val, by omega⟩) = stepL (stepM ⊥ (so x0 x1 x3 1 a)) (stepL ⊥ 0 (so x0 x1 x3 1 a)) (sn x0 x4 x6 1 a) := by
  have hu : (Rect.unit (s := S16x1024) ![0, 0] ![16, 1024] inb_S16x1024_S16x1024_0_0).toLoadRect.idx (ix2 a ⟨128 + e.val, by omega⟩) = ix2 a ⟨128 + e.val, by omega⟩ := whole_idx _ _ _
  rw [kernelRun0_A.sl.v815, View.readCov_eq_canon']
  refine (congrArg _ hu).trans ?_
  simp (disch := decide) only [kernelRun0_A.sl.HS1_11, kernelRun0_A.sl.HS1_12, kernelRun0_A.sl.HS1_13, kernelRun0_A.sl.HS1_14, kernelRun0_A.sl.HS1_15, kernelRun0_A.sl.HS1_16, kernelRun0_A.sl.HS1_17, canon_hit, canon_miss, canon_hit', canon_miss']
  simp only [kernelRun0_A.sl.r_36, View.readAt_eq_ld, Memref.IsWhole.read_unread]
  pointwise [k0_pay18, k0_pay19, k0_pay20, k0_pay21, k0_pay22]
  simp only [m1_1, l1_1, mask_val, log2e_val, q_scale_val, neg_inf_val, sel_le]
  rfl

theorem a2_1 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨128 + e.val, by omega⟩) = stepA (stepM ⊥ (so x0 x1 x3 1 a)) (stepA ⊥ 0 (so x0 x1 x3 1 a) (fun j => x2 (ix5 0 0 j 1 e))) (sn x0 x4 x6 1 a) (fun j => x5 (ix3 0 j ⟨128 + e.val, by omega⟩)) := by
  have hu : (Rect.unit (s := S16x1024) ![0, 0] ![16, 1024] inb_S16x1024_S16x1024_0_0).toLoadRect.idx (ix2 a ⟨128 + e.val, by omega⟩) = ix2 a ⟨128 + e.val, by omega⟩ := whole_idx _ _ _
  rw [kernelRun0_A.sl.v814, View.readCov_eq_canon']
  refine (congrArg _ hu).trans ?_
  simp (disch := decide) only [kernelRun0_A.sl.HS2_11, kernelRun0_A.sl.HS2_12, kernelRun0_A.sl.HS2_13, kernelRun0_A.sl.HS2_14, kernelRun0_A.sl.HS2_15, kernelRun0_A.sl.HS2_16, kernelRun0_A.sl.HS2_17, canon_hit, canon_miss, canon_hit', canon_miss']
  simp only [kernelRun0_A.sl.r_36, View.readAt_eq_ld, Memref.IsWhole.read_unread]
  pointwise [k0_pay18, k0_pay19, k0_pay20, k0_pay21, k0_pay23]
  simp only [m1_1, a1_1, mask_val, log2e_val, q_scale_val, neg_inf_val, sel_le]
  rfl

theorem l2_2 (a : Fin 16) (e : Fin 128) : (kernelRun0_A.sl.v815 (F := Ideal) c arg2 harg2 arg3 harg3 arg5 harg5 arg6 harg6 arg8 harg8 arg10 arg11 x0 x1 x3 x4 x6) (ix2 a ⟨256 + e.val, by omega⟩) = stepL (stepM ⊥ (so x0 x1 x3 2 a)) (stepL ⊥ 0 (so x0 x1 x3 2 a)) (sn x0 x4 x6 2 a) := by
  have hu : (Rect.unit (s := S16x1024) ![0, 0] ![16, 1024] inb_S16x1024_S16x1024_0_0).toLoadRect.idx (ix2 a ⟨256 + e.val, by omega⟩) = ix2 a ⟨256 + e.val, by omega⟩ := whole_idx _ _ _
  rw [kernelRun0_A.sl.v815, View.readCov_eq_canon']
  refine (congrArg _ hu).trans ?_
  simp (disch := decide) only [kernelRun0_A.sl.HS1_12, kernelRun0_A.sl.HS1_13, kernelRun0_A.sl.HS1_14, kernelRun0_A.sl.HS1_15, kernelRun0_A.sl.HS1_16, kernelRun0_A.sl.HS1_17, canon_hit, canon_miss, canon_hit', canon_miss']
  simp only [kernelRun0_A.sl.r_37, View.readAt_eq_ld, Memref.IsWhole.read_unread]
  pointwise [k0_pay25, k0_pay26, k0_pay28, k0_pay29, k0_pay30, k0_pay31]
  simp only [m1_2, l1_2, mask_val, log2e_val, q_scale_val, neg_inf_val, sel_le]
  rfl

theorem a2_2 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨256 + e.val, by omega⟩) = stepA (stepM ⊥ (so x0 x1 x3 2 a)) (stepA ⊥ 0 (so x0 x1 x3 2 a) (fun j => x2 (ix5 0 0 j 2 e))) (sn x0 x4 x6 2 a) (fun j => x5 (ix3 0 j ⟨256 + e.val, by omega⟩)) := by
  have hu : (Rect.unit (s := S16x1024) ![0, 0] ![16, 1024] inb_S16x1024_S16x1024_0_0).toLoadRect.idx (ix2 a ⟨256 + e.val, by omega⟩) = ix2 a ⟨256 + e.val, by omega⟩ := whole_idx _ _ _
  rw [kernelRun0_A.sl.v814, View.readCov_eq_canon']
  refine (congrArg _ hu).trans ?_
  simp (disch := decide) only [kernelRun0_A.sl.HS2_12, kernelRun0_A.sl.HS2_13, kernelRun0_A.sl.HS2_14, kernelRun0_A.sl.HS2_15, kernelRun0_A.sl.HS2_16, kernelRun0_A.sl.HS2_17, canon_hit, canon_miss, canon_hit', canon_miss']
  simp only [kernelRun0_A.sl.r_37, kernelRun0_A.sl.r_38, kernelRun0_A.sl.r_40, kernelRun0_A.sl.r_41, View.readAt_eq_ld, Memref.IsWhole.read_unread]
  pointwise [k0_pay25, k0_pay26, k0_pay27, k0_pay28, k0_pay29, k0_pay30, k0_pay32]
  simp only [m1_2, a1_2, mask_val, log2e_val, q_scale_val, neg_inf_val, sel_le]
  rfl

theorem l2_3 (a : Fin 16) (e : Fin 128) : (kernelRun0_A.sl.v815 (F := Ideal) c arg2 harg2 arg3 harg3 arg5 harg5 arg6 harg6 arg8 harg8 arg10 arg11 x0 x1 x3 x4 x6) (ix2 a ⟨384 + e.val, by omega⟩) = stepL (stepM ⊥ (so x0 x1 x3 3 a)) (stepL ⊥ 0 (so x0 x1 x3 3 a)) (sn x0 x4 x6 3 a) := by
  have hu : (Rect.unit (s := S16x1024) ![0, 0] ![16, 1024] inb_S16x1024_S16x1024_0_0).toLoadRect.idx (ix2 a ⟨384 + e.val, by omega⟩) = ix2 a ⟨384 + e.val, by omega⟩ := whole_idx _ _ _
  rw [kernelRun0_A.sl.v815, View.readCov_eq_canon']
  refine (congrArg _ hu).trans ?_
  simp (disch := decide) only [kernelRun0_A.sl.HS1_13, kernelRun0_A.sl.HS1_14, kernelRun0_A.sl.HS1_15, kernelRun0_A.sl.HS1_16, kernelRun0_A.sl.HS1_17, canon_hit, canon_miss, canon_hit', canon_miss']
  simp only [kernelRun0_A.sl.r_42, kernelRun0_A.sl.r_44, View.readAt_eq_ld, Memref.IsWhole.read_unread]
  pointwise [k0_pay34, k0_pay36, k0_pay37, k0_pay38, k0_pay39, k0_pay40]
  simp only [m1_3, l1_3, mask_val, log2e_val, q_scale_val, neg_inf_val, sel_le]
  rfl

theorem a2_3 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨384 + e.val, by omega⟩) = stepA (stepM ⊥ (so x0 x1 x3 3 a)) (stepA ⊥ 0 (so x0 x1 x3 3 a) (fun j => x2 (ix5 0 0 j 3 e))) (sn x0 x4 x6 3 a) (fun j => x5 (ix3 0 j ⟨384 + e.val, by omega⟩)) := by
  have hu : (Rect.unit (s := S16x1024) ![0, 0] ![16, 1024] inb_S16x1024_S16x1024_0_0).toLoadRect.idx (ix2 a ⟨384 + e.val, by omega⟩) = ix2 a ⟨384 + e.val, by omega⟩ := whole_idx _ _ _
  rw [kernelRun0_A.sl.v814, View.readCov_eq_canon']
  refine (congrArg _ hu).trans ?_
  simp (disch := decide) only [kernelRun0_A.sl.HS2_13, kernelRun0_A.sl.HS2_14, kernelRun0_A.sl.HS2_15, kernelRun0_A.sl.HS2_16, kernelRun0_A.sl.HS2_17, canon_hit, canon_miss, canon_hit', canon_miss']
  simp only [kernelRun0_A.sl.r_42, kernelRun0_A.sl.r_43, kernelRun0_A.sl.r_44, View.readAt_eq_ld, Memref.IsWhole.read_unread]
  pointwise [k0_pay34, k0_pay35, k0_pay36, k0_pay37, k0_pay38, k0_pay39, k0_pay41]
  simp only [m1_3, a1_3, mask_val, log2e_val, q_scale_val, neg_inf_val, sel_le]
  rfl

theorem l2_4 (a : Fin 16) (e : Fin 128) : (kernelRun0_A.sl.v815 (F := Ideal) c arg2 harg2 arg3 harg3 arg5 harg5 arg6 harg6 arg8 harg8 arg10 arg11 x0 x1 x3 x4 x6) (ix2 a ⟨512 + e.val, by omega⟩) = stepL (stepM ⊥ (so x0 x1 x3 4 a)) (stepL ⊥ 0 (so x0 x1 x3 4 a)) (sn x0 x4 x6 4 a) := by
  have hu : (Rect.unit (s := S16x1024) ![0, 0] ![16, 1024] inb_S16x1024_S16x1024_0_0).toLoadRect.idx (ix2 a ⟨512 + e.val, by omega⟩) = ix2 a ⟨512 + e.val, by omega⟩ := whole_idx _ _ _
  rw [kernelRun0_A.sl.v815, View.readCov_eq_canon']
  refine (congrArg _ hu).trans ?_
  simp (disch := decide) only [kernelRun0_A.sl.HS1_14, kernelRun0_A.sl.HS1_15, kernelRun0_A.sl.HS1_16, kernelRun0_A.sl.HS1_17, canon_hit, canon_miss, canon_hit', canon_miss']
  simp only [kernelRun0_A.sl.r_45, View.readAt_eq_ld, Memref.IsWhole.read_unread]
  pointwise [k0_pay43, k0_pay44, k0_pay45, k0_pay46, k0_pay47, k0_pay48]
  simp only [m1_4, l1_4, mask_val, log2e_val, q_scale_val, neg_inf_val, sel_le]
  rfl

theorem a2_4 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨512 + e.val, by omega⟩) = stepA (stepM ⊥ (so x0 x1 x3 4 a)) (stepA ⊥ 0 (so x0 x1 x3 4 a) (fun j => x2 (ix5 0 0 j 4 e))) (sn x0 x4 x6 4 a) (fun j => x5 (ix3 0 j ⟨512 + e.val, by omega⟩)) := by
  have hu : (Rect.unit (s := S16x1024) ![0, 0] ![16, 1024] inb_S16x1024_S16x1024_0_0).toLoadRect.idx (ix2 a ⟨512 + e.val, by omega⟩) = ix2 a ⟨512 + e.val, by omega⟩ := whole_idx _ _ _
  rw [kernelRun0_A.sl.v814, View.readCov_eq_canon']
  refine (congrArg _ hu).trans ?_
  simp (disch := decide) only [kernelRun0_A.sl.HS2_14, kernelRun0_A.sl.HS2_15, kernelRun0_A.sl.HS2_16, kernelRun0_A.sl.HS2_17, canon_hit, canon_miss, canon_hit', canon_miss']
  simp only [kernelRun0_A.sl.r_45, kernelRun0_A.sl.r_47, View.readAt_eq_ld, Memref.IsWhole.read_unread]
  pointwise [k0_pay43, k0_pay44, k0_pay45, k0_pay46, k0_pay47, k0_pay49, k0_pay50]
  simp only [m1_4, a1_4, mask_val, log2e_val, q_scale_val, neg_inf_val, sel_le]
  rfl

theorem l2_5 (a : Fin 16) (e : Fin 128) : (kernelRun0_A.sl.v815 (F := Ideal) c arg2 harg2 arg3 harg3 arg5 harg5 arg6 harg6 arg8 harg8 arg10 arg11 x0 x1 x3 x4 x6) (ix2 a ⟨640 + e.val, by omega⟩) = stepL (stepM ⊥ (so x0 x1 x3 5 a)) (stepL ⊥ 0 (so x0 x1 x3 5 a)) (sn x0 x4 x6 5 a) := by
  have hu : (Rect.unit (s := S16x1024) ![0, 0] ![16, 1024] inb_S16x1024_S16x1024_0_0).toLoadRect.idx (ix2 a ⟨640 + e.val, by omega⟩) = ix2 a ⟨640 + e.val, by omega⟩ := whole_idx _ _ _
  rw [kernelRun0_A.sl.v815, View.readCov_eq_canon']
  refine (congrArg _ hu).trans ?_
  simp (disch := decide) only [kernelRun0_A.sl.HS1_15, kernelRun0_A.sl.HS1_16, kernelRun0_A.sl.HS1_17, canon_hit, canon_miss, canon_hit', canon_miss']
  simp only [kernelRun0_A.sl.r_50, kernelRun0_A.sl.r_51, View.readAt_eq_ld, Memref.IsWhole.read_unread]
  pointwise [k0_pay52, k0_pay54, k0_pay55, k0_pay56, k0_pay57, k0_pay58]
  simp only [m1_5, l1_5, mask_val, log2e_val, q_scale_val, neg_inf_val, sel_le]
  rfl

theorem a2_5 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨640 + e.val, by omega⟩) = stepA (stepM ⊥ (so x0 x1 x3 5 a)) (stepA ⊥ 0 (so x0 x1 x3 5 a) (fun j => x2 (ix5 0 0 j 5 e))) (sn x0 x4 x6 5 a) (fun j => x5 (ix3 0 j ⟨640 + e.val, by omega⟩)) := by
  have hu : (Rect.unit (s := S16x1024) ![0, 0] ![16, 1024] inb_S16x1024_S16x1024_0_0).toLoadRect.idx (ix2 a ⟨640 + e.val, by omega⟩) = ix2 a ⟨640 + e.val, by omega⟩ := whole_idx _ _ _
  rw [kernelRun0_A.sl.v814, View.readCov_eq_canon']
  refine (congrArg _ hu).trans ?_
  simp (disch := decide) only [kernelRun0_A.sl.HS2_15, kernelRun0_A.sl.HS2_16, kernelRun0_A.sl.HS2_17, canon_hit, canon_miss, canon_hit', canon_miss']
  simp only [kernelRun0_A.sl.r_48, kernelRun0_A.sl.r_50, kernelRun0_A.sl.r_51, View.readAt_eq_ld, Memref.IsWhole.read_unread]
  pointwise [k0_pay52, k0_pay53, k0_pay54, k0_pay55, k0_pay56, k0_pay57, k0_pay59]
  simp only [m1_5, a1_5, mask_val, log2e_val, q_scale_val, neg_inf_val, sel_le]
  rfl

theorem l2_6 (a : Fin 16) (e : Fin 128) : (kernelRun0_A.sl.v815 (F := Ideal) c arg2 harg2 arg3 harg3 arg5 harg5 arg6 harg6 arg8 harg8 arg10 arg11 x0 x1 x3 x4 x6) (ix2 a ⟨768 + e.val, by omega⟩) = stepL (stepM ⊥ (so x0 x1 x3 6 a)) (stepL ⊥ 0 (so x0 x1 x3 6 a)) (sn x0 x4 x6 6 a) := by
  have hu : (Rect.unit (s := S16x1024) ![0, 0] ![16, 1024] inb_S16x1024_S16x1024_0_0).toLoadRect.idx (ix2 a ⟨768 + e.val, by omega⟩) = ix2 a ⟨768 + e.val, by omega⟩ := whole_idx _ _ _
  rw [kernelRun0_A.sl.v815, View.readCov_eq_canon']
  refine (congrArg _ hu).trans ?_
  simp (disch := decide) only [kernelRun0_A.sl.HS1_16, kernelRun0_A.sl.HS1_17, canon_hit, canon_miss, canon_hit', canon_miss']
  simp only [kernelRun0_A.sl.r_52, kernelRun0_A.sl.r_53, View.readAt_eq_ld, Memref.IsWhole.read_unread]
  pointwise [k0_pay61, k0_pay62, k0_pay63, k0_pay64, k0_pay65, k0_pay66, k0_pay67]
  simp only [m1_6, l1_6, mask_val, log2e_val, q_scale_val, neg_inf_val, sel_le]
  rfl

theorem a2_6 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨768 + e.val, by omega⟩) = stepA (stepM ⊥ (so x0 x1 x3 6 a)) (stepA ⊥ 0 (so x0 x1 x3 6 a) (fun j => x2 (ix5 0 0 j 6 e))) (sn x0 x4 x6 6 a) (fun j => x5 (ix3 0 j ⟨768 + e.val, by omega⟩)) := by
  have hu : (Rect.unit (s := S16x1024) ![0, 0] ![16, 1024] inb_S16x1024_S16x1024_0_0).toLoadRect.idx (ix2 a ⟨768 + e.val, by omega⟩) = ix2 a ⟨768 + e.val, by omega⟩ := whole_idx _ _ _
  rw [kernelRun0_A.sl.v814, View.readCov_eq_canon']
  refine (congrArg _ hu).trans ?_
  simp (disch := decide) only [kernelRun0_A.sl.HS2_16, kernelRun0_A.sl.HS2_17, canon_hit, canon_miss, canon_hit', canon_miss']
  simp only [kernelRun0_A.sl.r_52, kernelRun0_A.sl.r_53, View.readAt_eq_ld, Memref.IsWhole.read_unread]
  pointwise [k0_pay61, k0_pay62, k0_pay63, k0_pay64, k0_pay65, k0_pay66, k0_pay68]
  simp only [m1_6, a1_6, mask_val, log2e_val, q_scale_val, neg_inf_val, sel_le]
  rfl

theorem l2_7 (a : Fin 16) (e : Fin 128) : (kernelRun0_A.sl.v815 (F := Ideal) c arg2 harg2 arg3 harg3 arg5 harg5 arg6 harg6 arg8 harg8 arg10 arg11 x0 x1 x3 x4 x6) (ix2 a ⟨896 + e.val, by omega⟩) = stepL (stepM ⊥ (so x0 x1 x3 7 a)) (stepL ⊥ 0 (so x0 x1 x3 7 a)) (sn x0 x4 x6 7 a) := by
  have hu : (Rect.unit (s := S16x1024) ![0, 0] ![16, 1024] inb_S16x1024_S16x1024_0_0).toLoadRect.idx (ix2 a ⟨896 + e.val, by omega⟩) = ix2 a ⟨896 + e.val, by omega⟩ := whole_idx _ _ _
  rw [kernelRun0_A.sl.v815, View.readCov_eq_canon']
  refine (congrArg _ hu).trans ?_
  simp (disch := decide) only [kernelRun0_A.sl.HS1_17, canon_hit, canon_miss, canon_hit', canon_miss']
  simp only [kernelRun0_A.sl.r_59, kernelRun0_A.sl.r_60, View.readAt_eq_ld, Memref.IsWhole.read_unread]
  pointwise [k0_pay5, k0_pay70, k0_pay72, k0_pay73, k0_pay74, k0_pay75, k0_pay76]
  simp only [m1_7, l1_7, mask_val, log2e_val, q_scale_val, neg_inf_val, sel_le]
  rfl

theorem a2_7 (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨896 + e.val, by omega⟩) = stepA (stepM ⊥ (so x0 x1 x3 7 a)) (stepA ⊥ 0 (so x0 x1 x3 7 a) (fun j => x2 (ix5 0 0 j 7 e))) (sn x0 x4 x6 7 a) (fun j => x5 (ix3 0 j ⟨896 + e.val, by omega⟩)) := by
  have hu : (Rect.unit (s := S16x1024) ![0, 0] ![16, 1024] inb_S16x1024_S16x1024_0_0).toLoadRect.idx (ix2 a ⟨896 + e.val, by omega⟩) = ix2 a ⟨896 + e.val, by omega⟩ := whole_idx _ _ _
  rw [kernelRun0_A.sl.v814, View.readCov_eq_canon']
  refine (congrArg _ hu).trans ?_
  simp (disch := decide) only [kernelRun0_A.sl.HS2_17, canon_hit, canon_miss, canon_hit', canon_miss']
  simp only [kernelRun0_A.sl.r_55, kernelRun0_A.sl.r_57, kernelRun0_A.sl.r_58, View.readAt_eq_ld, Memref.IsWhole.read_unread]
  pointwise [k0_pay6, k0_pay70, k0_pay71, k0_pay72, k0_pay73, k0_pay74]
  simp only [m1_7, a1_7, mask_val, log2e_val, q_scale_val, neg_inf_val, sel_le]
  rfl

/-- The result of one head, row and channel, as the two steps leave it. -/
def blockAt (x0 : Vec Ideal S1x16x1024 .f32) (x1 x2 : Vec Ideal S1x1x2048x8x128 .f32) (x3 : Vec Ideal S1x8x2048 .f32)
    (x4 x5 : Vec Ideal S1x16x1024 .bf16) (x6 : Vec Ideal S1x8x16 .f32) (h : Fin 8) (a : Fin 16) (e : Fin 128) : EReal :=
  Ideal.div (stepA (stepM ⊥ (so x0 x1 x3 h a)) (stepA ⊥ 0 (so x0 x1 x3 h a) (fun j => x2 (ix5 0 0 j h e))) (sn x0 x4 x6 h a)
      (fun j => x5 (ix3 0 j ⟨128 * h.val + e.val, by omega⟩)))
    (stepL (stepM ⊥ (so x0 x1 x3 h a)) (stepL ⊥ 0 (so x0 x1 x3 h a)) (sn x0 x4 x6 h a))

theorem a2_at (h : Fin 8) (a : Fin 16) (e : Fin 128) : (kernelRun0_A.sl.v814 (F := Ideal) c arg2 harg2 arg3 harg3 arg4 harg4 arg5 harg5 arg6 harg6 arg7 harg7 arg8 harg8 arg10 arg12 x0 x1 x2 x3 x4 x5 x6) (ix2 a ⟨128 * h.val + e.val, by omega⟩)
    = stepA (stepM ⊥ (so x0 x1 x3 h a)) (stepA ⊥ 0 (so x0 x1 x3 h a) (fun j => x2 (ix5 0 0 j h e))) (sn x0 x4 x6 h a)
      (fun j => x5 (ix3 0 j ⟨128 * h.val + e.val, by omega⟩)) :=
  match h with
  | 0 => a2_0 c arg2 harg2 arg3 harg3 arg4 harg4 arg5 harg5 arg6 harg6 arg7 harg7 arg8 harg8 arg10 arg12 x0 x1 x2 x3 x4 x5 x6 a e
  | 1 => a2_1 c arg2 harg2 arg3 harg3 arg4 harg4 arg5 harg5 arg6 harg6 arg7 harg7 arg8 harg8 arg10 arg12 x0 x1 x2 x3 x4 x5 x6 a e
  | 2 => a2_2 c arg2 harg2 arg3 harg3 arg4 harg4 arg5 harg5 arg6 harg6 arg7 harg7 arg8 harg8 arg10 arg12 x0 x1 x2 x3 x4 x5 x6 a e
  | 3 => a2_3 c arg2 harg2 arg3 harg3 arg4 harg4 arg5 harg5 arg6 harg6 arg7 harg7 arg8 harg8 arg10 arg12 x0 x1 x2 x3 x4 x5 x6 a e
  | 4 => a2_4 c arg2 harg2 arg3 harg3 arg4 harg4 arg5 harg5 arg6 harg6 arg7 harg7 arg8 harg8 arg10 arg12 x0 x1 x2 x3 x4 x5 x6 a e
  | 5 => a2_5 c arg2 harg2 arg3 harg3 arg4 harg4 arg5 harg5 arg6 harg6 arg7 harg7 arg8 harg8 arg10 arg12 x0 x1 x2 x3 x4 x5 x6 a e
  | 6 => a2_6 c arg2 harg2 arg3 harg3 arg4 harg4 arg5 harg5 arg6 harg6 arg7 harg7 arg8 harg8 arg10 arg12 x0 x1 x2 x3 x4 x5 x6 a e
  | 7 => a2_7 c arg2 harg2 arg3 harg3 arg4 harg4 arg5 harg5 arg6 harg6 arg7 harg7 arg8 harg8 arg10 arg12 x0 x1 x2 x3 x4 x5 x6 a e

theorem l2_at (h : Fin 8) (a : Fin 16) (e : Fin 128) : (kernelRun0_A.sl.v815 (F := Ideal) c arg2 harg2 arg3 harg3 arg5 harg5 arg6 harg6 arg8 harg8 arg10 arg11 x0 x1 x3 x4 x6) (ix2 a ⟨128 * h.val + e.val, by omega⟩)
    = stepL (stepM ⊥ (so x0 x1 x3 h a)) (stepL ⊥ 0 (so x0 x1 x3 h a)) (sn x0 x4 x6 h a) :=
  match h with
  | 0 => l2_0 c arg2 harg2 arg3 harg3 arg5 harg5 arg6 harg6 arg8 harg8 arg10 arg11 x0 x1 x3 x4 x6 a e
  | 1 => l2_1 c arg2 harg2 arg3 harg3 arg5 harg5 arg6 harg6 arg8 harg8 arg10 arg11 x0 x1 x3 x4 x6 a e
  | 2 => l2_2 c arg2 harg2 arg3 harg3 arg5 harg5 arg6 harg6 arg8 harg8 arg10 arg11 x0 x1 x3 x4 x6 a e
  | 3 => l2_3 c arg2 harg2 arg3 harg3 arg5 harg5 arg6 harg6 arg8 harg8 arg10 arg11 x0 x1 x3 x4 x6 a e
  | 4 => l2_4 c arg2 harg2 arg3 harg3 arg5 harg5 arg6 harg6 arg8 harg8 arg10 arg11 x0 x1 x3 x4 x6 a e
  | 5 => l2_5 c arg2 harg2 arg3 harg3 arg5 harg5 arg6 harg6 arg8 harg8 arg10 arg11 x0 x1 x3 x4 x6 a e
  | 6 => l2_6 c arg2 harg2 arg3 harg3 arg5 harg5 arg6 harg6 arg8 harg8 arg10 arg11 x0 x1 x3 x4 x6 a e
  | 7 => l2_7 c arg2 harg2 arg3 harg3 arg5 harg5 arg6 harg6 arg8 harg8 arg10 arg11 x0 x1 x3 x4 x6 a e

theorem pay8_at (x y : Vec Ideal S16x1024 .f32) (o : Fin 1) (a : Fin 16) (w : Fin 1024) :
    k0_pay8 (F := Ideal) x y (ix3 o a w) = Ideal.div (x (ix2 a w)) (y (ix2 a w)) := by
  pointwise [k0_pay8]

/-- The block of results of one grid point. -/
theorem block (m : (ℓ : Loc nD τ sig) → Buf (Elt Ideal) ℓ) (c : Dev nD) (t : Fin cfg0.N) (o : Fin 1) (a : Fin 16) (w : Fin 1024) :
    outsAt0 m c t (ix3 o a w) = blockAt (iblk m c 0 t) (iblk m c 1 t) (iblk m c 2 t) (iblk m c 3 t) (iblk m c 4 t) (iblk m c 5 t)
      (iblk m c 6 t) ⟨w.val / 128, by omega⟩ a ⟨w.val % 128, by omega⟩ := by
  have hw : w = ⟨128 * (w.val / 128) + w.val % 128, by omega⟩ := Fin.ext (by show w.val = 128 * (w.val / 128) + w.val % 128; omega)
  unfold outsAt0 out0_A_7 kernelRun0_A
  dsimp only
  rw [View.read_writes_junk_eq_canon]
  simp (disch := decide) only [View.canon_cons_unit_lit']
  rw [pay8_at]
  conv_lhs => rw [hw]
  exact congrArg₂ Ideal.div (a2_at _ _ _ _ _ _ _ _ _ _ _ _ _ _ _ _ _ _ _ _ _ _ _ _ ⟨w.val / 128, by omega⟩ a ⟨w.val % 128, by omega⟩)
    (l2_at _ _ _ _ _ _ _ _ _ _ _ _ _ _ _ _ _ _ ⟨w.val / 128, by omega⟩ a ⟨w.val % 128, by omega⟩)

end Cert.K.AttnC

end
-- ==== Proof.AttnCRow.lean ====
/- One row of the cached attention: the softmax carried over the cache and then over the new keys is the softmax mean over
   all the keys at once. -/
module

public import proofs.«01_k».proof.Proof.AttnCBase

@[expose] public section

noncomputable section

namespace Cert.K.AttnC

open Idealize.ShloMosaic Cert.K.Softmax

/-- A cached family followed by a new one. -/
def cat {α : Type} (past : Fin 2048 → α) (new : Fin 16 → α) (j : Fin 2064) : α :=
  if h : j.val < 2048 then past ⟨j.val, h⟩ else new ⟨j.val - 2048, by omega⟩

theorem cat_past {α : Type} (past : Fin 2048 → α) (new : Fin 16 → α) (k : Fin 2048) : cat past new ⟨k.val, by omega⟩ = past k :=
  dif_pos k.isLt

theorem cat_new {α : Type} (past : Fin 2048 → α) (new : Fin 16 → α) (k : Fin 16) : cat past new ⟨2048 + k.val, by omega⟩ = new k := by
  unfold cat
  rw [dif_neg (by simp)]
  exact congrArg new (Fin.ext (Nat.add_sub_cancel_left 2048 k.val))

/-- A power of two of a real score shifted by one number, carried over to another. -/
theorem carry (x r M : ℝ) : Ideal.exp2 ((x : EReal) - (r : EReal)) * Ideal.exp2 ((r : EReal) - (M : EReal)) = Ideal.exp2 ((x : EReal) - (M : EReal)) := by
  simp only [← EReal.coe_sub, Ideal.exp2_coe]
  rw [← EReal.coe_mul]
  congr 1
  simp only [Real.rpow_eq_pow]
  rw [← Real.rpow_add (by norm_num)]
  congr 1
  ring

theorem row_online (a : Fin 16) (z : Fin 2064 → ℝ) (v : Fin 2064 → EReal) (s vo : Fin 2048 → EReal) (s' vn : Fin 16 → EReal)
    (hs : ∀ k : Fin 2048, s k = ((z ⟨k.val, by omega⟩ * (Real.log 2)⁻¹ : ℝ) : EReal))
    (hs' : ∀ k : Fin 16, s' k = if k.val ≤ a.val then ((z ⟨2048 + k.val, by omega⟩ * (Real.log 2)⁻¹ : ℝ) : EReal) else ⊥)
    (hvo : ∀ k : Fin 2048, vo k = v ⟨k.val, by omega⟩) (hvn : ∀ k : Fin 16, vn k = v ⟨2048 + k.val, by omega⟩) :
    Ideal.div (stepA (stepM ⊥ s) (stepA ⊥ 0 s vo) s' vn) (stepL (stepM ⊥ s) (stepL ⊥ 0 s) s')
      = mean (wt (fun j : Fin 2064 => j.val ≤ 2048 + a.val) z) v := by
  obtain ⟨r, hr⟩ := max_real s (fun j => by rw [hs]; exact EReal.coe_ne_top _) 0 (by rw [hs]; exact EReal.coe_ne_bot _)
  obtain ⟨y, hy⟩ := max_real s' (fun j => by rw [hs']; split; exacts [EReal.coe_ne_top _, bot_ne_top]) a
    (by rw [hs', if_pos le_rfl]; exact EReal.coe_ne_bot _)
  have h1 : stepM ⊥ s = (r : EReal) := by
    unfold stepM
    rw [hr]
    exact max_eq_right bot_le
  have hM : stepM (stepM ⊥ s) s' = ((max r y : ℝ) : EReal) := by
    rw [h1]
    unfold stepM
    rw [hy]
    exact (EReal.coe_strictMono.monotone.map_max).symm
  have hA : stepA ⊥ 0 s vo = ∑ k, Ideal.exp2 (s k - (r : EReal)) * vo k := by
    unfold stepA
    rw [h1, mul_zero, zero_add]
  have hL : stepL ⊥ 0 s = ∑ k, Ideal.exp2 (s k - (r : EReal)) := by
    unfold stepL
    rw [h1, mul_zero, zero_add]
  have hp : Ideal.exp2 ((r : EReal) - ((max r y : ℝ) : EReal)) = (((2 : ℝ) ^ (r - max r y) : ℝ) : EReal) := by
    rw [← EReal.coe_sub, Ideal.exp2_coe]
    rfl
  have hpos : 0 < (2 : ℝ) ^ (r - max r y) := Real.rpow_pos_of_pos (by norm_num) _
  have hc : ∀ k, Ideal.exp2 (s k - (r : EReal)) * (((2 : ℝ) ^ (r - max r y) : ℝ) : EReal) = Ideal.exp2 (s k - ((max r y : ℝ) : EReal)) := by
    intro k
    rw [← hp, hs, carry]
  have eA : stepA (stepM ⊥ s) (stepA ⊥ 0 s vo) s' vn
      = (∑ k, Ideal.exp2 (s' k - ((max r y : ℝ) : EReal)) * vn k) + ∑ k, Ideal.exp2 (s k - ((max r y : ℝ) : EReal)) * vo k := by
    rw [stepA, hM, h1, hA, hp, mul_comm, sum_mul_pos _ _ _ hpos, add_comm]
    refine congrArg₂ (· + ·) rfl (Finset.sum_congr rfl fun k _ => ?_)
    rw [mul_right_comm, hc]
  have eL : stepL (stepM ⊥ s) (stepL ⊥ 0 s) s'
      = (∑ k, Ideal.exp2 (s' k - ((max r y : ℝ) : EReal))) + ∑ k, Ideal.exp2 (s k - ((max r y : ℝ) : EReal)) := by
    rw [stepL, hM, h1, hL, hp, mul_comm, sum_mul_pos _ _ _ hpos, add_comm]
    exact congrArg₂ (· + ·) rfl (Finset.sum_congr rfl fun k _ => hc k)
  rw [eA, eL]
  exact row_pieces 2048 (by norm_num) a _ rfl z v s' vn s vo hs' hs hvn hvo _ (by
    rw [hr, hy, max_comm]
    exact EReal.coe_strictMono.monotone.map_max)

end Cert.K.AttnC

end
-- ==== Proof.AttnCValue.lean ====
/- The cached attention kernel's whole result: at every index, the causal softmax mean of the cached and the new values. -/
module

public import proofs.«01_k».proof.Proof.AttnCStep2
public import proofs.«01_k».proof.Proof.AttnCRow
public import proofs.«01_k».proof.Proof.Gen.AttentionCachedIdeal.Value

@[expose] public section

set_option maxRecDepth 16384

noncomputable section

namespace Cert.K.AttnC

open Idealize.ShloMosaic Idealize.ShloMosaic.TcCoe Idealize.SL.Sem
open Idealize.ShloMosaic.Pipeline (Dat)
open Cert.AttentionCachedIdeal Cert.AttentionCachedIdeal.Gen Cert.AttentionCachedIdeal.Value Cert.K.Softmax

variable (m : (ℓ : Loc nD τ sig) → Buf (Elt Ideal) ℓ)

/-- The blocks each grid point reads and writes: one sequence, the cache's first layer. -/
theorem idx : ∀ t : Fin cfg0.N, win0_0.index t = ![t.val, 0, 0] ∧ win0_1.index t = ![0, t.val, 0, 0, 0]
    ∧ win0_2.index t = ![0, t.val, 0, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0] :=
  (by decide +kernel : ∀ t : Fin grid0.N, _)

/-- The score of a new row with the cached and the new keys, in natural units. -/
def z (q : FVec Ideal S16x16x8x128 .f32) (kp : FVec Ideal S2x16x2048x8x128 .f32) (cp : FVec Ideal S16x2048x8 .f32)
    (k : FVec Ideal S16x16x8x128 .f32) (c : FVec Ideal S16x16x8 .f32) (b : Fin 16) (a : Fin 16) (h : Fin 8) (j : Fin 2064) : ℝ :=
  (∑ d : Fin 128, (q (ix4 b a h d)).toReal * (cat (fun i => (kp (ix5 0 b i h d)).toReal) (fun i => (k (ix4 b i h d)).toReal) j)) * sc
    - cat (fun i => (cp (ix3 b i h)).toReal) (fun i => (c (ix3 b i h)).toReal) j

/-- The softmax mean of the values at one sequence, row, head and channel. -/
def outAt (q : FVec Ideal S16x16x8x128 .f32) (kp vp : FVec Ideal S2x16x2048x8x128 .f32) (cp : FVec Ideal S16x2048x8 .f32)
    (k v : FVec Ideal S16x16x8x128 .f32) (c : FVec Ideal S16x16x8 .f32) (b : Fin 16) (a : Fin 16) (h : Fin 8) (e : Fin 128) : EReal :=
  mean (wt (fun j : Fin 2064 => j.val ≤ 2048 + a.val) (z q kp cp k c b a h))
    (cat (fun i => vp (ix5 0 b i h e)) (fun i => v (ix4 b i h e)))

/-- The whole result, the heads side by side. -/
def out (q : FVec Ideal S16x16x8x128 .f32) (kp vp : FVec Ideal S2x16x2048x8x128 .f32) (cp : FVec Ideal S16x2048x8 .f32)
    (k v : FVec Ideal S16x16x8x128 .f32) (c : FVec Ideal S16x16x8 .f32) : FVec Ideal S16x16x1024 .f32 := fun y =>
  outAt q kp vp cp k v c (y 0) (y 1) ⟨(y 2).val / 128, by have h : (y 2).val < 1024 := (y 2).isLt; omega⟩ ⟨(y 2).val % 128, by omega⟩

theorem outAt_congr (q : FVec Ideal S16x16x8x128 .f32) (kp vp : FVec Ideal S2x16x2048x8x128 .f32) (cp : FVec Ideal S16x2048x8 .f32)
    (k v : FVec Ideal S16x16x8x128 .f32) (c : FVec Ideal S16x16x8 .f32) (b b' : Fin 16) (a a' : Fin 16) (h h' : Fin 8)
    (e e' : Fin 128) (hb : b.val = b'.val) (ha : a.val = a'.val) (hh : h.val = h'.val) (he : e.val = e'.val) :
    outAt q kp vp cp k v c b a h e = outAt q kp vp cp k v c b' a' h' e' := by
  rw [Fin.ext hb, Fin.ext ha, Fin.ext hh, Fin.ext he]

/-- The query block of a grid point: one sequence, its heads side by side. -/
theorem q_block (c : Dev nD) (t : Fin cfg0.N) (ht : t.val < 16) (o : Fin 1) (a : Fin 16) (h : Fin 8) (d : Fin 128) :
    iblk m c 0 t (ix3 o a ⟨128 * h.val + d.val, by omega⟩) = m ((c : Thread nD τ).loc main_arg0) (ix4 ⟨t.val, ht⟩ a h d) := by
  blk_point [iblk, idx t]

/-- The cached key block. -/
theorem kp_block (c : Dev nD) (t : Fin cfg0.N) (ht : t.val < 16) (j : Fin 2048) (h : Fin 8) (d : Fin 128) :
    iblk m c 1 t (ix5 0 0 j h d) = m ((c : Thread nD τ).loc main_arg1) (ix5 0 ⟨t.val, ht⟩ j h d) := by
  blk_point [iblk, idx t]

/-- The cached value block. -/
theorem vp_block (c : Dev nD) (t : Fin cfg0.N) (ht : t.val < 16) (j : Fin 2048) (h : Fin 8) (d : Fin 128) :
    iblk m c 2 t (ix5 0 0 j h d) = m ((c : Thread nD τ).loc main_arg2) (ix5 0 ⟨t.val, ht⟩ j h d) := by
  blk_point [iblk, idx t]

/-- The cached block of cumulative log forget gates. -/
theorem cp_block (c : Dev nD) (t : Fin cfg0.N) (ht : t.val < 16) (h : Fin 8) (j : Fin 2048) :
    iblk m c 3 t (ix3 0 h j) = m ((c : Thread nD τ).loc main_arg3) (ix3 ⟨t.val, ht⟩ j h) := by
  blk_point [iblk, idx t]

/-- The new key block. -/
theorem k_block (c : Dev nD) (t : Fin cfg0.N) (ht : t.val < 16) (o : Fin 1) (a : Fin 16) (h : Fin 8) (d : Fin 128) :
    iblk m c 4 t (ix3 o a ⟨128 * h.val + d.val, by omega⟩) = m ((c : Thread nD τ).loc main_arg4) (ix4 ⟨t.val, ht⟩ a h d) := by
  blk_point [iblk, idx t]

/-- The new value block. -/
theorem v_block (c : Dev nD) (t : Fin cfg0.N) (ht : t.val < 16) (o : Fin 1) (a : Fin 16) (h : Fin 8) (d : Fin 128) :
    iblk m c 5 t (ix3 o a ⟨128 * h.val + d.val, by omega⟩) = m ((c : Thread nD τ).loc main_arg5) (ix4 ⟨t.val, ht⟩ a h d) := by
  blk_point [iblk, idx t]

/-- The new block of cumulative log forget gates. -/
theorem c_block (c : Dev nD) (t : Fin cfg0.N) (ht : t.val < 16) (h : Fin 8) (j : Fin 16) :
    iblk m c 6 t (ix3 0 h j) = m ((c : Thread nD τ).loc main_arg6) (ix3 ⟨t.val, ht⟩ j h) := by
  blk_point [iblk, idx t]

/-- One grid point's block is the softmax mean, where its queries, keys and cumulative gates are those of the arguments and
    real numbers. -/
theorem blockAt_eq (q : FVec Ideal S16x16x8x128 .f32) (kp vp : FVec Ideal S2x16x2048x8x128 .f32) (cp : FVec Ideal S16x2048x8 .f32)
    (k v : FVec Ideal S16x16x8x128 .f32) (c : FVec Ideal S16x16x8 .f32) (b : Fin 16)
    (x0 : Vec Ideal S1x16x1024 .f32) (x1 x2 : Vec Ideal S1x1x2048x8x128 .f32) (x3 : Vec Ideal S1x8x2048 .f32)
    (x4 x5 : Vec Ideal S1x16x1024 .bf16) (x6 : Vec Ideal S1x8x16 .f32)
    (h0 : ∀ a h d, x0 (ix3 0 a ⟨128 * h.val + d.val, by omega⟩) = ((q (ix4 b a h d) : EReal).toReal : EReal))
    (h1 : ∀ j h d, x1 (ix5 0 0 j h d) = ((kp (ix5 0 b j h d) : EReal).toReal : EReal))
    (h2 : ∀ j h d, x2 (ix5 0 0 j h d) = vp (ix5 0 b j h d))
    (h3 : ∀ h j, x3 (ix3 0 h j) = ((cp (ix3 b j h) : EReal).toReal : EReal))
    (h4 : ∀ a h d, x4 (ix3 0 a ⟨128 * h.val + d.val, by omega⟩) = ((k (ix4 b a h d) : EReal).toReal : EReal))
    (h5 : ∀ a h d, x5 (ix3 0 a ⟨128 * h.val + d.val, by omega⟩) = v (ix4 b a h d))
    (h6 : ∀ h j, x6 (ix3 0 h j) = ((c (ix3 b j h) : EReal).toReal : EReal))
    (h : Fin 8) (a : Fin 16) (e : Fin 128) : blockAt x0 x1 x2 x3 x4 x5 x6 h a e = outAt q kp vp cp k v c b a h e := by
  refine row_online a (z q kp cp k c b a h) _ _ _ _ _ (fun j => ?_) (fun j => ?_) (fun j => ?_) (fun j => ?_)
  · unfold so z
    simp only [h0, h1, h3, score, cat_past]
  · unfold sn z
    simp only [h0, h4, h6, score, cat_new]
  · rw [cat_past]
    exact h2 _ _ _
  · rw [cat_new]
    exact h5 _ _ _

/-- The result after the run, where the queries, the keys and the cumulative gates are real numbers. -/
theorem final (c : Dev nD)
    (hq : ∀ i, m ((c : Thread nD τ).loc main_arg0) i = ((m ((c : Thread nD τ).loc main_arg0) i : EReal).toReal : EReal))
    (hkp : ∀ b j h d, m ((c : Thread nD τ).loc main_arg1) (ix5 0 b j h d) = ((m ((c : Thread nD τ).loc main_arg1) (ix5 0 b j h d) : EReal).toReal : EReal))
    (hcp : ∀ i, m ((c : Thread nD τ).loc main_arg3) i = ((m ((c : Thread nD τ).loc main_arg3) i : EReal).toReal : EReal))
    (hk : ∀ i, m ((c : Thread nD τ).loc main_arg4) i = ((m ((c : Thread nD τ).loc main_arg4) i : EReal).toReal : EReal))
    (hc : ∀ i, m ((c : Thread nD τ).loc main_arg6) i = ((m ((c : Thread nD τ).loc main_arg6) i : EReal).toReal : EReal)) :
    (dats m 0 c).arrAt 7 cfg0.N = out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 7 _ (by decide +kernel) fun t hf y => ?_
  have ht : t.val < 16 := t.isLt
  blk_simp
  rw [after0_7]
  idx_vars y
  refine (block _ _ _ _ _ _).trans ?_
  refine (blockAt_eq _ _ _ _ _ _ _ ⟨t.val, ht⟩ _ _ _ _ _ _ _ (fun a h d => (q_block m c t ht 0 a h d).trans (hq _))
    (fun j h d => (kp_block m c t ht j h d).trans (hkp _ _ _ _)) (fun j h d => vp_block m c t ht j h d)
    (fun h j => (cp_block m c t ht h j).trans (hcp _)) (fun a h d => (k_block m c t ht 0 a h d).trans (hk _))
    (fun a h d => v_block m c t ht 0 a h d) (fun h j => (c_block m c t ht h j).trans (hc _)) _ _ _).trans ?_
  refine outAt_congr _ _ _ _ _ _ _ ⟨t.val, ht⟩ _ y1 _ ⟨y2.val / 128, by omega⟩ _ ⟨y2.val % 128, by omega⟩ _ ?_ ?_ ?_ ?_ <;> blk_simp [idx t] <;> simp <;> omega

end Cert.K.AttnC

end
-- ==== Proof.AttnCRef.lean ====
/- The cached attention's reference at an index of its result: the causal softmax mean of the cached and the new values. -/
module

public import proofs.«01_k».proof.Proof.Gen.AttentionCachedRefIdeal.Run
public import proofs.«01_k».proof.Proof.AttnCValue

@[expose] public section

set_option maxRecDepth 16384

noncomputable section

namespace Cert.K.AttnCRef

open Idealize.ShloMosaic Idealize.ShloMosaic.TcCoe Idealize.SL.Sem
open Cert.AttentionCachedRefIdeal Cert.AttentionCachedRefIdeal.Gen Cert.AttentionCachedRefIdeal.Value Cert.K.Softmax
open Cert.K.AttnC (cat sc neg_inf_val)

/-- The first layer's cached keys (or values) followed by the new ones. -/
def all (kp : FVec Ideal S2x16x2048x8x128 .f32) (k : FVec Ideal S16x16x8x128 .f32) : FVec Ideal S16x2064x8x128 .f32 :=
  concatenate S16x2064x8x128 1 [⟨S16x2048x8x128, (shapeCast S16x2048x8x128 (extractStridedSlice S1x16x2048x8x128 ![0, 0, 0, 0, 0] kp slices_S2x16x2048x8x128_S1x16x2048x8x128_0_0_0_0_0) shapeCasts_S1x16x2048x8x128_S16x2048x8x128)⟩, ⟨S16x16x8x128, k⟩] concatenates_S16x2048x8x128_S16x16x8x128_S16x2064x8x128_d1

/-- The cached cumulative gates followed by the new ones. -/
def gates (cp : FVec Ideal S16x2048x8 .f32) (c : FVec Ideal S16x16x8 .f32) : FVec Ideal S16x2064x8 .f32 :=
  concatenate S16x2064x8 1 [⟨S16x2048x8, cp⟩, ⟨S16x16x8, c⟩] concatenates_S16x2048x8_S16x16x8_S16x2064x8_d1

/-- The masked scores, every head's row of queries against its keys. -/
def scores (q : FVec Ideal S16x16x8x128 .f32) (k : FVec Ideal S16x2064x8x128 .f32) (c : FVec Ideal S16x16x8 .f32) (cc : FVec Ideal S16x2064x8 .f32) :
    FVec Ideal S16x8x16x2064 .f32 :=
  select (broadcastInDim S16x8x16x2064 ![2, 3] bcast_S16x2064_S16x8x16x2064_2_3 (cmpi .sle (broadcastInDim S16x2064 ![0, 1] bcast_S1x2064_S16x2064_0_1 (broadcastInDim S1x2064 ![1] bcast_S2064_S1x2064_1 (iotaInDim S2064 32 0))) (broadcastInDim S16x2064 ![0, 1] bcast_S16x1_S16x2064_0_1 (broadcastInDim S16x1 ![0] bcast_S16_S16x1_0 (addi (broadcastInDim S16 ![] bcast_S_S16 (constantI S_ 32 2048#32)) (iotaInDim S16 32 0)))))) (addf (Host.divf (Host.dotGeneral (F := Ideal) dot_S16x16x8x128_S16x2064x8x128_S16x8x16x2064_3_3_1_1_02_02 none q k) (broadcastInDim S16x8x16x2064 ![] bcast_S_S16x8x16x2064 (Host.sqrt (constant (F := Ideal) S_ .f32 0x43000000#32)))) (subf (broadcastInDim S16x8x16x2064 ![0, 1, 2, 3] bcast_S16x8x16x1_S16x8x16x2064_0_1_2_3 (broadcastInDim S16x8x16x1 ![0, 1, 2] bcast_S16x8x16_S16x8x16x1_0_1_2 (transpose S16x8x16 [0, 2, 1] c transposes_S16x16x8_S16x8x16_0_2_1))) (broadcastInDim S16x8x16x2064 ![0, 1, 2, 3] bcast_S16x8x1x2064_S16x8x16x2064_0_1_2_3 (broadcastInDim S16x8x1x2064 ![0, 1, 3] bcast_S16x8x2064_S16x8x1x2064_0_1_3 (transpose S16x8x2064 [0, 2, 1] cc transposes_S16x2064x8_S16x8x2064_0_2_1))))) (broadcastInDim S16x8x16x2064 ![] bcast_S_S16x8x16x2064 (id (constant (F := Ideal) S_ .f32 0xFF800000#32)))

/-- Each row's maximum of the scores. -/
def tops (s : FVec Ideal S16x8x16x2064 .f32) : FVec Ideal S16x8x16 .f32 :=
  maximumf (broadcastInDim S16x8x16 ![] bcast_S_S16x8x16 (constant (F := Ideal) S_ .f32 0xFF800000#32)) (Host.reduce FloatOps.maximumf s (constant (F := Ideal) S_ .f32 0xFF800000#32) reducesTo_S16x8x16x2064_S16x8x16_d3 h_S_)

/-- The exponentials of the scores, a number taken off each row. -/
def exps (s : FVec Ideal S16x8x16x2064 .f32) (m : FVec Ideal S16x8x16 .f32) : FVec Ideal S16x8x16x2064 .f32 :=
  Host.exp (F := Ideal) (subf s (broadcastInDim S16x8x16x2064 ![0, 1, 2, 3] bcast_S16x8x16x1_S16x8x16x2064_0_1_2_3 (broadcastInDim S16x8x16x1 ![0, 1, 2] bcast_S16x8x16_S16x8x16x1_0_1_2 m)))

/-- The rows' normalised weights applied to the values, from the exponentials. -/
def weigh (x : FVec Ideal S16x8x16x2064 .f32) (v : FVec Ideal S16x2064x8x128 .f32) : FVec Ideal S16x16x1024 .f32 :=
  shapeCast S16x16x1024 (transpose S16x16x8x128 [0, 3, 1, 2] (Host.dotGeneral (F := Ideal) dot_S16x2064x8x128_S16x8x16x2064_S16x8x128x16_1_3_3_2_02_01 none v (Host.divf x (broadcastInDim S16x8x16x2064 ![0, 1, 2, 3] bcast_S16x8x16x1_S16x8x16x2064_0_1_2_3 (broadcastInDim S16x8x16x1 ![0, 1, 2] bcast_S16x8x16_S16x8x16x1_0_1_2 (Host.reduceAdd x (constant (F := Ideal) S_ .f32 0x00000000#32) reducesTo_S16x8x16x2064_S16x8x16_d3 h_S_))))) transposes_S16x8x128x16_S16x16x8x128_0_3_1_2) shapeCasts_S16x16x8x128_S16x16x1024

theorem all_at (kp : FVec Ideal S2x16x2048x8x128 .f32) (k : FVec Ideal S16x16x8x128 .f32) (b : Fin 16) (j : Fin 2064) (h : Fin 8) (d : Fin 128) :
    all kp k (ix4 b j h d) = cat (fun i => kp (ix5 0 b i h d)) (fun i => k (ix4 b i h d)) j := by
  unfold all cat
  pointwise

theorem gates_at (cp : FVec Ideal S16x2048x8 .f32) (c : FVec Ideal S16x16x8 .f32) (b : Fin 16) (j : Fin 2064) (h : Fin 8) :
    gates cp c (ix3 b j h) = cat (fun i => cp (ix3 b i h)) (fun i => c (ix3 b i h)) j := by
  unfold gates cat
  pointwise

theorem row_max (s : FVec Ideal S16x8x16x2064 .f32) (v : FVec Ideal S_ .f32) (b : Fin 16) (h : Fin 8) (a : Fin 16) :
    Host.reduce FloatOps.maximumf s v reducesTo_S16x8x16x2064_S16x8x16_d3 h_S_ (ix3 b h a)
      = Finset.univ.fold max (v (Shape.Idx.first h_S_)) (fun j : Fin 2064 => s (ix4 b h a j)) := by
  pointwise

theorem bot_at (j : S16x8x16.Idx) :
    broadcastInDim S16x8x16 ![] bcast_S_S16x8x16 (constant (F := Ideal) S_ .f32 0xFF800000#32) j = ⊥ := by
  pointwise
  exact neg_inf_val

theorem tops_at (s : FVec Ideal S16x8x16x2064 .f32) (b : Fin 16) (h : Fin 8) (a : Fin 16) :
    tops s (ix3 b h a) = Finset.univ.fold max ⊥ (fun j : Fin 2064 => s (ix4 b h a j)) := by
  unfold tops
  rw [maximumf_apply, row_max, bot_at, Ideal.maximumf_eq_max]
  exact (max_eq_right bot_le).trans (congrArg (fun x => Finset.univ.fold max x _) neg_inf_val)

theorem exps_at (s : FVec Ideal S16x8x16x2064 .f32) (m : FVec Ideal S16x8x16 .f32) (b : Fin 16) (h : Fin 8) (a : Fin 16) (j : Fin 2064) :
    exps s m (ix4 b h a j) = Ideal.exp (s (ix4 b h a j) - m (ix3 b h a)) := by
  unfold exps
  pointwise

theorem weigh_at (x : FVec Ideal S16x8x16x2064 .f32) (v : FVec Ideal S16x2064x8x128 .f32) (b : Fin 16) (a : Fin 16) (w : Fin 1024) :
    weigh x v (ix3 b a w) = ∑ j : Fin 2064, Ideal.div (x (ix4 b ⟨w.val / 128, by omega⟩ a j))
      (∑ i : Fin 2064, x (ix4 b ⟨w.val / 128, by omega⟩ a i)) * v (ix4 b j ⟨w.val / 128, by omega⟩ ⟨w.val % 128, by omega⟩) := by
  unfold weigh
  pointwise
  exact Finset.sum_congr rfl fun j _ => mul_comm _ _

theorem root_val : Ideal.sqrt (Ideal.ofBits .f32 0x43000000#32) = ((Real.sqrt 128 : ℝ) : EReal) := by
  have : Ideal.ofBits .f32 0x43000000#32 = ((128 : ℝ) : EReal) := by
    simp [Ideal.ofBits, Ideal.ieee]
    rw [← EReal.coe_mul]
    norm_num
  rw [this]
  exact if_neg (by norm_num)

theorem scores_at (q : FVec Ideal S16x16x8x128 .f32) (k : FVec Ideal S16x2064x8x128 .f32) (c : FVec Ideal S16x16x8 .f32) (cc : FVec Ideal S16x2064x8 .f32)
    (b : Fin 16) (h : Fin 8) (a : Fin 16) (qr : Fin 128 → ℝ) (kr : Fin 2064 → Fin 128 → ℝ) (cr : Fin 2064 → ℝ) (c0 : ℝ)
    (hq : ∀ d, q (ix4 b a h d) = (qr d : EReal)) (hk : ∀ j d, k (ix4 b j h d) = (kr j d : EReal))
    (hc : c (ix3 b a h) = (c0 : EReal)) (hcc : ∀ j, cc (ix3 b j h) = (cr j : EReal)) (j : Fin 2064) :
    scores q k c cc (ix4 b h a j) = if j.val ≤ 2048 + a.val then
      (((∑ d, qr d * kr j d) * sc - cr j + c0 : ℝ) : EReal) else ⊥ := by
  unfold scores
  pointwise
  have hj := j.isLt
  have ha := a.isLt
  have e : IntOp.addi (2048#32) (BitVec.ofNat 32 a.val) = BitVec.ofNat 32 (2048 + a.val) := (BitVec.ofNat_add 2048 a.val).symm
  rw [e, WordCmp.cmpi_sle_ofNat (by norm_num; omega) (by norm_num; omega)]
  by_cases h' : j.val ≤ 2048 + a.val
  · have hd : decide (j.val ≤ 2048 + a.val) = true := decide_eq_true h'
    rw [hd, Scalar.select, if_pos (by decide), if_pos h', root_val, Ideal.div_coe (by positivity)]
    simp only [hq, hk, hc, hcc, ← EReal.coe_mul, coe_sum, ← EReal.coe_add, ← EReal.coe_sub, sc]
    congr 1
    rw [one_div]
    ring
  · have hd : decide (j.val ≤ 2048 + a.val) = false := decide_eq_false h'
    rw [hd, Scalar.select, if_neg (by decide), if_neg h']
    exact neg_inf_val

/-- A concatenation of real numbers. -/
theorem cat_real (past : Fin 2048 → EReal) (new : Fin 16 → EReal) (hp : ∀ i, past i = ((past i).toReal : EReal))
    (hn : ∀ i, new i = ((new i).toReal : EReal)) (j : Fin 2064) :
    cat past new j = ((cat (fun i => (past i).toReal) (fun i => (new i).toReal) j : ℝ) : EReal) := by
  unfold cat
  split
  · exact hp _
  · exact hn _

/-- The reference's result at an index, when the queries, keys and cumulative gates are real numbers. -/
theorem ref_at (q : FVec Ideal S16x16x8x128 .f32) (kp vp : FVec Ideal S2x16x2048x8x128 .f32) (cp : FVec Ideal S16x2048x8 .f32)
    (k v : FVec Ideal S16x16x8x128 .f32) (c : FVec Ideal S16x16x8 .f32)
    (hq : ∀ i, q i = ((q i : EReal).toReal : EReal)) (hkp : ∀ b j h d, kp (ix5 0 b j h d) = ((kp (ix5 0 b j h d) : EReal).toReal : EReal))
    (hcp : ∀ i, cp i = ((cp i : EReal).toReal : EReal)) (hk : ∀ i, k i = ((k i : EReal).toReal : EReal))
    (hc : ∀ i, c i = ((c i : EReal).toReal : EReal)) (b : Fin 16) (a : Fin 16) (w : Fin 1024) :
    weigh (exps (scores q (all kp k) c (gates cp c)) (tops (scores q (all kp k) c (gates cp c)))) (all vp v) (ix3 b a w)
      = Cert.K.AttnC.outAt q kp vp cp k v c b a ⟨w.val / 128, by omega⟩ ⟨w.val % 128, by omega⟩ := by
  rw [weigh_at]
  simp only [exps_at, tops_at, all_at vp v]
  exact row_reference (fun j : Fin 2064 => j.val ≤ 2048 + a.val) (Cert.K.AttnC.z q kp cp k c b a ⟨w.val / 128, by omega⟩)
    (c (ix3 b a ⟨w.val / 128, by omega⟩)).toReal _ ⟨2048 + a.val, by omega⟩ le_rfl _
    (fun j => scores_at q (all kp k) c (gates cp c) b ⟨w.val / 128, by omega⟩ a _ _ _ _ (fun d => hq _)
      (fun j d => (all_at kp k b j _ d).trans (cat_real _ _ (fun _ => hkp _ _ _ _) (fun _ => hk _) j)) (hc _)
      (fun j => (gates_at cp c b j _).trans (cat_real _ _ (fun _ => hcp _) (fun _ => hc _) j)) j) _ rfl

/-- The run's result term is the composition above. -/
theorem result (m : (ℓ : Loc nD τ sig) → Buf (Elt Ideal) ℓ) (c : Dev nD) :
    res_out0 m c = weigh (exps (scores (m ((c.tc : Thread nD τ).loc main_arg0))
        (all (m ((c.tc : Thread nD τ).loc main_arg1)) (m ((c.tc : Thread nD τ).loc main_arg4))) (m ((c.tc : Thread nD τ).loc main_arg6))
        (gates (m ((c.tc : Thread nD τ).loc main_arg3)) (m ((c.tc : Thread nD τ).loc main_arg6))))
      (tops (scores (m ((c.tc : Thread nD τ).loc main_arg0))
        (all (m ((c.tc : Thread nD τ).loc main_arg1)) (m ((c.tc : Thread nD τ).loc main_arg4))) (m ((c.tc : Thread nD τ).loc main_arg6))
        (gates (m ((c.tc : Thread nD τ).loc main_arg3)) (m ((c.tc : Thread nD τ).loc main_arg6))))))
      (all (m ((c.tc : Thread nD τ).loc main_arg2)) (m ((c.tc : Thread nD τ).loc main_arg5))) := rfl

end Cert.K.AttnCRef

end
-- ==== Proof.AttnCPre.lean ====
/- What the precondition says: the queries, the first layer's cached keys, the new keys and the
   cumulative gates are real numbers. -/
module

public import proofs.«01_k».proof.Proof.Gen.Pre_finite_cached_scores
public import Idealize.ShloMosaic.Lib.ReduceAll
public import Idealize.ShloMosaic.Lib.Pointwise

@[expose] public section

set_option maxRecDepth 16384

noncomputable section

namespace Cert.K.AttnCPre

open Idealize.ShloMosaic Idealize.SL.Sem
open Cert.Pre_finite_cached_scores Cert.Pre_finite_cached_scores.Gen

instance : Subsingleton S_.Idx := ⟨fun a b => funext fun i => i.elim0⟩

theorem inf_val : Ideal.ofBits FTy.f32 0x7F800000#32 = ⊤ := by
  simp [Ideal.ofBits, Ideal.ieee]

/-- An extended real whose size is below infinity is a real number. -/
theorem real_of_lt (x : EReal) (h : max x (-x) < ⊤) : x = (x.toReal : EReal) := by
  refine (EReal.coe_toReal ?_ ?_).symm
  · rintro rfl
    simp at h
  · rintro rfl
    simp at h

theorem real_of_cmp {s : Shape} (x v : FVec Ideal s .f32) (i : s.Idx) (hv : v i = (⊤ : EReal))
    (h : cmpf CmpFPredicate.olt (Host.absf x) v i = 1#1) : x i = ((x i : EReal).toReal : EReal) := by
  refine real_of_lt (x i) ?_
  pointwise at h
  rw [hv] at h
  by_contra hn
  have hd : decide (FloatOps.absf (x i) < (⊤ : EReal)) = false := decide_eq_false hn
  rw [hd] at h
  exact absurd h (by decide)

theorem first_layer (kp : FVec Ideal S2x16x2048x8x128 .f32) (b : Fin 16) (j : Fin 2048) (h : Fin 8) (d : Fin 128) :
    shapeCast S16x2048x8x128 (extractStridedSlice S1x16x2048x8x128 ![0, 0, 0, 0, 0] kp slices_S2x16x2048x8x128_S1x16x2048x8x128_0_0_0_0_0)
      shapeCasts_S1x16x2048x8x128_S16x2048x8x128 (ix4 b j h d) = kp (ix5 0 b j h d) := by
  pointwise

theorem pre_real (q : FVec Ideal S16x16x8x128 .f32) (kp vp : FVec Ideal S2x16x2048x8x128 .f32) (cp : FVec Ideal S16x2048x8 .f32)
    (k v : FVec Ideal S16x16x8x128 .f32) (c : FVec Ideal S16x16x8 .f32) (h : fn q kp vp cp k v c ix0 = 1#1) :
    (∀ i, q i = ((q i : EReal).toReal : EReal)) ∧ (∀ b j h d, kp (ix5 0 b j h d) = ((kp (ix5 0 b j h d) : EReal).toReal : EReal))
      ∧ (∀ i, cp i = ((cp i : EReal).toReal : EReal)) ∧ (∀ i, k i = ((k i : EReal).toReal : EReal)) ∧ ∀ i, c i = ((c i : EReal).toReal : EReal) := by
  dsimp only [fn, fn_part1] at h
  obtain ⟨h, hc⟩ := IntOp.andi_eq_one.mp h
  obtain ⟨h, hk⟩ := IntOp.andi_eq_one.mp h
  obtain ⟨h, hcp⟩ := IntOp.andi_eq_one.mp h
  obtain ⟨hq, hkp⟩ := IntOp.andi_eq_one.mp h
  refine ⟨fun i => ?_, fun b j h d => ?_, fun i => ?_, fun i => ?_, fun i => ?_⟩
  · exact real_of_cmp _ _ i inf_val (Host.reduce_andi_all _ _ _ _ _ hq i)
  · have := real_of_cmp _ _ (ix4 b j h d) inf_val (Host.reduce_andi_all _ _ _ _ _ hkp (ix4 b j h d))
    rwa [first_layer] at this
  · exact real_of_cmp _ _ i inf_val (Host.reduce_andi_all _ _ _ _ _ hcp i)
  · exact real_of_cmp _ _ i inf_val (Host.reduce_andi_all _ _ _ _ _ hk i)
  · exact real_of_cmp _ _ i inf_val (Host.reduce_andi_all _ _ _ _ _ hc i)

end Cert.K.AttnCPre

end
-- ==== Proof.AttnCClaim.lean ====
/- The claims about the attention over the cache: both frames, the named constants, and the equation with the reference. -/
module

public import proofs.«01_k».proof.Defs
public import proofs.«01_k».proof.Proof.Gen.AttentionCached.Frame
public import proofs.«01_k».proof.Proof.Gen.AttentionCachedIdeal.Frame
public import proofs.«01_k».proof.Proof.AttnCValue
public import proofs.«01_k».proof.Proof.AttnCRef
public import proofs.«01_k».proof.Proof.AttnCPre
public import Idealize.ShloMosaic.Lib.Quiescent

@[expose] public section

set_option maxRecDepth 16384

noncomputable section

namespace Cert.K.AttnCClaim

open Idealize.ShloMosaic Idealize.ShloMosaic.TcCoe Idealize.SL.Sem

theorem frame_kernel : Cert.quiescent_AttentionCached := fun m ρ _ => Cert.AttentionCached.Gen.frame m ρ

theorem frame_ideal : Cert.quiescent_AttentionCachedIdeal := fun m ρ _ => Cert.AttentionCachedIdeal.Gen.frame m ρ

theorem frame_ref : Cert.quiescent_AttentionCachedRefIdeal := fun m ρ _ =>
  (θ_run Cert.AttentionCachedRefIdeal.defs _ _).mono (fun r h => ⟨fun c => (h c).2,
    Idealize.ShloMosaic.sem_eq_zero_of_no_sems (by decide) r.2⟩) (Cert.AttentionCachedRefIdeal.Value.run (F := Ideal) m ρ)

theorem frame_ideal_pre : Cert.quiescent_AttentionCachedIdeal_pre_finite_cached_scores := fun m ρ _ => frame_ideal m ρ trivial

theorem frame_ref_pre : Cert.quiescent_AttentionCachedRefIdeal_pre_finite_cached_scores := fun m ρ _ => frame_ref m ρ trivial

/-- The three named constants are what the ideal kernel takes them for. -/
theorem preserves : Cert.preserves_AttentionCached_AttentionCachedIdeal :=
  ⟨IdealRules.named_const.statement Cert.AttentionCachedIdeal.κ "mask" .f32 0xF149F2CA#32 _ rfl,
    IdealRules.named_const.statement Cert.AttentionCachedIdeal.κ "q_scale" .f32 0x3E0293EE#32 _ rfl,
    IdealRules.named_const.statement Cert.AttentionCachedIdeal.κ "log2e" .f32 0x3FB8AA3B#32 _ rfl⟩

theorem algebraic : Cert.algebraic_AttentionCachedIdeal_AttentionCachedRefIdeal_pre_finite_cached_scores := by
  intro m ρ m' ρ' hpre hagree
  refine ⟨_, Cert.AttentionCachedIdeal.Value.run_blocks (F := Ideal) m ρ, ?_⟩
  refine (θ_run Cert.AttentionCachedRefIdeal.defs _ _).mono (fun _ h c => ⟨(h c).1.trans ?_, (h c).2⟩)
    (Cert.AttentionCachedRefIdeal.Value.run (F := Ideal) m' ρ')
  obtain ⟨hq, hkp, hcp, hk, hc⟩ := Cert.K.AttnCPre.pre_real _ _ _ _ _ _ _ (congrFun (hpre c) ix0)
  obtain ⟨e0, e1, e2, e3, e4, e5, e6⟩ := hagree c
  rw [Cert.K.AttnC.final m c hq hkp hcp hk hc]
  refine (Cert.K.AttnCRef.result m' c).trans ?_
  rw [e0, e1, e2, e3, e4, e5, e6]
  funext y
  idx_vars y
  exact Cert.K.AttnCRef.ref_at _ _ _ _ _ _ _ hq hkp hcp hk hc _ _ _

end Cert.K.AttnCClaim

end
-- ==== Proof.CumPValue.lean ====
/- The whole result of the cumulative sum over the cache: at every sequence, head and step, the sum of the first layer's gates up to
   the step. -/
module

public import proofs.«01_k».proof.Proof.CumBlock
public import proofs.«01_k».proof.Proof.Gen.CumsumPastIdeal.Value
public import Idealize.ShloMosaic.Lib.Pipeline.ValueKit
public import Idealize.ShloMosaic.Lib.Pointwise

@[expose] public section

set_option maxRecDepth 16384

noncomputable section

namespace Cert.K.CumP

open Idealize.ShloMosaic Idealize.ShloMosaic.TcCoe Idealize.SL.Sem
open Idealize.ShloMosaic.Pipeline (Dat)
open Cert.CumsumPastIdeal Cert.CumsumPastIdeal.Gen Cert.CumsumPastIdeal.Value

variable (m : (ℓ : Loc nD τ sig) → Buf (Elt Ideal) ℓ)

/-- The blocks each grid point reads and writes: one sequence. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

/-- The gates of one sequence and head, step by step, nothing past the last. -/
def gate (x : FVec Ideal S2x16x2048x8 .f32) (b : Fin 16) (h : Fin 8) (n : ℕ) : EReal := if hn : n < 2048 then x (ix4 0 b ⟨n, hn⟩ h) else 0

theorem gate_at (x : FVec Ideal S2x16x2048x8 .f32) (b : Fin 16) (h : Fin 8) (n : Fin 2048) : x (ix4 0 b n h) = gate x b h n.val := by
  unfold gate
  rw [dif_pos n.isLt]

theorem gate_ne (x : FVec Ideal S2x16x2048x8 .f32) (hx : ∀ b n h, x (ix4 0 b n h) ≠ (⊤ : EReal)) (b : Fin 16) (h : Fin 8) (n : ℕ) : gate x b h n ≠ ⊤ := by
  unfold gate
  split
  · exact hx _ _ _
  · exact EReal.zero_ne_top

/-- The sums at one sequence, head and step. -/
def outAt (x : FVec Ideal S2x16x2048x8 .f32) (b : Fin 16) (h : Fin 8) (n : Fin 2048) : EReal := ∑ i ∈ Finset.range (n.val + 1), gate x b h i

/-- The whole result. -/
def out (x : FVec Ideal S2x16x2048x8 .f32) : FVec Ideal S16x8x2048 .f32 := fun y => outAt x (y 0) (y 1) (y 2)

theorem outAt_congr (x : FVec Ideal S2x16x2048x8 .f32) (b b' : Fin 16) (h h' : Fin 8) (n n' : Fin 2048) (hb : b.val = b'.val) (hh : h.val = h'.val)
    (hn : n.val = n'.val) : outAt x b h n = outAt x b' h' n' := by
  rw [Fin.ext hb, Fin.ext hh, Fin.ext hn]

/-- The block of gates of a grid point. -/
theorem x_block (c : Dev nD) (t : Fin cfg0.N) (ht : t.val < 16) (h : Fin 8) (n : Fin 2048) :
    iblk m c 0 t (ix3 0 h n) = m ((c : Thread nD τ).loc main_arg0) (ix4 0 ⟨t.val, by omega⟩ n h) := by
  blk_point [iblk, idx t]

/-- What the sums start from. -/
theorem z_block (c : Dev nD) (t : Fin cfg0.N) (h : Fin 8) : iblk m c 1 t (ix3 0 h 0) = (0 : EReal) := by
  blk_point [iblk, idx t]

/-- The body at a grid point is the prompt's. -/
theorem body_eq (x0 : Vec Ideal S1x8x2048 .f32) (x1 : Vec Ideal S1x8x128 .f32) :
    out0_2 (F := Ideal) x0 x1 = Cert.CumsumIdeal.Gen.out0_2 (F := Ideal) x0 x1 := rfl

/-- The result after the run, where every gate is below infinity. -/
theorem final (c : Dev nD) (hx : ∀ b n h, m ((c : Thread nD τ).loc main_arg0) (ix4 0 b n h) ≠ (⊤ : EReal)) :
    (dats m 0 c).arrAt 2 cfg0.N = out (m ((c : Thread nD τ).loc main_arg0)) := by
  refine (dats m 0 c).arrAt_eq_of_covers 2 _ (by decide +kernel) fun t hf y => ?_
  have ht : t.val < 16 := t.isLt
  blk_simp
  rw [after0_2, body_eq]
  idx_vars y
  refine (Cert.K.Cum.block _ _ y1 (gate (m ((c : Thread nD τ).loc main_arg0)) ⟨t.val, by omega⟩ y1) (gate_ne _ hx _ _)
    (fun n => (x_block m c t ht y1 n).trans (gate_at _ _ _ _)) (z_block m c t y1) _ _).trans ?_
  refine outAt_congr _ ⟨t.val, by omega⟩ _ y1 _ y2 _ ?_ ?_ ?_ <;> blk_simp [idx t] <;> simp <;> omega

end Cert.K.CumP

end
-- ==== Proof.CumPRef.lean ====
/- The reference's cumulative sum over the first layer's cache: at each step, the sum of the gates up to it. -/
module

public import proofs.«01_k».proof.Proof.Gen.CumsumPastRefIdeal.Run
public import proofs.«01_k».proof.Proof.CumRef
public import Idealize.ShloMosaic.Lib.IdealHost
public import Idealize.ShloMosaic.Lib.Pointwise

@[expose] public section

set_option maxRecDepth 16384

noncomputable section

namespace Cert.K.CumPRef

open Idealize.ShloMosaic Idealize.ShloMosaic.TcCoe Idealize.SL.Sem
open Cert.CumsumPastRefIdeal Cert.CumsumPastRefIdeal.Gen Cert.K.CumRef

/-- The reference's sums. -/
def sums (x : FVec Ideal S16x2048x8 .f32) : FVec Ideal S16x2048x8 .f32 :=
  Host.reduceWindowAdd ![1, 2048, 1] ![1, 1, 1] ![0, 2047, 0] ![0, 0, 0] x (broadcastInDim S_ ![] bcast_S_S_ (constant S_ .f32 0x00000000#32))
    reduceWindows_S16x2048x8_S16x2048x8_w1s1p0_0_w2048s1p2047_0_w1s1p0_0 h_S_

theorem sums_at (x : FVec Ideal S16x2048x8 .f32) (b : Fin 16) (t : Fin 2048) (h : Fin 8) (f : ℕ → EReal)
    (hf : ∀ n : Fin 2048, x (ix3 b n h) = f n.val) : sums x (ix3 b t h) = ∑ i ∈ Finset.range (t.val + 1), f i := by
  have ht := t.isLt
  have hv : (broadcastInDim S_ ![] bcast_S_S_ (constant (F := Ideal) S_ .f32 0x00000000#32)) (Shape.Idx.first h_S_) = (0 : EReal) := by
    pointwise
  unfold sums Host.reduceWindowAdd
  rw [hv]
  refine (reduce_window (s := S16x2048x8) _ _ _ _ _ x (ix3 b t h)).trans ?_
  rw [sum_idx3]
  simp only [Fin.sum_univ_one]
  rw [← window_steps]
  refine Finset.sum_congr rfl fun n _ => ?_
  have hn := n.isLt
  have hb := b.isLt
  have hh := h.isLt
  by_cases hc : 2047 ≤ t.val + n.val
  · rw [if_pos hc, dif_pos fun a => by fin_cases a <;> simp <;> omega]
    refine Eq.trans (congrArg x (funext fun a => Fin.ext ?_)) (hf ⟨t.val + n.val - 2047, by omega⟩)
    fin_cases a <;> simp
  · rw [if_neg hc, dif_neg fun hin => hc ?_]
    have h1 := (hin 1).1
    simpa using h1

/-- The first layer of the cached gates. -/
def first (x : FVec Ideal S2x16x2048x8 .f32) : FVec Ideal S16x2048x8 .f32 :=
  shapeCast S16x2048x8 (extractStridedSlice S1x16x2048x8 ![0, 0, 0, 0] x slices_S2x16x2048x8_S1x16x2048x8_0_0_0_0) shapeCasts_S1x16x2048x8_S16x2048x8

theorem first_at (x : FVec Ideal S2x16x2048x8 .f32) (b : Fin 16) (n : Fin 2048) (h : Fin 8) : first x (ix3 b n h) = x (ix4 0 b n h) := by
  unfold first
  pointwise

/-- The reference's result, the heads before the steps. -/
theorem result (x : FVec Ideal S16x2048x8 .f32) (b : Fin 16) (h : Fin 8) (t : Fin 2048) (f : ℕ → EReal)
    (hf : ∀ n : Fin 2048, x (ix3 b n h) = f n.val) :
    transpose S16x8x2048 [0, 2, 1] (sums x) transposes_S16x2048x8_S16x8x2048_0_2_1 (ix3 b h t) = ∑ i ∈ Finset.range (t.val + 1), f i := by
  rw [← sums_at x b t h f hf]
  pointwise

end Cert.K.CumPRef

end
-- ==== Proof.CumPPre.lean ====
/- What the precondition of the cumulative sum over the cache says: every gate of the first layer is below infinity. -/
module

public import proofs.«01_k».proof.Proof.Gen.Pre_cached_gates_below_infinity
public import proofs.«01_k».proof.Proof.CumPre
public import Idealize.ShloMosaic.Lib.ReduceAll
public import Idealize.ShloMosaic.Lib.Pointwise

@[expose] public section

set_option maxRecDepth 16384

noncomputable section

namespace Cert.K.CumPPre

open Idealize.ShloMosaic Idealize.SL.Sem
open Cert.Pre_cached_gates_below_infinity Cert.Pre_cached_gates_below_infinity.Gen

instance : Subsingleton S_.Idx := ⟨fun a b => funext fun i => i.elim0⟩

theorem first_layer (x : FVec Ideal S2x16x2048x8 .f32) (b : Fin 16) (n : Fin 2048) (h : Fin 8) :
    shapeCast S16x2048x8 (extractStridedSlice S1x16x2048x8 ![0, 0, 0, 0] x slices_S2x16x2048x8_S1x16x2048x8_0_0_0_0)
      shapeCasts_S1x16x2048x8_S16x2048x8 (ix3 b n h) = x (ix4 0 b n h) := by
  pointwise

theorem pre_ne (x : FVec Ideal S2x16x2048x8 .f32) (hp : fn x ix0 = 1#1) (b : Fin 16) (n : Fin 2048) (h : Fin 8) : x (ix4 0 b n h) ≠ (⊤ : EReal) := by
  dsimp only [fn] at hp
  have := Cert.K.CumPre.ne_of_cmp _ _ (ix3 b n h) Cert.K.CumPre.inf_val (Host.reduce_andi_all _ _ _ _ _ hp (ix3 b n h))
  rwa [first_layer] at this

end Cert.K.CumPPre

end
-- ==== Proof.CumPClaim.lean ====
/- The claims about the cumulative sum over the cache: both frames and the equation with the reference. -/
module

public import proofs.«01_k».proof.Defs
public import proofs.«01_k».proof.Proof.Gen.CumsumPast.Frame
public import proofs.«01_k».proof.Proof.Gen.CumsumPastIdeal.Frame
public import proofs.«01_k».proof.Proof.CumPValue
public import proofs.«01_k».proof.Proof.CumPRef
public import proofs.«01_k».proof.Proof.CumPPre
public import Idealize.ShloMosaic.Lib.Quiescent

@[expose] public section

set_option maxRecDepth 16384

noncomputable section

namespace Cert.K.CumPClaim

open Idealize.ShloMosaic Idealize.ShloMosaic.TcCoe Idealize.SL.Sem

theorem frame_kernel : Cert.quiescent_CumsumPast := fun m ρ _ => Cert.CumsumPast.Gen.frame m ρ

theorem frame_ideal : Cert.quiescent_CumsumPastIdeal := fun m ρ _ => Cert.CumsumPastIdeal.Gen.frame m ρ

theorem frame_ref : Cert.quiescent_CumsumPastRefIdeal := fun m ρ _ =>
  (θ_run Cert.CumsumPastRefIdeal.defs _ _).mono (fun r h => ⟨fun c => (h c).2,
    Idealize.ShloMosaic.sem_eq_zero_of_no_sems (by decide) r.2⟩) (Cert.CumsumPastRefIdeal.Value.run (F := Ideal) m ρ)

theorem frame_ideal_pre : Cert.quiescent_CumsumPastIdeal_pre_cached_gates_below_infinity := fun m ρ _ => frame_ideal m ρ trivial

theorem frame_ref_pre : Cert.quiescent_CumsumPastRefIdeal_pre_cached_gates_below_infinity := fun m ρ _ => frame_ref m ρ trivial

/-- The reference's sums are the kernel's. -/
theorem equal (x : FVec Ideal Cert.CumsumPastIdeal.S2x16x2048x8 .f32) :
    transpose Cert.CumsumPastRefIdeal.S16x8x2048 [0, 2, 1] (Cert.K.CumPRef.sums (Cert.K.CumPRef.first x))
      Cert.CumsumPastRefIdeal.Gen.facts.transposes_S16x2048x8_S16x8x2048_0_2_1 = Cert.K.CumP.out x := by
  funext y
  idx_vars y
  exact Cert.K.CumPRef.result _ _ _ _ (Cert.K.CumP.gate x _ _) (fun n => (Cert.K.CumPRef.first_at x _ n _).trans (Cert.K.CumP.gate_at x _ _ n))

theorem algebraic : Cert.algebraic_CumsumPastIdeal_CumsumPastRefIdeal_pre_cached_gates_below_infinity := by
  intro m ρ m' ρ' hpre hagree
  refine ⟨_, Cert.CumsumPastIdeal.Value.run_blocks (F := Ideal) m ρ, ?_⟩
  refine (θ_run Cert.CumsumPastRefIdeal.defs _ _).mono (fun _ h c => ⟨(h c).1.trans ?_, (h c).2⟩)
    (Cert.CumsumPastRefIdeal.Value.run (F := Ideal) m' ρ')
  rw [Cert.K.CumP.final m c (Cert.K.CumPPre.pre_ne _ (congrFun (hpre c) ix0)), hagree c]
  exact equal _

end Cert.K.CumPClaim

end
-- ==== Proof.CumNValue.lean ====
/- The cumulative sum over the new steps: at every sequence, head and column, the last sum of the cache and the gates up to the column. -/
module

public import proofs.«01_k».proof.Proof.CumBlock
public import proofs.«01_k».proof.Proof.Gen.CumsumNewIdeal.Value
public import Idealize.ShloMosaic.Lib.Pipeline.ValueKit
public import Idealize.ShloMosaic.Lib.IdealHost
public import Idealize.ShloMosaic.Lib.Pointwise

@[expose] public section

set_option maxRecDepth 16384

noncomputable section

namespace Cert.K.CumN

open Idealize.ShloMosaic Idealize.ShloMosaic.TcCoe Idealize.SL.Sem
open Cert.CumsumNewIdeal Cert.CumsumNewIdeal.Gen Cert.CumsumNewIdeal.Value
open Idealize.ShloMosaic.Pipeline (Dat)

/-- What rounding leaves of a column block, -/
def rest (x : FVec Ideal S8x128 .f32) : FVec Ideal S8x128 .f32 := subf x (extf .f32 (truncf .bf16 x bitsLt_bf16_f32) bitsLt_bf16_f32)

/-- the triangle of ones as the body forms it, -/
def tri : FVec Ideal S128x128 .bf16 :=
  truncf .bf16 (select (cmpi .sle (iota .tc S128x128 32 [0] iota_S128x128_d0_w32) (iota .tc S128x128 32 [1] iota_S128x128_d1_w32))
    (broadcast S128x128 (Scalar.ofBits (F := Ideal) .f32 0x3F800000#32)) (broadcast S128x128 (Scalar.ofBits (F := Ideal) .f32 0x00000000#32))) bitsLt_bf16_f32

/-- a column block's sums up to each column, -/
def partials (x : FVec Ideal S8x128 .f32) : FVec Ideal S8x128 .f32 :=
  matmul dot_S8x128_S128x128_S8x128_1_0_0_1_n_n none (truncf .bf16 x bitsLt_bf16_f32) (tri) (constant S8x128 .f32 0x00000000#32)

/-- and the same with what comes in from the block before. -/
def step (v : FVec Ideal S1x8x128 .f32) (y : FVec Ideal S8x1 .f32) : FVec Ideal S8x128 .f32 :=
  addf (addf (addf (partials (shapeCast S8x128 v shapeCasts_S1x8x128_S8x128)) (partials (rest (shapeCast S8x128 v shapeCasts_S1x8x128_S8x128))))
    (partials (rest (rest (shapeCast S8x128 v shapeCasts_S1x8x128_S8x128))))) (broadcastTo S8x128 y broadcasts_S8x1_S8x128)

theorem tri_at (i b : Fin 128) : tri (ix2 i b) = if i.val ≤ b.val then (1 : EReal) else 0 := by
  have hi := i.isLt
  have hb := b.isLt
  pointwise [tri]
  rw [WordCmp.cmpi_sle_ofNat (by norm_num; omega) (by norm_num; omega)]
  by_cases h : i.val ≤ b.val
  · have hd : decide (i.val ≤ b.val) = true := decide_eq_true h
    rw [hd, Scalar.select, if_pos (by decide), if_pos h]
  · have hd : decide (i.val ≤ b.val) = false := decide_eq_false h
    rw [hd, Scalar.select, if_neg (by decide), if_neg h]

theorem partials_at (x : FVec Ideal S8x128 .f32) (h : Fin 8) (b : Fin 128) :
    partials x (ix2 h b) = ∑ i : Fin 128, x (ix2 h i) * (if i.val ≤ b.val then (1 : EReal) else 0) := by
  unfold partials
  pointwise [tri_at]

theorem rest_at (x : FVec Ideal S8x128 .f32) (i : S8x128.Idx) : rest x i = x i - x i := by
  unfold rest
  pointwise

/-- The sum over the columns up to one of them, as a sum over a range. -/
theorem sum_le (g : ℕ → EReal) (b : Fin 128) :
    ∑ i : Fin 128, g i.val * (if i.val ≤ b.val then (1 : EReal) else 0) = ∑ i ∈ Finset.range (b.val + 1), g i := by
  have hb := b.isLt
  rw [Fin.sum_univ_eq_sum_range (fun i => g i * (if i ≤ b.val then (1 : EReal) else 0)) 128]
  refine (Finset.sum_subset (Finset.range_subset_range.2 (by omega)) fun i _ hi => ?_).symm.trans (Finset.sum_congr rfl fun i hi => ?_)
  · rw [if_neg, mul_zero]
    simp at hi
    omega
  · rw [if_pos, mul_one]
    simp at hi
    omega

theorem step_at (v : FVec Ideal S1x8x128 .f32) (y : FVec Ideal S8x1 .f32) (h : Fin 8) (g : ℕ → EReal) (hg : ∀ i, g i ≠ ⊤)
    (hv : ∀ i : Fin 128, v (ix3 0 h i) = g i.val) (b : Fin 128) :
    step v y (ix2 h b) = (∑ i ∈ Finset.range (b.val + 1), g i) + y (ix2 h 0) := by
  unfold step
  pointwise [partials_at, rest_at, hv]
  rw [← Finset.sum_add_distrib, ← Finset.sum_add_distrib, ← sum_le]
  congr 1
  refine Finset.sum_congr rfl fun i _ => ?_
  by_cases hi : i.val ≤ b.val
  · simp only [if_pos hi, mul_one]
    exact Cert.K.Cum.three _ (hg _)
  · simp only [if_neg hi, mul_zero, add_zero]

theorem pay_at (y : Vec Ideal S1x8x1 .f32) (v : Vec Ideal S1x8x128 .f32) (o : Fin 1) (h : Fin 8) (b : Fin 128) :
    k0_pay1 (F := Ideal) y v (ix3 o h b) = step v (shapeCast S8x1 y shapeCasts_S1x8x1_S8x1) (ix2 h b) := by
  have e : k0_pay1 (F := Ideal) y v = shapeCast S1x8x128 (step v (shapeCast S8x1 y shapeCasts_S1x8x1_S8x1)) shapeCasts_S8x128_S1x8x128 := rfl
  rw [e]
  pointwise

/-- The block of results: each column the sum of the columns up to it, and what came in. -/
theorem block (g z : Vec Ideal S1x8x128 .f32) (h : Fin 8) (f : ℕ → EReal) (hf : ∀ i, f i ≠ ⊤) (h0 : ∀ n : Fin 128, g (ix3 0 h n) = f n.val)
    (y : EReal) (hz : z (ix3 0 h 0) = y) (o : Fin 1) (n : Fin 128) :
    out0_2 (F := Ideal) g z (ix3 o h n) = (∑ i ∈ Finset.range (n.val + 1), f i) + y := by
  unfold out0_2
  simp (disch := decide) only [View.canon_cons_unit_lit']
  rw [pay_at, step_at _ _ h f hf]
  · congr 1
    pointwise
    exact hz
  · intro i
    refine Eq.trans ?_ (h0 i)
    exact View.ld_unit_apply_of _ _ _ _ _ _ (fun a => by fin_cases a <;> simp)

variable (m : (ℓ : Loc nD τ sig) → Buf (Elt Ideal) ℓ)

/-- The blocks each grid point reads and writes: one sequence. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

/-- The new gates of one sequence and head, step by step, nothing past the last. -/
def gate (x : FVec Ideal S16x16x8 .f32) (b : Fin 16) (h : Fin 8) (n : ℕ) : EReal := if hn : n < 16 then x (ix3 b ⟨n, hn⟩ h) else 0

theorem gate_ne (x : FVec Ideal S16x16x8 .f32) (hx : ∀ i, x i ≠ (⊤ : EReal)) (b : Fin 16) (h : Fin 8) (n : ℕ) : gate x b h n ≠ ⊤ := by
  unfold gate
  split
  · exact hx _
  · exact EReal.zero_ne_top

/-- The sums at one sequence, head and column. -/
def outAt (c : FVec Ideal S16x2048x8 .f32) (x : FVec Ideal S16x16x8 .f32) (b : Fin 16) (h : Fin 8) (n : Fin 128) : EReal :=
  (∑ i ∈ Finset.range (n.val + 1), gate x b h i) + c (ix3 b 2047 h)

/-- The whole result. -/
def out (c : FVec Ideal S16x2048x8 .f32) (x : FVec Ideal S16x16x8 .f32) : FVec Ideal S16x8x128 .f32 := fun y => outAt c x (y 0) (y 1) (y 2)

theorem outAt_congr (c : FVec Ideal S16x2048x8 .f32) (x : FVec Ideal S16x16x8 .f32) (b b' : Fin 16) (h h' : Fin 8) (n n' : Fin 128)
    (hb : b.val = b'.val) (hh : h.val = h'.val) (hn : n.val = n'.val) : outAt c x b h n = outAt c x b' h' n' := by
  rw [Fin.ext hb, Fin.ext hh, Fin.ext hn]

theorem V_v4 (c : Dev nD) : V m c main_v4 = (pad S16x8x128 ![0, 0, 0] ![0, 0, 112] ![0, 0, 0] (transpose S16x8x16 [0, 2, 1] (m ((c : Thread nD τ).loc main_arg1)) transposes_S16x16x8_S16x8x16_0_2_1) (sitofp .f32 (constantI S_ 32 0#32)) pads_S16x8x16_S16x8x128_000_000_01120 h_S_ : FVec Ideal S16x8x128 .f32) := by
  unfold V
  simp only [hostOps0, hostOps0_1, List.flatten_cons, List.flatten_nil, List.append_nil, List.cons_append, List.nil_append,
    StableHlo.after_cons, StableHlo.after_nil]
  after_results_steps
  rfl

theorem V_v2 (c : Dev nD) : V m c main_v2 = (broadcastInDim S16x8x128 ![0, 1, 2] bcast_S16x8x1_S16x8x128_0_1_2 (extractStridedSlice S16x8x1 ![0, 0, 2047] (transpose S16x8x2048 [0, 2, 1] (m ((c : Thread nD τ).loc main_arg0)) transposes_S16x2048x8_S16x8x2048_0_2_1) slices_S16x8x2048_S16x8x1_0_0_2047) : FVec Ideal S16x8x128 .f32) := by
  unfold V
  simp only [hostOps0, hostOps0_1, List.flatten_cons, List.flatten_nil, List.append_nil, List.cons_append, List.nil_append,
    StableHlo.after_cons, StableHlo.after_nil]
  after_results_steps

/-- The gates the call reads: nothing past the last step. -/
theorem pad_at (x : FVec Ideal S16x16x8 .f32) (b : Fin 16) (h : Fin 8) (n : Fin 128) :
    pad S16x8x128 ![0, 0, 0] ![0, 0, 112] ![0, 0, 0] (transpose S16x8x16 [0, 2, 1] x transposes_S16x16x8_S16x8x16_0_2_1)
      (sitofp .f32 (constantI S_ 32 0#32)) pads_S16x8x16_S16x8x128_000_000_01120 h_S_ (ix3 b h n) = gate x b h n.val := by
  have e : (FloatOps.sitofp (F := Ideal) .f32 (0#32 : BitVec 32)) = (0 : EReal) := by
    show (((0#32 : BitVec 32).toInt : ℝ) : EReal) = 0
    simp
  unfold gate
  pointwise []
  rw [e]

/-- The block of gates of a grid point. -/
theorem x_block (c : Dev nD) (t : Fin cfg0.N) (ht : t.val < 16) (h : Fin 8) (n : Fin 128) :
    iblk m c 0 t (ix3 0 h n) = gate (m ((c : Thread nD τ).loc main_arg1)) ⟨t.val, by omega⟩ h n.val := by
  refine Eq.trans (b := (show FVec Ideal S16x8x128 .f32 from V m c main_v4) (ix3 ⟨t.val, by omega⟩ h n)) ?_ ?_
  · blk_point [iblk, idx t]
  · rw [V_v4]
    exact pad_at _ _ _ _

/-- What the sums start from. -/
theorem z_block (c : Dev nD) (t : Fin cfg0.N) (ht : t.val < 16) (h : Fin 8) :
    iblk m c 1 t (ix3 0 h 0) = m ((c : Thread nD τ).loc main_arg0) (ix3 ⟨t.val, by omega⟩ 2047 h) := by
  refine Eq.trans (b := (show FVec Ideal S16x8x128 .f32 from V m c main_v2) (ix3 ⟨t.val, by omega⟩ h 0)) ?_ ?_
  · blk_point [iblk, idx t]
  · rw [V_v2]
    pointwise []

/-- The result after the run, where every gate is below infinity. -/
theorem final (c : Dev nD) (hx : ∀ i, m ((c : Thread nD τ).loc main_arg1) i ≠ (⊤ : EReal)) :
    (dats m 0 c).arrAt 2 cfg0.N = out (m ((c : Thread nD τ).loc main_arg0)) (m ((c : Thread nD τ).loc main_arg1)) := by
  refine (dats m 0 c).arrAt_eq_of_covers 2 _ (by decide +kernel) fun t hf y => ?_
  have ht : t.val < 16 := t.isLt
  blk_simp
  rw [after0_2]
  idx_vars y
  refine (block _ _ y1 (gate (m ((c : Thread nD τ).loc main_arg1)) ⟨t.val, by omega⟩ y1) (gate_ne _ hx _ _)
    (fun n => x_block m c t ht y1 n) _ (z_block m c t ht y1) _ _).trans ?_
  refine outAt_congr _ _ ⟨t.val, by omega⟩ _ y1 _ y2 _ ?_ ?_ ?_ <;> blk_simp [idx t] <;> simp <;> omega

end Cert.K.CumN

end
-- ==== Proof.CumNRef.lean ====
/- The reference's cumulative sum over the new steps: at each column, the last sum of the cache and the gates up to the column. -/
module

public import proofs.«01_k».proof.Proof.Gen.CumsumNewRefIdeal.Run
public import proofs.«01_k».proof.Proof.CumRef
public import proofs.«01_k».proof.Proof.CumNValue
public import Idealize.ShloMosaic.Lib.IdealHost
public import Idealize.ShloMosaic.Lib.Pointwise

@[expose] public section

set_option maxRecDepth 16384

noncomputable section

namespace Cert.K.CumNRef

open Idealize.ShloMosaic Idealize.ShloMosaic.TcCoe Idealize.SL.Sem
open Cert.CumsumNewRefIdeal Cert.CumsumNewRefIdeal.Gen
open Cert.K.CumRef (reduce_window)
open Cert.K.CumN (gate outAt)

/-- The window of 16 steps that ends at step `t`, padded with nothing before the first: the sum up to `t`. -/
theorem window_steps (f : ℕ → EReal) (t : Fin 16) :
    ∑ n : Fin 16, (if 15 ≤ t.val + n.val then f (t.val + n.val - 15) else 0) = ∑ i ∈ Finset.range (t.val + 1), f i := by
  have ht := t.isLt
  rw [Fin.sum_univ_eq_sum_range (fun n => if 15 ≤ t.val + n then f (t.val + n - 15) else 0) 16]
  generalize t.val = u at ht ⊢
  have e : 16 = (15 - u) + (u + 1) := by omega
  rw [e, Finset.sum_range_add, Finset.sum_eq_zero, zero_add]
  · refine Finset.sum_congr rfl fun i _ => ?_
    rw [if_pos (by omega)]
    congr 1
    omega
  · intro i hi
    simp at hi
    rw [if_neg (by omega)]

/-- The reference's sums. -/
def sums (x : FVec Ideal S16x16x8 .f32) : FVec Ideal S16x16x8 .f32 :=
  Host.reduceWindowAdd ![1, 16, 1] ![1, 1, 1] ![0, 15, 0] ![0, 0, 0] x (broadcastInDim S_ ![] bcast_S_S_ (constant S_ .f32 0x00000000#32))
    reduceWindows_S16x16x8_S16x16x8_w1s1p0_0_w16s1p15_0_w1s1p0_0 h_S_

theorem sums_at (x : FVec Ideal S16x16x8 .f32) (b : Fin 16) (t : Fin 16) (h : Fin 8) (f : ℕ → EReal)
    (hf : ∀ n : Fin 16, x (ix3 b n h) = f n.val) : sums x (ix3 b t h) = ∑ i ∈ Finset.range (t.val + 1), f i := by
  have ht := t.isLt
  have hv : (broadcastInDim S_ ![] bcast_S_S_ (constant (F := Ideal) S_ .f32 0x00000000#32)) (Shape.Idx.first h_S_) = (0 : EReal) := by
    pointwise
  unfold sums Host.reduceWindowAdd
  rw [hv]
  refine (reduce_window (s := S16x16x8) _ _ _ _ _ x (ix3 b t h)).trans ?_
  rw [sum_idx3]
  simp only [Fin.sum_univ_one]
  rw [← window_steps]
  refine Finset.sum_congr rfl fun n _ => ?_
  have hn := n.isLt
  have hb := b.isLt
  have hh := h.isLt
  by_cases hc : 15 ≤ t.val + n.val
  · rw [if_pos hc, dif_pos fun a => by fin_cases a <;> simp <;> omega]
    refine Eq.trans (congrArg x (funext fun a => Fin.ext ?_)) (hf ⟨t.val + n.val - 15, by omega⟩)
    fin_cases a <;> simp
  · rw [if_neg hc, dif_neg fun hin => hc ?_]
    have h1 := (hin 1).1
    simpa using h1

/-- The new steps' sums, the last sum of the cache added. -/
def steps (c : FVec Ideal S16x2048x8 .f32) (x : FVec Ideal S16x16x8 .f32) : FVec Ideal S16x16x8 .f32 :=
  addf (broadcastInDim S16x16x8 ![0, 1, 2] bcast_S16x1x8_S16x16x8_0_1_2 (extractStridedSlice S16x1x8 ![0, 2047, 0] c slices_S16x2048x8_S16x1x8_0_2047_0)) (sums x)

theorem steps_at (c : FVec Ideal S16x2048x8 .f32) (x : FVec Ideal S16x16x8 .f32) (b : Fin 16) (t : Fin 16) (h : Fin 8) :
    steps c x (ix3 b t h) = (∑ i ∈ Finset.range (t.val + 1), gate x b h i) + c (ix3 b 2047 h) := by
  have e := sums_at x b t h (gate x b h) (fun n => by unfold gate; rw [dif_pos n.isLt])
  rw [← e]
  unfold steps
  pointwise
  exact add_comm _ _

/-- The sums with the last one repeated up to 128 columns, heads before columns. -/
def padded (s : FVec Ideal S16x16x8 .f32) : FVec Ideal S16x8x128 .f32 :=
  transpose S16x8x128 [0, 2, 1] (concatenate S16x128x8 1 [⟨S16x16x8, s⟩, ⟨S16x112x8, (shapeCast S16x112x8 (broadcastInDim S16x1x112x8 ![0, 1, 3] bcast_S16x1x8_S16x1x112x8_0_1_3 (extractStridedSlice S16x1x8 ![0, 15, 0] s slices_S16x16x8_S16x1x8_0_15_0)) shapeCasts_S16x1x112x8_S16x112x8)⟩] concatenates_S16x16x8_S16x112x8_S16x128x8_d1) transposes_S16x128x8_S16x8x128_0_2_1

theorem padded_at (s : FVec Ideal S16x16x8 .f32) (b : Fin 16) (h : Fin 8) (n : Fin 128) :
    padded s (ix3 b h n) = if hn : n.val < 16 then s (ix3 b ⟨n.val, hn⟩ h) else s (ix3 b 15 h) := by
  unfold padded
  pointwise

/-- The reference's result at an index. -/
theorem result (c : FVec Ideal S16x2048x8 .f32) (x : FVec Ideal S16x16x8 .f32) (b : Fin 16) (h : Fin 8) (n : Fin 128) :
    padded (steps c x) (ix3 b h n) = outAt c x b h n := by
  rw [padded_at]
  unfold outAt
  split
  · exact steps_at c x b _ h
  · rename_i hn
    rw [steps_at]
    congr 1
    refine Finset.sum_subset (Finset.range_subset_range.2 (by show 15 + 1 ≤ n.val + 1; omega)) fun i _ hi => ?_
    unfold gate
    rw [dif_neg]
    intro h'
    exact hi (Finset.mem_range.2 h')

end Cert.K.CumNRef

end
-- ==== Proof.CumNPre.lean ====
/- What the precondition of the cumulative sum over the new steps says: every new gate is below infinity. -/
module

public import proofs.«01_k».proof.Proof.Gen.Pre_new_gates_below_infinity
public import proofs.«01_k».proof.Proof.CumPre
public import Idealize.ShloMosaic.Lib.ReduceAll
public import Idealize.ShloMosaic.Lib.Pointwise

@[expose] public section

set_option maxRecDepth 16384

noncomputable section

namespace Cert.K.CumNPre

open Idealize.ShloMosaic Idealize.SL.Sem
open Cert.Pre_new_gates_below_infinity Cert.Pre_new_gates_below_infinity.Gen

instance : Subsingleton S_.Idx := ⟨fun a b => funext fun i => i.elim0⟩

theorem pre_ne (c : FVec Ideal S16x2048x8 .f32) (x : FVec Ideal S16x16x8 .f32) (h : fn c x ix0 = 1#1) (i : S16x16x8.Idx) : x i ≠ (⊤ : EReal) := by
  dsimp only [fn] at h
  exact Cert.K.CumPre.ne_of_cmp _ _ i Cert.K.CumPre.inf_val (Host.reduce_andi_all _ _ _ _ _ h i)

end Cert.K.CumNPre

end
-- ==== Proof.CumNClaim.lean ====
/- The claims about the cumulative sum over the new steps: both frames and the equation with the reference. -/
module

public import proofs.«01_k».proof.Defs
public import proofs.«01_k».proof.Proof.Gen.CumsumNew.Frame
public import proofs.«01_k».proof.Proof.Gen.CumsumNewIdeal.Frame
public import proofs.«01_k».proof.Proof.CumNValue
public import proofs.«01_k».proof.Proof.CumNRef
public import proofs.«01_k».proof.Proof.CumNPre
public import Idealize.ShloMosaic.Lib.Quiescent

@[expose] public section

set_option maxRecDepth 16384

noncomputable section

namespace Cert.K.CumNClaim

open Idealize.ShloMosaic Idealize.ShloMosaic.TcCoe Idealize.SL.Sem

theorem frame_kernel : Cert.quiescent_CumsumNew := fun m ρ _ => Cert.CumsumNew.Gen.frame m ρ

theorem frame_ideal : Cert.quiescent_CumsumNewIdeal := fun m ρ _ => Cert.CumsumNewIdeal.Gen.frame m ρ

theorem frame_ref : Cert.quiescent_CumsumNewRefIdeal := fun m ρ _ =>
  (θ_run Cert.CumsumNewRefIdeal.defs _ _).mono (fun r h => ⟨fun c => (h c).2,
    Idealize.ShloMosaic.sem_eq_zero_of_no_sems (by decide) r.2⟩) (Cert.CumsumNewRefIdeal.Value.run (F := Ideal) m ρ)

theorem frame_ideal_pre : Cert.quiescent_CumsumNewIdeal_pre_new_gates_below_infinity := fun m ρ _ => frame_ideal m ρ trivial

theorem frame_ref_pre : Cert.quiescent_CumsumNewRefIdeal_pre_new_gates_below_infinity := fun m ρ _ => frame_ref m ρ trivial

theorem algebraic : Cert.algebraic_CumsumNewIdeal_CumsumNewRefIdeal_pre_new_gates_below_infinity := by
  intro m ρ m' ρ' hpre hagree
  refine ⟨_, Cert.CumsumNewIdeal.Value.run_blocks (F := Ideal) m ρ, ?_⟩
  refine (θ_run Cert.CumsumNewRefIdeal.defs _ _).mono (fun _ h c => ⟨(h c).1.trans ?_, (h c).2⟩)
    (Cert.CumsumNewRefIdeal.Value.run (F := Ideal) m' ρ')
  obtain ⟨e0, e1⟩ := hagree c
  rw [Cert.K.CumN.final m c (Cert.K.CumNPre.pre_ne _ _ (congrFun (hpre c) ix0)), e0, e1]
  funext y
  idx_vars y
  exact Cert.K.CumNRef.result _ _ _ _ _

end Cert.K.CumNClaim

end
-- ==== Proof.lean ====
/- The certificate: ten calls of the layer, each with its frames, its ideal program and its equation. -/
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite_scores
public import proofs.«01_k».proof.Proof.Gen.AttentionIdeal.Value
public import proofs.«01_k».proof.Proof.Gen.AttentionRefIdeal.Run
public import proofs.«01_k».proof.Proof.Gen.FfnIdeal.Value
public import proofs.«01_k».proof.Proof.Gen.FfnRefIdeal.Run
public import proofs.«01_k».proof.Proof.Gen.PleIdeal.Value
public import proofs.«01_k».proof.Proof.Gen.PleRefIdeal.Run
public import proofs.«01_k».proof.Proof.Gen.MixOutIdeal.Value
public import proofs.«01_k».proof.Proof.Gen.MixOutRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal
public import proofs.«01_k».proof.Proof.Gen.InProjRefIdeal.Run
public import proofs.«01_k».proof.Proof.Gen.Cumsum
public import proofs.«01_k».proof.Proof.Gen.Cumsum.Skeleton
public import proofs.«01_k».proof.Proof.Gen.Cumsum.Launch
public import proofs.«01_k».proof.Proof.Gen.Cumsum.Points
public import proofs.«01_k».proof.Proof.Gen.Cumsum.Frame
public import proofs.«01_k».proof.Proof.Gen.CumsumIdeal
public import proofs.«01_k».proof.Proof.Gen.CumsumIdeal.Skeleton
public import proofs.«01_k».proof.Proof.Gen.CumsumIdeal.Launch
public import proofs.«01_k».proof.Proof.Gen.CumsumIdeal.Points
public import proofs.«01_k».proof.Proof.Gen.CumsumIdeal.Frame
public import proofs.«01_k».proof.Proof.Gen.CumsumIdeal.Value
public import proofs.«01_k».proof.Proof.Gen.CumsumRefIdeal
public import proofs.«01_k».proof.Proof.Gen.CumsumRefIdeal.Run
public import proofs.«01_k».proof.Proof.Gen.Pre_gates_below_infinity
public import proofs.«01_k».proof.Proof.Gen.PleCached
public import proofs.«01_k».proof.Proof.Gen.PleCached.Skeleton
public import proofs.«01_k».proof.Proof.Gen.PleCached.Launch
public import proofs.«01_k».proof.Proof.Gen.PleCached.Points
public import proofs.«01_k».proof.Proof.Gen.PleCached.Frame
public import proofs.«01_k».proof.Proof.Gen.PleCachedIdeal
public import proofs.«01_k».proof.Proof.Gen.PleCachedIdeal.Skeleton
public import proofs.«01_k».proof.Proof.Gen.PleCachedIdeal.Launch
public import proofs.«01_k».proof.Proof.Gen.PleCachedIdeal.Points
public import proofs.«01_k».proof.Proof.Gen.PleCachedIdeal.Frame
public import proofs.«01_k».proof.Proof.Gen.PleCachedIdeal.Value
public import proofs.«01_k».proof.Proof.Gen.PleCachedRefIdeal
public import proofs.«01_k».proof.Proof.Gen.PleCachedRefIdeal.Run
public import proofs.«01_k».proof.Proof.AttnClaim
public import proofs.«01_k».proof.Proof.FfnClaim
public import proofs.«01_k».proof.Proof.PleClaim
public import proofs.«01_k».proof.Proof.MixClaim
public import proofs.«01_k».proof.Proof.InProjClaim
public import proofs.«01_k».proof.Proof.CumClaim
public import proofs.«01_k».proof.Proof.Gen.AttentionCached
public import proofs.«01_k».proof.Proof.Gen.AttentionCached.Skeleton
public import proofs.«01_k».proof.Proof.Gen.AttentionCached.Launch
public import proofs.«01_k».proof.Proof.Gen.AttentionCached.Points
public import proofs.«01_k».proof.Proof.Gen.AttentionCached.Frame
public import proofs.«01_k».proof.Proof.Gen.AttentionCachedIdeal
public import proofs.«01_k».proof.Proof.Gen.AttentionCachedIdeal.Skeleton
public import proofs.«01_k».proof.Proof.Gen.AttentionCachedIdeal.Launch
public import proofs.«01_k».proof.Proof.Gen.AttentionCachedIdeal.Points
public import proofs.«01_k».proof.Proof.Gen.AttentionCachedIdeal.Frame
public import proofs.«01_k».proof.Proof.Gen.AttentionCachedIdeal.Value
public import proofs.«01_k».proof.Proof.Gen.AttentionCachedRefIdeal
public import proofs.«01_k».proof.Proof.Gen.AttentionCachedRefIdeal.Run
public import proofs.«01_k».proof.Proof.Gen.Pre_finite_cached_scores
public import proofs.«01_k».proof.Proof.Gen.CumsumPast
public import proofs.«01_k».proof.Proof.Gen.CumsumPast.Skeleton
public import proofs.«01_k».proof.Proof.Gen.CumsumPast.Launch
public import proofs.«01_k».proof.Proof.Gen.CumsumPast.Points
public import proofs.«01_k».proof.Proof.Gen.CumsumPast.Frame
public import proofs.«01_k».proof.Proof.Gen.CumsumPastIdeal
public import proofs.«01_k».proof.Proof.Gen.CumsumPastIdeal.Skeleton
public import proofs.«01_k».proof.Proof.Gen.CumsumPastIdeal.Launch
public import proofs.«01_k».proof.Proof.Gen.CumsumPastIdeal.Points
public import proofs.«01_k».proof.Proof.Gen.CumsumPastIdeal.Frame
public import proofs.«01_k».proof.Proof.Gen.CumsumPastIdeal.Value
public import proofs.«01_k».proof.Proof.Gen.CumsumPastRefIdeal
public import proofs.«01_k».proof.Proof.Gen.CumsumPastRefIdeal.Run
public import proofs.«01_k».proof.Proof.Gen.CumsumNew
public import proofs.«01_k».proof.Proof.Gen.CumsumNew.Skeleton
public import proofs.«01_k».proof.Proof.Gen.CumsumNew.Launch
public import proofs.«01_k».proof.Proof.Gen.CumsumNew.Points
public import proofs.«01_k».proof.Proof.Gen.CumsumNew.Frame
public import proofs.«01_k».proof.Proof.Gen.CumsumNewIdeal
public import proofs.«01_k».proof.Proof.Gen.CumsumNewIdeal.Skeleton
public import proofs.«01_k».proof.Proof.Gen.CumsumNewIdeal.Launch
public import proofs.«01_k».proof.Proof.Gen.CumsumNewIdeal.Points
public import proofs.«01_k».proof.Proof.Gen.CumsumNewIdeal.Frame
public import proofs.«01_k».proof.Proof.Gen.CumsumNewIdeal.Value
public import proofs.«01_k».proof.Proof.Gen.CumsumNewRefIdeal
public import proofs.«01_k».proof.Proof.Gen.CumsumNewRefIdeal.Run
public import proofs.«01_k».proof.Proof.Gen.Pre_cached_gates_below_infinity
public import proofs.«01_k».proof.Proof.Gen.Pre_new_gates_below_infinity
public import proofs.«01_k».proof.Proof.PleCClaim
public import proofs.«01_k».proof.Proof.AttnCClaim
public import proofs.«01_k».proof.Proof.CumPClaim
public import proofs.«01_k».proof.Proof.CumNClaim
public import Idealize.ShloMosaic.Adequacy
public import Idealize.ShloMosaic.Init

@[expose] public section

noncomputable section

namespace Cert.Proof

open Idealize.ShloMosaic Idealize.SL.Sem Cert.Attention

theorem claim : Cert.Claim := ⟨Cert.Attention.Gen.facts, Cert.AttentionIdeal.Gen.facts, Cert.AttentionRefIdeal.Gen.facts,
  Cert.Ffn.Gen.facts, Cert.FfnIdeal.Gen.facts, Cert.FfnRefIdeal.Gen.facts, Cert.Ple.Gen.facts, Cert.PleIdeal.Gen.facts,
  Cert.PleRefIdeal.Gen.facts, Cert.MixOut.Gen.facts, Cert.MixOutIdeal.Gen.facts, Cert.MixOutRefIdeal.Gen.facts,
  Cert.InProj.Gen.facts, Cert.InProjIdeal.Gen.facts, Cert.InProjRefIdeal.Gen.facts,
  Cert.Cumsum.Gen.facts, Cert.CumsumIdeal.Gen.facts, Cert.CumsumRefIdeal.Gen.facts,
  Cert.PleCached.Gen.facts, Cert.PleCachedIdeal.Gen.facts, Cert.PleCachedRefIdeal.Gen.facts,
  Cert.AttentionCached.Gen.facts, Cert.AttentionCachedIdeal.Gen.facts, Cert.AttentionCachedRefIdeal.Gen.facts,
  Cert.CumsumPast.Gen.facts, Cert.CumsumPastIdeal.Gen.facts, Cert.CumsumPastRefIdeal.Gen.facts,
  Cert.CumsumNew.Gen.facts, Cert.CumsumNewIdeal.Gen.facts, Cert.CumsumNewRefIdeal.Gen.facts,
  Cert.Pre_finite_scores.Gen.facts, Cert.Pre_gates_below_infinity.Gen.facts, Cert.Pre_finite_cached_scores.Gen.facts,
  Cert.Pre_cached_gates_below_infinity.Gen.facts, Cert.Pre_new_gates_below_infinity.Gen.facts,
  Cert.K.AttnClaim.frame_kernel, Cert.K.AttnClaim.frame_ideal, Cert.K.AttnClaim.frame_ideal_pre, Cert.K.AttnClaim.frame_ref,
  Cert.K.AttnClaim.frame_ref_pre, Cert.K.FfnClaim.frame_kernel, Cert.K.FfnClaim.frame_ideal, Cert.K.FfnClaim.frame_ref,
  Cert.K.PleClaim.frame_kernel, Cert.K.PleClaim.frame_ideal, Cert.K.PleClaim.frame_ref,
  Cert.K.MixClaim.frame_kernel, Cert.K.MixClaim.frame_ideal, Cert.K.MixClaim.frame_ref,
  Cert.K.InProjClaim.frame_kernel, Cert.K.InProjClaim.frame_ideal, Cert.K.InProjClaim.frame_ref,
  Cert.K.CumClaim.frame_kernel, Cert.K.CumClaim.frame_ideal, Cert.K.CumClaim.frame_ideal_pre, Cert.K.CumClaim.frame_ref,
  Cert.K.CumClaim.frame_ref_pre, Cert.K.PleCClaim.frame_kernel, Cert.K.PleCClaim.frame_ideal, Cert.K.PleCClaim.frame_ref,
  Cert.K.AttnCClaim.frame_kernel, Cert.K.AttnCClaim.frame_ideal, Cert.K.AttnCClaim.frame_ideal_pre, Cert.K.AttnCClaim.frame_ref,
  Cert.K.AttnCClaim.frame_ref_pre,
  Cert.K.CumPClaim.frame_kernel, Cert.K.CumPClaim.frame_ideal, Cert.K.CumPClaim.frame_ideal_pre, Cert.K.CumPClaim.frame_ref,
  Cert.K.CumPClaim.frame_ref_pre,
  Cert.K.CumNClaim.frame_kernel, Cert.K.CumNClaim.frame_ideal, Cert.K.CumNClaim.frame_ideal_pre, Cert.K.CumNClaim.frame_ref,
  Cert.K.CumNClaim.frame_ref_pre,
  Cert.K.AttnClaim.preserves, Cert.K.AttnClaim.algebraic, trivial, Cert.K.FfnClaim.algebraic,
  trivial, Cert.K.PleClaim.algebraic, trivial, Cert.K.MixClaim.algebraic,
  Cert.K.InProjClaim.preserves, Cert.K.InProjClaim.algebraic, trivial, Cert.K.CumClaim.algebraic,
  trivial, Cert.K.PleCClaim.algebraic, Cert.K.AttnCClaim.preserves, Cert.K.AttnCClaim.algebraic,
  trivial, Cert.K.CumPClaim.algebraic, trivial, Cert.K.CumNClaim.algebraic⟩

end Cert.Proof

end
